-- ==== Defs.lean ====
def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Kv (m : (ℓ : Loc Cert.Kv.nD Cert.Kv.τ Cert.Kv.sig) → Buf (Elt Bits) ℓ) : Prop :=
  True

def Pre_KvIdeal (m : (ℓ : Loc Cert.KvIdeal.nD Cert.KvIdeal.τ Cert.KvIdeal.sig) → Buf (Elt Ideal) ℓ) : Prop :=
  True

def Pre_KvRefIdeal (m : (ℓ : Loc Cert.KvRefIdeal.nD Cert.KvRefIdeal.τ Cert.KvRefIdeal.sig) → Buf (Elt Ideal) ℓ) : Prop :=
  True

def Pre_FfnQ (m : (ℓ : Loc Cert.FfnQ.nD Cert.FfnQ.τ Cert.FfnQ.sig) → Buf (Elt Bits) ℓ) : Prop :=
  True

def Pre_FfnQIdeal (m : (ℓ : Loc Cert.FfnQIdeal.nD Cert.FfnQIdeal.τ Cert.FfnQIdeal.sig) → Buf (Elt Ideal) ℓ) : Prop :=
  True

def Pre_FfnQRefIdeal (m : (ℓ : Loc Cert.FfnQRefIdeal.nD Cert.FfnQRefIdeal.τ Cert.FfnQRefIdeal.sig) → Buf (Elt Ideal) ℓ) : Prop :=
  True

def Pre_FfnOut (m : (ℓ : Loc Cert.FfnOut.nD Cert.FfnOut.τ Cert.FfnOut.sig) → Buf (Elt Bits) ℓ) : Prop :=
  True

def Pre_FfnOutIdeal (m : (ℓ : Loc Cert.FfnOutIdeal.nD Cert.FfnOutIdeal.τ Cert.FfnOutIdeal.sig) → Buf (Elt Ideal) ℓ) : Prop :=
  True

def Pre_FfnOutRefIdeal (m : (ℓ : Loc Cert.FfnOutRefIdeal.nD Cert.FfnOutRefIdeal.τ Cert.FfnOutRefIdeal.sig) → Buf (Elt Ideal) ℓ) : Prop :=
  True

def Pre_Lru (m : (ℓ : Loc Cert.Lru.nD Cert.Lru.τ Cert.Lru.sig) → Buf (Elt Bits) ℓ) : Prop :=
  True

def Pre_LruIdeal (m : (ℓ : Loc Cert.LruIdeal.nD Cert.LruIdeal.τ Cert.LruIdeal.sig) → Buf (Elt Ideal) ℓ) : Prop :=
  True

def Pre_LruRefIdeal (m : (ℓ : Loc Cert.LruRefIdeal.nD Cert.LruRefIdeal.τ Cert.LruRefIdeal.sig) → Buf (Elt Ideal) ℓ) : Prop :=
  True

def Pre_Rec (m : (ℓ : Loc Cert.Rec.nD Cert.Rec.τ Cert.Rec.sig) → Buf (Elt Bits) ℓ) : Prop :=
  True

def Pre_RecIdeal (m : (ℓ : Loc Cert.RecIdeal.nD Cert.RecIdeal.τ Cert.RecIdeal.sig) → Buf (Elt Ideal) ℓ) : Prop :=
  True

def Pre_RecRefIdeal (m : (ℓ : Loc Cert.RecRefIdeal.nD Cert.RecRefIdeal.τ Cert.RecRefIdeal.sig) → Buf (Elt Ideal) ℓ) : Prop :=
  True

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_Kv [hKv : Cert.Kv.Facts] : Prop :=
  ∀ (m : (ℓ : Loc Cert.Kv.nD Cert.Kv.τ Cert.Kv.sig) → Buf (Elt Bits) ℓ) (g : Dev Cert.Kv.nD → PrngReg), Pre_Kv m →
    θ_run (Cert.Kv.defs (F := Bits)) (onTc (τ := Cert.Kv.τ) (Cert.Kv.main (F := Bits))) ⟨m, fun _ => 0, g⟩ (fun r => (∀ c : Dev Cert.Kv.nD,
      r.2.mem ((c.tc : Thread Cert.Kv.nD Cert.Kv.τ).loc Cert.Kv.main_arg0) = m ((c.tc : Thread Cert.Kv.nD Cert.Kv.τ).loc Cert.Kv.main_arg0)
      ∧ r.2.mem ((c.tc : Thread Cert.Kv.nD Cert.Kv.τ).loc Cert.Kv.main_arg1) = m ((c.tc : Thread Cert.Kv.nD Cert.Kv.τ).loc Cert.Kv.main_arg1)
      ∧ r.2.mem ((c.tc : Thread Cert.Kv.nD Cert.Kv.τ).loc Cert.Kv.main_arg2) = m ((c.tc : Thread Cert.Kv.nD Cert.Kv.τ).loc Cert.Kv.main_arg2)
      ∧ r.2.mem ((c.tc : Thread Cert.Kv.nD Cert.Kv.τ).loc Cert.Kv.main_arg3) = m ((c.tc : Thread Cert.Kv.nD Cert.Kv.τ).loc Cert.Kv.main_arg3))
      ∧ r.2.sem = fun _ => 0)

def quiescent_KvIdeal [hKvIdeal : Cert.KvIdeal.Facts] : Prop :=
  ∀ (m : (ℓ : Loc Cert.KvIdeal.nD Cert.KvIdeal.τ Cert.KvIdeal.sig) → Buf (Elt Ideal) ℓ) (g : Dev Cert.KvIdeal.nD → PrngReg), Pre_KvIdeal m →
    θ_run (Cert.KvIdeal.defs (F := Ideal)) (onTc (τ := Cert.KvIdeal.τ) (Cert.KvIdeal.main (F := Ideal))) ⟨m, fun _ => 0, g⟩ (fun r => (∀ c : Dev Cert.KvIdeal.nD,
      r.2.mem ((c.tc : Thread Cert.KvIdeal.nD Cert.KvIdeal.τ).loc Cert.KvIdeal.main_arg0) = m ((c.tc : Thread Cert.KvIdeal.nD Cert.KvIdeal.τ).loc Cert.KvIdeal.main_arg0)
      ∧ r.2.mem ((c.tc : Thread Cert.KvIdeal.nD Cert.KvIdeal.τ).loc Cert.KvIdeal.main_arg1) = m ((c.tc : Thread Cert.KvIdeal.nD Cert.KvIdeal.τ).loc Cert.KvIdeal.main_arg1)
      ∧ r.2.mem ((c.tc : Thread Cert.KvIdeal.nD Cert.KvIdeal.τ).loc Cert.KvIdeal.main_arg2) = m ((c.tc : Thread Cert.KvIdeal.nD Cert.KvIdeal.τ).loc Cert.KvIdeal.main_arg2)
      ∧ r.2.mem ((c.tc : Thread Cert.KvIdeal.nD Cert.KvIdeal.τ).loc Cert.KvIdeal.main_arg3) = m ((c.tc : Thread Cert.KvIdeal.nD Cert.KvIdeal.τ).loc Cert.KvIdeal.main_arg3))
      ∧ r.2.sem = fun _ => 0)

def quiescent_KvRefIdeal [hKvRefIdeal : Cert.KvRefIdeal.Facts] : Prop :=
  ∀ (m : (ℓ : Loc Cert.KvRefIdeal.nD Cert.KvRefIdeal.τ Cert.KvRefIdeal.sig) → Buf (Elt Ideal) ℓ) (g : Dev Cert.KvRefIdeal.nD → PrngReg), Pre_KvRefIdeal m →
    θ_run (Cert.KvRefIdeal.defs (F := Ideal)) (onTc (τ := Cert.KvRefIdeal.τ) (Cert.KvRefIdeal.main (F := Ideal))) ⟨m, fun _ => 0, g⟩ (fun r => (∀ c : Dev Cert.KvRefIdeal.nD,
      r.2.mem ((c.tc : Thread Cert.KvRefIdeal.nD Cert.KvRefIdeal.τ).loc Cert.KvRefIdeal.main_arg0) = m ((c.tc : Thread Cert.KvRefIdeal.nD Cert.KvRefIdeal.τ).loc Cert.KvRefIdeal.main_arg0)
      ∧ r.2.mem ((c.tc : Thread Cert.KvRefIdeal.nD Cert.KvRefIdeal.τ).loc Cert.KvRefIdeal.main_arg1) = m ((c.tc : Thread Cert.KvRefIdeal.nD Cert.KvRefIdeal.τ).loc Cert.KvRefIdeal.main_arg1)
      ∧ r.2.mem ((c.tc : Thread Cert.KvRefIdeal.nD Cert.KvRefIdeal.τ).loc Cert.KvRefIdeal.main_arg2) = m ((c.tc : Thread Cert.KvRefIdeal.nD Cert.KvRefIdeal.τ).loc Cert.KvRefIdeal.main_arg2)
      ∧ r.2.mem ((c.tc : Thread Cert.KvRefIdeal.nD Cert.KvRefIdeal.τ).loc Cert.KvRefIdeal.main_arg3) = m ((c.tc : Thread Cert.KvRefIdeal.nD Cert.KvRefIdeal.τ).loc Cert.KvRefIdeal.main_arg3))
      ∧ r.2.sem = fun _ => 0)

def quiescent_FfnQ [hFfnQ : Cert.FfnQ.Facts] : Prop :=
  ∀ (m : (ℓ : Loc Cert.FfnQ.nD Cert.FfnQ.τ Cert.FfnQ.sig) → Buf (Elt Bits) ℓ) (g : Dev Cert.FfnQ.nD → PrngReg), Pre_FfnQ m →
    θ_run (Cert.FfnQ.defs (F := Bits)) (onTc (τ := Cert.FfnQ.τ) (Cert.FfnQ.main (F := Bits))) ⟨m, fun _ => 0, g⟩ (fun r => (∀ c : Dev Cert.FfnQ.nD,
      r.2.mem ((c.tc : Thread Cert.FfnQ.nD Cert.FfnQ.τ).loc Cert.FfnQ.main_arg0) = m ((c.tc : Thread Cert.FfnQ.nD Cert.FfnQ.τ).loc Cert.FfnQ.main_arg0)
      ∧ r.2.mem ((c.tc : Thread Cert.FfnQ.nD Cert.FfnQ.τ).loc Cert.FfnQ.main_arg1) = m ((c.tc : Thread Cert.FfnQ.nD Cert.FfnQ.τ).loc Cert.FfnQ.main_arg1)
      ∧ r.2.mem ((c.tc : Thread Cert.FfnQ.nD Cert.FfnQ.τ).loc Cert.FfnQ.main_arg2) = m ((c.tc : Thread Cert.FfnQ.nD Cert.FfnQ.τ).loc Cert.FfnQ.main_arg2)
      ∧ r.2.mem ((c.tc : Thread Cert.FfnQ.nD Cert.FfnQ.τ).loc Cert.FfnQ.main_arg3) = m ((c.tc : Thread Cert.FfnQ.nD Cert.FfnQ.τ).loc Cert.FfnQ.main_arg3)
      ∧ r.2.mem ((c.tc : Thread Cert.FfnQ.nD Cert.FfnQ.τ).loc Cert.FfnQ.main_arg4) = m ((c.tc : Thread Cert.FfnQ.nD Cert.FfnQ.τ).loc Cert.FfnQ.main_arg4)
      ∧ r.2.mem ((c.tc : Thread Cert.FfnQ.nD Cert.FfnQ.τ).loc Cert.FfnQ.main_arg5) = m ((c.tc : Thread Cert.FfnQ.nD Cert.FfnQ.τ).loc Cert.FfnQ.main_arg5))
      ∧ r.2.sem = fun _ => 0)

def quiescent_FfnQIdeal [hFfnQIdeal : Cert.FfnQIdeal.Facts] : Prop :=
  ∀ (m : (ℓ : Loc Cert.FfnQIdeal.nD Cert.FfnQIdeal.τ Cert.FfnQIdeal.sig) → Buf (Elt Ideal) ℓ) (g : Dev Cert.FfnQIdeal.nD → PrngReg), Pre_FfnQIdeal m →
    θ_run (Cert.FfnQIdeal.defs (F := Ideal)) (onTc (τ := Cert.FfnQIdeal.τ) (Cert.FfnQIdeal.main (F := Ideal))) ⟨m, fun _ => 0, g⟩ (fun r => (∀ c : Dev Cert.FfnQIdeal.nD,
      r.2.mem ((c.tc : Thread Cert.FfnQIdeal.nD Cert.FfnQIdeal.τ).loc Cert.FfnQIdeal.main_arg0) = m ((c.tc : Thread Cert.FfnQIdeal.nD Cert.FfnQIdeal.τ).loc Cert.FfnQIdeal.main_arg0)
      ∧ r.2.mem ((c.tc : Thread Cert.FfnQIdeal.nD Cert.FfnQIdeal.τ).loc Cert.FfnQIdeal.main_arg1) = m ((c.tc : Thread Cert.FfnQIdeal.nD Cert.FfnQIdeal.τ).loc Cert.FfnQIdeal.main_arg1)
      ∧ r.2.mem ((c.tc : Thread Cert.FfnQIdeal.nD Cert.FfnQIdeal.τ).loc Cert.FfnQIdeal.main_arg2) = m ((c.tc : Thread Cert.FfnQIdeal.nD Cert.FfnQIdeal.τ).loc Cert.FfnQIdeal.main_arg2)
      ∧ r.2.mem ((c.tc : Thread Cert.FfnQIdeal.nD Cert.FfnQIdeal.τ).loc Cert.FfnQIdeal.main_arg3) = m ((c.tc : Thread Cert.FfnQIdeal.nD Cert.FfnQIdeal.τ).loc Cert.FfnQIdeal.main_arg3)
      ∧ r.2.mem ((c.tc : Thread Cert.FfnQIdeal.nD Cert.FfnQIdeal.τ).loc Cert.FfnQIdeal.main_arg4) = m ((c.tc : Thread Cert.FfnQIdeal.nD Cert.FfnQIdeal.τ).loc Cert.FfnQIdeal.main_arg4)
      ∧ r.2.mem ((c.tc : Thread Cert.FfnQIdeal.nD Cert.FfnQIdeal.τ).loc Cert.FfnQIdeal.main_arg5) = m ((c.tc : Thread Cert.FfnQIdeal.nD Cert.FfnQIdeal.τ).loc Cert.FfnQIdeal.main_arg5))
      ∧ r.2.sem = fun _ => 0)

def quiescent_FfnQRefIdeal [hFfnQRefIdeal : Cert.FfnQRefIdeal.Facts] : Prop :=
  ∀ (m : (ℓ : Loc Cert.FfnQRefIdeal.nD Cert.FfnQRefIdeal.τ Cert.FfnQRefIdeal.sig) → Buf (Elt Ideal) ℓ) (g : Dev Cert.FfnQRefIdeal.nD → PrngReg), Pre_FfnQRefIdeal m →
    θ_run (Cert.FfnQRefIdeal.defs (F := Ideal)) (onTc (τ := Cert.FfnQRefIdeal.τ) (Cert.FfnQRefIdeal.main (F := Ideal))) ⟨m, fun _ => 0, g⟩ (fun r => (∀ c : Dev Cert.FfnQRefIdeal.nD,
      r.2.mem ((c.tc : Thread Cert.FfnQRefIdeal.nD Cert.FfnQRefIdeal.τ).loc Cert.FfnQRefIdeal.main_arg0) = m ((c.tc : Thread Cert.FfnQRefIdeal.nD Cert.FfnQRefIdeal.τ).loc Cert.FfnQRefIdeal.main_arg0)
      ∧ r.2.mem ((c.tc : Thread Cert.FfnQRefIdeal.nD Cert.FfnQRefIdeal.τ).loc Cert.FfnQRefIdeal.main_arg1) = m ((c.tc : Thread Cert.FfnQRefIdeal.nD Cert.FfnQRefIdeal.τ).loc Cert.FfnQRefIdeal.main_arg1)
      ∧ r.2.mem ((c.tc : Thread Cert.FfnQRefIdeal.nD Cert.FfnQRefIdeal.τ).loc Cert.FfnQRefIdeal.main_arg2) = m ((c.tc : Thread Cert.FfnQRefIdeal.nD Cert.FfnQRefIdeal.τ).loc Cert.FfnQRefIdeal.main_arg2)
      ∧ r.2.mem ((c.tc : Thread Cert.FfnQRefIdeal.nD Cert.FfnQRefIdeal.τ).loc Cert.FfnQRefIdeal.main_arg3) = m ((c.tc : Thread Cert.FfnQRefIdeal.nD Cert.FfnQRefIdeal.τ).loc Cert.FfnQRefIdeal.main_arg3)
      ∧ r.2.mem ((c.tc : Thread Cert.FfnQRefIdeal.nD Cert.FfnQRefIdeal.τ).loc Cert.FfnQRefIdeal.main_arg4) = m ((c.tc : Thread Cert.FfnQRefIdeal.nD Cert.FfnQRefIdeal.τ).loc Cert.FfnQRefIdeal.main_arg4)
      ∧ r.2.mem ((c.tc : Thread Cert.FfnQRefIdeal.nD Cert.FfnQRefIdeal.τ).loc Cert.FfnQRefIdeal.main_arg5) = m ((c.tc : Thread Cert.FfnQRefIdeal.nD Cert.FfnQRefIdeal.τ).loc Cert.FfnQRefIdeal.main_arg5))
      ∧ r.2.sem = fun _ => 0)

def quiescent_FfnOut [hFfnOut : Cert.FfnOut.Facts] : Prop :=
  ∀ (m : (ℓ : Loc Cert.FfnOut.nD Cert.FfnOut.τ Cert.FfnOut.sig) → Buf (Elt Bits) ℓ) (g : Dev Cert.FfnOut.nD → PrngReg), Pre_FfnOut m →
    θ_run (Cert.FfnOut.defs (F := Bits)) (onTc (τ := Cert.FfnOut.τ) (Cert.FfnOut.main (F := Bits))) ⟨m, fun _ => 0, g⟩ (fun r => (∀ c : Dev Cert.FfnOut.nD,
      r.2.mem ((c.tc : Thread Cert.FfnOut.nD Cert.FfnOut.τ).loc Cert.FfnOut.main_arg0) = m ((c.tc : Thread Cert.FfnOut.nD Cert.FfnOut.τ).loc Cert.FfnOut.main_arg0)
      ∧ r.2.mem ((c.tc : Thread Cert.FfnOut.nD Cert.FfnOut.τ).loc Cert.FfnOut.main_arg1) = m ((c.tc : Thread Cert.FfnOut.nD Cert.FfnOut.τ).loc Cert.FfnOut.main_arg1)
      ∧ r.2.mem ((c.tc : Thread Cert.FfnOut.nD Cert.FfnOut.τ).loc Cert.FfnOut.main_arg2) = m ((c.tc : Thread Cert.FfnOut.nD Cert.FfnOut.τ).loc Cert.FfnOut.main_arg2)
      ∧ r.2.mem ((c.tc : Thread Cert.FfnOut.nD Cert.FfnOut.τ).loc Cert.FfnOut.main_arg3) = m ((c.tc : Thread Cert.FfnOut.nD Cert.FfnOut.τ).loc Cert.FfnOut.main_arg3)
      ∧ r.2.mem ((c.tc : Thread Cert.FfnOut.nD Cert.FfnOut.τ).loc Cert.FfnOut.main_arg4) = m ((c.tc : Thread Cert.FfnOut.nD Cert.FfnOut.τ).loc Cert.FfnOut.main_arg4)
      ∧ r.2.mem ((c.tc : Thread Cert.FfnOut.nD Cert.FfnOut.τ).loc Cert.FfnOut.main_arg5) = m ((c.tc : Thread Cert.FfnOut.nD Cert.FfnOut.τ).loc Cert.FfnOut.main_arg5)
      ∧ r.2.mem ((c.tc : Thread Cert.FfnOut.nD Cert.FfnOut.τ).loc Cert.FfnOut.main_arg6) = m ((c.tc : Thread Cert.FfnOut.nD Cert.FfnOut.τ).loc Cert.FfnOut.main_arg6)
      ∧ r.2.mem ((c.tc : Thread Cert.FfnOut.nD Cert.FfnOut.τ).loc Cert.FfnOut.main_arg7) = m ((c.tc : Thread Cert.FfnOut.nD Cert.FfnOut.τ).loc Cert.FfnOut.main_arg7))
      ∧ r.2.sem = fun _ => 0)

def quiescent_FfnOutIdeal [hFfnOutIdeal : Cert.FfnOutIdeal.Facts] : Prop :=
  ∀ (m : (ℓ : Loc Cert.FfnOutIdeal.nD Cert.FfnOutIdeal.τ Cert.FfnOutIdeal.sig) → Buf (Elt Ideal) ℓ) (g : Dev Cert.FfnOutIdeal.nD → PrngReg), Pre_FfnOutIdeal m →
    θ_run (Cert.FfnOutIdeal.defs (F := Ideal)) (onTc (τ := Cert.FfnOutIdeal.τ) (Cert.FfnOutIdeal.main (F := Ideal))) ⟨m, fun _ => 0, g⟩ (fun r => (∀ c : Dev Cert.FfnOutIdeal.nD,
      r.2.mem ((c.tc : Thread Cert.FfnOutIdeal.nD Cert.FfnOutIdeal.τ).loc Cert.FfnOutIdeal.main_arg0) = m ((c.tc : Thread Cert.FfnOutIdeal.nD Cert.FfnOutIdeal.τ).loc Cert.FfnOutIdeal.main_arg0)
      ∧ r.2.mem ((c.tc : Thread Cert.FfnOutIdeal.nD Cert.FfnOutIdeal.τ).loc Cert.FfnOutIdeal.main_arg1) = m ((c.tc : Thread Cert.FfnOutIdeal.nD Cert.FfnOutIdeal.τ).loc Cert.FfnOutIdeal.main_arg1)
      ∧ r.2.mem ((c.tc : Thread Cert.FfnOutIdeal.nD Cert.FfnOutIdeal.τ).loc Cert.FfnOutIdeal.main_arg2) = m ((c.tc : Thread Cert.FfnOutIdeal.nD Cert.FfnOutIdeal.τ).loc Cert.FfnOutIdeal.main_arg2)
      ∧ r.2.mem ((c.tc : Thread Cert.FfnOutIdeal.nD Cert.FfnOutIdeal.τ).loc Cert.FfnOutIdeal.main_arg3) = m ((c.tc : Thread Cert.FfnOutIdeal.nD Cert.FfnOutIdeal.τ).loc Cert.FfnOutIdeal.main_arg3)
      ∧ r.2.mem ((c.tc : Thread Cert.FfnOutIdeal.nD Cert.FfnOutIdeal.τ).loc Cert.FfnOutIdeal.main_arg4) = m ((c.tc : Thread Cert.FfnOutIdeal.nD Cert.FfnOutIdeal.τ).loc Cert.FfnOutIdeal.main_arg4)
      ∧ r.2.mem ((c.tc : Thread Cert.FfnOutIdeal.nD Cert.FfnOutIdeal.τ).loc Cert.FfnOutIdeal.main_arg5) = m ((c.tc : Thread Cert.FfnOutIdeal.nD Cert.FfnOutIdeal.τ).loc Cert.FfnOutIdeal.main_arg5)
      ∧ r.2.mem ((c.tc : Thread Cert.FfnOutIdeal.nD Cert.FfnOutIdeal.τ).loc Cert.FfnOutIdeal.main_arg6) = m ((c.tc : Thread Cert.FfnOutIdeal.nD Cert.FfnOutIdeal.τ).loc Cert.FfnOutIdeal.main_arg6)
      ∧ r.2.mem ((c.tc : Thread Cert.FfnOutIdeal.nD Cert.FfnOutIdeal.τ).loc Cert.FfnOutIdeal.main_arg7) = m ((c.tc : Thread Cert.FfnOutIdeal.nD Cert.FfnOutIdeal.τ).loc Cert.FfnOutIdeal.main_arg7))
      ∧ r.2.sem = fun _ => 0)

def quiescent_FfnOutRefIdeal [hFfnOutRefIdeal : Cert.FfnOutRefIdeal.Facts] : Prop :=
  ∀ (m : (ℓ : Loc Cert.FfnOutRefIdeal.nD Cert.FfnOutRefIdeal.τ Cert.FfnOutRefIdeal.sig) → Buf (Elt Ideal) ℓ) (g : Dev Cert.FfnOutRefIdeal.nD → PrngReg), Pre_FfnOutRefIdeal m →
    θ_run (Cert.FfnOutRefIdeal.defs (F := Ideal)) (onTc (τ := Cert.FfnOutRefIdeal.τ) (Cert.FfnOutRefIdeal.main (F := Ideal))) ⟨m, fun _ => 0, g⟩ (fun r => (∀ c : Dev Cert.FfnOutRefIdeal.nD,
      r.2.mem ((c.tc : Thread Cert.FfnOutRefIdeal.nD Cert.FfnOutRefIdeal.τ).loc Cert.FfnOutRefIdeal.main_arg0) = m ((c.tc : Thread Cert.FfnOutRefIdeal.nD Cert.FfnOutRefIdeal.τ).loc Cert.FfnOutRefIdeal.main_arg0)
      ∧ r.2.mem ((c.tc : Thread Cert.FfnOutRefIdeal.nD Cert.FfnOutRefIdeal.τ).loc Cert.FfnOutRefIdeal.main_arg1) = m ((c.tc : Thread Cert.FfnOutRefIdeal.nD Cert.FfnOutRefIdeal.τ).loc Cert.FfnOutRefIdeal.main_arg1)
      ∧ r.2.mem ((c.tc : Thread Cert.FfnOutRefIdeal.nD Cert.FfnOutRefIdeal.τ).loc Cert.FfnOutRefIdeal.main_arg2) = m ((c.tc : Thread Cert.FfnOutRefIdeal.nD Cert.FfnOutRefIdeal.τ).loc Cert.FfnOutRefIdeal.main_arg2)
      ∧ r.2.mem ((c.tc : Thread Cert.FfnOutRefIdeal.nD Cert.FfnOutRefIdeal.τ).loc Cert.FfnOutRefIdeal.main_arg3) = m ((c.tc : Thread Cert.FfnOutRefIdeal.nD Cert.FfnOutRefIdeal.τ).loc Cert.FfnOutRefIdeal.main_arg3)
      ∧ r.2.mem ((c.tc : Thread Cert.FfnOutRefIdeal.nD Cert.FfnOutRefIdeal.τ).loc Cert.FfnOutRefIdeal.main_arg4) = m ((c.tc : Thread Cert.FfnOutRefIdeal.nD Cert.FfnOutRefIdeal.τ).loc Cert.FfnOutRefIdeal.main_arg4)
      ∧ r.2.mem ((c.tc : Thread Cert.FfnOutRefIdeal.nD Cert.FfnOutRefIdeal.τ).loc Cert.FfnOutRefIdeal.main_arg5) = m ((c.tc : Thread Cert.FfnOutRefIdeal.nD Cert.FfnOutRefIdeal.τ).loc Cert.FfnOutRefIdeal.main_arg5)
      ∧ r.2.mem ((c.tc : Thread Cert.FfnOutRefIdeal.nD Cert.FfnOutRefIdeal.τ).loc Cert.FfnOutRefIdeal.main_arg6) = m ((c.tc : Thread Cert.FfnOutRefIdeal.nD Cert.FfnOutRefIdeal.τ).loc Cert.FfnOutRefIdeal.main_arg6)
      ∧ r.2.mem ((c.tc : Thread Cert.FfnOutRefIdeal.nD Cert.FfnOutRefIdeal.τ).loc Cert.FfnOutRefIdeal.main_arg7) = m ((c.tc : Thread Cert.FfnOutRefIdeal.nD Cert.FfnOutRefIdeal.τ).loc Cert.FfnOutRefIdeal.main_arg7))
      ∧ r.2.sem = fun _ => 0)

def quiescent_Lru [hLru : Cert.Lru.Facts] : Prop :=
  ∀ (m : (ℓ : Loc Cert.Lru.nD Cert.Lru.τ Cert.Lru.sig) → Buf (Elt Bits) ℓ) (g : Dev Cert.Lru.nD → PrngReg), Pre_Lru m →
    θ_run (Cert.Lru.defs (F := Bits)) (onTc (τ := Cert.Lru.τ) (Cert.Lru.main (F := Bits))) ⟨m, fun _ => 0, g⟩ (fun r => (∀ c : Dev Cert.Lru.nD,
      r.2.mem ((c.tc : Thread Cert.Lru.nD Cert.Lru.τ).loc Cert.Lru.main_arg0) = m ((c.tc : Thread Cert.Lru.nD Cert.Lru.τ).loc Cert.Lru.main_arg0)
      ∧ r.2.mem ((c.tc : Thread Cert.Lru.nD Cert.Lru.τ).loc Cert.Lru.main_arg1) = m ((c.tc : Thread Cert.Lru.nD Cert.Lru.τ).loc Cert.Lru.main_arg1)
      ∧ r.2.mem ((c.tc : Thread Cert.Lru.nD Cert.Lru.τ).loc Cert.Lru.main_arg2) = m ((c.tc : Thread Cert.Lru.nD Cert.Lru.τ).loc Cert.Lru.main_arg2)
      ∧ r.2.mem ((c.tc : Thread Cert.Lru.nD Cert.Lru.τ).loc Cert.Lru.main_arg3) = m ((c.tc : Thread Cert.Lru.nD Cert.Lru.τ).loc Cert.Lru.main_arg3)
      ∧ r.2.mem ((c.tc : Thread Cert.Lru.nD Cert.Lru.τ).loc Cert.Lru.main_arg4) = m ((c.tc : Thread Cert.Lru.nD Cert.Lru.τ).loc Cert.Lru.main_arg4)
      ∧ r.2.mem ((c.tc : Thread Cert.Lru.nD Cert.Lru.τ).loc Cert.Lru.main_arg5) = m ((c.tc : Thread Cert.Lru.nD Cert.Lru.τ).loc Cert.Lru.main_arg5)
      ∧ r.2.mem ((c.tc : Thread Cert.Lru.nD Cert.Lru.τ).loc Cert.Lru.main_arg6) = m ((c.tc : Thread Cert.Lru.nD Cert.Lru.τ).loc Cert.Lru.main_arg6)
      ∧ r.2.mem ((c.tc : Thread Cert.Lru.nD Cert.Lru.τ).loc Cert.Lru.main_arg7) = m ((c.tc : Thread Cert.Lru.nD Cert.Lru.τ).loc Cert.Lru.main_arg7)
      ∧ r.2.mem ((c.tc : Thread Cert.Lru.nD Cert.Lru.τ).loc Cert.Lru.main_arg8) = m ((c.tc : Thread Cert.Lru.nD Cert.Lru.τ).loc Cert.Lru.main_arg8)
      ∧ r.2.mem ((c.tc : Thread Cert.Lru.nD Cert.Lru.τ).loc Cert.Lru.main_arg9) = m ((c.tc : Thread Cert.Lru.nD Cert.Lru.τ).loc Cert.Lru.main_arg9)
      ∧ r.2.mem ((c.tc : Thread Cert.Lru.nD Cert.Lru.τ).loc Cert.Lru.main_arg10) = m ((c.tc : Thread Cert.Lru.nD Cert.Lru.τ).loc Cert.Lru.main_arg10)
      ∧ r.2.mem ((c.tc : Thread Cert.Lru.nD Cert.Lru.τ).loc Cert.Lru.main_arg11) = m ((c.tc : Thread Cert.Lru.nD Cert.Lru.τ).loc Cert.Lru.main_arg11)
      ∧ r.2.mem ((c.tc : Thread Cert.Lru.nD Cert.Lru.τ).loc Cert.Lru.main_arg12) = m ((c.tc : Thread Cert.Lru.nD Cert.Lru.τ).loc Cert.Lru.main_arg12)
      ∧ r.2.mem ((c.tc : Thread Cert.Lru.nD Cert.Lru.τ).loc Cert.Lru.main_arg13) = m ((c.tc : Thread Cert.Lru.nD Cert.Lru.τ).loc Cert.Lru.main_arg13))
      ∧ r.2.sem = fun _ => 0)

def quiescent_LruIdeal [hLruIdeal : Cert.LruIdeal.Facts] : Prop :=
  ∀ (m : (ℓ : Loc Cert.LruIdeal.nD Cert.LruIdeal.τ Cert.LruIdeal.sig) → Buf (Elt Ideal) ℓ) (g : Dev Cert.LruIdeal.nD → PrngReg), Pre_LruIdeal m →
    θ_run (Cert.LruIdeal.defs (F := Ideal)) (onTc (τ := Cert.LruIdeal.τ) (Cert.LruIdeal.main (F := Ideal))) ⟨m, fun _ => 0, g⟩ (fun r => (∀ c : Dev Cert.LruIdeal.nD,
      r.2.mem ((c.tc : Thread Cert.LruIdeal.nD Cert.LruIdeal.τ).loc Cert.LruIdeal.main_arg0) = m ((c.tc : Thread Cert.LruIdeal.nD Cert.LruIdeal.τ).loc Cert.LruIdeal.main_arg0)
      ∧ r.2.mem ((c.tc : Thread Cert.LruIdeal.nD Cert.LruIdeal.τ).loc Cert.LruIdeal.main_arg1) = m ((c.tc : Thread Cert.LruIdeal.nD Cert.LruIdeal.τ).loc Cert.LruIdeal.main_arg1)
      ∧ r.2.mem ((c.tc : Thread Cert.LruIdeal.nD Cert.LruIdeal.τ).loc Cert.LruIdeal.main_arg2) = m ((c.tc : Thread Cert.LruIdeal.nD Cert.LruIdeal.τ).loc Cert.LruIdeal.main_arg2)
      ∧ r.2.mem ((c.tc : Thread Cert.LruIdeal.nD Cert.LruIdeal.τ).loc Cert.LruIdeal.main_arg3) = m ((c.tc : Thread Cert.LruIdeal.nD Cert.LruIdeal.τ).loc Cert.LruIdeal.main_arg3)
      ∧ r.2.mem ((c.tc : Thread Cert.LruIdeal.nD Cert.LruIdeal.τ).loc Cert.LruIdeal.main_arg4) = m ((c.tc : Thread Cert.LruIdeal.nD Cert.LruIdeal.τ).loc Cert.LruIdeal.main_arg4)
      ∧ r.2.mem ((c.tc : Thread Cert.LruIdeal.nD Cert.LruIdeal.τ).loc Cert.LruIdeal.main_arg5) = m ((c.tc : Thread Cert.LruIdeal.nD Cert.LruIdeal.τ).loc Cert.LruIdeal.main_arg5)
      ∧ r.2.mem ((c.tc : Thread Cert.LruIdeal.nD Cert.LruIdeal.τ).loc Cert.LruIdeal.main_arg6) = m ((c.tc : Thread Cert.LruIdeal.nD Cert.LruIdeal.τ).loc Cert.LruIdeal.main_arg6)
      ∧ r.2.mem ((c.tc : Thread Cert.LruIdeal.nD Cert.LruIdeal.τ).loc Cert.LruIdeal.main_arg7) = m ((c.tc : Thread Cert.LruIdeal.nD Cert.LruIdeal.τ).loc Cert.LruIdeal.main_arg7)
      ∧ r.2.mem ((c.tc : Thread Cert.LruIdeal.nD Cert.LruIdeal.τ).loc Cert.LruIdeal.main_arg8) = m ((c.tc : Thread Cert.LruIdeal.nD Cert.LruIdeal.τ).loc Cert.LruIdeal.main_arg8)
      ∧ r.2.mem ((c.tc : Thread Cert.LruIdeal.nD Cert.LruIdeal.τ).loc Cert.LruIdeal.main_arg9) = m ((c.tc : Thread Cert.LruIdeal.nD Cert.LruIdeal.τ).loc Cert.LruIdeal.main_arg9)
      ∧ r.2.mem ((c.tc : Thread Cert.LruIdeal.nD Cert.LruIdeal.τ).loc Cert.LruIdeal.main_arg10) = m ((c.tc : Thread Cert.LruIdeal.nD Cert.LruIdeal.τ).loc Cert.LruIdeal.main_arg10)
      ∧ r.2.mem ((c.tc : Thread Cert.LruIdeal.nD Cert.LruIdeal.τ).loc Cert.LruIdeal.main_arg11) = m ((c.tc : Thread Cert.LruIdeal.nD Cert.LruIdeal.τ).loc Cert.LruIdeal.main_arg11)
      ∧ r.2.mem ((c.tc : Thread Cert.LruIdeal.nD Cert.LruIdeal.τ).loc Cert.LruIdeal.main_arg12) = m ((c.tc : Thread Cert.LruIdeal.nD Cert.LruIdeal.τ).loc Cert.LruIdeal.main_arg12)
      ∧ r.2.mem ((c.tc : Thread Cert.LruIdeal.nD Cert.LruIdeal.τ).loc Cert.LruIdeal.main_arg13) = m ((c.tc : Thread Cert.LruIdeal.nD Cert.LruIdeal.τ).loc Cert.LruIdeal.main_arg13))
      ∧ r.2.sem = fun _ => 0)

def quiescent_LruRefIdeal [hLruRefIdeal : Cert.LruRefIdeal.Facts] : Prop :=
  ∀ (m : (ℓ : Loc Cert.LruRefIdeal.nD Cert.LruRefIdeal.τ Cert.LruRefIdeal.sig) → Buf (Elt Ideal) ℓ) (g : Dev Cert.LruRefIdeal.nD → PrngReg), Pre_LruRefIdeal m →
    θ_run (Cert.LruRefIdeal.defs (F := Ideal)) (onTc (τ := Cert.LruRefIdeal.τ) (Cert.LruRefIdeal.main (F := Ideal))) ⟨m, fun _ => 0, g⟩ (fun r => (∀ c : Dev Cert.LruRefIdeal.nD,
      r.2.mem ((c.tc : Thread Cert.LruRefIdeal.nD Cert.LruRefIdeal.τ).loc Cert.LruRefIdeal.main_arg0) = m ((c.tc : Thread Cert.LruRefIdeal.nD Cert.LruRefIdeal.τ).loc Cert.LruRefIdeal.main_arg0)
      ∧ r.2.mem ((c.tc : Thread Cert.LruRefIdeal.nD Cert.LruRefIdeal.τ).loc Cert.LruRefIdeal.main_arg1) = m ((c.tc : Thread Cert.LruRefIdeal.nD Cert.LruRefIdeal.τ).loc Cert.LruRefIdeal.main_arg1)
      ∧ r.2.mem ((c.tc : Thread Cert.LruRefIdeal.nD Cert.LruRefIdeal.τ).loc Cert.LruRefIdeal.main_arg2) = m ((c.tc : Thread Cert.LruRefIdeal.nD Cert.LruRefIdeal.τ).loc Cert.LruRefIdeal.main_arg2)
      ∧ r.2.mem ((c.tc : Thread Cert.LruRefIdeal.nD Cert.LruRefIdeal.τ).loc Cert.LruRefIdeal.main_arg3) = m ((c.tc : Thread Cert.LruRefIdeal.nD Cert.LruRefIdeal.τ).loc Cert.LruRefIdeal.main_arg3)
      ∧ r.2.mem ((c.tc : Thread Cert.LruRefIdeal.nD Cert.LruRefIdeal.τ).loc Cert.LruRefIdeal.main_arg4) = m ((c.tc : Thread Cert.LruRefIdeal.nD Cert.LruRefIdeal.τ).loc Cert.LruRefIdeal.main_arg4)
      ∧ r.2.mem ((c.tc : Thread Cert.LruRefIdeal.nD Cert.LruRefIdeal.τ).loc Cert.LruRefIdeal.main_arg5) = m ((c.tc : Thread Cert.LruRefIdeal.nD Cert.LruRefIdeal.τ).loc Cert.LruRefIdeal.main_arg5)
      ∧ r.2.mem ((c.tc : Thread Cert.LruRefIdeal.nD Cert.LruRefIdeal.τ).loc Cert.LruRefIdeal.main_arg6) = m ((c.tc : Thread Cert.LruRefIdeal.nD Cert.LruRefIdeal.τ).loc Cert.LruRefIdeal.main_arg6)
      ∧ r.2.mem ((c.tc : Thread Cert.LruRefIdeal.nD Cert.LruRefIdeal.τ).loc Cert.LruRefIdeal.main_arg7) = m ((c.tc : Thread Cert.LruRefIdeal.nD Cert.LruRefIdeal.τ).loc Cert.LruRefIdeal.main_arg7)
      ∧ r.2.mem ((c.tc : Thread Cert.LruRefIdeal.nD Cert.LruRefIdeal.τ).loc Cert.LruRefIdeal.main_arg8) = m ((c.tc : Thread Cert.LruRefIdeal.nD Cert.LruRefIdeal.τ).loc Cert.LruRefIdeal.main_arg8)
      ∧ r.2.mem ((c.tc : Thread Cert.LruRefIdeal.nD Cert.LruRefIdeal.τ).loc Cert.LruRefIdeal.main_arg9) = m ((c.tc : Thread Cert.LruRefIdeal.nD Cert.LruRefIdeal.τ).loc Cert.LruRefIdeal.main_arg9)
      ∧ r.2.mem ((c.tc : Thread Cert.LruRefIdeal.nD Cert.LruRefIdeal.τ).loc Cert.LruRefIdeal.main_arg10) = m ((c.tc : Thread Cert.LruRefIdeal.nD Cert.LruRefIdeal.τ).loc Cert.LruRefIdeal.main_arg10)
      ∧ r.2.mem ((c.tc : Thread Cert.LruRefIdeal.nD Cert.LruRefIdeal.τ).loc Cert.LruRefIdeal.main_arg11) = m ((c.tc : Thread Cert.LruRefIdeal.nD Cert.LruRefIdeal.τ).loc Cert.LruRefIdeal.main_arg11)
      ∧ r.2.mem ((c.tc : Thread Cert.LruRefIdeal.nD Cert.LruRefIdeal.τ).loc Cert.LruRefIdeal.main_arg12) = m ((c.tc : Thread Cert.LruRefIdeal.nD Cert.LruRefIdeal.τ).loc Cert.LruRefIdeal.main_arg12)
      ∧ r.2.mem ((c.tc : Thread Cert.LruRefIdeal.nD Cert.LruRefIdeal.τ).loc Cert.LruRefIdeal.main_arg13) = m ((c.tc : Thread Cert.LruRefIdeal.nD Cert.LruRefIdeal.τ).loc Cert.LruRefIdeal.main_arg13))
      ∧ r.2.sem = fun _ => 0)

def quiescent_Rec [hRec : Cert.Rec.Facts] : Prop :=
  ∀ (m : (ℓ : Loc Cert.Rec.nD Cert.Rec.τ Cert.Rec.sig) → Buf (Elt Bits) ℓ) (g : Dev Cert.Rec.nD → PrngReg), Pre_Rec m →
    θ_run (Cert.Rec.defs (F := Bits)) (onTc (τ := Cert.Rec.τ) (Cert.Rec.main (F := Bits))) ⟨m, fun _ => 0, g⟩ (fun r => (∀ c : Dev Cert.Rec.nD,
      r.2.mem ((c.tc : Thread Cert.Rec.nD Cert.Rec.τ).loc Cert.Rec.main_arg0) = m ((c.tc : Thread Cert.Rec.nD Cert.Rec.τ).loc Cert.Rec.main_arg0)
      ∧ r.2.mem ((c.tc : Thread Cert.Rec.nD Cert.Rec.τ).loc Cert.Rec.main_arg1) = m ((c.tc : Thread Cert.Rec.nD Cert.Rec.τ).loc Cert.Rec.main_arg1)
      ∧ r.2.mem ((c.tc : Thread Cert.Rec.nD Cert.Rec.τ).loc Cert.Rec.main_arg2) = m ((c.tc : Thread Cert.Rec.nD Cert.Rec.τ).loc Cert.Rec.main_arg2)
      ∧ r.2.mem ((c.tc : Thread Cert.Rec.nD Cert.Rec.τ).loc Cert.Rec.main_arg3) = m ((c.tc : Thread Cert.Rec.nD Cert.Rec.τ).loc Cert.Rec.main_arg3)
      ∧ r.2.mem ((c.tc : Thread Cert.Rec.nD Cert.Rec.τ).loc Cert.Rec.main_arg4) = m ((c.tc : Thread Cert.Rec.nD Cert.Rec.τ).loc Cert.Rec.main_arg4)
      ∧ r.2.mem ((c.tc : Thread Cert.Rec.nD Cert.Rec.τ).loc Cert.Rec.main_arg5) = m ((c.tc : Thread Cert.Rec.nD Cert.Rec.τ).loc Cert.Rec.main_arg5)
      ∧ r.2.mem ((c.tc : Thread Cert.Rec.nD Cert.Rec.τ).loc Cert.Rec.main_arg6) = m ((c.tc : Thread Cert.Rec.nD Cert.Rec.τ).loc Cert.Rec.main_arg6)
      ∧ r.2.mem ((c.tc : Thread Cert.Rec.nD Cert.Rec.τ).loc Cert.Rec.main_arg7) = m ((c.tc : Thread Cert.Rec.nD Cert.Rec.τ).loc Cert.Rec.main_arg7)
      ∧ r.2.mem ((c.tc : Thread Cert.Rec.nD Cert.Rec.τ).loc Cert.Rec.main_arg8) = m ((c.tc : Thread Cert.Rec.nD Cert.Rec.τ).loc Cert.Rec.main_arg8)
      ∧ r.2.mem ((c.tc : Thread Cert.Rec.nD Cert.Rec.τ).loc Cert.Rec.main_arg9) = m ((c.tc : Thread Cert.Rec.nD Cert.Rec.τ).loc Cert.Rec.main_arg9)
      ∧ r.2.mem ((c.tc : Thread Cert.Rec.nD Cert.Rec.τ).loc Cert.Rec.main_arg10) = m ((c.tc : Thread Cert.Rec.nD Cert.Rec.τ).loc Cert.Rec.main_arg10)
      ∧ r.2.mem ((c.tc : Thread Cert.Rec.nD Cert.Rec.τ).loc Cert.Rec.main_arg11) = m ((c.tc : Thread Cert.Rec.nD Cert.Rec.τ).loc Cert.Rec.main_arg11)
      ∧ r.2.mem ((c.tc : Thread Cert.Rec.nD Cert.Rec.τ).loc Cert.Rec.main_arg12) = m ((c.tc : Thread Cert.Rec.nD Cert.Rec.τ).loc Cert.Rec.main_arg12)
      ∧ r.2.mem ((c.tc : Thread Cert.Rec.nD Cert.Rec.τ).loc Cert.Rec.main_arg13) = m ((c.tc : Thread Cert.Rec.nD Cert.Rec.τ).loc Cert.Rec.main_arg13))
      ∧ r.2.sem = fun _ => 0)

def quiescent_RecIdeal [hRecIdeal : Cert.RecIdeal.Facts] : Prop :=
  ∀ (m : (ℓ : Loc Cert.RecIdeal.nD Cert.RecIdeal.τ Cert.RecIdeal.sig) → Buf (Elt Ideal) ℓ) (g : Dev Cert.RecIdeal.nD → PrngReg), Pre_RecIdeal m →
    θ_run (Cert.RecIdeal.defs (F := Ideal)) (onTc (τ := Cert.RecIdeal.τ) (Cert.RecIdeal.main (F := Ideal))) ⟨m, fun _ => 0, g⟩ (fun r => (∀ c : Dev Cert.RecIdeal.nD,
      r.2.mem ((c.tc : Thread Cert.RecIdeal.nD Cert.RecIdeal.τ).loc Cert.RecIdeal.main_arg0) = m ((c.tc : Thread Cert.RecIdeal.nD Cert.RecIdeal.τ).loc Cert.RecIdeal.main_arg0)
      ∧ r.2.mem ((c.tc : Thread Cert.RecIdeal.nD Cert.RecIdeal.τ).loc Cert.RecIdeal.main_arg1) = m ((c.tc : Thread Cert.RecIdeal.nD Cert.RecIdeal.τ).loc Cert.RecIdeal.main_arg1)
      ∧ r.2.mem ((c.tc : Thread Cert.RecIdeal.nD Cert.RecIdeal.τ).loc Cert.RecIdeal.main_arg2) = m ((c.tc : Thread Cert.RecIdeal.nD Cert.RecIdeal.τ).loc Cert.RecIdeal.main_arg2)
      ∧ r.2.mem ((c.tc : Thread Cert.RecIdeal.nD Cert.RecIdeal.τ).loc Cert.RecIdeal.main_arg3) = m ((c.tc : Thread Cert.RecIdeal.nD Cert.RecIdeal.τ).loc Cert.RecIdeal.main_arg3)
      ∧ r.2.mem ((c.tc : Thread Cert.RecIdeal.nD Cert.RecIdeal.τ).loc Cert.RecIdeal.main_arg4) = m ((c.tc : Thread Cert.RecIdeal.nD Cert.RecIdeal.τ).loc Cert.RecIdeal.main_arg4)
      ∧ r.2.mem ((c.tc : Thread Cert.RecIdeal.nD Cert.RecIdeal.τ).loc Cert.RecIdeal.main_arg5) = m ((c.tc : Thread Cert.RecIdeal.nD Cert.RecIdeal.τ).loc Cert.RecIdeal.main_arg5)
      ∧ r.2.mem ((c.tc : Thread Cert.RecIdeal.nD Cert.RecIdeal.τ).loc Cert.RecIdeal.main_arg6) = m ((c.tc : Thread Cert.RecIdeal.nD Cert.RecIdeal.τ).loc Cert.RecIdeal.main_arg6)
      ∧ r.2.mem ((c.tc : Thread Cert.RecIdeal.nD Cert.RecIdeal.τ).loc Cert.RecIdeal.main_arg7) = m ((c.tc : Thread Cert.RecIdeal.nD Cert.RecIdeal.τ).loc Cert.RecIdeal.main_arg7)
      ∧ r.2.mem ((c.tc : Thread Cert.RecIdeal.nD Cert.RecIdeal.τ).loc Cert.RecIdeal.main_arg8) = m ((c.tc : Thread Cert.RecIdeal.nD Cert.RecIdeal.τ).loc Cert.RecIdeal.main_arg8)
      ∧ r.2.mem ((c.tc : Thread Cert.RecIdeal.nD Cert.RecIdeal.τ).loc Cert.RecIdeal.main_arg9) = m ((c.tc : Thread Cert.RecIdeal.nD Cert.RecIdeal.τ).loc Cert.RecIdeal.main_arg9)
      ∧ r.2.mem ((c.tc : Thread Cert.RecIdeal.nD Cert.RecIdeal.τ).loc Cert.RecIdeal.main_arg10) = m ((c.tc : Thread Cert.RecIdeal.nD Cert.RecIdeal.τ).loc Cert.RecIdeal.main_arg10)
      ∧ r.2.mem ((c.tc : Thread Cert.RecIdeal.nD Cert.RecIdeal.τ).loc Cert.RecIdeal.main_arg11) = m ((c.tc : Thread Cert.RecIdeal.nD Cert.RecIdeal.τ).loc Cert.RecIdeal.main_arg11)
      ∧ r.2.mem ((c.tc : Thread Cert.RecIdeal.nD Cert.RecIdeal.τ).loc Cert.RecIdeal.main_arg12) = m ((c.tc : Thread Cert.RecIdeal.nD Cert.RecIdeal.τ).loc Cert.RecIdeal.main_arg12)
      ∧ r.2.mem ((c.tc : Thread Cert.RecIdeal.nD Cert.RecIdeal.τ).loc Cert.RecIdeal.main_arg13) = m ((c.tc : Thread Cert.RecIdeal.nD Cert.RecIdeal.τ).loc Cert.RecIdeal.main_arg13))
      ∧ r.2.sem = fun _ => 0)

def quiescent_RecRefIdeal [hRecRefIdeal : Cert.RecRefIdeal.Facts] : Prop :=
  ∀ (m : (ℓ : Loc Cert.RecRefIdeal.nD Cert.RecRefIdeal.τ Cert.RecRefIdeal.sig) → Buf (Elt Ideal) ℓ) (g : Dev Cert.RecRefIdeal.nD → PrngReg), Pre_RecRefIdeal m →
    θ_run (Cert.RecRefIdeal.defs (F := Ideal)) (onTc (τ := Cert.RecRefIdeal.τ) (Cert.RecRefIdeal.main (F := Ideal))) ⟨m, fun _ => 0, g⟩ (fun r => (∀ c : Dev Cert.RecRefIdeal.nD,
      r.2.mem ((c.tc : Thread Cert.RecRefIdeal.nD Cert.RecRefIdeal.τ).loc Cert.RecRefIdeal.main_arg0) = m ((c.tc : Thread Cert.RecRefIdeal.nD Cert.RecRefIdeal.τ).loc Cert.RecRefIdeal.main_arg0)
      ∧ r.2.mem ((c.tc : Thread Cert.RecRefIdeal.nD Cert.RecRefIdeal.τ).loc Cert.RecRefIdeal.main_arg1) = m ((c.tc : Thread Cert.RecRefIdeal.nD Cert.RecRefIdeal.τ).loc Cert.RecRefIdeal.main_arg1)
      ∧ r.2.mem ((c.tc : Thread Cert.RecRefIdeal.nD Cert.RecRefIdeal.τ).loc Cert.RecRefIdeal.main_arg2) = m ((c.tc : Thread Cert.RecRefIdeal.nD Cert.RecRefIdeal.τ).loc Cert.RecRefIdeal.main_arg2)
      ∧ r.2.mem ((c.tc : Thread Cert.RecRefIdeal.nD Cert.RecRefIdeal.τ).loc Cert.RecRefIdeal.main_arg3) = m ((c.tc : Thread Cert.RecRefIdeal.nD Cert.RecRefIdeal.τ).loc Cert.RecRefIdeal.main_arg3)
      ∧ r.2.mem ((c.tc : Thread Cert.RecRefIdeal.nD Cert.RecRefIdeal.τ).loc Cert.RecRefIdeal.main_arg4) = m ((c.tc : Thread Cert.RecRefIdeal.nD Cert.RecRefIdeal.τ).loc Cert.RecRefIdeal.main_arg4)
      ∧ r.2.mem ((c.tc : Thread Cert.RecRefIdeal.nD Cert.RecRefIdeal.τ).loc Cert.RecRefIdeal.main_arg5) = m ((c.tc : Thread Cert.RecRefIdeal.nD Cert.RecRefIdeal.τ).loc Cert.RecRefIdeal.main_arg5)
      ∧ r.2.mem ((c.tc : Thread Cert.RecRefIdeal.nD Cert.RecRefIdeal.τ).loc Cert.RecRefIdeal.main_arg6) = m ((c.tc : Thread Cert.RecRefIdeal.nD Cert.RecRefIdeal.τ).loc Cert.RecRefIdeal.main_arg6)
      ∧ r.2.mem ((c.tc : Thread Cert.RecRefIdeal.nD Cert.RecRefIdeal.τ).loc Cert.RecRefIdeal.main_arg7) = m ((c.tc : Thread Cert.RecRefIdeal.nD Cert.RecRefIdeal.τ).loc Cert.RecRefIdeal.main_arg7)
      ∧ r.2.mem ((c.tc : Thread Cert.RecRefIdeal.nD Cert.RecRefIdeal.τ).loc Cert.RecRefIdeal.main_arg8) = m ((c.tc : Thread Cert.RecRefIdeal.nD Cert.RecRefIdeal.τ).loc Cert.RecRefIdeal.main_arg8)
      ∧ r.2.mem ((c.tc : Thread Cert.RecRefIdeal.nD Cert.RecRefIdeal.τ).loc Cert.RecRefIdeal.main_arg9) = m ((c.tc : Thread Cert.RecRefIdeal.nD Cert.RecRefIdeal.τ).loc Cert.RecRefIdeal.main_arg9)
      ∧ r.2.mem ((c.tc : Thread Cert.RecRefIdeal.nD Cert.RecRefIdeal.τ).loc Cert.RecRefIdeal.main_arg10) = m ((c.tc : Thread Cert.RecRefIdeal.nD Cert.RecRefIdeal.τ).loc Cert.RecRefIdeal.main_arg10)
      ∧ r.2.mem ((c.tc : Thread Cert.RecRefIdeal.nD Cert.RecRefIdeal.τ).loc Cert.RecRefIdeal.main_arg11) = m ((c.tc : Thread Cert.RecRefIdeal.nD Cert.RecRefIdeal.τ).loc Cert.RecRefIdeal.main_arg11)
      ∧ r.2.mem ((c.tc : Thread Cert.RecRefIdeal.nD Cert.RecRefIdeal.τ).loc Cert.RecRefIdeal.main_arg12) = m ((c.tc : Thread Cert.RecRefIdeal.nD Cert.RecRefIdeal.τ).loc Cert.RecRefIdeal.main_arg12)
      ∧ r.2.mem ((c.tc : Thread Cert.RecRefIdeal.nD Cert.RecRefIdeal.τ).loc Cert.RecRefIdeal.main_arg13) = m ((c.tc : Thread Cert.RecRefIdeal.nD Cert.RecRefIdeal.τ).loc Cert.RecRefIdeal.main_arg13))
      ∧ r.2.sem = fun _ => 0)

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v5)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v5) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v43) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_Kv_KvIdeal : Prop :=
  True

def algebraic_KvIdeal_KvRefIdeal [hKvIdeal : Cert.KvIdeal.Facts] [hKvRefIdeal : Cert.KvRefIdeal.Facts] : Prop :=
  ∀ (m : (ℓ : Loc Cert.KvIdeal.nD Cert.KvIdeal.τ Cert.KvIdeal.sig) → Buf (Elt Ideal) ℓ) (g : Dev Cert.KvIdeal.nD → PrngReg)
    (m' : (ℓ : Loc Cert.KvRefIdeal.nD Cert.KvRefIdeal.τ Cert.KvRefIdeal.sig) → Buf (Elt Ideal) ℓ) (g' : Dev Cert.KvRefIdeal.nD → PrngReg), Pre_KvIdeal m →
    (∀ c : Dev Cert.KvIdeal.nD,
      m' ((c.tc : Thread Cert.KvRefIdeal.nD Cert.KvRefIdeal.τ).loc Cert.KvRefIdeal.main_arg0) = m ((c.tc : Thread Cert.KvIdeal.nD Cert.KvIdeal.τ).loc Cert.KvIdeal.main_arg0)
      ∧ m' ((c.tc : Thread Cert.KvRefIdeal.nD Cert.KvRefIdeal.τ).loc Cert.KvRefIdeal.main_arg1) = m ((c.tc : Thread Cert.KvIdeal.nD Cert.KvIdeal.τ).loc Cert.KvIdeal.main_arg1)
      ∧ m' ((c.tc : Thread Cert.KvRefIdeal.nD Cert.KvRefIdeal.τ).loc Cert.KvRefIdeal.main_arg2) = m ((c.tc : Thread Cert.KvIdeal.nD Cert.KvIdeal.τ).loc Cert.KvIdeal.main_arg2)
      ∧ m' ((c.tc : Thread Cert.KvRefIdeal.nD Cert.KvRefIdeal.τ).loc Cert.KvRefIdeal.main_arg3) = m ((c.tc : Thread Cert.KvIdeal.nD Cert.KvIdeal.τ).loc Cert.KvIdeal.main_arg3)) →
    ∃ (v0 : (c : Dev Cert.KvIdeal.nD) → Buf (Elt Ideal) ((c.tc : Thread Cert.KvIdeal.nD Cert.KvIdeal.τ).loc Cert.KvIdeal.main_v3_0)) (v1 : (c : Dev Cert.KvIdeal.nD) → Buf (Elt Ideal) ((c.tc : Thread Cert.KvIdeal.nD Cert.KvIdeal.τ).loc Cert.KvIdeal.main_v3_1)) (v2 : (c : Dev Cert.KvIdeal.nD) → Buf (Elt Ideal) ((c.tc : Thread Cert.KvIdeal.nD Cert.KvIdeal.τ).loc Cert.KvIdeal.main_v3_2)) (v3 : (c : Dev Cert.KvIdeal.nD) → Buf (Elt Ideal) ((c.tc : Thread Cert.KvIdeal.nD Cert.KvIdeal.τ).loc Cert.KvIdeal.main_v3_3)) (v4 : (c : Dev Cert.KvIdeal.nD) → Buf (Elt Ideal) ((c.tc : Thread Cert.KvIdeal.nD Cert.KvIdeal.τ).loc Cert.KvIdeal.main_v3_4)) (v5 : (c : Dev Cert.KvIdeal.nD) → Buf (Elt Ideal) ((c.tc : Thread Cert.KvIdeal.nD Cert.KvIdeal.τ).loc Cert.KvIdeal.main_v3_5)),
      θ_run (Cert.KvIdeal.defs (F := Ideal)) (onTc (τ := Cert.KvIdeal.τ) (Cert.KvIdeal.main (F := Ideal))) ⟨m, fun _ => 0, g⟩ (fun r => ∀ c : Dev Cert.KvIdeal.nD,
          r.2.mem ((c.tc : Thread Cert.KvIdeal.nD Cert.KvIdeal.τ).loc Cert.KvIdeal.main_v3_0) = v0 c
          ∧ r.2.mem ((c.tc : Thread Cert.KvIdeal.nD Cert.KvIdeal.τ).loc Cert.KvIdeal.main_v3_1) = v1 c
          ∧ r.2.mem ((c.tc : Thread Cert.KvIdeal.nD Cert.KvIdeal.τ).loc Cert.KvIdeal.main_v3_2) = v2 c
          ∧ r.2.mem ((c.tc : Thread Cert.KvIdeal.nD Cert.KvIdeal.τ).loc Cert.KvIdeal.main_v3_3) = v3 c
          ∧ r.2.mem ((c.tc : Thread Cert.KvIdeal.nD Cert.KvIdeal.τ).loc Cert.KvIdeal.main_v3_4) = v4 c
          ∧ r.2.mem ((c.tc : Thread Cert.KvIdeal.nD Cert.KvIdeal.τ).loc Cert.KvIdeal.main_v3_5) = v5 c
          ∧ r.2.mem ((c.tc : Thread Cert.KvIdeal.nD Cert.KvIdeal.τ).loc Cert.KvIdeal.main_arg0) = m ((c.tc : Thread Cert.KvIdeal.nD Cert.KvIdeal.τ).loc Cert.KvIdeal.main_arg0)
          ∧ r.2.mem ((c.tc : Thread Cert.KvIdeal.nD Cert.KvIdeal.τ).loc Cert.KvIdeal.main_arg1) = m ((c.tc : Thread Cert.KvIdeal.nD Cert.KvIdeal.τ).loc Cert.KvIdeal.main_arg1)
          ∧ r.2.mem ((c.tc : Thread Cert.KvIdeal.nD Cert.KvIdeal.τ).loc Cert.KvIdeal.main_arg2) = m ((c.tc : Thread Cert.KvIdeal.nD Cert.KvIdeal.τ).loc Cert.KvIdeal.main_arg2)
          ∧ r.2.mem ((c.tc : Thread Cert.KvIdeal.nD Cert.KvIdeal.τ).loc Cert.KvIdeal.main_arg3) = m ((c.tc : Thread Cert.KvIdeal.nD Cert.KvIdeal.τ).loc Cert.KvIdeal.main_arg3))
      ∧ θ_run (Cert.KvRefIdeal.defs (F := Ideal)) (onTc (τ := Cert.KvRefIdeal.τ) (Cert.KvRefIdeal.main (F := Ideal))) ⟨m', fun _ => 0, g'⟩ (fun r => ∀ c : Dev Cert.KvRefIdeal.nD,
          r.2.mem ((c.tc : Thread Cert.KvRefIdeal.nD Cert.KvRefIdeal.τ).loc Cert.KvRefIdeal.main_v17) = v0 c
          ∧ r.2.mem ((c.tc : Thread Cert.KvRefIdeal.nD Cert.KvRefIdeal.τ).loc Cert.KvRefIdeal.main_v20) = v1 c
          ∧ r.2.mem ((c.tc : Thread Cert.KvRefIdeal.nD Cert.KvRefIdeal.τ).loc Cert.KvRefIdeal.main_v21) = v2 c
          ∧ r.2.mem ((c.tc : Thread Cert.KvRefIdeal.nD Cert.KvRefIdeal.τ).loc Cert.KvRefIdeal.main_v22) = v3 c
          ∧ r.2.mem ((c.tc : Thread Cert.KvRefIdeal.nD Cert.KvRefIdeal.τ).loc Cert.KvRefIdeal.main_v23) = v4 c
          ∧ r.2.mem ((c.tc : Thread Cert.KvRefIdeal.nD Cert.KvRefIdeal.τ).loc Cert.KvRefIdeal.main_v24) = v5 c
          ∧ r.2.mem ((c.tc : Thread Cert.KvRefIdeal.nD Cert.KvRefIdeal.τ).loc Cert.KvRefIdeal.main_arg0) = m' ((c.tc : Thread Cert.KvRefIdeal.nD Cert.KvRefIdeal.τ).loc Cert.KvRefIdeal.main_arg0)
          ∧ r.2.mem ((c.tc : Thread Cert.KvRefIdeal.nD Cert.KvRefIdeal.τ).loc Cert.KvRefIdeal.main_arg1) = m' ((c.tc : Thread Cert.KvRefIdeal.nD Cert.KvRefIdeal.τ).loc Cert.KvRefIdeal.main_arg1)
          ∧ r.2.mem ((c.tc : Thread Cert.KvRefIdeal.nD Cert.KvRefIdeal.τ).loc Cert.KvRefIdeal.main_arg2) = m' ((c.tc : Thread Cert.KvRefIdeal.nD Cert.KvRefIdeal.τ).loc Cert.KvRefIdeal.main_arg2)
          ∧ r.2.mem ((c.tc : Thread Cert.KvRefIdeal.nD Cert.KvRefIdeal.τ).loc Cert.KvRefIdeal.main_arg3) = m' ((c.tc : Thread Cert.KvRefIdeal.nD Cert.KvRefIdeal.τ).loc Cert.KvRefIdeal.main_arg3))

def preserves_FfnQ_FfnQIdeal : Prop :=
  True

def algebraic_FfnQIdeal_FfnQRefIdeal [hFfnQIdeal : Cert.FfnQIdeal.Facts] [hFfnQRefIdeal : Cert.FfnQRefIdeal.Facts] : Prop :=
  ∀ (m : (ℓ : Loc Cert.FfnQIdeal.nD Cert.FfnQIdeal.τ Cert.FfnQIdeal.sig) → Buf (Elt Ideal) ℓ) (g : Dev Cert.FfnQIdeal.nD → PrngReg)
    (m' : (ℓ : Loc Cert.FfnQRefIdeal.nD Cert.FfnQRefIdeal.τ Cert.FfnQRefIdeal.sig) → Buf (Elt Ideal) ℓ) (g' : Dev Cert.FfnQRefIdeal.nD → PrngReg), Pre_FfnQIdeal m →
    (∀ c : Dev Cert.FfnQIdeal.nD,
      m' ((c.tc : Thread Cert.FfnQRefIdeal.nD Cert.FfnQRefIdeal.τ).loc Cert.FfnQRefIdeal.main_arg0) = m ((c.tc : Thread Cert.FfnQIdeal.nD Cert.FfnQIdeal.τ).loc Cert.FfnQIdeal.main_arg0)
      ∧ m' ((c.tc : Thread Cert.FfnQRefIdeal.nD Cert.FfnQRefIdeal.τ).loc Cert.FfnQRefIdeal.main_arg1) = m ((c.tc : Thread Cert.FfnQIdeal.nD Cert.FfnQIdeal.τ).loc Cert.FfnQIdeal.main_arg1)
      ∧ m' ((c.tc : Thread Cert.FfnQRefIdeal.nD Cert.FfnQRefIdeal.τ).loc Cert.FfnQRefIdeal.main_arg2) = m ((c.tc : Thread Cert.FfnQIdeal.nD Cert.FfnQIdeal.τ).loc Cert.FfnQIdeal.main_arg2)
      ∧ m' ((c.tc : Thread Cert.FfnQRefIdeal.nD Cert.FfnQRefIdeal.τ).loc Cert.FfnQRefIdeal.main_arg3) = m ((c.tc : Thread Cert.FfnQIdeal.nD Cert.FfnQIdeal.τ).loc Cert.FfnQIdeal.main_arg3)
      ∧ m' ((c.tc : Thread Cert.FfnQRefIdeal.nD Cert.FfnQRefIdeal.τ).loc Cert.FfnQRefIdeal.main_arg4) = m ((c.tc : Thread Cert.FfnQIdeal.nD Cert.FfnQIdeal.τ).loc Cert.FfnQIdeal.main_arg4)
      ∧ m' ((c.tc : Thread Cert.FfnQRefIdeal.nD Cert.FfnQRefIdeal.τ).loc Cert.FfnQRefIdeal.main_arg5) = m ((c.tc : Thread Cert.FfnQIdeal.nD Cert.FfnQIdeal.τ).loc Cert.FfnQIdeal.main_arg5)) →
    ∃ (v0 : (c : Dev Cert.FfnQIdeal.nD) → Buf (Elt Ideal) ((c.tc : Thread Cert.FfnQIdeal.nD Cert.FfnQIdeal.τ).loc Cert.FfnQIdeal.main_v7_0)) (v1 : (c : Dev Cert.FfnQIdeal.nD) → Buf (Elt Ideal) ((c.tc : Thread Cert.FfnQIdeal.nD Cert.FfnQIdeal.τ).loc Cert.FfnQIdeal.main_v7_1)) (v2 : (c : Dev Cert.FfnQIdeal.nD) → Buf (Elt Ideal) ((c.tc : Thread Cert.FfnQIdeal.nD Cert.FfnQIdeal.τ).loc Cert.FfnQIdeal.main_v7_2)),
      θ_run (Cert.FfnQIdeal.defs (F := Ideal)) (onTc (τ := Cert.FfnQIdeal.τ) (Cert.FfnQIdeal.main (F := Ideal))) ⟨m, fun _ => 0, g⟩ (fun r => ∀ c : Dev Cert.FfnQIdeal.nD,
          r.2.mem ((c.tc : Thread Cert.FfnQIdeal.nD Cert.FfnQIdeal.τ).loc Cert.FfnQIdeal.main_v7_0) = v0 c
          ∧ r.2.mem ((c.tc : Thread Cert.FfnQIdeal.nD Cert.FfnQIdeal.τ).loc Cert.FfnQIdeal.main_v7_1) = v1 c
          ∧ r.2.mem ((c.tc : Thread Cert.FfnQIdeal.nD Cert.FfnQIdeal.τ).loc Cert.FfnQIdeal.main_v7_2) = v2 c
          ∧ r.2.mem ((c.tc : Thread Cert.FfnQIdeal.nD Cert.FfnQIdeal.τ).loc Cert.FfnQIdeal.main_arg0) = m ((c.tc : Thread Cert.FfnQIdeal.nD Cert.FfnQIdeal.τ).loc Cert.FfnQIdeal.main_arg0)
          ∧ r.2.mem ((c.tc : Thread Cert.FfnQIdeal.nD Cert.FfnQIdeal.τ).loc Cert.FfnQIdeal.main_arg1) = m ((c.tc : Thread Cert.FfnQIdeal.nD Cert.FfnQIdeal.τ).loc Cert.FfnQIdeal.main_arg1)
          ∧ r.2.mem ((c.tc : Thread Cert.FfnQIdeal.nD Cert.FfnQIdeal.τ).loc Cert.FfnQIdeal.main_arg2) = m ((c.tc : Thread Cert.FfnQIdeal.nD Cert.FfnQIdeal.τ).loc Cert.FfnQIdeal.main_arg2)
          ∧ r.2.mem ((c.tc : Thread Cert.FfnQIdeal.nD Cert.FfnQIdeal.τ).loc Cert.FfnQIdeal.main_arg3) = m ((c.tc : Thread Cert.FfnQIdeal.nD Cert.FfnQIdeal.τ).loc Cert.FfnQIdeal.main_arg3)
          ∧ r.2.mem ((c.tc : Thread Cert.FfnQIdeal.nD Cert.FfnQIdeal.τ).loc Cert.FfnQIdeal.main_arg4) = m ((c.tc : Thread Cert.FfnQIdeal.nD Cert.FfnQIdeal.τ).loc Cert.FfnQIdeal.main_arg4)
          ∧ r.2.mem ((c.tc : Thread Cert.FfnQIdeal.nD Cert.FfnQIdeal.τ).loc Cert.FfnQIdeal.main_arg5) = m ((c.tc : Thread Cert.FfnQIdeal.nD Cert.FfnQIdeal.τ).loc Cert.FfnQIdeal.main_arg5))
      ∧ θ_run (Cert.FfnQRefIdeal.defs (F := Ideal)) (onTc (τ := Cert.FfnQRefIdeal.τ) (Cert.FfnQRefIdeal.main (F := Ideal))) ⟨m', fun _ => 0, g'⟩ (fun r => ∀ c : Dev Cert.FfnQRefIdeal.nD,
          r.2.mem ((c.tc : Thread Cert.FfnQRefIdeal.nD Cert.FfnQRefIdeal.τ).loc Cert.FfnQRefIdeal.main_v43) = v0 c
          ∧ r.2.mem ((c.tc : Thread Cert.FfnQRefIdeal.nD Cert.FfnQRefIdeal.τ).loc Cert.FfnQRefIdeal.main_v63) = v1 c
          ∧ r.2.mem ((c.tc : Thread Cert.FfnQRefIdeal.nD Cert.FfnQRefIdeal.τ).loc Cert.FfnQRefIdeal.main_v64) = v2 c
          ∧ r.2.mem ((c.tc : Thread Cert.FfnQRefIdeal.nD Cert.FfnQRefIdeal.τ).loc Cert.FfnQRefIdeal.main_arg0) = m' ((c.tc : Thread Cert.FfnQRefIdeal.nD Cert.FfnQRefIdeal.τ).loc Cert.FfnQRefIdeal.main_arg0)
          ∧ r.2.mem ((c.tc : Thread Cert.FfnQRefIdeal.nD Cert.FfnQRefIdeal.τ).loc Cert.FfnQRefIdeal.main_arg1) = m' ((c.tc : Thread Cert.FfnQRefIdeal.nD Cert.FfnQRefIdeal.τ).loc Cert.FfnQRefIdeal.main_arg1)
          ∧ r.2.mem ((c.tc : Thread Cert.FfnQRefIdeal.nD Cert.FfnQRefIdeal.τ).loc Cert.FfnQRefIdeal.main_arg2) = m' ((c.tc : Thread Cert.FfnQRefIdeal.nD Cert.FfnQRefIdeal.τ).loc Cert.FfnQRefIdeal.main_arg2)
          ∧ r.2.mem ((c.tc : Thread Cert.FfnQRefIdeal.nD Cert.FfnQRefIdeal.τ).loc Cert.FfnQRefIdeal.main_arg3) = m' ((c.tc : Thread Cert.FfnQRefIdeal.nD Cert.FfnQRefIdeal.τ).loc Cert.FfnQRefIdeal.main_arg3)
          ∧ r.2.mem ((c.tc : Thread Cert.FfnQRefIdeal.nD Cert.FfnQRefIdeal.τ).loc Cert.FfnQRefIdeal.main_arg4) = m' ((c.tc : Thread Cert.FfnQRefIdeal.nD Cert.FfnQRefIdeal.τ).loc Cert.FfnQRefIdeal.main_arg4)
          ∧ r.2.mem ((c.tc : Thread Cert.FfnQRefIdeal.nD Cert.FfnQRefIdeal.τ).loc Cert.FfnQRefIdeal.main_arg5) = m' ((c.tc : Thread Cert.FfnQRefIdeal.nD Cert.FfnQRefIdeal.τ).loc Cert.FfnQRefIdeal.main_arg5))

def preserves_FfnOut_FfnOutIdeal : Prop :=
  True

def algebraic_FfnOutIdeal_FfnOutRefIdeal [hFfnOutIdeal : Cert.FfnOutIdeal.Facts] [hFfnOutRefIdeal : Cert.FfnOutRefIdeal.Facts] : Prop :=
  ∀ (m : (ℓ : Loc Cert.FfnOutIdeal.nD Cert.FfnOutIdeal.τ Cert.FfnOutIdeal.sig) → Buf (Elt Ideal) ℓ) (g : Dev Cert.FfnOutIdeal.nD → PrngReg)
    (m' : (ℓ : Loc Cert.FfnOutRefIdeal.nD Cert.FfnOutRefIdeal.τ Cert.FfnOutRefIdeal.sig) → Buf (Elt Ideal) ℓ) (g' : Dev Cert.FfnOutRefIdeal.nD → PrngReg), Pre_FfnOutIdeal m →
    (∀ c : Dev Cert.FfnOutIdeal.nD,
      m' ((c.tc : Thread Cert.FfnOutRefIdeal.nD Cert.FfnOutRefIdeal.τ).loc Cert.FfnOutRefIdeal.main_arg0) = m ((c.tc : Thread Cert.FfnOutIdeal.nD Cert.FfnOutIdeal.τ).loc Cert.FfnOutIdeal.main_arg0)
      ∧ m' ((c.tc : Thread Cert.FfnOutRefIdeal.nD Cert.FfnOutRefIdeal.τ).loc Cert.FfnOutRefIdeal.main_arg1) = m ((c.tc : Thread Cert.FfnOutIdeal.nD Cert.FfnOutIdeal.τ).loc Cert.FfnOutIdeal.main_arg1)
      ∧ m' ((c.tc : Thread Cert.FfnOutRefIdeal.nD Cert.FfnOutRefIdeal.τ).loc Cert.FfnOutRefIdeal.main_arg2) = m ((c.tc : Thread Cert.FfnOutIdeal.nD Cert.FfnOutIdeal.τ).loc Cert.FfnOutIdeal.main_arg2)
      ∧ m' ((c.tc : Thread Cert.FfnOutRefIdeal.nD Cert.FfnOutRefIdeal.τ).loc Cert.FfnOutRefIdeal.main_arg3) = m ((c.tc : Thread Cert.FfnOutIdeal.nD Cert.FfnOutIdeal.τ).loc Cert.FfnOutIdeal.main_arg3)
      ∧ m' ((c.tc : Thread Cert.FfnOutRefIdeal.nD Cert.FfnOutRefIdeal.τ).loc Cert.FfnOutRefIdeal.main_arg4) = m ((c.tc : Thread Cert.FfnOutIdeal.nD Cert.FfnOutIdeal.τ).loc Cert.FfnOutIdeal.main_arg4)
      ∧ m' ((c.tc : Thread Cert.FfnOutRefIdeal.nD Cert.FfnOutRefIdeal.τ).loc Cert.FfnOutRefIdeal.main_arg5) = m ((c.tc : Thread Cert.FfnOutIdeal.nD Cert.FfnOutIdeal.τ).loc Cert.FfnOutIdeal.main_arg5)
      ∧ m' ((c.tc : Thread Cert.FfnOutRefIdeal.nD Cert.FfnOutRefIdeal.τ).loc Cert.FfnOutRefIdeal.main_arg6) = m ((c.tc : Thread Cert.FfnOutIdeal.nD Cert.FfnOutIdeal.τ).loc Cert.FfnOutIdeal.main_arg6)
      ∧ m' ((c.tc : Thread Cert.FfnOutRefIdeal.nD Cert.FfnOutRefIdeal.τ).loc Cert.FfnOutRefIdeal.main_arg7) = m ((c.tc : Thread Cert.FfnOutIdeal.nD Cert.FfnOutIdeal.τ).loc Cert.FfnOutIdeal.main_arg7)) →
    ∃ (v0 : (c : Dev Cert.FfnOutIdeal.nD) → Buf (Elt Ideal) ((c.tc : Thread Cert.FfnOutIdeal.nD Cert.FfnOutIdeal.τ).loc Cert.FfnOutIdeal.main_v7_0)) (v1 : (c : Dev Cert.FfnOutIdeal.nD) → Buf (Elt Ideal) ((c.tc : Thread Cert.FfnOutIdeal.nD Cert.FfnOutIdeal.τ).loc Cert.FfnOutIdeal.main_v7_1)),
      θ_run (Cert.FfnOutIdeal.defs (F := Ideal)) (onTc (τ := Cert.FfnOutIdeal.τ) (Cert.FfnOutIdeal.main (F := Ideal))) ⟨m, fun _ => 0, g⟩ (fun r => ∀ c : Dev Cert.FfnOutIdeal.nD,
          r.2.mem ((c.tc : Thread Cert.FfnOutIdeal.nD Cert.FfnOutIdeal.τ).loc Cert.FfnOutIdeal.main_v7_0) = v0 c
          ∧ r.2.mem ((c.tc : Thread Cert.FfnOutIdeal.nD Cert.FfnOutIdeal.τ).loc Cert.FfnOutIdeal.main_v7_1) = v1 c
          ∧ r.2.mem ((c.tc : Thread Cert.FfnOutIdeal.nD Cert.FfnOutIdeal.τ).loc Cert.FfnOutIdeal.main_arg0) = m ((c.tc : Thread Cert.FfnOutIdeal.nD Cert.FfnOutIdeal.τ).loc Cert.FfnOutIdeal.main_arg0)
          ∧ r.2.mem ((c.tc : Thread Cert.FfnOutIdeal.nD Cert.FfnOutIdeal.τ).loc Cert.FfnOutIdeal.main_arg1) = m ((c.tc : Thread Cert.FfnOutIdeal.nD Cert.FfnOutIdeal.τ).loc Cert.FfnOutIdeal.main_arg1)
          ∧ r.2.mem ((c.tc : Thread Cert.FfnOutIdeal.nD Cert.FfnOutIdeal.τ).loc Cert.FfnOutIdeal.main_arg2) = m ((c.tc : Thread Cert.FfnOutIdeal.nD Cert.FfnOutIdeal.τ).loc Cert.FfnOutIdeal.main_arg2)
          ∧ r.2.mem ((c.tc : Thread Cert.FfnOutIdeal.nD Cert.FfnOutIdeal.τ).loc Cert.FfnOutIdeal.main_arg3) = m ((c.tc : Thread Cert.FfnOutIdeal.nD Cert.FfnOutIdeal.τ).loc Cert.FfnOutIdeal.main_arg3)
          ∧ r.2.mem ((c.tc : Thread Cert.FfnOutIdeal.nD Cert.FfnOutIdeal.τ).loc Cert.FfnOutIdeal.main_arg4) = m ((c.tc : Thread Cert.FfnOutIdeal.nD Cert.FfnOutIdeal.τ).loc Cert.FfnOutIdeal.main_arg4)
          ∧ r.2.mem ((c.tc : Thread Cert.FfnOutIdeal.nD Cert.FfnOutIdeal.τ).loc Cert.FfnOutIdeal.main_arg5) = m ((c.tc : Thread Cert.FfnOutIdeal.nD Cert.FfnOutIdeal.τ).loc Cert.FfnOutIdeal.main_arg5)
          ∧ r.2.mem ((c.tc : Thread Cert.FfnOutIdeal.nD Cert.FfnOutIdeal.τ).loc Cert.FfnOutIdeal.main_arg6) = m ((c.tc : Thread Cert.FfnOutIdeal.nD Cert.FfnOutIdeal.τ).loc Cert.FfnOutIdeal.main_arg6)
          ∧ r.2.mem ((c.tc : Thread Cert.FfnOutIdeal.nD Cert.FfnOutIdeal.τ).loc Cert.FfnOutIdeal.main_arg7) = m ((c.tc : Thread Cert.FfnOutIdeal.nD Cert.FfnOutIdeal.τ).loc Cert.FfnOutIdeal.main_arg7))
      ∧ θ_run (Cert.FfnOutRefIdeal.defs (F := Ideal)) (onTc (τ := Cert.FfnOutRefIdeal.τ) (Cert.FfnOutRefIdeal.main (F := Ideal))) ⟨m', fun _ => 0, g'⟩ (fun r => ∀ c : Dev Cert.FfnOutRefIdeal.nD,
          r.2.mem ((c.tc : Thread Cert.FfnOutRefIdeal.nD Cert.FfnOutRefIdeal.τ).loc Cert.FfnOutRefIdeal.main_v65) = v0 c
          ∧ r.2.mem ((c.tc : Thread Cert.FfnOutRefIdeal.nD Cert.FfnOutRefIdeal.τ).loc Cert.FfnOutRefIdeal.main_v66) = v1 c
          ∧ r.2.mem ((c.tc : Thread Cert.FfnOutRefIdeal.nD Cert.FfnOutRefIdeal.τ).loc Cert.FfnOutRefIdeal.main_arg0) = m' ((c.tc : Thread Cert.FfnOutRefIdeal.nD Cert.FfnOutRefIdeal.τ).loc Cert.FfnOutRefIdeal.main_arg0)
          ∧ r.2.mem ((c.tc : Thread Cert.FfnOutRefIdeal.nD Cert.FfnOutRefIdeal.τ).loc Cert.FfnOutRefIdeal.main_arg1) = m' ((c.tc : Thread Cert.FfnOutRefIdeal.nD Cert.FfnOutRefIdeal.τ).loc Cert.FfnOutRefIdeal.main_arg1)
          ∧ r.2.mem ((c.tc : Thread Cert.FfnOutRefIdeal.nD Cert.FfnOutRefIdeal.τ).loc Cert.FfnOutRefIdeal.main_arg2) = m' ((c.tc : Thread Cert.FfnOutRefIdeal.nD Cert.FfnOutRefIdeal.τ).loc Cert.FfnOutRefIdeal.main_arg2)
          ∧ r.2.mem ((c.tc : Thread Cert.FfnOutRefIdeal.nD Cert.FfnOutRefIdeal.τ).loc Cert.FfnOutRefIdeal.main_arg3) = m' ((c.tc : Thread Cert.FfnOutRefIdeal.nD Cert.FfnOutRefIdeal.τ).loc Cert.FfnOutRefIdeal.main_arg3)
          ∧ r.2.mem ((c.tc : Thread Cert.FfnOutRefIdeal.nD Cert.FfnOutRefIdeal.τ).loc Cert.FfnOutRefIdeal.main_arg4) = m' ((c.tc : Thread Cert.FfnOutRefIdeal.nD Cert.FfnOutRefIdeal.τ).loc Cert.FfnOutRefIdeal.main_arg4)
          ∧ r.2.mem ((c.tc : Thread Cert.FfnOutRefIdeal.nD Cert.FfnOutRefIdeal.τ).loc Cert.FfnOutRefIdeal.main_arg5) = m' ((c.tc : Thread Cert.FfnOutRefIdeal.nD Cert.FfnOutRefIdeal.τ).loc Cert.FfnOutRefIdeal.main_arg5)
          ∧ r.2.mem ((c.tc : Thread Cert.FfnOutRefIdeal.nD Cert.FfnOutRefIdeal.τ).loc Cert.FfnOutRefIdeal.main_arg6) = m' ((c.tc : Thread Cert.FfnOutRefIdeal.nD Cert.FfnOutRefIdeal.τ).loc Cert.FfnOutRefIdeal.main_arg6)
          ∧ r.2.mem ((c.tc : Thread Cert.FfnOutRefIdeal.nD Cert.FfnOutRefIdeal.τ).loc Cert.FfnOutRefIdeal.main_arg7) = m' ((c.tc : Thread Cert.FfnOutRefIdeal.nD Cert.FfnOutRefIdeal.τ).loc Cert.FfnOutRefIdeal.main_arg7))

def preserves_Lru_LruIdeal : Prop :=
  True

def algebraic_LruIdeal_LruRefIdeal [hLruIdeal : Cert.LruIdeal.Facts] [hLruRefIdeal : Cert.LruRefIdeal.Facts] : Prop :=
  ∀ (m : (ℓ : Loc Cert.LruIdeal.nD Cert.LruIdeal.τ Cert.LruIdeal.sig) → Buf (Elt Ideal) ℓ) (g : Dev Cert.LruIdeal.nD → PrngReg)
    (m' : (ℓ : Loc Cert.LruRefIdeal.nD Cert.LruRefIdeal.τ Cert.LruRefIdeal.sig) → Buf (Elt Ideal) ℓ) (g' : Dev Cert.LruRefIdeal.nD → PrngReg), Pre_LruIdeal m →
    (∀ c : Dev Cert.LruIdeal.nD,
      m' ((c.tc : Thread Cert.LruRefIdeal.nD Cert.LruRefIdeal.τ).loc Cert.LruRefIdeal.main_arg0) = m ((c.tc : Thread Cert.LruIdeal.nD Cert.LruIdeal.τ).loc Cert.LruIdeal.main_arg0)
      ∧ m' ((c.tc : Thread Cert.LruRefIdeal.nD Cert.LruRefIdeal.τ).loc Cert.LruRefIdeal.main_arg1) = m ((c.tc : Thread Cert.LruIdeal.nD Cert.LruIdeal.τ).loc Cert.LruIdeal.main_arg1)
      ∧ m' ((c.tc : Thread Cert.LruRefIdeal.nD Cert.LruRefIdeal.τ).loc Cert.LruRefIdeal.main_arg2) = m ((c.tc : Thread Cert.LruIdeal.nD Cert.LruIdeal.τ).loc Cert.LruIdeal.main_arg2)
      ∧ m' ((c.tc : Thread Cert.LruRefIdeal.nD Cert.LruRefIdeal.τ).loc Cert.LruRefIdeal.main_arg3) = m ((c.tc : Thread Cert.LruIdeal.nD Cert.LruIdeal.τ).loc Cert.LruIdeal.main_arg3)
      ∧ m' ((c.tc : Thread Cert.LruRefIdeal.nD Cert.LruRefIdeal.τ).loc Cert.LruRefIdeal.main_arg4) = m ((c.tc : Thread Cert.LruIdeal.nD Cert.LruIdeal.τ).loc Cert.LruIdeal.main_arg4)
      ∧ m' ((c.tc : Thread Cert.LruRefIdeal.nD Cert.LruRefIdeal.τ).loc Cert.LruRefIdeal.main_arg5) = m ((c.tc : Thread Cert.LruIdeal.nD Cert.LruIdeal.τ).loc Cert.LruIdeal.main_arg5)
      ∧ m' ((c.tc : Thread Cert.LruRefIdeal.nD Cert.LruRefIdeal.τ).loc Cert.LruRefIdeal.main_arg6) = m ((c.tc : Thread Cert.LruIdeal.nD Cert.LruIdeal.τ).loc Cert.LruIdeal.main_arg6)
      ∧ m' ((c.tc : Thread Cert.LruRefIdeal.nD Cert.LruRefIdeal.τ).loc Cert.LruRefIdeal.main_arg7) = m ((c.tc : Thread Cert.LruIdeal.nD Cert.LruIdeal.τ).loc Cert.LruIdeal.main_arg7)
      ∧ m' ((c.tc : Thread Cert.LruRefIdeal.nD Cert.LruRefIdeal.τ).loc Cert.LruRefIdeal.main_arg8) = m ((c.tc : Thread Cert.LruIdeal.nD Cert.LruIdeal.τ).loc Cert.LruIdeal.main_arg8)
      ∧ m' ((c.tc : Thread Cert.LruRefIdeal.nD Cert.LruRefIdeal.τ).loc Cert.LruRefIdeal.main_arg9) = m ((c.tc : Thread Cert.LruIdeal.nD Cert.LruIdeal.τ).loc Cert.LruIdeal.main_arg9)
      ∧ m' ((c.tc : Thread Cert.LruRefIdeal.nD Cert.LruRefIdeal.τ).loc Cert.LruRefIdeal.main_arg10) = m ((c.tc : Thread Cert.LruIdeal.nD Cert.LruIdeal.τ).loc Cert.LruIdeal.main_arg10)
      ∧ m' ((c.tc : Thread Cert.LruRefIdeal.nD Cert.LruRefIdeal.τ).loc Cert.LruRefIdeal.main_arg11) = m ((c.tc : Thread Cert.LruIdeal.nD Cert.LruIdeal.τ).loc Cert.LruIdeal.main_arg11)
      ∧ m' ((c.tc : Thread Cert.LruRefIdeal.nD Cert.LruRefIdeal.τ).loc Cert.LruRefIdeal.main_arg12) = m ((c.tc : Thread Cert.LruIdeal.nD Cert.LruIdeal.τ).loc Cert.LruIdeal.main_arg12)
      ∧ m' ((c.tc : Thread Cert.LruRefIdeal.nD Cert.LruRefIdeal.τ).loc Cert.LruRefIdeal.main_arg13) = m ((c.tc : Thread Cert.LruIdeal.nD Cert.LruIdeal.τ).loc Cert.LruIdeal.main_arg13)) →
    ∃ (v0 : (c : Dev Cert.LruIdeal.nD) → Buf (Elt Ideal) ((c.tc : Thread Cert.LruIdeal.nD Cert.LruIdeal.τ).loc Cert.LruIdeal.main_v28_2)) (v1 : (c : Dev Cert.LruIdeal.nD) → Buf (Elt Ideal) ((c.tc : Thread Cert.LruIdeal.nD Cert.LruIdeal.τ).loc Cert.LruIdeal.main_v28_3)) (v2 : (c : Dev Cert.LruIdeal.nD) → Buf (Elt Ideal) ((c.tc : Thread Cert.LruIdeal.nD Cert.LruIdeal.τ).loc Cert.LruIdeal.main_v28_4)),
      θ_run (Cert.LruIdeal.defs (F := Ideal)) (onTc (τ := Cert.LruIdeal.τ) (Cert.LruIdeal.main (F := Ideal))) ⟨m, fun _ => 0, g⟩ (fun r => ∀ c : Dev Cert.LruIdeal.nD,
          r.2.mem ((c.tc : Thread Cert.LruIdeal.nD Cert.LruIdeal.τ).loc Cert.LruIdeal.main_v28_2) = v0 c
          ∧ r.2.mem ((c.tc : Thread Cert.LruIdeal.nD Cert.LruIdeal.τ).loc Cert.LruIdeal.main_v28_3) = v1 c
          ∧ r.2.mem ((c.tc : Thread Cert.LruIdeal.nD Cert.LruIdeal.τ).loc Cert.LruIdeal.main_v28_4) = v2 c
          ∧ r.2.mem ((c.tc : Thread Cert.LruIdeal.nD Cert.LruIdeal.τ).loc Cert.LruIdeal.main_arg0) = m ((c.tc : Thread Cert.LruIdeal.nD Cert.LruIdeal.τ).loc Cert.LruIdeal.main_arg0)
          ∧ r.2.mem ((c.tc : Thread Cert.LruIdeal.nD Cert.LruIdeal.τ).loc Cert.LruIdeal.main_arg1) = m ((c.tc : Thread Cert.LruIdeal.nD Cert.LruIdeal.τ).loc Cert.LruIdeal.main_arg1)
          ∧ r.2.mem ((c.tc : Thread Cert.LruIdeal.nD Cert.LruIdeal.τ).loc Cert.LruIdeal.main_arg2) = m ((c.tc : Thread Cert.LruIdeal.nD Cert.LruIdeal.τ).loc Cert.LruIdeal.main_arg2)
          ∧ r.2.mem ((c.tc : Thread Cert.LruIdeal.nD Cert.LruIdeal.τ).loc Cert.LruIdeal.main_arg3) = m ((c.tc : Thread Cert.LruIdeal.nD Cert.LruIdeal.τ).loc Cert.LruIdeal.main_arg3)
          ∧ r.2.mem ((c.tc : Thread Cert.LruIdeal.nD Cert.LruIdeal.τ).loc Cert.LruIdeal.main_arg4) = m ((c.tc : Thread Cert.LruIdeal.nD Cert.LruIdeal.τ).loc Cert.LruIdeal.main_arg4)
          ∧ r.2.mem ((c.tc : Thread Cert.LruIdeal.nD Cert.LruIdeal.τ).loc Cert.LruIdeal.main_arg5) = m ((c.tc : Thread Cert.LruIdeal.nD Cert.LruIdeal.τ).loc Cert.LruIdeal.main_arg5)
          ∧ r.2.mem ((c.tc : Thread Cert.LruIdeal.nD Cert.LruIdeal.τ).loc Cert.LruIdeal.main_arg6) = m ((c.tc : Thread Cert.LruIdeal.nD Cert.LruIdeal.τ).loc Cert.LruIdeal.main_arg6)
          ∧ r.2.mem ((c.tc : Thread Cert.LruIdeal.nD Cert.LruIdeal.τ).loc Cert.LruIdeal.main_arg7) = m ((c.tc : Thread Cert.LruIdeal.nD Cert.LruIdeal.τ).loc Cert.LruIdeal.main_arg7)
          ∧ r.2.mem ((c.tc : Thread Cert.LruIdeal.nD Cert.LruIdeal.τ).loc Cert.LruIdeal.main_arg8) = m ((c.tc : Thread Cert.LruIdeal.nD Cert.LruIdeal.τ).loc Cert.LruIdeal.main_arg8)
          ∧ r.2.mem ((c.tc : Thread Cert.LruIdeal.nD Cert.LruIdeal.τ).loc Cert.LruIdeal.main_arg9) = m ((c.tc : Thread Cert.LruIdeal.nD Cert.LruIdeal.τ).loc Cert.LruIdeal.main_arg9)
          ∧ r.2.mem ((c.tc : Thread Cert.LruIdeal.nD Cert.LruIdeal.τ).loc Cert.LruIdeal.main_arg10) = m ((c.tc : Thread Cert.LruIdeal.nD Cert.LruIdeal.τ).loc Cert.LruIdeal.main_arg10)
          ∧ r.2.mem ((c.tc : Thread Cert.LruIdeal.nD Cert.LruIdeal.τ).loc Cert.LruIdeal.main_arg11) = m ((c.tc : Thread Cert.LruIdeal.nD Cert.LruIdeal.τ).loc Cert.LruIdeal.main_arg11)
          ∧ r.2.mem ((c.tc : Thread Cert.LruIdeal.nD Cert.LruIdeal.τ).loc Cert.LruIdeal.main_arg12) = m ((c.tc : Thread Cert.LruIdeal.nD Cert.LruIdeal.τ).loc Cert.LruIdeal.main_arg12)
          ∧ r.2.mem ((c.tc : Thread Cert.LruIdeal.nD Cert.LruIdeal.τ).loc Cert.LruIdeal.main_arg13) = m ((c.tc : Thread Cert.LruIdeal.nD Cert.LruIdeal.τ).loc Cert.LruIdeal.main_arg13))
      ∧ θ_run (Cert.LruRefIdeal.defs (F := Ideal)) (onTc (τ := Cert.LruRefIdeal.τ) (Cert.LruRefIdeal.main (F := Ideal))) ⟨m', fun _ => 0, g'⟩ (fun r => ∀ c : Dev Cert.LruRefIdeal.nD,
          r.2.mem ((c.tc : Thread Cert.LruRefIdeal.nD Cert.LruRefIdeal.τ).loc Cert.LruRefIdeal.main_v148) = v0 c
          ∧ r.2.mem ((c.tc : Thread Cert.LruRefIdeal.nD Cert.LruRefIdeal.τ).loc Cert.LruRefIdeal.main_v158) = v1 c
          ∧ r.2.mem ((c.tc : Thread Cert.LruRefIdeal.nD Cert.LruRefIdeal.τ).loc Cert.LruRefIdeal.main_v19) = v2 c
          ∧ r.2.mem ((c.tc : Thread Cert.LruRefIdeal.nD Cert.LruRefIdeal.τ).loc Cert.LruRefIdeal.main_arg0) = m' ((c.tc : Thread Cert.LruRefIdeal.nD Cert.LruRefIdeal.τ).loc Cert.LruRefIdeal.main_arg0)
          ∧ r.2.mem ((c.tc : Thread Cert.LruRefIdeal.nD Cert.LruRefIdeal.τ).loc Cert.LruRefIdeal.main_arg1) = m' ((c.tc : Thread Cert.LruRefIdeal.nD Cert.LruRefIdeal.τ).loc Cert.LruRefIdeal.main_arg1)
          ∧ r.2.mem ((c.tc : Thread Cert.LruRefIdeal.nD Cert.LruRefIdeal.τ).loc Cert.LruRefIdeal.main_arg2) = m' ((c.tc : Thread Cert.LruRefIdeal.nD Cert.LruRefIdeal.τ).loc Cert.LruRefIdeal.main_arg2)
          ∧ r.2.mem ((c.tc : Thread Cert.LruRefIdeal.nD Cert.LruRefIdeal.τ).loc Cert.LruRefIdeal.main_arg3) = m' ((c.tc : Thread Cert.LruRefIdeal.nD Cert.LruRefIdeal.τ).loc Cert.LruRefIdeal.main_arg3)
          ∧ r.2.mem ((c.tc : Thread Cert.LruRefIdeal.nD Cert.LruRefIdeal.τ).loc Cert.LruRefIdeal.main_arg4) = m' ((c.tc : Thread Cert.LruRefIdeal.nD Cert.LruRefIdeal.τ).loc Cert.LruRefIdeal.main_arg4)
          ∧ r.2.mem ((c.tc : Thread Cert.LruRefIdeal.nD Cert.LruRefIdeal.τ).loc Cert.LruRefIdeal.main_arg5) = m' ((c.tc : Thread Cert.LruRefIdeal.nD Cert.LruRefIdeal.τ).loc Cert.LruRefIdeal.main_arg5)
          ∧ r.2.mem ((c.tc : Thread Cert.LruRefIdeal.nD Cert.LruRefIdeal.τ).loc Cert.LruRefIdeal.main_arg6) = m' ((c.tc : Thread Cert.LruRefIdeal.nD Cert.LruRefIdeal.τ).loc Cert.LruRefIdeal.main_arg6)
          ∧ r.2.mem ((c.tc : Thread Cert.LruRefIdeal.nD Cert.LruRefIdeal.τ).loc Cert.LruRefIdeal.main_arg7) = m' ((c.tc : Thread Cert.LruRefIdeal.nD Cert.LruRefIdeal.τ).loc Cert.LruRefIdeal.main_arg7)
          ∧ r.2.mem ((c.tc : Thread Cert.LruRefIdeal.nD Cert.LruRefIdeal.τ).loc Cert.LruRefIdeal.main_arg8) = m' ((c.tc : Thread Cert.LruRefIdeal.nD Cert.LruRefIdeal.τ).loc Cert.LruRefIdeal.main_arg8)
          ∧ r.2.mem ((c.tc : Thread Cert.LruRefIdeal.nD Cert.LruRefIdeal.τ).loc Cert.LruRefIdeal.main_arg9) = m' ((c.tc : Thread Cert.LruRefIdeal.nD Cert.LruRefIdeal.τ).loc Cert.LruRefIdeal.main_arg9)
          ∧ r.2.mem ((c.tc : Thread Cert.LruRefIdeal.nD Cert.LruRefIdeal.τ).loc Cert.LruRefIdeal.main_arg10) = m' ((c.tc : Thread Cert.LruRefIdeal.nD Cert.LruRefIdeal.τ).loc Cert.LruRefIdeal.main_arg10)
          ∧ r.2.mem ((c.tc : Thread Cert.LruRefIdeal.nD Cert.LruRefIdeal.τ).loc Cert.LruRefIdeal.main_arg11) = m' ((c.tc : Thread Cert.LruRefIdeal.nD Cert.LruRefIdeal.τ).loc Cert.LruRefIdeal.main_arg11)
          ∧ r.2.mem ((c.tc : Thread Cert.LruRefIdeal.nD Cert.LruRefIdeal.τ).loc Cert.LruRefIdeal.main_arg12) = m' ((c.tc : Thread Cert.LruRefIdeal.nD Cert.LruRefIdeal.τ).loc Cert.LruRefIdeal.main_arg12)
          ∧ r.2.mem ((c.tc : Thread Cert.LruRefIdeal.nD Cert.LruRefIdeal.τ).loc Cert.LruRefIdeal.main_arg13) = m' ((c.tc : Thread Cert.LruRefIdeal.nD Cert.LruRefIdeal.τ).loc Cert.LruRefIdeal.main_arg13))

def preserves_Rec_RecIdeal : Prop :=
  True

def algebraic_RecIdeal_RecRefIdeal [hRecIdeal : Cert.RecIdeal.Facts] [hRecRefIdeal : Cert.RecRefIdeal.Facts] : Prop :=
  ∀ (m : (ℓ : Loc Cert.RecIdeal.nD Cert.RecIdeal.τ Cert.RecIdeal.sig) → Buf (Elt Ideal) ℓ) (g : Dev Cert.RecIdeal.nD → PrngReg)
    (m' : (ℓ : Loc Cert.RecRefIdeal.nD Cert.RecRefIdeal.τ Cert.RecRefIdeal.sig) → Buf (Elt Ideal) ℓ) (g' : Dev Cert.RecRefIdeal.nD → PrngReg), Pre_RecIdeal m →
    (∀ c : Dev Cert.RecIdeal.nD,
      m' ((c.tc : Thread Cert.RecRefIdeal.nD Cert.RecRefIdeal.τ).loc Cert.RecRefIdeal.main_arg0) = m ((c.tc : Thread Cert.RecIdeal.nD Cert.RecIdeal.τ).loc Cert.RecIdeal.main_arg0)
      ∧ m' ((c.tc : Thread Cert.RecRefIdeal.nD Cert.RecRefIdeal.τ).loc Cert.RecRefIdeal.main_arg1) = m ((c.tc : Thread Cert.RecIdeal.nD Cert.RecIdeal.τ).loc Cert.RecIdeal.main_arg1)
      ∧ m' ((c.tc : Thread Cert.RecRefIdeal.nD Cert.RecRefIdeal.τ).loc Cert.RecRefIdeal.main_arg2) = m ((c.tc : Thread Cert.RecIdeal.nD Cert.RecIdeal.τ).loc Cert.RecIdeal.main_arg2)
      ∧ m' ((c.tc : Thread Cert.RecRefIdeal.nD Cert.RecRefIdeal.τ).loc Cert.RecRefIdeal.main_arg3) = m ((c.tc : Thread Cert.RecIdeal.nD Cert.RecIdeal.τ).loc Cert.RecIdeal.main_arg3)
      ∧ m' ((c.tc : Thread Cert.RecRefIdeal.nD Cert.RecRefIdeal.τ).loc Cert.RecRefIdeal.main_arg4) = m ((c.tc : Thread Cert.RecIdeal.nD Cert.RecIdeal.τ).loc Cert.RecIdeal.main_arg4)
      ∧ m' ((c.tc : Thread Cert.RecRefIdeal.nD Cert.RecRefIdeal.τ).loc Cert.RecRefIdeal.main_arg5) = m ((c.tc : Thread Cert.RecIdeal.nD Cert.RecIdeal.τ).loc Cert.RecIdeal.main_arg5)
      ∧ m' ((c.tc : Thread Cert.RecRefIdeal.nD Cert.RecRefIdeal.τ).loc Cert.RecRefIdeal.main_arg6) = m ((c.tc : Thread Cert.RecIdeal.nD Cert.RecIdeal.τ).loc Cert.RecIdeal.main_arg6)
      ∧ m' ((c.tc : Thread Cert.RecRefIdeal.nD Cert.RecRefIdeal.τ).loc Cert.RecRefIdeal.main_arg7) = m ((c.tc : Thread Cert.RecIdeal.nD Cert.RecIdeal.τ).loc Cert.RecIdeal.main_arg7)
      ∧ m' ((c.tc : Thread Cert.RecRefIdeal.nD Cert.RecRefIdeal.τ).loc Cert.RecRefIdeal.main_arg8) = m ((c.tc : Thread Cert.RecIdeal.nD Cert.RecIdeal.τ).loc Cert.RecIdeal.main_arg8)
      ∧ m' ((c.tc : Thread Cert.RecRefIdeal.nD Cert.RecRefIdeal.τ).loc Cert.RecRefIdeal.main_arg9) = m ((c.tc : Thread Cert.RecIdeal.nD Cert.RecIdeal.τ).loc Cert.RecIdeal.main_arg9)
      ∧ m' ((c.tc : Thread Cert.RecRefIdeal.nD Cert.RecRefIdeal.τ).loc Cert.RecRefIdeal.main_arg10) = m ((c.tc : Thread Cert.RecIdeal.nD Cert.RecIdeal.τ).loc Cert.RecIdeal.main_arg10)
      ∧ m' ((c.tc : Thread Cert.RecRefIdeal.nD Cert.RecRefIdeal.τ).loc Cert.RecRefIdeal.main_arg11) = m ((c.tc : Thread Cert.RecIdeal.nD Cert.RecIdeal.τ).loc Cert.RecIdeal.main_arg11)
      ∧ m' ((c.tc : Thread Cert.RecRefIdeal.nD Cert.RecRefIdeal.τ).loc Cert.RecRefIdeal.main_arg12) = m ((c.tc : Thread Cert.RecIdeal.nD Cert.RecIdeal.τ).loc Cert.RecIdeal.main_arg12)
      ∧ m' ((c.tc : Thread Cert.RecRefIdeal.nD Cert.RecRefIdeal.τ).loc Cert.RecRefIdeal.main_arg13) = m ((c.tc : Thread Cert.RecIdeal.nD Cert.RecIdeal.τ).loc Cert.RecIdeal.main_arg13)) →
    ∃ (v0 : (c : Dev Cert.RecIdeal.nD) → Buf (Elt Ideal) ((c.tc : Thread Cert.RecIdeal.nD Cert.RecIdeal.τ).loc Cert.RecIdeal.main_v28_1)),
      θ_run (Cert.RecIdeal.defs (F := Ideal)) (onTc (τ := Cert.RecIdeal.τ) (Cert.RecIdeal.main (F := Ideal))) ⟨m, fun _ => 0, g⟩ (fun r => ∀ c : Dev Cert.RecIdeal.nD,
          r.2.mem ((c.tc : Thread Cert.RecIdeal.nD Cert.RecIdeal.τ).loc Cert.RecIdeal.main_v28_1) = v0 c
          ∧ r.2.mem ((c.tc : Thread Cert.RecIdeal.nD Cert.RecIdeal.τ).loc Cert.RecIdeal.main_arg0) = m ((c.tc : Thread Cert.RecIdeal.nD Cert.RecIdeal.τ).loc Cert.RecIdeal.main_arg0)
          ∧ r.2.mem ((c.tc : Thread Cert.RecIdeal.nD Cert.RecIdeal.τ).loc Cert.RecIdeal.main_arg1) = m ((c.tc : Thread Cert.RecIdeal.nD Cert.RecIdeal.τ).loc Cert.RecIdeal.main_arg1)
          ∧ r.2.mem ((c.tc : Thread Cert.RecIdeal.nD Cert.RecIdeal.τ).loc Cert.RecIdeal.main_arg2) = m ((c.tc : Thread Cert.RecIdeal.nD Cert.RecIdeal.τ).loc Cert.RecIdeal.main_arg2)
          ∧ r.2.mem ((c.tc : Thread Cert.RecIdeal.nD Cert.RecIdeal.τ).loc Cert.RecIdeal.main_arg3) = m ((c.tc : Thread Cert.RecIdeal.nD Cert.RecIdeal.τ).loc Cert.RecIdeal.main_arg3)
          ∧ r.2.mem ((c.tc : Thread Cert.RecIdeal.nD Cert.RecIdeal.τ).loc Cert.RecIdeal.main_arg4) = m ((c.tc : Thread Cert.RecIdeal.nD Cert.RecIdeal.τ).loc Cert.RecIdeal.main_arg4)
          ∧ r.2.mem ((c.tc : Thread Cert.RecIdeal.nD Cert.RecIdeal.τ).loc Cert.RecIdeal.main_arg5) = m ((c.tc : Thread Cert.RecIdeal.nD Cert.RecIdeal.τ).loc Cert.RecIdeal.main_arg5)
          ∧ r.2.mem ((c.tc : Thread Cert.RecIdeal.nD Cert.RecIdeal.τ).loc Cert.RecIdeal.main_arg6) = m ((c.tc : Thread Cert.RecIdeal.nD Cert.RecIdeal.τ).loc Cert.RecIdeal.main_arg6)
          ∧ r.2.mem ((c.tc : Thread Cert.RecIdeal.nD Cert.RecIdeal.τ).loc Cert.RecIdeal.main_arg7) = m ((c.tc : Thread Cert.RecIdeal.nD Cert.RecIdeal.τ).loc Cert.RecIdeal.main_arg7)
          ∧ r.2.mem ((c.tc : Thread Cert.RecIdeal.nD Cert.RecIdeal.τ).loc Cert.RecIdeal.main_arg8) = m ((c.tc : Thread Cert.RecIdeal.nD Cert.RecIdeal.τ).loc Cert.RecIdeal.main_arg8)
          ∧ r.2.mem ((c.tc : Thread Cert.RecIdeal.nD Cert.RecIdeal.τ).loc Cert.RecIdeal.main_arg9) = m ((c.tc : Thread Cert.RecIdeal.nD Cert.RecIdeal.τ).loc Cert.RecIdeal.main_arg9)
          ∧ r.2.mem ((c.tc : Thread Cert.RecIdeal.nD Cert.RecIdeal.τ).loc Cert.RecIdeal.main_arg10) = m ((c.tc : Thread Cert.RecIdeal.nD Cert.RecIdeal.τ).loc Cert.RecIdeal.main_arg10)
          ∧ r.2.mem ((c.tc : Thread Cert.RecIdeal.nD Cert.RecIdeal.τ).loc Cert.RecIdeal.main_arg11) = m ((c.tc : Thread Cert.RecIdeal.nD Cert.RecIdeal.τ).loc Cert.RecIdeal.main_arg11)
          ∧ r.2.mem ((c.tc : Thread Cert.RecIdeal.nD Cert.RecIdeal.τ).loc Cert.RecIdeal.main_arg12) = m ((c.tc : Thread Cert.RecIdeal.nD Cert.RecIdeal.τ).loc Cert.RecIdeal.main_arg12)
          ∧ r.2.mem ((c.tc : Thread Cert.RecIdeal.nD Cert.RecIdeal.τ).loc Cert.RecIdeal.main_arg13) = m ((c.tc : Thread Cert.RecIdeal.nD Cert.RecIdeal.τ).loc Cert.RecIdeal.main_arg13))
      ∧ θ_run (Cert.RecRefIdeal.defs (F := Ideal)) (onTc (τ := Cert.RecRefIdeal.τ) (Cert.RecRefIdeal.main (F := Ideal))) ⟨m', fun _ => 0, g'⟩ (fun r => ∀ c : Dev Cert.RecRefIdeal.nD,
          r.2.mem ((c.tc : Thread Cert.RecRefIdeal.nD Cert.RecRefIdeal.τ).loc Cert.RecRefIdeal.main_v110) = v0 c
          ∧ r.2.mem ((c.tc : Thread Cert.RecRefIdeal.nD Cert.RecRefIdeal.τ).loc Cert.RecRefIdeal.main_arg0) = m' ((c.tc : Thread Cert.RecRefIdeal.nD Cert.RecRefIdeal.τ).loc Cert.RecRefIdeal.main_arg0)
          ∧ r.2.mem ((c.tc : Thread Cert.RecRefIdeal.nD Cert.RecRefIdeal.τ).loc Cert.RecRefIdeal.main_arg1) = m' ((c.tc : Thread Cert.RecRefIdeal.nD Cert.RecRefIdeal.τ).loc Cert.RecRefIdeal.main_arg1)
          ∧ r.2.mem ((c.tc : Thread Cert.RecRefIdeal.nD Cert.RecRefIdeal.τ).loc Cert.RecRefIdeal.main_arg2) = m' ((c.tc : Thread Cert.RecRefIdeal.nD Cert.RecRefIdeal.τ).loc Cert.RecRefIdeal.main_arg2)
          ∧ r.2.mem ((c.tc : Thread Cert.RecRefIdeal.nD Cert.RecRefIdeal.τ).loc Cert.RecRefIdeal.main_arg3) = m' ((c.tc : Thread Cert.RecRefIdeal.nD Cert.RecRefIdeal.τ).loc Cert.RecRefIdeal.main_arg3)
          ∧ r.2.mem ((c.tc : Thread Cert.RecRefIdeal.nD Cert.RecRefIdeal.τ).loc Cert.RecRefIdeal.main_arg4) = m' ((c.tc : Thread Cert.RecRefIdeal.nD Cert.RecRefIdeal.τ).loc Cert.RecRefIdeal.main_arg4)
          ∧ r.2.mem ((c.tc : Thread Cert.RecRefIdeal.nD Cert.RecRefIdeal.τ).loc Cert.RecRefIdeal.main_arg5) = m' ((c.tc : Thread Cert.RecRefIdeal.nD Cert.RecRefIdeal.τ).loc Cert.RecRefIdeal.main_arg5)
          ∧ r.2.mem ((c.tc : Thread Cert.RecRefIdeal.nD Cert.RecRefIdeal.τ).loc Cert.RecRefIdeal.main_arg6) = m' ((c.tc : Thread Cert.RecRefIdeal.nD Cert.RecRefIdeal.τ).loc Cert.RecRefIdeal.main_arg6)
          ∧ r.2.mem ((c.tc : Thread Cert.RecRefIdeal.nD Cert.RecRefIdeal.τ).loc Cert.RecRefIdeal.main_arg7) = m' ((c.tc : Thread Cert.RecRefIdeal.nD Cert.RecRefIdeal.τ).loc Cert.RecRefIdeal.main_arg7)
          ∧ r.2.mem ((c.tc : Thread Cert.RecRefIdeal.nD Cert.RecRefIdeal.τ).loc Cert.RecRefIdeal.main_arg8) = m' ((c.tc : Thread Cert.RecRefIdeal.nD Cert.RecRefIdeal.τ).loc Cert.RecRefIdeal.main_arg8)
          ∧ r.2.mem ((c.tc : Thread Cert.RecRefIdeal.nD Cert.RecRefIdeal.τ).loc Cert.RecRefIdeal.main_arg9) = m' ((c.tc : Thread Cert.RecRefIdeal.nD Cert.RecRefIdeal.τ).loc Cert.RecRefIdeal.main_arg9)
          ∧ r.2.mem ((c.tc : Thread Cert.RecRefIdeal.nD Cert.RecRefIdeal.τ).loc Cert.RecRefIdeal.main_arg10) = m' ((c.tc : Thread Cert.RecRefIdeal.nD Cert.RecRefIdeal.τ).loc Cert.RecRefIdeal.main_arg10)
          ∧ r.2.mem ((c.tc : Thread Cert.RecRefIdeal.nD Cert.RecRefIdeal.τ).loc Cert.RecRefIdeal.main_arg11) = m' ((c.tc : Thread Cert.RecRefIdeal.nD Cert.RecRefIdeal.τ).loc Cert.RecRefIdeal.main_arg11)
          ∧ r.2.mem ((c.tc : Thread Cert.RecRefIdeal.nD Cert.RecRefIdeal.τ).loc Cert.RecRefIdeal.main_arg12) = m' ((c.tc : Thread Cert.RecRefIdeal.nD Cert.RecRefIdeal.τ).loc Cert.RecRefIdeal.main_arg12)
          ∧ r.2.mem ((c.tc : Thread Cert.RecRefIdeal.nD Cert.RecRefIdeal.τ).loc Cert.RecRefIdeal.main_arg13) = m' ((c.tc : Thread Cert.RecRefIdeal.nD Cert.RecRefIdeal.τ).loc Cert.RecRefIdeal.main_arg13))

def Claim : Prop :=
  ∃ (hFfn : Cert.Ffn.Facts) (hFfnIdeal : Cert.FfnIdeal.Facts) (hFfnRefIdeal : Cert.FfnRefIdeal.Facts) (hKv : Cert.Kv.Facts) (hKvIdeal : Cert.KvIdeal.Facts) (hKvRefIdeal : Cert.KvRefIdeal.Facts) (hFfnQ : Cert.FfnQ.Facts) (hFfnQIdeal : Cert.FfnQIdeal.Facts) (hFfnQRefIdeal : Cert.FfnQRefIdeal.Facts) (hFfnOut : Cert.FfnOut.Facts) (hFfnOutIdeal : Cert.FfnOutIdeal.Facts) (hFfnOutRefIdeal : Cert.FfnOutRefIdeal.Facts) (hLru : Cert.Lru.Facts) (hLruIdeal : Cert.LruIdeal.Facts) (hLruRefIdeal : Cert.LruRefIdeal.Facts) (hRec : Cert.Rec.Facts) (hRecIdeal : Cert.RecIdeal.Facts) (hRecRefIdeal : Cert.RecRefIdeal.Facts),
    quiescent_Ffn (hFfn := hFfn)
    ∧ quiescent_FfnIdeal (hFfnIdeal := hFfnIdeal)
    ∧ quiescent_FfnRefIdeal (hFfnRefIdeal := hFfnRefIdeal)
    ∧ quiescent_Kv (hKv := hKv)
    ∧ quiescent_KvIdeal (hKvIdeal := hKvIdeal)
    ∧ quiescent_KvRefIdeal (hKvRefIdeal := hKvRefIdeal)
    ∧ quiescent_FfnQ (hFfnQ := hFfnQ)
    ∧ quiescent_FfnQIdeal (hFfnQIdeal := hFfnQIdeal)
    ∧ quiescent_FfnQRefIdeal (hFfnQRefIdeal := hFfnQRefIdeal)
    ∧ quiescent_FfnOut (hFfnOut := hFfnOut)
    ∧ quiescent_FfnOutIdeal (hFfnOutIdeal := hFfnOutIdeal)
    ∧ quiescent_FfnOutRefIdeal (hFfnOutRefIdeal := hFfnOutRefIdeal)
    ∧ quiescent_Lru (hLru := hLru)
    ∧ quiescent_LruIdeal (hLruIdeal := hLruIdeal)
    ∧ quiescent_LruRefIdeal (hLruRefIdeal := hLruRefIdeal)
    ∧ quiescent_Rec (hRec := hRec)
    ∧ quiescent_RecIdeal (hRecIdeal := hRecIdeal)
    ∧ quiescent_RecRefIdeal (hRecRefIdeal := hRecRefIdeal)
    ∧ preserves_Ffn_FfnIdeal
    ∧ algebraic_FfnIdeal_FfnRefIdeal (hFfnIdeal := hFfnIdeal) (hFfnRefIdeal := hFfnRefIdeal)
    ∧ preserves_Kv_KvIdeal
    ∧ algebraic_KvIdeal_KvRefIdeal (hKvIdeal := hKvIdeal) (hKvRefIdeal := hKvRefIdeal)
    ∧ preserves_FfnQ_FfnQIdeal
    ∧ algebraic_FfnQIdeal_FfnQRefIdeal (hFfnQIdeal := hFfnQIdeal) (hFfnQRefIdeal := hFfnQRefIdeal)
    ∧ preserves_FfnOut_FfnOutIdeal
    ∧ algebraic_FfnOutIdeal_FfnOutRefIdeal (hFfnOutIdeal := hFfnOutIdeal) (hFfnOutRefIdeal := hFfnOutRefIdeal)
    ∧ preserves_Lru_LruIdeal
    ∧ algebraic_LruIdeal_LruRefIdeal (hLruIdeal := hLruIdeal) (hLruRefIdeal := hLruRefIdeal)
    ∧ preserves_Rec_RecIdeal
    ∧ algebraic_RecIdeal_RecRefIdeal (hRecIdeal := hRecIdeal) (hRecRefIdeal := hRecRefIdeal)
-- ==== Ffn.lean ====
abbrev S17920x1024 : Shape := ⟨2, ![17920, 1024]⟩
abbrev S2x6x1024 : Shape := ⟨3, ![2, 6, 1024]⟩
abbrev S2x2x1024x2816 : Shape := ⟨4, ![2, 2, 1024, 2816]⟩
abbrev S2x2x2816x1024 : Shape := ⟨4, ![2, 2, 2816, 1024]⟩
abbrev S1x2x1024 : Shape := ⟨3, ![1, 2, 1024]⟩
abbrev S2x1024 : Shape := ⟨2, ![2, 1024]⟩
abbrev S512x1024 : Shape := ⟨2, ![512, 1024]⟩
abbrev S1x1x1024x2816 : Shape := ⟨4, ![1, 1, 1024, 2816]⟩
abbrev S1x1x2816x1024 : Shape := ⟨4, ![1, 1, 2816, 1024]⟩
abbrev S1x1024 : Shape := ⟨2, ![1, 1024]⟩
abbrev S512 : Shape := ⟨1, ![512]⟩
abbrev S512x1 : Shape := ⟨2, ![512, 1]⟩
abbrev S1024x2816 : Shape := ⟨2, ![1024, 2816]⟩
abbrev S512x2816 : Shape := ⟨2, ![512, 2816]⟩
abbrev S2816x1024 : Shape := ⟨2, ![2816, 1024]⟩

abbrev nBuf : Space → Nat
  | .hbm => 11
  | .vmem => 8
  | .smem => 0
  | _ => 0

abbrev bufTy : (tb : Table) → Fin (tcTables nBuf tb) → BufTy
  | .hbm, ⟨0, _⟩ => ⟨S17920x1024, .f32⟩
  | .hbm, ⟨1, _⟩ => ⟨S2x6x1024, .f32⟩
  | .hbm, ⟨2, _⟩ => ⟨S2x2x1024x2816, .f32⟩
  | .hbm, ⟨3, _⟩ => ⟨S2x2x1024x2816, .f32⟩
  | .hbm, ⟨4, _⟩ => ⟨S2x2x2816x1024, .f32⟩
  | .hbm, ⟨5, _⟩ => ⟨S1x2x1024, .f32⟩
  | .hbm, ⟨6, _⟩ => ⟨S2x1024, .f32⟩
  | .hbm, ⟨7, _⟩ => ⟨S2x2x1024x2816, .bf16⟩
  | .hbm, ⟨8, _⟩ => ⟨S2x2x1024x2816, .bf16⟩
  | .hbm, ⟨9, _⟩ => ⟨S2x2x2816x1024, .bf16⟩
  | .hbm, ⟨10, _⟩ => ⟨S17920x1024, .f32⟩
  | .local _ .vmem, ⟨0, _⟩ => ⟨S512x1024, .f32⟩
  | .local _ .vmem, ⟨1, _⟩ => ⟨S512x1024, .f32⟩
  | .local _ .vmem, ⟨2, _⟩ => ⟨S2x1024, .f32⟩
  | .local _ .vmem, ⟨3, _⟩ => ⟨S1x1x1024x2816, .bf16⟩
  | .local _ .vmem, ⟨4, _⟩ => ⟨S1x1x1024x2816, .bf16⟩
  | .local _ .vmem, ⟨5, _⟩ => ⟨S1x1x2816x1024, .bf16⟩
  | .local _ .vmem, ⟨6, _⟩ => ⟨S512x1024, .f32⟩
  | .local _ .vmem, ⟨7, _⟩ => ⟨S512x1024, .f32⟩
  | _, _ => ⟨S17920x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![35], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1x1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FfnRefIdeal.lean ====
abbrev S17920x1024 : Shape := ⟨2, ![17920, 1024]⟩
abbrev S2x6x1024 : Shape := ⟨3, ![2, 6, 1024]⟩
abbrev S2x2x1024x2816 : Shape := ⟨4, ![2, 2, 1024, 2816]⟩
abbrev S2x2x2816x1024 : Shape := ⟨4, ![2, 2, 2816, 1024]⟩
abbrev S1x1x1024 : Shape := ⟨3, ![1, 1, 1024]⟩
abbrev S1024 : Shape := ⟨1, ![1024]⟩
abbrev S_ : Shape := ⟨0, ![]⟩
abbrev S17920 : Shape := ⟨1, ![17920]⟩
abbrev S17920x1 : Shape := ⟨2, ![17920, 1]⟩
abbrev S1x1024 : Shape := ⟨2, ![1, 1024]⟩
abbrev S1x1x1024x2816 : Shape := ⟨4, ![1, 1, 1024, 2816]⟩
abbrev S1024x2816 : Shape := ⟨2, ![1024, 2816]⟩
abbrev S1x1x2816x1024 : Shape := ⟨4, ![1, 1, 2816, 1024]⟩
abbrev S2816x1024 : Shape := ⟨2, ![2816, 1024]⟩
abbrev S17920x2816 : Shape := ⟨2, ![17920, 2816]⟩

abbrev nBuf : Space → Nat
  | .hbm => 64
  | .vmem => 0
  | .smem => 0
  | _ => 0

abbrev bufTy : (tb : Table) → Fin (tcTables nBuf tb) → BufTy
  | .hbm, ⟨0, _⟩ => ⟨S17920x1024, .f32⟩
  | .hbm, ⟨1, _⟩ => ⟨S2x6x1024, .f32⟩
  | .hbm, ⟨2, _⟩ => ⟨S2x2x1024x2816, .f32⟩
  | .hbm, ⟨3, _⟩ => ⟨S2x2x1024x2816, .f32⟩
  | .hbm, ⟨4, _⟩ => ⟨S2x2x2816x1024, .f32⟩
  | .hbm, ⟨5, _⟩ => ⟨S1x1x1024, .f32⟩
  | .hbm, ⟨6, _⟩ => ⟨S1024, .f32⟩
  | .hbm, ⟨7, _⟩ => ⟨S17920x1024, .f32⟩
  | .hbm, ⟨8, _⟩ => ⟨S_, .f32⟩
  | .hbm, ⟨9, _⟩ => ⟨S17920, .f32⟩
  | .hbm, ⟨10, _⟩ => ⟨S17920x1, .f32⟩
  | .hbm, ⟨11, _⟩ => ⟨S_, .f32⟩
  | .hbm, ⟨12, _⟩ => ⟨S17920x1, .f32⟩
  | .hbm, ⟨13, _⟩ => ⟨S17920x1, .f32⟩
  | .hbm, ⟨14, _⟩ => ⟨S_, .f32⟩
  | .hbm, ⟨15, _⟩ => ⟨S17920x1, .f32⟩
  | .hbm, ⟨16, _⟩ => ⟨S17920x1, .f32⟩
  | .hbm, ⟨17, _⟩ => ⟨S17920x1, .f32⟩
  | .hbm, ⟨18, _⟩ => ⟨S17920x1024, .f32⟩
  | .hbm, ⟨19, _⟩ => ⟨S17920x1024, .f32⟩
  | .hbm, ⟨20, _⟩ => ⟨S1x1024, .f32⟩
  | .hbm, ⟨21, _⟩ => ⟨S17920x1024, .f32⟩
  | .hbm, ⟨22, _⟩ => ⟨S17920x1024, .f32⟩
  | .hbm, ⟨23, _⟩ => ⟨S1x1x1024x2816, .f32⟩
  | .hbm, ⟨24, _⟩ => ⟨S1024x2816, .f32⟩
  | .hbm, ⟨25, _⟩ => ⟨S1x1x1024x2816, .f32⟩
  | .hbm, ⟨26, _⟩ => ⟨S1024x2816, .f32⟩
  | .hbm, ⟨27, _⟩ => ⟨S1x1x2816x1024, .f32⟩
  | .hbm, ⟨28, _⟩ => ⟨S2816x1024, .f32⟩
  | .hbm, ⟨29, _⟩ => ⟨S17920x2816, .f32⟩
  | .hbm, ⟨30, _⟩ => ⟨S17920x2816, .f32⟩
  | .hbm, ⟨31, _⟩ => ⟨S17920x2816, .f32⟩
  | .hbm, ⟨32, _⟩ => ⟨S_, .f32⟩
  | .hbm, ⟨33, _⟩ => ⟨S17920x2816, .f32⟩
  | .hbm, ⟨34, _⟩ => ⟨S17920x2816, .f32⟩
  | .hbm, ⟨35, _⟩ => ⟨S_, .f32⟩
  | .hbm, ⟨36, _⟩ => ⟨S17920x2816, .f32⟩
  | .hbm, ⟨37, _⟩ => ⟨S17920x2816, .f32⟩
  | .hbm, ⟨38, _⟩ => ⟨S17920x2816, .f32⟩
  | .hbm, ⟨39, _⟩ => ⟨S17920x2816, .f32⟩
  | .hbm, ⟨40, _⟩ => ⟨S17920x2816, .f32⟩
  | .hbm, ⟨41, _⟩ => ⟨S17920x1024, .f32⟩
  | .hbm, ⟨42, _⟩ => ⟨S1x1x1024, .f32⟩
  | .hbm, ⟨43, _⟩ => ⟨S1024, .f32⟩
  | .hbm, ⟨44, _⟩ => ⟨S17920x1024, .f32⟩
  | .hbm, ⟨45, _⟩ => ⟨S_, .f32⟩
  | .hbm, ⟨46, _⟩ => ⟨S17920, .f32⟩
  | .hbm, ⟨47, _⟩ => ⟨S17920x1, .f32⟩
  | .hbm, ⟨48, _⟩ => ⟨S_, .f32⟩
  | .hbm, ⟨49, _⟩ => ⟨S17920x1, .f32⟩
  | .hbm, ⟨50, _⟩ => ⟨S17920x1, .f32⟩
  | .hbm, ⟨51, _⟩ => ⟨S_, .f32⟩
  | .hbm, ⟨52, _⟩ => ⟨S17920x1, .f32⟩
  | .hbm, ⟨53, _⟩ => ⟨S17920x1, .f32⟩
  | .hbm, ⟨54, _⟩ => ⟨S17920x1, .f32⟩
  | .hbm, ⟨55, _⟩ => ⟨S17920x1024, .f32⟩
  | .hbm, ⟨56, _⟩ => ⟨S17920x1024, .f32⟩
  | .hbm, ⟨57, _⟩ => ⟨S1x1024, .f32⟩
  | .hbm, ⟨58, _⟩ => ⟨S17920x1024, .f32⟩
  | .hbm, ⟨59, _⟩ => ⟨S17920x1024, .f32⟩
  | .hbm, ⟨60, _⟩ => ⟨S_, .f32⟩
  | .hbm, ⟨61, _⟩ => ⟨S17920x1024, .f32⟩
  | .hbm, ⟨62, _⟩ => ⟨S17920x1024, .f32⟩
  | .hbm, ⟨63, _⟩ => ⟨S17920x1024, .f32⟩
  | _, _ => ⟨S17920x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_2 : Ref sig .tc := ⟨.hbm, 45, rfl⟩
abbrev main_v29 : Ref sig .tc := ⟨.hbm, 46, rfl⟩
abbrev main_v30 : Ref sig .tc := ⟨.hbm, 47, rfl⟩
abbrev main_cst_3 : Ref sig .tc := ⟨.hbm, 48, rfl⟩
abbrev main_v31 : Ref sig .tc := ⟨.hbm, 49, rfl⟩
abbrev main_v32 : Ref sig .tc := ⟨.hbm, 50, rfl⟩
abbrev main_cst_4 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_5 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩

abbrev nD : Nat := 1
abbrev τ : Topo := Topo.v7x

variable {F : FTy → Type} [FloatOps F]
-- ==== Kv.lean ====
abbrev S17920x1024 : Shape := ⟨2, ![17920, 1024]⟩
abbrev S1024 : Shape := ⟨1, ![1024]⟩
abbrev S1024x1024 : Shape := ⟨2, ![1024, 1024]⟩
abbrev S1x1024 : Shape := ⟨2, ![1, 1024]⟩
abbrev S2x8208x1024 : Shape := ⟨3, ![2, 8208, 1024]⟩
abbrev S256x1024 : Shape := ⟨2, ![256, 1024]⟩
abbrev S1x256x1024 : Shape := ⟨3, ![1, 256, 1024]⟩
abbrev S256 : Shape := ⟨1, ![256]⟩
abbrev S256x1 : Shape := ⟨2, ![256, 1]⟩

abbrev nBuf : Space → Nat
  | .hbm => 13
  | .vmem => 17
  | .smem => 0
  | _ => 0

abbrev bufTy : (tb : Table) → Fin (tcTables nBuf tb) → BufTy
  | .hbm, ⟨0, _⟩ => ⟨S17920x1024, .f32⟩
  | .hbm, ⟨1, _⟩ => ⟨S1024, .f32⟩
  | .hbm, ⟨2, _⟩ => ⟨S1024x1024, .f32⟩
  | .hbm, ⟨3, _⟩ => ⟨S1024x1024, .f32⟩
  | .hbm, ⟨4, _⟩ => ⟨S1x1024, .f32⟩
  | .hbm, ⟨5, _⟩ => ⟨S1024x1024, .bf16⟩
  | .hbm, ⟨6, _⟩ => ⟨S1024x1024, .bf16⟩
  | .hbm, ⟨7, _⟩ => ⟨S2x8208x1024, .f32⟩
  | .hbm, ⟨8, _⟩ => ⟨S2x8208x1024, .f32⟩
  | .hbm, ⟨9, _⟩ => ⟨S1024x1024, .f32⟩
  | .hbm, ⟨10, _⟩ => ⟨S1024x1024, .f32⟩
  | .hbm, ⟨11, _⟩ => ⟨S17920x1024, .bf16⟩
  | .hbm, ⟨12, _⟩ => ⟨S17920x1024, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | .local _ .vmem, ⟨16, _⟩ => ⟨S256x1024, .bf16⟩
  | _, _ => ⟨S17920x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev main_v3_4 : Ref sig .tc := ⟨.hbm, 11, rfl⟩
abbrev main_v3_5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![70], ![false]⟩

def k0_cond1 (i : grid0.Coords) : BitVec 1 :=
  let arg0 : BitVec 32 := BitVec.ofNat 32 (i 0).val
  let c66_i32 : BitVec 32 := 66#32
  let v26 : BitVec 1 := Scalar.cmpi .slt arg0 c66_i32
  let v27 : BitVec 32 := Scalar.extui v26
  let c0_i32 : BitVec 32 := 0#32
  let v28 : BitVec 1 := Scalar.cmpi .ne v27 c0_i32
  v28

def k0_cond2 (i : grid0.Coords) : BitVec 1 :=
  let arg0 : BitVec 32 := BitVec.ofNat 32 (i 0).val
  let c66_i32_15 : BitVec 32 := 66#32
  let v29 : BitVec 1 := Scalar.cmpi .sge arg0 c66_i32_15
  let v30 : BitVec 32 := Scalar.extui v29
  let c0_i32_16 : BitVec 32 := 0#32
  let v31 : BitVec 1 := Scalar.cmpi .ne v30 c0_i32_16
  v31

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c33_i32 : BitVec 32 := 33#32
  let v0 : BitVec 32 := Scalar.divsi arg0 c33_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c33_i32 c0_i32_1
  let v7 : BitVec 32 := Scalar.extui v6
  let c0_i32_2 : BitVec 32 := 0#32
  let v8 : BitVec 1 := Scalar.cmpi .slt c33_i32 c0_i32_2
  let v9 : BitVec 32 := Scalar.extui v8
  let v10 : BitVec 32 := Scalar.subi v7 v9
  let v11 : BitVec 1 := Scalar.cmpi .ne v5 v10
  let v12 : BitVec 32 := Scalar.remsi arg0 c33_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.minsi v16 c1_i32_4
  let c66_i32 : BitVec 32 := 66#32
  let v18 : BitVec 1 := Scalar.cmpi .slt arg0 c66_i32
  let c33_i32_5 : BitVec 32 := 33#32
  let c0_i32_6 : BitVec 32 := 0#32
  let v19 : BitVec 1 := Scalar.cmpi .eq c33_i32_5 c0_i32_6
  let c1_i32_7 : BitVec 32 := 1#32
  let v20 : BitVec 32 := Scalar.select v19 c1_i32_7 c33_i32_5
  let v21 : BitVec 32 := Scalar.remsi arg0 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c32_i32 : BitVec 32 := 32#32
  let v29 : BitVec 32 := Scalar.select v18 v28 c32_i32
  let c0_i32_11 : BitVec 32 := 0#32
  let c0_i32_12 : BitVec 32 := 0#32
  ![v17.toNat, v29.toNat, c0_i32_11.toNat]

def cc0_transform_5 (i : grid0.Coords) : Fin 3 → Nat :=
  let arg0 : BitVec 32 := BitVec.ofNat 32 (i 0).val
  let c33_i32 : BitVec 32 := 33#32
  let v0 : BitVec 32 := Scalar.divsi arg0 c33_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c33_i32 c0_i32_1
  let v7 : BitVec 32 := Scalar.extui v6
  let c0_i32_2 : BitVec 32 := 0#32
  let v8 : BitVec 1 := Scalar.cmpi .slt c33_i32 c0_i32_2
  let v9 : BitVec 32 := Scalar.extui v8
  let v10 : BitVec 32 := Scalar.subi v7 v9
  let v11 : BitVec 1 := Scalar.cmpi .ne v5 v10
  let v12 : BitVec 32 := Scalar.remsi arg0 c33_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.minsi v16 c1_i32_4
  let c66_i32 : BitVec 32 := 66#32
  let v18 : BitVec 1 := Scalar.cmpi .slt arg0 c66_i32
  let c33_i32_5 : BitVec 32 := 33#32
  let c0_i32_6 : BitVec 32 := 0#32
  let v19 : BitVec 1 := Scalar.cmpi .eq c33_i32_5 c0_i32_6
  let c1_i32_7 : BitVec 32 := 1#32
  let v20 : BitVec 32 := Scalar.select v19 c1_i32_7 c33_i32_5
  let v21 : BitVec 32 := Scalar.remsi arg0 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c32_i32 : BitVec 32 := 32#32
  let v29 : BitVec 32 := Scalar.select v18 v28 c32_i32
  let c0_i32_11 : BitVec 32 := 0#32
  let c0_i32_12 : BitVec 32 := 0#32
  ![v17.toNat, v29.toNat, c0_i32_11.toNat]

def cc0_transform_6 (i : grid0.Coords) : Fin 2 → Nat :=
  let arg0 : BitVec 32 := BitVec.ofNat 32 (i 0).val
  let c66_i32 : BitVec 32 := 66#32
  let v0 : BitVec 32 := Scalar.subi arg0 c66_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_7 (i : grid0.Coords) : Fin 2 → Nat :=
  let arg0 : BitVec 32 := BitVec.ofNat 32 (i 0).val
  let c66_i32 : BitVec 32 := 66#32
  let v0 : BitVec 32 := Scalar.subi arg0 c66_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== KvRefIdeal.lean ====
abbrev S17920x1024 : Shape := ⟨2, ![17920, 1024]⟩
abbrev S1024 : Shape := ⟨1, ![1024]⟩
abbrev S1024x1024 : Shape := ⟨2, ![1024, 1024]⟩
abbrev S_ : Shape := ⟨0, ![]⟩
abbrev S17920 : Shape := ⟨1, ![17920]⟩
abbrev S17920x1 : Shape := ⟨2, ![17920, 1]⟩
abbrev S1x1024 : Shape := ⟨2, ![1, 1024]⟩
abbrev S16896x1024 : Shape := ⟨2, ![16896, 1024]⟩
abbrev S2x8448x1024 : Shape := ⟨3, ![2, 8448, 1024]⟩
abbrev S2x8208x1024 : Shape := ⟨3, ![2, 8208, 1024]⟩

abbrev nBuf : Space → Nat
  | .hbm => 32
  | .vmem => 0
  | .smem => 0
  | _ => 0

abbrev bufTy : (tb : Table) → Fin (tcTables nBuf tb) → BufTy
  | .hbm, ⟨0, _⟩ => ⟨S17920x1024, .f32⟩
  | .hbm, ⟨1, _⟩ => ⟨S1024, .f32⟩
  | .hbm, ⟨2, _⟩ => ⟨S1024x1024, .f32⟩
  | .hbm, ⟨3, _⟩ => ⟨S1024x1024, .f32⟩
  | .hbm, ⟨4, _⟩ => ⟨S17920x1024, .f32⟩
  | .hbm, ⟨5, _⟩ => ⟨S_, .f32⟩
  | .hbm, ⟨6, _⟩ => ⟨S17920, .f32⟩
  | .hbm, ⟨7, _⟩ => ⟨S17920x1, .f32⟩
  | .hbm, ⟨8, _⟩ => ⟨S_, .f32⟩
  | .hbm, ⟨9, _⟩ => ⟨S17920x1, .f32⟩
  | .hbm, ⟨10, _⟩ => ⟨S17920x1, .f32⟩
  | .hbm, ⟨11, _⟩ => ⟨S_, .f32⟩
  | .hbm, ⟨12, _⟩ => ⟨S17920x1, .f32⟩
  | .hbm, ⟨13, _⟩ => ⟨S17920x1, .f32⟩
  | .hbm, ⟨14, _⟩ => ⟨S17920x1, .f32⟩
  | .hbm, ⟨15, _⟩ => ⟨S17920x1024, .f32⟩
  | .hbm, ⟨16, _⟩ => ⟨S17920x1024, .f32⟩
  | .hbm, ⟨17, _⟩ => ⟨S1x1024, .f32⟩
  | .hbm, ⟨18, _⟩ => ⟨S17920x1024, .f32⟩
  | .hbm, ⟨19, _⟩ => ⟨S17920x1024, .f32⟩
  | .hbm, ⟨20, _⟩ => ⟨S17920x1024, .f32⟩
  | .hbm, ⟨21, _⟩ => ⟨S17920x1024, .f32⟩
  | .hbm, ⟨22, _⟩ => ⟨S16896x1024, .f32⟩
  | .hbm, ⟨23, _⟩ => ⟨S2x8448x1024, .f32⟩
  | .hbm, ⟨24, _⟩ => ⟨S2x8208x1024, .f32⟩
  | .hbm, ⟨25, _⟩ => ⟨S16896x1024, .f32⟩
  | .hbm, ⟨26, _⟩ => ⟨S2x8448x1024, .f32⟩
  | .hbm, ⟨27, _⟩ => ⟨S2x8208x1024, .f32⟩
  | .hbm, ⟨28, _⟩ => ⟨S1024x1024, .f32⟩
  | .hbm, ⟨29, _⟩ => ⟨S1024x1024, .f32⟩
  | .hbm, ⟨30, _⟩ => ⟨S17920x1024, .bf16⟩
  | .hbm, ⟨31, _⟩ => ⟨S17920x1024, .bf16⟩
  | _, _ => ⟨S17920x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩

abbrev nD : Nat := 1
abbrev τ : Topo := Topo.v7x

variable {F : FTy → Type} [FloatOps F]
-- ==== FfnQ.lean ====
abbrev S17920x1024 : Shape := ⟨2, ![17920, 1024]⟩
abbrev S2x6x1024 : Shape := ⟨3, ![2, 6, 1024]⟩
abbrev S2x2x1024x2816 : Shape := ⟨4, ![2, 2, 1024, 2816]⟩
abbrev S2x2x2816x1024 : Shape := ⟨4, ![2, 2, 2816, 1024]⟩
abbrev S1x1024x1024 : Shape := ⟨3, ![1, 1024, 1024]⟩
abbrev S1x3x1024 : Shape := ⟨3, ![1, 3, 1024]⟩
abbrev S3x1024 : Shape := ⟨2, ![3, 1024]⟩
abbrev S1024x1024 : Shape := ⟨2, ![1024, 1024]⟩
abbrev S512x1024 : Shape := ⟨2, ![512, 1024]⟩
abbrev S1x1x1024x2816 : Shape := ⟨4, ![1, 1, 1024, 2816]⟩
abbrev S1x1x2816x1024 : Shape := ⟨4, ![1, 1, 2816, 1024]⟩
abbrev S1x1024 : Shape := ⟨2, ![1, 1024]⟩
abbrev S512 : Shape := ⟨1, ![512]⟩
abbrev S512x1 : Shape := ⟨2, ![512, 1]⟩
abbrev S1024x2816 : Shape := ⟨2, ![1024, 2816]⟩
abbrev S512x2816 : Shape := ⟨2, ![512, 2816]⟩
abbrev S2816x1024 : Shape := ⟨2, ![2816, 1024]⟩

abbrev nBuf : Space → Nat
  | .hbm => 16
  | .vmem => 13
  | .smem => 0
  | _ => 0

abbrev bufTy : (tb : Table) → Fin (tcTables nBuf tb) → BufTy
  | .hbm, ⟨0, _⟩ => ⟨S17920x1024, .f32⟩
  | .hbm, ⟨1, _⟩ => ⟨S2x6x1024, .f32⟩
  | .hbm, ⟨2, _⟩ => ⟨S2x2x1024x2816, .f32⟩
  | .hbm, ⟨3, _⟩ => ⟨S2x2x1024x2816, .f32⟩
  | .hbm, ⟨4, _⟩ => ⟨S2x2x2816x1024, .f32⟩
  | .hbm, ⟨5, _⟩ => ⟨S1x1024x1024, .f32⟩
  | .hbm, ⟨6, _⟩ => ⟨S1x3x1024, .f32⟩
  | .hbm, ⟨7, _⟩ => ⟨S3x1024, .f32⟩
  | .hbm, ⟨8, _⟩ => ⟨S2x2x1024x2816, .bf16⟩
  | .hbm, ⟨9, _⟩ => ⟨S2x2x1024x2816, .bf16⟩
  | .hbm, ⟨10, _⟩ => ⟨S2x2x2816x1024, .bf16⟩
  | .hbm, ⟨11, _⟩ => ⟨S1024x1024, .f32⟩
  | .hbm, ⟨12, _⟩ => ⟨S1024x1024, .bf16⟩
  | .hbm, ⟨13, _⟩ => ⟨S17920x1024, .f32⟩
  | .hbm, ⟨14, _⟩ => ⟨S17920x1024, .bf16⟩
  | .hbm, ⟨15, _⟩ => ⟨S1024x1024, .f32⟩
  | .local _ .vmem, ⟨0, _⟩ => ⟨S512x1024, .f32⟩
  | .local _ .vmem, ⟨1, _⟩ => ⟨S512x1024, .f32⟩
  | .local _ .vmem, ⟨2, _⟩ => ⟨S3x1024, .f32⟩
  | .local _ .vmem, ⟨3, _⟩ => ⟨S1x1x1024x2816, .bf16⟩
  | .local _ .vmem, ⟨4, _⟩ => ⟨S1x1x1024x2816, .bf16⟩
  | .local _ .vmem, ⟨5, _⟩ => ⟨S1x1x2816x1024, .bf16⟩
  | .local _ .vmem, ⟨6, _⟩ => ⟨S1024x1024, .bf16⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S512x1024, .f32⟩
  | .local _ .vmem, ⟨12, _⟩ => ⟨S512x1024, .f32⟩
  | _, _ => ⟨S17920x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev main_v7_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![35], ![false]⟩

def k0_cond1 (i : grid0.Coords) : BitVec 1 :=
  let arg0 : BitVec 32 := BitVec.ofNat 32 (i 0).val
  let c33_i32 : BitVec 32 := 33#32
  let v69 : BitVec 1 := Scalar.cmpi .sge arg0 c33_i32
  let v70 : BitVec 32 := Scalar.extui v69
  let c0_i32 : BitVec 32 := 0#32
  let v71 : BitVec 1 := Scalar.cmpi .ne v70 c0_i32
  v71

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, c0_i32.toNat, c0_i32_0.toNat, c0_i32_1.toNat]

def cc0_transform_3 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, c0_i32.toNat, c0_i32_0.toNat, c0_i32_1.toNat]

def cc0_transform_4 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c33_i32 : BitVec 32 := 33#32
  let v0 : BitVec 32 := Scalar.subi arg0 c33_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1x1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== FfnQRefIdeal.lean ====
abbrev S17920x1024 : Shape := ⟨2, ![17920, 1024]⟩
abbrev S2x6x1024 : Shape := ⟨3, ![2, 6, 1024]⟩
abbrev S2x2x1024x2816 : Shape := ⟨4, ![2, 2, 1024, 2816]⟩
abbrev S2x2x2816x1024 : Shape := ⟨4, ![2, 2, 2816, 1024]⟩
abbrev S1x1024x1024 : Shape := ⟨3, ![1, 1024, 1024]⟩
abbrev S1x1x1024 : Shape := ⟨3, ![1, 1, 1024]⟩
abbrev S1024 : Shape := ⟨1, ![1024]⟩
abbrev S_ : Shape := ⟨0, ![]⟩
abbrev S17920 : Shape := ⟨1, ![17920]⟩
abbrev S17920x1 : Shape := ⟨2, ![17920, 1]⟩
abbrev S1x1024 : Shape := ⟨2, ![1, 1024]⟩
abbrev S1x1x1024x2816 : Shape := ⟨4, ![1, 1, 1024, 2816]⟩
abbrev S1024x2816 : Shape := ⟨2, ![1024, 2816]⟩
abbrev S1x1x2816x1024 : Shape := ⟨4, ![1, 1, 2816, 1024]⟩
abbrev S2816x1024 : Shape := ⟨2, ![2816, 1024]⟩
abbrev S17920x2816 : Shape := ⟨2, ![17920, 2816]⟩
abbrev S1024x1024 : Shape := ⟨2, ![1024, 1024]⟩

abbrev nBuf : Space → Nat
  | .hbm => 90
  | .vmem => 0
  | .smem => 0
  | _ => 0

abbrev bufTy : (tb : Table) → Fin (tcTables nBuf tb) → BufTy
  | .hbm, ⟨0, _⟩ => ⟨S17920x1024, .f32⟩
  | .hbm, ⟨1, _⟩ => ⟨S2x6x1024, .f32⟩
  | .hbm, ⟨2, _⟩ => ⟨S2x2x1024x2816, .f32⟩
  | .hbm, ⟨3, _⟩ => ⟨S2x2x1024x2816, .f32⟩
  | .hbm, ⟨4, _⟩ => ⟨S2x2x2816x1024, .f32⟩
  | .hbm, ⟨5, _⟩ => ⟨S1x1024x1024, .f32⟩
  | .hbm, ⟨6, _⟩ => ⟨S1x1x1024, .f32⟩
  | .hbm, ⟨7, _⟩ => ⟨S1024, .f32⟩
  | .hbm, ⟨8, _⟩ => ⟨S17920x1024, .f32⟩
  | .hbm, ⟨9, _⟩ => ⟨S_, .f32⟩
  | .hbm, ⟨10, _⟩ => ⟨S17920, .f32⟩
  | .hbm, ⟨11, _⟩ => ⟨S17920x1, .f32⟩
  | .hbm, ⟨12, _⟩ => ⟨S_, .f32⟩
  | .hbm, ⟨13, _⟩ => ⟨S17920x1, .f32⟩
  | .hbm, ⟨14, _⟩ => ⟨S17920x1, .f32⟩
  | .hbm, ⟨15, _⟩ => ⟨S_, .f32⟩
  | .hbm, ⟨16, _⟩ => ⟨S17920x1, .f32⟩
  | .hbm, ⟨17, _⟩ => ⟨S17920x1, .f32⟩
  | .hbm, ⟨18, _⟩ => ⟨S17920x1, .f32⟩
  | .hbm, ⟨19, _⟩ => ⟨S17920x1024, .f32⟩
  | .hbm, ⟨20, _⟩ => ⟨S17920x1024, .f32⟩
  | .hbm, ⟨21, _⟩ => ⟨S1x1024, .f32⟩
  | .hbm, ⟨22, _⟩ => ⟨S17920x1024, .f32⟩
  | .hbm, ⟨23, _⟩ => ⟨S17920x1024, .f32⟩
  | .hbm, ⟨24, _⟩ => ⟨S1x1x1024x2816, .f32⟩
  | .hbm, ⟨25, _⟩ => ⟨S1024x2816, .f32⟩
  | .hbm, ⟨26, _⟩ => ⟨S1x1x1024x2816, .f32⟩
  | .hbm, ⟨27, _⟩ => ⟨S1024x2816, .f32⟩
  | .hbm, ⟨28, _⟩ => ⟨S1x1x2816x1024, .f32⟩
  | .hbm, ⟨29, _⟩ => ⟨S2816x1024, .f32⟩
  | .hbm, ⟨30, _⟩ => ⟨S17920x2816, .f32⟩
  | .hbm, ⟨31, _⟩ => ⟨S17920x2816, .f32⟩
  | .hbm, ⟨32, _⟩ => ⟨S17920x2816, .f32⟩
  | .hbm, ⟨33, _⟩ => ⟨S_, .f32⟩
  | .hbm, ⟨34, _⟩ => ⟨S17920x2816, .f32⟩
  | .hbm, ⟨35, _⟩ => ⟨S17920x2816, .f32⟩
  | .hbm, ⟨36, _⟩ => ⟨S_, .f32⟩
  | .hbm, ⟨37, _⟩ => ⟨S17920x2816, .f32⟩
  | .hbm, ⟨38, _⟩ => ⟨S17920x2816, .f32⟩
  | .hbm, ⟨39, _⟩ => ⟨S17920x2816, .f32⟩
  | .hbm, ⟨40, _⟩ => ⟨S17920x2816, .f32⟩
  | .hbm, ⟨41, _⟩ => ⟨S17920x2816, .f32⟩
  | .hbm, ⟨42, _⟩ => ⟨S17920x1024, .f32⟩
  | .hbm, ⟨43, _⟩ => ⟨S1x1x1024, .f32⟩
  | .hbm, ⟨44, _⟩ => ⟨S1024, .f32⟩
  | .hbm, ⟨45, _⟩ => ⟨S17920x1024, .f32⟩
  | .hbm, ⟨46, _⟩ => ⟨S_, .f32⟩
  | .hbm, ⟨47, _⟩ => ⟨S17920, .f32⟩
  | .hbm, ⟨48, _⟩ => ⟨S17920x1, .f32⟩
  | .hbm, ⟨49, _⟩ => ⟨S_, .f32⟩
  | .hbm, ⟨50, _⟩ => ⟨S17920x1, .f32⟩
  | .hbm, ⟨51, _⟩ => ⟨S17920x1, .f32⟩
  | .hbm, ⟨52, _⟩ => ⟨S_, .f32⟩
  | .hbm, ⟨53, _⟩ => ⟨S17920x1, .f32⟩
  | .hbm, ⟨54, _⟩ => ⟨S17920x1, .f32⟩
  | .hbm, ⟨55, _⟩ => ⟨S17920x1, .f32⟩
  | .hbm, ⟨56, _⟩ => ⟨S17920x1024, .f32⟩
  | .hbm, ⟨57, _⟩ => ⟨S17920x1024, .f32⟩
  | .hbm, ⟨58, _⟩ => ⟨S1x1024, .f32⟩
  | .hbm, ⟨59, _⟩ => ⟨S17920x1024, .f32⟩
  | .hbm, ⟨60, _⟩ => ⟨S17920x1024, .f32⟩
  | .hbm, ⟨61, _⟩ => ⟨S_, .f32⟩
  | .hbm, ⟨62, _⟩ => ⟨S17920x1024, .f32⟩
  | .hbm, ⟨63, _⟩ => ⟨S17920x1024, .f32⟩
  | .hbm, ⟨64, _⟩ => ⟨S17920x1024, .f32⟩
  | .hbm, ⟨65, _⟩ => ⟨S1x1x1024, .f32⟩
  | .hbm, ⟨66, _⟩ => ⟨S1024, .f32⟩
  | .hbm, ⟨67, _⟩ => ⟨S17920x1024, .f32⟩
  | .hbm, ⟨68, _⟩ => ⟨S_, .f32⟩
  | .hbm, ⟨69, _⟩ => ⟨S17920, .f32⟩
  | .hbm, ⟨70, _⟩ => ⟨S17920x1, .f32⟩
  | .hbm, ⟨71, _⟩ => ⟨S_, .f32⟩
  | .hbm, ⟨72, _⟩ => ⟨S17920x1, .f32⟩
  | .hbm, ⟨73, _⟩ => ⟨S17920x1, .f32⟩
  | .hbm, ⟨74, _⟩ => ⟨S_, .f32⟩
  | .hbm, ⟨75, _⟩ => ⟨S17920x1, .f32⟩
  | .hbm, ⟨76, _⟩ => ⟨S17920x1, .f32⟩
  | .hbm, ⟨77, _⟩ => ⟨S17920x1, .f32⟩
  | .hbm, ⟨78, _⟩ => ⟨S17920x1024, .f32⟩
  | .hbm, ⟨79, _⟩ => ⟨S17920x1024, .f32⟩
  | .hbm, ⟨80, _⟩ => ⟨S1x1024, .f32⟩
  | .hbm, ⟨81, _⟩ => ⟨S17920x1024, .f32⟩
  | .hbm, ⟨82, _⟩ => ⟨S17920x1024, .f32⟩
  | .hbm, ⟨83, _⟩ => ⟨S1024x1024, .f32⟩
  | .hbm, ⟨84, _⟩ => ⟨S17920x1024, .f32⟩
  | .hbm, ⟨85, _⟩ => ⟨S_, .f32⟩
  | .hbm, ⟨86, _⟩ => ⟨S17920x1024, .f32⟩
  | .hbm, ⟨87, _⟩ => ⟨S17920x1024, .f32⟩
  | .hbm, ⟨88, _⟩ => ⟨S17920x1024, .bf16⟩
  | .hbm, ⟨89, _⟩ => ⟨S1024x1024, .f32⟩
  | _, _ => ⟨S17920x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_2 : Ref sig .tc := ⟨.hbm, 46, rfl⟩
abbrev main_v29 : Ref sig .tc := ⟨.hbm, 47, rfl⟩
abbrev main_v30 : Ref sig .tc := ⟨.hbm, 48, rfl⟩
abbrev main_cst_3 : Ref sig .tc := ⟨.hbm, 49, rfl⟩
abbrev main_v31 : Ref sig .tc := ⟨.hbm, 50, rfl⟩
abbrev main_v32 : Ref sig .tc := ⟨.hbm, 51, rfl⟩
abbrev main_cst_4 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_5 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_6 : Ref sig .tc := ⟨.hbm, 68, rfl⟩
abbrev main_v47 : Ref sig .tc := ⟨.hbm, 69, rfl⟩
abbrev main_v48 : Ref sig .tc := ⟨.hbm, 70, rfl⟩
abbrev main_cst_7 : Ref sig .tc := ⟨.hbm, 71, rfl⟩
abbrev main_v49 : Ref sig .tc := ⟨.hbm, 72, rfl⟩
abbrev main_v50 : Ref sig .tc := ⟨.hbm, 73, rfl⟩
abbrev main_cst_8 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_9 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩

abbrev nD : Nat := 1
abbrev τ : Topo := Topo.v7x

variable {F : FTy → Type} [FloatOps F]
-- ==== FfnOut.lean ====
abbrev S17920x1024 : Shape := ⟨2, ![17920, 1024]⟩
abbrev S16896x1024 : Shape := ⟨2, ![16896, 1024]⟩
abbrev S1024x1024 : Shape := ⟨2, ![1024, 1024]⟩
abbrev S1x1024x1024 : Shape := ⟨3, ![1, 1024, 1024]⟩
abbrev S2x6x1024 : Shape := ⟨3, ![2, 6, 1024]⟩
abbrev S2x2x1024x2816 : Shape := ⟨4, ![2, 2, 1024, 2816]⟩
abbrev S2x2x2816x1024 : Shape := ⟨4, ![2, 2, 2816, 1024]⟩
abbrev S1x3x1024 : Shape := ⟨3, ![1, 3, 1024]⟩
abbrev S3x1024 : Shape := ⟨2, ![3, 1024]⟩
abbrev S2x8192x1024 : Shape := ⟨3, ![2, 8192, 1024]⟩
abbrev S512x1024 : Shape := ⟨2, ![512, 1024]⟩
abbrev S1x1x1024x2816 : Shape := ⟨4, ![1, 1, 1024, 2816]⟩
abbrev S1x1x2816x1024 : Shape := ⟨4, ![1, 1, 2816, 1024]⟩
abbrev S1x512x1024 : Shape := ⟨3, ![1, 512, 1024]⟩
abbrev S1x1024 : Shape := ⟨2, ![1, 1024]⟩
abbrev S512 : Shape := ⟨1, ![512]⟩
abbrev S512x1 : Shape := ⟨2, ![512, 1]⟩
abbrev S1024x2816 : Shape := ⟨2, ![1024, 2816]⟩
abbrev S512x2816 : Shape := ⟨2, ![512, 2816]⟩
abbrev S2816x1024 : Shape := ⟨2, ![2816, 1024]⟩

abbrev nBuf : Space → Nat
  | .hbm => 17
  | .vmem => 15
  | .smem => 0
  | _ => 0

abbrev bufTy : (tb : Table) → Fin (tcTables nBuf tb) → BufTy
  | .hbm, ⟨0, _⟩ => ⟨S17920x1024, .f32⟩
  | .hbm, ⟨1, _⟩ => ⟨S16896x1024, .f32⟩
  | .hbm, ⟨2, _⟩ => ⟨S1024x1024, .f32⟩
  | .hbm, ⟨3, _⟩ => ⟨S1x1024x1024, .f32⟩
  | .hbm, ⟨4, _⟩ => ⟨S2x6x1024, .f32⟩
  | .hbm, ⟨5, _⟩ => ⟨S2x2x1024x2816, .f32⟩
  | .hbm, ⟨6, _⟩ => ⟨S2x2x1024x2816, .f32⟩
  | .hbm, ⟨7, _⟩ => ⟨S2x2x2816x1024, .f32⟩
  | .hbm, ⟨8, _⟩ => ⟨S1024x1024, .f32⟩
  | .hbm, ⟨9, _⟩ => ⟨S1024x1024, .bf16⟩
  | .hbm, ⟨10, _⟩ => ⟨S1x3x1024, .f32⟩
  | .hbm, ⟨11, _⟩ => ⟨S3x1024, .f32⟩
  | .hbm, ⟨12, _⟩ => ⟨S2x2x1024x2816, .bf16⟩
  | .hbm, ⟨13, _⟩ => ⟨S2x2x1024x2816, .bf16⟩
  | .hbm, ⟨14, _⟩ => ⟨S2x2x2816x1024, .bf16⟩
  | .hbm, ⟨15, _⟩ => ⟨S2x8192x1024, .f32⟩
  | .hbm, ⟨16, _⟩ => ⟨S1024x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1024x1024, .bf16⟩
  | .local _ .vmem, ⟨7, _⟩ => ⟨S3x1024, .f32⟩
  | .local _ .vmem, ⟨8, _⟩ => ⟨S1x1x1024x2816, .bf16⟩
  | .local _ .vmem, ⟨9, _⟩ => ⟨S1x1x1024x2816, .bf16⟩
  | .local _ .vmem, ⟨10, _⟩ => ⟨S1x1x2816x1024, .bf16⟩
  | .local _ .vmem, ⟨11, _⟩ => ⟨S1x512x1024, .f32⟩
  | .local _ .vmem, ⟨12, _⟩ => ⟨S1x512x1024, .f32⟩
  | .local _ .vmem, ⟨13, _⟩ => ⟨S512x1024, .f32⟩
  | .local _ .vmem, ⟨14, _⟩ => ⟨S512x1024, .f32⟩
  | _, _ => ⟨S17920x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![34], ![false]⟩

def k0_mult1 (i : grid0.Coords) : BitVec 32 :=
  let arg0 : BitVec 32 := BitVec.ofNat 32 (i 0).val
  let c32_i32 : BitVec 32 := 32#32
  let v31 : BitVec 1 := Scalar.cmpi .slt arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c16_i32 : BitVec 32 := 16#32
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let v0 : BitVec 32 := Scalar.divsi arg0 c16_i32
  let c1_i32 : BitVec 32 := 1#32
  let v15 : BitVec 32 := Scalar.subi v0 c1_i32
  let v16 : BitVec 32 := Scalar.select v14 v15 v0
  let c8448_i32 : BitVec 32 := 8448#32
  let v17 : BitVec 32 := Scalar.muli v16 c8448_i32
  let c16_i32_4 : BitVec 32 := 16#32
  let v18 : BitVec 32 := Scalar.addi v17 c16_i32_4
  let c16_i32_5 : BitVec 32 := 16#32
  let c0_i32_6 : BitVec 32 := 0#32
  let v19 : BitVec 1 := Scalar.cmpi .eq c16_i32_5 c0_i32_6
  let c1_i32_7 : BitVec 32 := 1#32
  let v20 : BitVec 32 := Scalar.select v19 c1_i32_7 c16_i32_5
  let v21 : BitVec 32 := Scalar.remsi arg0 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c512_i32 : BitVec 32 := 512#32
  let v29 : BitVec 32 := Scalar.muli v28 c512_i32
  let v30 : BitVec 32 := Scalar.addi v18 v29
  let c16896_i32 : BitVec 32 := 16896#32
  let c32_i32_11 : BitVec 32 := 32#32
  let v32 : BitVec 32 := Scalar.subi arg0 c32_i32_11
  let c512_i32_12 : BitVec 32 := 512#32
  let v33 : BitVec 32 := Scalar.muli v32 c512_i32_12
  let v34 : BitVec 32 := Scalar.addi c16896_i32 v33
  let v35 : BitVec 32 := Scalar.select v31 v30 v34
  let c17408_i32 : BitVec 32 := 17408#32
  let v36 : BitVec 32 := Scalar.minsi v35 c17408_i32
  v36
def k0_mult2 (i : grid0.Coords) : BitVec 32 :=
  let arg0 : BitVec 32 := BitVec.ofNat 32 (i 0).val
  let c32_i32 : BitVec 32 := 32#32
  let v31 : BitVec 1 := Scalar.cmpi .slt arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c16_i32 : BitVec 32 := 16#32
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let v0 : BitVec 32 := Scalar.divsi arg0 c16_i32
  let c1_i32 : BitVec 32 := 1#32
  let v15 : BitVec 32 := Scalar.subi v0 c1_i32
  let v16 : BitVec 32 := Scalar.select v14 v15 v0
  let c8448_i32 : BitVec 32 := 8448#32
  let v17 : BitVec 32 := Scalar.muli v16 c8448_i32
  let c16_i32_4 : BitVec 32 := 16#32
  let v18 : BitVec 32 := Scalar.addi v17 c16_i32_4
  let c16_i32_5 : BitVec 32 := 16#32
  let c0_i32_6 : BitVec 32 := 0#32
  let v19 : BitVec 1 := Scalar.cmpi .eq c16_i32_5 c0_i32_6
  let c1_i32_7 : BitVec 32 := 1#32
  let v20 : BitVec 32 := Scalar.select v19 c1_i32_7 c16_i32_5
  let v21 : BitVec 32 := Scalar.remsi arg0 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c512_i32 : BitVec 32 := 512#32
  let v29 : BitVec 32 := Scalar.muli v28 c512_i32
  let v30 : BitVec 32 := Scalar.addi v18 v29
  let c16896_i32 : BitVec 32 := 16896#32
  let c32_i32_11 : BitVec 32 := 32#32
  let v32 : BitVec 32 := Scalar.subi arg0 c32_i32_11
  let c512_i32_12 : BitVec 32 := 512#32
  let v33 : BitVec 32 := Scalar.muli v32 c512_i32_12
  let v34 : BitVec 32 := Scalar.addi c16896_i32 v33
  let v35 : BitVec 32 := Scalar.select v31 v30 v34
  let c16384_i32 : BitVec 32 := 16384#32
  let v36 : BitVec 32 := Scalar.minsi v35 c16384_i32
  v36
def k0_cond1 (i : grid0.Coords) : BitVec 1 :=
  let arg0 : BitVec 32 := BitVec.ofNat 32 (i 0).val
  let c32_i32_36 : BitVec 32 := 32#32
  let v69 : BitVec 1 := Scalar.cmpi .slt arg0 c32_i32_36
  let v70 : BitVec 32 := Scalar.extui v69
  let c0_i32 : BitVec 32 := 0#32
  let v71 : BitVec 1 := Scalar.cmpi .ne v70 c0_i32
  v71

def k0_cond2 (i : grid0.Coords) : BitVec 1 :=
  let arg0 : BitVec 32 := BitVec.ofNat 32 (i 0).val
  let c32_i32_37 : BitVec 32 := 32#32
  let v72 : BitVec 1 := Scalar.cmpi .sge arg0 c32_i32_37
  let v73 : BitVec 32 := Scalar.extui v72
  let c0_i32_38 : BitVec 32 := 0#32
  let v74 : BitVec 1 := Scalar.cmpi .ne v73 c0_i32_38
  v74

def cc0_transform_0 (i : grid0.Coords) : Fin 2 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8448_i32 : BitVec 32 := 8448#32
  let v17 : BitVec 32 := Scalar.muli v16 c8448_i32
  let c16_i32_4 : BitVec 32 := 16#32
  let v18 : BitVec 32 := Scalar.addi v17 c16_i32_4
  let c16_i32_5 : BitVec 32 := 16#32
  let c0_i32_6 : BitVec 32 := 0#32
  let v19 : BitVec 1 := Scalar.cmpi .eq c16_i32_5 c0_i32_6
  let c1_i32_7 : BitVec 32 := 1#32
  let v20 : BitVec 32 := Scalar.select v19 c1_i32_7 c16_i32_5
  let v21 : BitVec 32 := Scalar.remsi arg0 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c512_i32 : BitVec 32 := 512#32
  let v29 : BitVec 32 := Scalar.muli v28 c512_i32
  let v30 : BitVec 32 := Scalar.addi v18 v29
  let c32_i32 : BitVec 32 := 32#32
  let v31 : BitVec 1 := Scalar.cmpi .slt arg0 c32_i32
  let c32_i32_11 : BitVec 32 := 32#32
  let v32 : BitVec 32 := Scalar.subi arg0 c32_i32_11
  let c512_i32_12 : BitVec 32 := 512#32
  let v33 : BitVec 32 := Scalar.muli v32 c512_i32_12
  let c16896_i32 : BitVec 32 := 16896#32
  let v34 : BitVec 32 := Scalar.addi c16896_i32 v33
  let v35 : BitVec 32 := Scalar.select v31 v30 v34
  let c17408_i32 : BitVec 32 := 17408#32
  let v36 : BitVec 32 := Scalar.minsi v35 c17408_i32
  let v37 : BitVec 32 := v36
  let c0_i32_13 : BitVec 32 := 0#32
  let c0_i32_14 : BitVec 32 := 0#32
  ![v37.toNat, c0_i32_13.toNat]

def cc0_transform_1 (i : grid0.Coords) : Fin 2 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8448_i32 : BitVec 32 := 8448#32
  let v17 : BitVec 32 := Scalar.muli v16 c8448_i32
  let c16_i32_4 : BitVec 32 := 16#32
  let v18 : BitVec 32 := Scalar.addi v17 c16_i32_4
  let c16_i32_5 : BitVec 32 := 16#32
  let c0_i32_6 : BitVec 32 := 0#32
  let v19 : BitVec 1 := Scalar.cmpi .eq c16_i32_5 c0_i32_6
  let c1_i32_7 : BitVec 32 := 1#32
  let v20 : BitVec 32 := Scalar.select v19 c1_i32_7 c16_i32_5
  let v21 : BitVec 32 := Scalar.remsi arg0 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c512_i32 : BitVec 32 := 512#32
  let v29 : BitVec 32 := Scalar.muli v28 c512_i32
  let v30 : BitVec 32 := Scalar.addi v18 v29
  let c32_i32 : BitVec 32 := 32#32
  let v31 : BitVec 1 := Scalar.cmpi .slt arg0 c32_i32
  let c32_i32_11 : BitVec 32 := 32#32
  let v32 : BitVec 32 := Scalar.subi arg0 c32_i32_11
  let c512_i32_12 : BitVec 32 := 512#32
  let v33 : BitVec 32 := Scalar.muli v32 c512_i32_12
  let c16896_i32 : BitVec 32 := 16896#32
  let v34 : BitVec 32 := Scalar.addi c16896_i32 v33
  let v35 : BitVec 32 := Scalar.select v31 v30 v34
  let c16384_i32 : BitVec 32 := 16384#32
  let v36 : BitVec 32 := Scalar.minsi v35 c16384_i32
  let v37 : BitVec 32 := v36
  let c0_i32_13 : BitVec 32 := 0#32
  let c0_i32_14 : BitVec 32 := 0#32
  ![v37.toNat, c0_i32_13.toNat]

def cc0_transform_2 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let c1_i32 : BitVec 32 := 1#32
  let c1_i32_0 : BitVec 32 := 1#32
  let c0_i32 : BitVec 32 := 0#32
  let c0_i32_1 : BitVec 32 := 0#32
  let c0_i32_2 : BitVec 32 := 0#32
  ![c1_i32.toNat, c1_i32_0.toNat, c0_i32.toNat, c0_i32_1.toNat]

def cc0_transform_6 (i : grid0.Coords) : Fin 4 → Nat :=
  let arg0 : BitVec 32 := BitVec.ofNat 32 (i 0).val
  let c1_i32 : BitVec 32 := 1#32
  let c1_i32_0 : BitVec 32 := 1#32
  let c0_i32 : BitVec 32 := 0#32
  let c0_i32_1 : BitVec 32 := 0#32
  let c0_i32_2 : BitVec 32 := 0#32
  ![c1_i32.toNat, c1_i32_0.toNat, c0_i32.toNat, c0_i32_1.toNat]

def cc0_transform_7 (i : grid0.Coords) : Fin 4 → Nat :=
  let arg0 : BitVec 32 := BitVec.ofNat 32 (i 0).val
  let c1_i32 : BitVec 32 := 1#32
  let c1_i32_0 : BitVec 32 := 1#32
  let c0_i32 : BitVec 32 := 0#32
  let c0_i32_1 : BitVec 32 := 0#32
  let c0_i32_2 : BitVec 32 := 0#32
  ![c1_i32.toNat, c1_i32_0.toNat, c0_i32.toNat, c0_i32_1.toNat]

def cc0_transform_8 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.minsi v16 c1_i32_4
  let c32_i32 : BitVec 32 := 32#32
  let v18 : BitVec 1 := Scalar.cmpi .slt arg0 c32_i32
  let c16_i32_5 : BitVec 32 := 16#32
  let c0_i32_6 : BitVec 32 := 0#32
  let v19 : BitVec 1 := Scalar.cmpi .eq c16_i32_5 c0_i32_6
  let c1_i32_7 : BitVec 32 := 1#32
  let v20 : BitVec 32 := Scalar.select v19 c1_i32_7 c16_i32_5
  let v21 : BitVec 32 := Scalar.remsi arg0 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c15_i32 : BitVec 32 := 15#32
  let v29 : BitVec 32 := Scalar.select v18 v28 c15_i32
  let c0_i32_11 : BitVec 32 := 0#32
  let c0_i32_12 : BitVec 32 := 0#32
  ![v17.toNat, v29.toNat, c0_i32_11.toNat]

def cc0_transform_9 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1x1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1x2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== FfnOutRefIdeal.lean ====
abbrev S17920x1024 : Shape := ⟨2, ![17920, 1024]⟩
abbrev S16896x1024 : Shape := ⟨2, ![16896, 1024]⟩
abbrev S1024x1024 : Shape := ⟨2, ![1024, 1024]⟩
abbrev S1x1024x1024 : Shape := ⟨3, ![1, 1024, 1024]⟩
abbrev S2x6x1024 : Shape := ⟨3, ![2, 6, 1024]⟩
abbrev S2x2x1024x2816 : Shape := ⟨4, ![2, 2, 1024, 2816]⟩
abbrev S2x2x2816x1024 : Shape := ⟨4, ![2, 2, 2816, 1024]⟩
abbrev S1x1x1024 : Shape := ⟨3, ![1, 1, 1024]⟩
abbrev S1024 : Shape := ⟨1, ![1024]⟩
abbrev S_ : Shape := ⟨0, ![]⟩
abbrev S17920 : Shape := ⟨1, ![17920]⟩
abbrev S17920x1 : Shape := ⟨2, ![17920, 1]⟩
abbrev S1x1024 : Shape := ⟨2, ![1, 1024]⟩
abbrev S1x1x1024x2816 : Shape := ⟨4, ![1, 1, 1024, 2816]⟩
abbrev S1024x2816 : Shape := ⟨2, ![1024, 2816]⟩
abbrev S1x1x2816x1024 : Shape := ⟨4, ![1, 1, 2816, 1024]⟩
abbrev S2816x1024 : Shape := ⟨2, ![2816, 1024]⟩
abbrev S17920x2816 : Shape := ⟨2, ![17920, 2816]⟩
abbrev S2x8448x1024 : Shape := ⟨3, ![2, 8448, 1024]⟩
abbrev S2x8192x1024 : Shape := ⟨3, ![2, 8192, 1024]⟩

abbrev nBuf : Space → Nat
  | .hbm => 93
  | .vmem => 0
  | .smem => 0
  | _ => 0

abbrev bufTy : (tb : Table) → Fin (tcTables nBuf tb) → BufTy
  | .hbm, ⟨0, _⟩ => ⟨S17920x1024, .f32⟩
  | .hbm, ⟨1, _⟩ => ⟨S16896x1024, .f32⟩
  | .hbm, ⟨2, _⟩ => ⟨S1024x1024, .f32⟩
  | .hbm, ⟨3, _⟩ => ⟨S1x1024x1024, .f32⟩
  | .hbm, ⟨4, _⟩ => ⟨S2x6x1024, .f32⟩
  | .hbm, ⟨5, _⟩ => ⟨S2x2x1024x2816, .f32⟩
  | .hbm, ⟨6, _⟩ => ⟨S2x2x1024x2816, .f32⟩
  | .hbm, ⟨7, _⟩ => ⟨S2x2x2816x1024, .f32⟩
  | .hbm, ⟨8, _⟩ => ⟨S17920x1024, .f32⟩
  | .hbm, ⟨9, _⟩ => ⟨S1024x1024, .f32⟩
  | .hbm, ⟨10, _⟩ => ⟨S17920x1024, .f32⟩
  | .hbm, ⟨11, _⟩ => ⟨S1x1x1024, .f32⟩
  | .hbm, ⟨12, _⟩ => ⟨S1024, .f32⟩
  | .hbm, ⟨13, _⟩ => ⟨S17920x1024, .f32⟩
  | .hbm, ⟨14, _⟩ => ⟨S_, .f32⟩
  | .hbm, ⟨15, _⟩ => ⟨S17920, .f32⟩
  | .hbm, ⟨16, _⟩ => ⟨S17920x1, .f32⟩
  | .hbm, ⟨17, _⟩ => ⟨S_, .f32⟩
  | .hbm, ⟨18, _⟩ => ⟨S17920x1, .f32⟩
  | .hbm, ⟨19, _⟩ => ⟨S17920x1, .f32⟩
  | .hbm, ⟨20, _⟩ => ⟨S_, .f32⟩
  | .hbm, ⟨21, _⟩ => ⟨S17920x1, .f32⟩
  | .hbm, ⟨22, _⟩ => ⟨S17920x1, .f32⟩
  | .hbm, ⟨23, _⟩ => ⟨S17920x1, .f32⟩
  | .hbm, ⟨24, _⟩ => ⟨S17920x1024, .f32⟩
  | .hbm, ⟨25, _⟩ => ⟨S17920x1024, .f32⟩
  | .hbm, ⟨26, _⟩ => ⟨S1x1024, .f32⟩
  | .hbm, ⟨27, _⟩ => ⟨S17920x1024, .f32⟩
  | .hbm, ⟨28, _⟩ => ⟨S17920x1024, .f32⟩
  | .hbm, ⟨29, _⟩ => ⟨S17920x1024, .f32⟩
  | .hbm, ⟨30, _⟩ => ⟨S1x1x1024, .f32⟩
  | .hbm, ⟨31, _⟩ => ⟨S1024, .f32⟩
  | .hbm, ⟨32, _⟩ => ⟨S17920x1024, .f32⟩
  | .hbm, ⟨33, _⟩ => ⟨S_, .f32⟩
  | .hbm, ⟨34, _⟩ => ⟨S17920, .f32⟩
  | .hbm, ⟨35, _⟩ => ⟨S17920x1, .f32⟩
  | .hbm, ⟨36, _⟩ => ⟨S_, .f32⟩
  | .hbm, ⟨37, _⟩ => ⟨S17920x1, .f32⟩
  | .hbm, ⟨38, _⟩ => ⟨S17920x1, .f32⟩
  | .hbm, ⟨39, _⟩ => ⟨S_, .f32⟩
  | .hbm, ⟨40, _⟩ => ⟨S17920x1, .f32⟩
  | .hbm, ⟨41, _⟩ => ⟨S17920x1, .f32⟩
  | .hbm, ⟨42, _⟩ => ⟨S17920x1, .f32⟩
  | .hbm, ⟨43, _⟩ => ⟨S17920x1024, .f32⟩
  | .hbm, ⟨44, _⟩ => ⟨S17920x1024, .f32⟩
  | .hbm, ⟨45, _⟩ => ⟨S1x1024, .f32⟩
  | .hbm, ⟨46, _⟩ => ⟨S17920x1024, .f32⟩
  | .hbm, ⟨47, _⟩ => ⟨S17920x1024, .f32⟩
  | .hbm, ⟨48, _⟩ => ⟨S1x1x1024x2816, .f32⟩
  | .hbm, ⟨49, _⟩ => ⟨S1024x2816, .f32⟩
  | .hbm, ⟨50, _⟩ => ⟨S1x1x1024x2816, .f32⟩
  | .hbm, ⟨51, _⟩ => ⟨S1024x2816, .f32⟩
  | .hbm, ⟨52, _⟩ => ⟨S1x1x2816x1024, .f32⟩
  | .hbm, ⟨53, _⟩ => ⟨S2816x1024, .f32⟩
  | .hbm, ⟨54, _⟩ => ⟨S17920x2816, .f32⟩
  | .hbm, ⟨55, _⟩ => ⟨S17920x2816, .f32⟩
  | .hbm, ⟨56, _⟩ => ⟨S17920x2816, .f32⟩
  | .hbm, ⟨57, _⟩ => ⟨S_, .f32⟩
  | .hbm, ⟨58, _⟩ => ⟨S17920x2816, .f32⟩
  | .hbm, ⟨59, _⟩ => ⟨S17920x2816, .f32⟩
  | .hbm, ⟨60, _⟩ => ⟨S_, .f32⟩
  | .hbm, ⟨61, _⟩ => ⟨S17920x2816, .f32⟩
  | .hbm, ⟨62, _⟩ => ⟨S17920x2816, .f32⟩
  | .hbm, ⟨63, _⟩ => ⟨S17920x2816, .f32⟩
  | .hbm, ⟨64, _⟩ => ⟨S17920x2816, .f32⟩
  | .hbm, ⟨65, _⟩ => ⟨S17920x2816, .f32⟩
  | .hbm, ⟨66, _⟩ => ⟨S17920x1024, .f32⟩
  | .hbm, ⟨67, _⟩ => ⟨S1x1x1024, .f32⟩
  | .hbm, ⟨68, _⟩ => ⟨S1024, .f32⟩
  | .hbm, ⟨69, _⟩ => ⟨S17920x1024, .f32⟩
  | .hbm, ⟨70, _⟩ => ⟨S_, .f32⟩
  | .hbm, ⟨71, _⟩ => ⟨S17920, .f32⟩
  | .hbm, ⟨72, _⟩ => ⟨S17920x1, .f32⟩
  | .hbm, ⟨73, _⟩ => ⟨S_, .f32⟩
  | .hbm, ⟨74, _⟩ => ⟨S17920x1, .f32⟩
  | .hbm, ⟨75, _⟩ => ⟨S17920x1, .f32⟩
  | .hbm, ⟨76, _⟩ => ⟨S_, .f32⟩
  | .hbm, ⟨77, _⟩ => ⟨S17920x1, .f32⟩
  | .hbm, ⟨78, _⟩ => ⟨S17920x1, .f32⟩
  | .hbm, ⟨79, _⟩ => ⟨S17920x1, .f32⟩
  | .hbm, ⟨80, _⟩ => ⟨S17920x1024, .f32⟩
  | .hbm, ⟨81, _⟩ => ⟨S17920x1024, .f32⟩
  | .hbm, ⟨82, _⟩ => ⟨S1x1024, .f32⟩
  | .hbm, ⟨83, _⟩ => ⟨S17920x1024, .f32⟩
  | .hbm, ⟨84, _⟩ => ⟨S17920x1024, .f32⟩
  | .hbm, ⟨85, _⟩ => ⟨S_, .f32⟩
  | .hbm, ⟨86, _⟩ => ⟨S17920x1024, .f32⟩
  | .hbm, ⟨87, _⟩ => ⟨S17920x1024, .f32⟩
  | .hbm, ⟨88, _⟩ => ⟨S17920x1024, .f32⟩
  | .hbm, ⟨89, _⟩ => ⟨S16896x1024, .f32⟩
  | .hbm, ⟨90, _⟩ => ⟨S2x8448x1024, .f32⟩
  | .hbm, ⟨91, _⟩ => ⟨S2x8192x1024, .f32⟩
  | .hbm, ⟨92, _⟩ => ⟨S1024x1024, .f32⟩
  | _, _ => ⟨S17920x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_2 : Ref sig .tc := ⟨.hbm, 33, rfl⟩
abbrev main_v22 : Ref sig .tc := ⟨.hbm, 34, rfl⟩
abbrev main_v23 : Ref sig .tc := ⟨.hbm, 35, rfl⟩
abbrev main_cst_3 : Ref sig .tc := ⟨.hbm, 36, rfl⟩
abbrev main_v24 : Ref sig .tc := ⟨.hbm, 37, rfl⟩
abbrev main_v25 : Ref sig .tc := ⟨.hbm, 38, rfl⟩
abbrev main_cst_4 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_call0_v0 : Ref sig .tc := ⟨.hbm, 55, rfl⟩
abbrev main_call0_v1 : Ref sig .tc := ⟨.hbm, 56, rfl⟩
abbrev main_call0_cst : Ref sig .tc := ⟨.hbm, 57, rfl⟩
abbrev main_call0_v2 : Ref sig .tc := ⟨.hbm, 58, rfl⟩
abbrev main_call0_v3 : Ref sig .tc := ⟨.hbm, 59, rfl⟩
abbrev main_call0_cst_0 : Ref sig .tc := ⟨.hbm, 60, rfl⟩
abbrev main_call0_v4 : Ref sig .tc := ⟨.hbm, 61, rfl⟩
abbrev main_call0_v5 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_5 : Ref sig .tc := ⟨.hbm, 70, rfl⟩
abbrev main_v48 : Ref sig .tc := ⟨.hbm, 71, rfl⟩
abbrev main_v49 : Ref sig .tc := ⟨.hbm, 72, rfl⟩
abbrev main_cst_6 : Ref sig .tc := ⟨.hbm, 73, rfl⟩
abbrev main_v50 : Ref sig .tc := ⟨.hbm, 74, rfl⟩
abbrev main_v51 : Ref sig .tc := ⟨.hbm, 75, rfl⟩
abbrev main_cst_7 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst_8 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩

abbrev nD : Nat := 1
abbrev τ : Topo := Topo.v7x

variable {F : FTy → Type} [FloatOps F]
-- ==== Lru.lean ====
abbrev S17920x1024 : Shape := ⟨2, ![17920, 1024]⟩
abbrev S1x128x3x1024 : Shape := ⟨4, ![1, 128, 3, 1024]⟩
abbrev S1x128x1024 : Shape := ⟨3, ![1, 128, 1024]⟩
abbrev S2x6x1024 : Shape := ⟨3, ![2, 6, 1024]⟩
abbrev S1x1024x1024 : Shape := ⟨3, ![1, 1024, 1024]⟩
abbrev S1x4x1024 : Shape := ⟨3, ![1, 4, 1024]⟩
abbrev S1x1024 : Shape := ⟨2, ![1, 1024]⟩
abbrev S1x4x256x256 : Shape := ⟨4, ![1, 4, 256, 256]⟩
abbrev S128x3x1024 : Shape := ⟨3, ![128, 3, 1024]⟩
abbrev S_ : Shape := ⟨0, ![]⟩
abbrev S128x8x1024 : Shape := ⟨3, ![128, 8, 1024]⟩
abbrev S1024x1024 : Shape := ⟨2, ![1024, 1024]⟩
abbrev S128x1024 : Shape := ⟨2, ![128, 1024]⟩
abbrev S1024 : Shape := ⟨1, ![1024]⟩
abbrev S4x1024 : Shape := ⟨2, ![4, 1024]⟩
abbrev S1x2x1024 : Shape := ⟨3, ![1, 2, 1024]⟩
abbrev S2x1024 : Shape := ⟨2, ![2, 1024]⟩
abbrev S4x256x256 : Shape := ⟨3, ![4, 256, 256]⟩
abbrev S2x1x1024 : Shape := ⟨3, ![2, 1, 1024]⟩
abbrev S2x8x1024 : Shape := ⟨3, ![2, 8, 1024]⟩
abbrev S256x1024 : Shape := ⟨2, ![256, 1024]⟩
abbrev S1x1x1024 : Shape := ⟨3, ![1, 1, 1024]⟩
abbrev S1x8x1024 : Shape := ⟨3, ![1, 8, 1024]⟩
abbrev S264x1024 : Shape := ⟨2, ![264, 1024]⟩
abbrev S8x1024 : Shape := ⟨2, ![8, 1024]⟩
abbrev S256 : Shape := ⟨1, ![256]⟩
abbrev S256x1 : Shape := ⟨2, ![256, 1]⟩
abbrev S256x256 : Shape := ⟨2, ![256, 256]⟩
abbrev S1x256x256 : Shape := ⟨3, ![1, 256, 256]⟩
abbrev S32x8x1024 : Shape := ⟨3, ![32, 8, 1024]⟩
abbrev S1x8x1 : Shape := ⟨3, ![1, 8, 1]⟩

abbrev nBuf : Space → Nat
  | .hbm => 49
  | .vmem => 26
  | .smem => 0
  | _ => 0

abbrev bufTy : (tb : Table) → Fin (tcTables nBuf tb) → BufTy
  | .hbm, ⟨0, _⟩ => ⟨S17920x1024, .f32⟩
  | .hbm, ⟨1, _⟩ => ⟨S1x128x3x1024, .f32⟩
  | .hbm, ⟨2, _⟩ => ⟨S1x128x1024, .f32⟩
  | .hbm, ⟨3, _⟩ => ⟨S2x6x1024, .f32⟩
  | .hbm, ⟨4, _⟩ => ⟨S1x1024x1024, .f32⟩
  | .hbm, ⟨5, _⟩ => ⟨S1x1024x1024, .f32⟩
  | .hbm, ⟨6, _⟩ => ⟨S1x4x1024, .f32⟩
  | .hbm, ⟨7, _⟩ => ⟨S1x1024, .f32⟩
  | .hbm, ⟨8, _⟩ => ⟨S1x4x256x256, .f32⟩
  | .hbm, ⟨9, _⟩ => ⟨S1x1024, .f32⟩
  | .hbm, ⟨10, _⟩ => ⟨S1x4x256x256, .f32⟩
  | .hbm, ⟨11, _⟩ => ⟨S1x1024, .f32⟩
  | .hbm, ⟨12, _⟩ => ⟨S1x1024, .f32⟩
  | .hbm, ⟨13, _⟩ => ⟨S1x1024x1024, .f32⟩
  | .hbm, ⟨14, _⟩ => ⟨S128x3x1024, .f32⟩
  | .hbm, ⟨15, _⟩ => ⟨S_, .i32⟩
  | .hbm, ⟨16, _⟩ => ⟨S_, .f32⟩
  | .hbm, ⟨17, _⟩ => ⟨S128x8x1024, .f32⟩
  | .hbm, ⟨18, _⟩ => ⟨S1024x1024, .f32⟩
  | .hbm, ⟨19, _⟩ => ⟨S128x1024, .f32⟩
  | .hbm, ⟨20, _⟩ => ⟨S128x8x1024, .f32⟩
  | .hbm, ⟨21, _⟩ => ⟨S1024x1024, .f32⟩
  | .hbm, ⟨22, _⟩ => ⟨S1024, .f32⟩
  | .hbm, ⟨23, _⟩ => ⟨S1024, .f32⟩
  | .hbm, ⟨24, _⟩ => ⟨S1024, .f32⟩
  | .hbm, ⟨25, _⟩ => ⟨S1024, .f32⟩
  | .hbm, ⟨26, _⟩ => ⟨S1x1024, .f32⟩
  | .hbm, ⟨27, _⟩ => ⟨S1x1024, .f32⟩
  | .hbm, ⟨28, _⟩ => ⟨S1x1024, .f32⟩
  | .hbm, ⟨29, _⟩ => ⟨S1x1024, .f32⟩
  | .hbm, ⟨30, _⟩ => ⟨S4x1024, .f32⟩
  | .hbm, ⟨31, _⟩ => ⟨S1x2x1024, .f32⟩
  | .hbm, ⟨32, _⟩ => ⟨S2x1024, .f32⟩
  | .hbm, ⟨33, _⟩ => ⟨S1024x1024, .f32⟩
  | .hbm, ⟨34, _⟩ => ⟨S1024x1024, .bf16⟩
  | .hbm, ⟨35, _⟩ => ⟨S1024x1024, .f32⟩
  | .hbm, ⟨36, _⟩ => ⟨S1024x1024, .bf16⟩
  | .hbm, ⟨37, _⟩ => ⟨S4x1024, .f32⟩
  | .hbm, ⟨38, _⟩ => ⟨S4x256x256, .f32⟩
  | .hbm, ⟨39, _⟩ => ⟨S4x256x256, .bf16⟩
  | .hbm, ⟨40, _⟩ => ⟨S4x256x256, .f32⟩
  | .hbm, ⟨41, _⟩ => ⟨S4x256x256, .bf16⟩
  | .hbm, ⟨42, _⟩ => ⟨S1024x1024, .f32⟩
  | .hbm, ⟨43, _⟩ => ⟨S1024x1024, .bf16⟩
  | .hbm, ⟨44, _⟩ => ⟨S17920x1024, .f32⟩
  | .hbm, ⟨45, _⟩ => ⟨S2x1x1024, .f32⟩
  | .hbm, ⟨46, _⟩ => ⟨S2x8x1024, .f32⟩
  | .hbm, ⟨47, _⟩ => ⟨S1024x1024, .f32⟩
  | .hbm, ⟨48, _⟩ => ⟨S1024x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S2x1024, .f32⟩
  | .local _ .vmem, ⟨7, _⟩ => ⟨S1024x1024, .bf16⟩
  | .local _ .vmem, ⟨8, _⟩ => ⟨S1024x1024, .bf16⟩
  | .local _ .vmem, ⟨9, _⟩ => ⟨S4x1024, .f32⟩
  | .local _ .vmem, ⟨10, _⟩ => ⟨S4x1024, .f32⟩
  | .local _ .vmem, ⟨11, _⟩ => ⟨S4x256x256, .bf16⟩
  | .local _ .vmem, ⟨12, _⟩ => ⟨S4x256x256, .bf16⟩
  | .local _ .vmem, ⟨13, _⟩ => ⟨S1024x1024, .bf16⟩
  | .local _ .vmem, ⟨14, _⟩ => ⟨S256x1024, .f32⟩
  | .local _ .vmem, ⟨15, _⟩ => ⟨S256x1024, .f32⟩
  | .local _ .vmem, ⟨16, _⟩ => ⟨S1x1x1024, .f32⟩
  | .local _ .vmem, ⟨17, _⟩ => ⟨S1x1x1024, .f32⟩
  | .local _ .vmem, ⟨18, _⟩ => ⟨S1x8x1024, .f32⟩
  | .local _ .vmem, ⟨19, _⟩ => ⟨S1x8x1024, .f32⟩
  | .local _ .vmem, ⟨20, _⟩ => ⟨S256x1024, .f32⟩
  | .local _ .vmem, ⟨21, _⟩ => ⟨S256x1024, .f32⟩
  | .local _ .vmem, ⟨22, _⟩ => ⟨S256x1024, .f32⟩
  | .local _ .vmem, ⟨23, _⟩ => ⟨S256x1024, .f32⟩
  | .local _ .vmem, ⟨24, _⟩ => ⟨S264x1024, .f32⟩
  | .local _ .vmem, ⟨25, _⟩ => ⟨S1x1024, .f32⟩
  | _, _ => ⟨S17920x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_c : Ref sig .tc := ⟨.hbm, 15, rfl⟩
abbrev main_call0_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28_0 : Ref sig .tc := ⟨.hbm, 44, rfl⟩
abbrev main_v28_1 : Ref sig .tc := ⟨.hbm, 45, rfl⟩
abbrev main_v28_2 : Ref sig .tc := ⟨.hbm, 46, rfl⟩
abbrev main_v28_3 : Ref sig .tc := ⟨.hbm, 47, rfl⟩
abbrev main_v28_4 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_scratch0 : Ref sig .tc := ⟨.vmem, 24, rfl⟩
abbrev cc0_scratch1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23

abbrev nD : Nat := 1
abbrev τ : Topo := Topo.v7x

variable {F : FTy → Type} [FloatOps F]

abbrev grid0 : Pipeline.Grid := ⟨1, ![70], ![false]⟩

def k0_cond1 (i : grid0.Coords) : BitVec 1 :=
  let arg0 : BitVec 32 := BitVec.ofNat 32 (i 0).val
  let c66_i32 : BitVec 32 := 66#32
  let v8 : BitVec 1 := Scalar.cmpi .slt arg0 c66_i32
  let v9 : BitVec 32 := Scalar.extui v8
  let c0_i32 : BitVec 32 := 0#32
  let v10 : BitVec 1 := Scalar.cmpi .ne v9 c0_i32
  v10

def k0_cond4 (i : grid0.Coords) : BitVec 1 :=
  let arg0 : BitVec 32 := BitVec.ofNat 32 (i 0).val
  let c66_i32_4 : BitVec 32 := 66#32
  let v11 : BitVec 1 := Scalar.cmpi .sge arg0 c66_i32_4
  let v12 : BitVec 32 := Scalar.extui v11
  let c0_i32_5 : BitVec 32 := 0#32
  let v13 : BitVec 1 := Scalar.cmpi .ne v12 c0_i32_5
  v13

def k0_cond3 (i : grid0.Coords) : BitVec 1 :=
  let arg0 : BitVec 32 := BitVec.ofNat 32 (i 0).val
  let c33_i32 : BitVec 32 := 33#32
  let v14 : BitVec 1 := Scalar.cmpi .sge arg0 c33_i32
  let c33_i32_6 : BitVec 32 := 33#32
  let v15 : BitVec 32 := Scalar.subi arg0 c33_i32_6
  let v16 : BitVec 32 := Scalar.select v14 v15 arg0
  let c32_i32 : BitVec 32 := 32#32
  let v434 : BitVec 1 := Scalar.cmpi .eq v16 c32_i32
  let v435 : BitVec 32 := Scalar.extui v434
  let c0_i32_111 : BitVec 32 := 0#32
  let v436 : BitVec 1 := Scalar.cmpi .ne v435 c0_i32_111
  v436

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c66_i32 : BitVec 32 := 66#32
  let v0 : BitVec 32 := Scalar.subi arg0 c66_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c66_i32 : BitVec 32 := 66#32
  let v0 : BitVec 32 := Scalar.subi arg0 c66_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 3 → Nat :=
  let arg0 : BitVec 32 := BitVec.ofNat 32 (i 0).val
  let c33_i32 : BitVec 32 := 33#32
  let v0 : BitVec 32 := Scalar.divsi arg0 c33_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c33_i32 c0_i32_1
  let v7 : BitVec 32 := Scalar.extui v6
  let c0_i32_2 : BitVec 32 := 0#32
  let v8 : BitVec 1 := Scalar.cmpi .slt c33_i32 c0_i32_2
  let v9 : BitVec 32 := Scalar.extui v8
  let v10 : BitVec 32 := Scalar.subi v7 v9
  let v11 : BitVec 1 := Scalar.cmpi .ne v5 v10
  let v12 : BitVec 32 := Scalar.remsi arg0 c33_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.minsi v16 c1_i32_4
  let c0_i32_5 : BitVec 32 := 0#32
  let c0_i32_6 : BitVec 32 := 0#32
  let c0_i32_7 : BitVec 32 := 0#32
  ![v17.toNat, c0_i32_5.toNat, c0_i32_6.toNat]

def cc0_transform_13 (i : grid0.Coords) : Fin 3 → Nat :=
  let arg0 : BitVec 32 := BitVec.ofNat 32 (i 0).val
  let c33_i32 : BitVec 32 := 33#32
  let v0 : BitVec 32 := Scalar.divsi arg0 c33_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c33_i32 c0_i32_1
  let v7 : BitVec 32 := Scalar.extui v6
  let c0_i32_2 : BitVec 32 := 0#32
  let v8 : BitVec 1 := Scalar.cmpi .slt c33_i32 c0_i32_2
  let v9 : BitVec 32 := Scalar.extui v8
  let v10 : BitVec 32 := Scalar.subi v7 v9
  let v11 : BitVec 1 := Scalar.cmpi .ne v5 v10
  let v12 : BitVec 32 := Scalar.remsi arg0 c33_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.minsi v16 c1_i32_4
  let c0_i32_5 : BitVec 32 := 0#32
  let c0_i32_6 : BitVec 32 := 0#32
  let c0_i32_7 : BitVec 32 := 0#32
  ![v17.toNat, c0_i32_5.toNat, c0_i32_6.toNat]

def cc0_transform_14 (i : grid0.Coords) : Fin 2 → Nat :=
  let arg0 : BitVec 32 := BitVec.ofNat 32 (i 0).val
  let c66_i32 : BitVec 32 := 66#32
  let v0 : BitVec 32 := Scalar.subi arg0 c66_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_15 (i : grid0.Coords) : Fin 2 → Nat :=
  let arg0 : BitVec 32 := BitVec.ofNat 32 (i 0).val
  let c66_i32 : BitVec 32 := 66#32
  let v0 : BitVec 32 := Scalar.subi arg0 c66_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x256x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x256x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x1x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x8x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== LruRefIdeal.lean ====
abbrev S17920x1024 : Shape := ⟨2, ![17920, 1024]⟩
abbrev S1x128x3x1024 : Shape := ⟨4, ![1, 128, 3, 1024]⟩
abbrev S1x128x1024 : Shape := ⟨3, ![1, 128, 1024]⟩
abbrev S2x6x1024 : Shape := ⟨3, ![2, 6, 1024]⟩
abbrev S1x1024x1024 : Shape := ⟨3, ![1, 1024, 1024]⟩
abbrev S1x4x1024 : Shape := ⟨3, ![1, 4, 1024]⟩
abbrev S1x1024 : Shape := ⟨2, ![1, 1024]⟩
abbrev S1x4x256x256 : Shape := ⟨4, ![1, 4, 256, 256]⟩
abbrev S1x1x1024 : Shape := ⟨3, ![1, 1, 1024]⟩
abbrev S1024 : Shape := ⟨1, ![1024]⟩
abbrev S_ : Shape := ⟨0, ![]⟩
abbrev S17920 : Shape := ⟨1, ![17920]⟩
abbrev S17920x1 : Shape := ⟨2, ![17920, 1]⟩
abbrev S1024x1024 : Shape := ⟨2, ![1024, 1024]⟩
abbrev S16896x1024 : Shape := ⟨2, ![16896, 1024]⟩
abbrev S2x8448x1024 : Shape := ⟨3, ![2, 8448, 1024]⟩
abbrev S128x8x1024 : Shape := ⟨3, ![128, 8, 1024]⟩
abbrev S128x3x1024 : Shape := ⟨3, ![128, 3, 1024]⟩
abbrev S4x1024 : Shape := ⟨2, ![4, 1024]⟩
abbrev S128x11x1024 : Shape := ⟨3, ![128, 11, 1024]⟩
abbrev S4x256x256 : Shape := ⟨3, ![4, 256, 256]⟩
abbrev S128x8x4x256 : Shape := ⟨4, ![128, 8, 4, 256]⟩
abbrev S4x256x128x8 : Shape := ⟨4, ![4, 256, 128, 8]⟩
abbrev S128x1024 : Shape := ⟨2, ![128, 1024]⟩
abbrev S128x1x1024 : Shape := ⟨3, ![128, 1, 1024]⟩
abbrev S2x8x1024 : Shape := ⟨3, ![2, 8, 1024]⟩

abbrev nBuf : Space → Nat
  | .hbm => 197
  | .vmem => 0
  | .smem => 0
  | _ => 0

abbrev hbmTy0_0 (i : Nat) : BufTy := match i % 128 with
  | 0 => ⟨S17920x1024, .f32⟩
  | 1 => ⟨S1x128x3x1024, .f32⟩
  | 2 => ⟨S1x128x1024, .f32⟩
  | 3 => ⟨S2x6x1024, .f32⟩
  | 4 => ⟨S1x1024x1024, .f32⟩
  | 5 => ⟨S1x1024x1024, .f32⟩
  | 6 => ⟨S1x4x1024, .f32⟩
  | 7 => ⟨S1x1024, .f32⟩
  | 8 => ⟨S1x4x256x256, .f32⟩
  | 9 => ⟨S1x1024, .f32⟩
  | 10 => ⟨S1x4x256x256, .f32⟩
  | 11 => ⟨S1x1024, .f32⟩
  | 12 => ⟨S1x1024, .f32⟩
  | 13 => ⟨S1x1024x1024, .f32⟩
  | 14 => ⟨S1x1x1024, .f32⟩
  | 15 => ⟨S1024, .f32⟩
  | 16 => ⟨S17920x1024, .f32⟩
  | 17 => ⟨S_, .f32⟩
  | 18 => ⟨S17920, .f32⟩
  | 19 => ⟨S17920x1, .f32⟩
  | 20 => ⟨S_, .f32⟩
  | 21 => ⟨S17920x1, .f32⟩
  | 22 => ⟨S17920x1, .f32⟩
  | 23 => ⟨S_, .f32⟩
  | 24 => ⟨S17920x1, .f32⟩
  | 25 => ⟨S17920x1, .f32⟩
  | 26 => ⟨S17920x1, .f32⟩
  | 27 => ⟨S17920x1024, .f32⟩
  | 28 => ⟨S17920x1024, .f32⟩
  | 29 => ⟨S1x1024, .f32⟩
  | 30 => ⟨S17920x1024, .f32⟩
  | 31 => ⟨S17920x1024, .f32⟩
  | 32 => ⟨S1024x1024, .f32⟩
  | 33 => ⟨S17920x1024, .f32⟩
  | 34 => ⟨S16896x1024, .f32⟩
  | 35 => ⟨S2x8448x1024, .f32⟩
  | 36 => ⟨S1024x1024, .f32⟩
  | 37 => ⟨S128x8x1024, .f32⟩
  | 38 => ⟨S128x3x1024, .f32⟩
  | 39 => ⟨S4x1024, .f32⟩
  | 40 => ⟨S1024, .f32⟩
  | 41 => ⟨S128x11x1024, .f32⟩
  | 42 => ⟨S128x8x1024, .f32⟩
  | 43 => ⟨S1x1024, .f32⟩
  | 44 => ⟨S1024, .f32⟩
  | 45 => ⟨S1x1x1024, .f32⟩
  | 46 => ⟨S128x8x1024, .f32⟩
  | 47 => ⟨S128x8x1024, .f32⟩
  | 48 => ⟨S1x1x1024, .f32⟩
  | 49 => ⟨S128x8x1024, .f32⟩
  | 50 => ⟨S128x8x1024, .f32⟩
  | 51 => ⟨S128x8x1024, .f32⟩
  | 52 => ⟨S1x1024, .f32⟩
  | 53 => ⟨S1024, .f32⟩
  | 54 => ⟨S1x1x1024, .f32⟩
  | 55 => ⟨S128x8x1024, .f32⟩
  | 56 => ⟨S128x8x1024, .f32⟩
  | 57 => ⟨S128x8x1024, .f32⟩
  | 58 => ⟨S128x8x1024, .f32⟩
  | 59 => ⟨S1x1024, .f32⟩
  | 60 => ⟨S1024, .f32⟩
  | 61 => ⟨S1x1x1024, .f32⟩
  | 62 => ⟨S128x8x1024, .f32⟩
  | 63 => ⟨S128x8x1024, .f32⟩
  | 64 => ⟨S128x8x1024, .f32⟩
  | 65 => ⟨S128x8x1024, .f32⟩
  | 66 => ⟨S1x1024, .f32⟩
  | 67 => ⟨S1024, .f32⟩
  | 68 => ⟨S1x1x1024, .f32⟩
  | 69 => ⟨S128x8x1024, .f32⟩
  | 70 => ⟨S128x8x1024, .f32⟩
  | 71 => ⟨S128x8x1024, .f32⟩
  | 72 => ⟨S4x256x256, .f32⟩
  | 73 => ⟨S1024, .f32⟩
  | 74 => ⟨S4x256x256, .f32⟩
  | 75 => ⟨S1024, .f32⟩
  | 76 => ⟨S1024, .f32⟩
  | 77 => ⟨S128x8x4x256, .f32⟩
  | 78 => ⟨S4x256x128x8, .f32⟩
  | 79 => ⟨S128x8x4x256, .f32⟩
  | 80 => ⟨S128x8x1024, .f32⟩
  | 81 => ⟨S1x1x1024, .f32⟩
  | 82 => ⟨S128x8x1024, .f32⟩
  | 83 => ⟨S128x8x1024, .f32⟩
  | 84 => ⟨S128x8x1024, .f32⟩
  | 85 => ⟨S128x8x1024, .f32⟩
  | 86 => ⟨S_, .f32⟩
  | 87 => ⟨S128x8x1024, .f32⟩
  | 88 => ⟨S128x8x1024, .f32⟩
  | 89 => ⟨S_, .f32⟩
  | 90 => ⟨S128x8x1024, .f32⟩
  | 91 => ⟨S128x8x1024, .f32⟩
  | 92 => ⟨S4x256x128x8, .f32⟩
  | 93 => ⟨S128x8x4x256, .f32⟩
  | 94 => ⟨S128x8x1024, .f32⟩
  | 95 => ⟨S1x1x1024, .f32⟩
  | 96 => ⟨S128x8x1024, .f32⟩
  | 97 => ⟨S128x8x1024, .f32⟩
  | 98 => ⟨S128x8x1024, .f32⟩
  | 99 => ⟨S128x8x1024, .f32⟩
  | 100 => ⟨S_, .f32⟩
  | 101 => ⟨S128x8x1024, .f32⟩
  | 102 => ⟨S128x8x1024, .f32⟩
  | 103 => ⟨S_, .f32⟩
  | 104 => ⟨S128x8x1024, .f32⟩
  | 105 => ⟨S128x8x1024, .f32⟩
  | 106 => ⟨S_, .f32⟩
  | 107 => ⟨S128x8x1024, .f32⟩
  | 108 => ⟨S128x8x1024, .f32⟩
  | 109 => ⟨S1024, .f32⟩
  | 110 => ⟨S_, .f32⟩
  | 111 => ⟨S1024, .f32⟩
  | 112 => ⟨S1024, .f32⟩
  | 113 => ⟨S1024, .f32⟩
  | 114 => ⟨S1024, .f32⟩
  | 115 => ⟨S1024, .i1⟩
  | 116 => ⟨S1024, .f32⟩
  | 117 => ⟨S1024, .f32⟩
  | 118 => ⟨S1024, .f32⟩
  | 119 => ⟨S1024, .f32⟩
  | 120 => ⟨S1024, .f32⟩
  | 121 => ⟨S1024, .f32⟩
  | 122 => ⟨S1024, .f32⟩
  | 123 => ⟨S1024, .f32⟩
  | 124 => ⟨S1024, .f32⟩
  | 125 => ⟨S1x1x1024, .f32⟩
  | 126 => ⟨S128x8x1024, .f32⟩
  | 127 => ⟨S128x8x1024, .f32⟩
  | _ => ⟨S17920x1024, .f32⟩

abbrev hbmTy0_1 (i : Nat) : BufTy := match i % 128 with
  | 0 => ⟨S128x8x1024, .f32⟩
  | 1 => ⟨S_, .f32⟩
  | 2 => ⟨S128x8x1024, .f32⟩
  | 3 => ⟨S128x8x1024, .f32⟩
  | 4 => ⟨S128x8x1024, .f32⟩
  | 5 => ⟨S128x8x1024, .f32⟩
  | 6 => ⟨S128x8x1024, .f32⟩
  | 7 => ⟨S128x8x1024, .f32⟩
  | 8 => ⟨S128x8x1024, .f32⟩
  | 9 => ⟨S128x1024, .f32⟩
  | 10 => ⟨S128x1x1024, .f32⟩
  | 11 => ⟨S128x1024, .f32⟩
  | 12 => ⟨S128x1024, .f32⟩
  | 13 => ⟨S128x1x1024, .f32⟩
  | 14 => ⟨S128x1024, .f32⟩
  | 15 => ⟨S128x1024, .f32⟩
  | 16 => ⟨S128x1x1024, .f32⟩
  | 17 => ⟨S128x1024, .f32⟩
  | 18 => ⟨S128x1024, .f32⟩
  | 19 => ⟨S128x1x1024, .f32⟩
  | 20 => ⟨S128x1024, .f32⟩
  | 21 => ⟨S128x1024, .f32⟩
  | 22 => ⟨S128x1x1024, .f32⟩
  | 23 => ⟨S128x1024, .f32⟩
  | 24 => ⟨S128x1024, .f32⟩
  | 25 => ⟨S128x1x1024, .f32⟩
  | 26 => ⟨S128x1024, .f32⟩
  | 27 => ⟨S128x1024, .f32⟩
  | 28 => ⟨S128x1x1024, .f32⟩
  | 29 => ⟨S128x1024, .f32⟩
  | 30 => ⟨S128x1024, .f32⟩
  | 31 => ⟨S128x1x1024, .f32⟩
  | 32 => ⟨S128x1024, .f32⟩
  | 33 => ⟨S128x1024, .f32⟩
  | 34 => ⟨S128x1x1024, .f32⟩
  | 35 => ⟨S128x1024, .f32⟩
  | 36 => ⟨S128x1024, .f32⟩
  | 37 => ⟨S128x1x1024, .f32⟩
  | 38 => ⟨S128x1024, .f32⟩
  | 39 => ⟨S128x1024, .f32⟩
  | 40 => ⟨S128x1x1024, .f32⟩
  | 41 => ⟨S128x1024, .f32⟩
  | 42 => ⟨S128x1024, .f32⟩
  | 43 => ⟨S128x1x1024, .f32⟩
  | 44 => ⟨S128x1024, .f32⟩
  | 45 => ⟨S128x1024, .f32⟩
  | 46 => ⟨S128x1x1024, .f32⟩
  | 47 => ⟨S128x1024, .f32⟩
  | 48 => ⟨S128x1024, .f32⟩
  | 49 => ⟨S128x1x1024, .f32⟩
  | 50 => ⟨S128x1024, .f32⟩
  | 51 => ⟨S128x1024, .f32⟩
  | 52 => ⟨S128x1x1024, .f32⟩
  | 53 => ⟨S128x1024, .f32⟩
  | 54 => ⟨S128x1024, .f32⟩
  | 55 => ⟨S128x1x1024, .f32⟩
  | 56 => ⟨S128x1024, .f32⟩
  | 57 => ⟨S128x1024, .f32⟩
  | 58 => ⟨S2x8x1024, .f32⟩
  | 59 => ⟨S128x1x1024, .f32⟩
  | 60 => ⟨S128x1x1024, .f32⟩
  | 61 => ⟨S128x1x1024, .f32⟩
  | 62 => ⟨S128x1x1024, .f32⟩
  | 63 => ⟨S128x1x1024, .f32⟩
  | 64 => ⟨S128x1x1024, .f32⟩
  | 65 => ⟨S128x1x1024, .f32⟩
  | 66 => ⟨S128x1x1024, .f32⟩
  | 67 => ⟨S128x8x1024, .f32⟩
  | 68 => ⟨S1024x1024, .f32⟩
  | _ => ⟨S17920x1024, .f32⟩

abbrev hbmTy (i : Nat) : BufTy := match i / 128 with
  | 0 => hbmTy0_0 i
  | 1 => hbmTy0_1 i
  | _ => ⟨S17920x1024, .f32⟩

abbrev bufTy : (tb : Table) → Fin (tcTables nBuf tb) → BufTy
  | .hbm, ⟨i, _⟩ => hbmTy i
  | _, _ => ⟨S17920x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_cst : Ref sig .tc := ⟨.hbm, 17, rfl⟩
abbrev main_v3 : Ref sig .tc := ⟨.hbm, 18, rfl⟩
abbrev main_v4 : Ref sig .tc := ⟨.hbm, 19, rfl⟩
abbrev main_cst_0 : Ref sig .tc := ⟨.hbm, 20, rfl⟩
abbrev main_v5 : Ref sig .tc := ⟨.hbm, 21, rfl⟩
abbrev main_v6 : Ref sig .tc := ⟨.hbm, 22, rfl⟩
abbrev main_cst_1 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_cst_2 : Ref sig .tc := ⟨.hbm, 86, rfl⟩
abbrev main_v69 : Ref sig .tc := ⟨.hbm, 87, rfl⟩
abbrev main_v70 : Ref sig .tc := ⟨.hbm, 88, rfl⟩
abbrev main_cst_3 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_cst_4 : Ref sig .tc := ⟨.hbm, 100, rfl⟩
abbrev main_v81 : Ref sig .tc := ⟨.hbm, 101, rfl⟩
abbrev main_v82 : Ref sig .tc := ⟨.hbm, 102, rfl⟩
abbrev main_cst_5 : Ref sig .tc := ⟨.hbm, 103, rfl⟩
abbrev main_v83 : Ref sig .tc := ⟨.hbm, 104, rfl⟩
abbrev main_v84 : Ref sig .tc := ⟨.hbm, 105, rfl⟩
abbrev main_cst_6 : Ref sig .tc := ⟨.hbm, 106, rfl⟩
abbrev main_v85 : Ref sig .tc := ⟨.hbm, 107, rfl⟩
abbrev main_v86 : Ref sig .tc := ⟨.hbm, 108, rfl⟩
abbrev main_call0_v0 : Ref sig .tc := ⟨.hbm, 109, rfl⟩
abbrev main_call0_call0_cst : Ref sig .tc := ⟨.hbm, 110, rfl⟩
abbrev main_call0_call0_v0 : Ref sig .tc := ⟨.hbm, 111, rfl⟩
abbrev main_call0_call0_v1 : Ref sig .tc := ⟨.hbm, 112, rfl⟩
abbrev main_call0_call0_v2 : Ref sig .tc := ⟨.hbm, 113, rfl⟩
abbrev main_call0_call0_v3 : Ref sig .tc := ⟨.hbm, 114, rfl⟩
abbrev main_call0_call0_v4 : Ref sig .tc := ⟨.hbm, 115, rfl⟩
abbrev main_call0_call0_v5 : Ref sig .tc := ⟨.hbm, 116, rfl⟩
abbrev main_call0_call0_v6 : Ref sig .tc := ⟨.hbm, 117, rfl⟩
abbrev main_call0_call0_v7 : Ref sig .tc := ⟨.hbm, 118, rfl⟩
abbrev main_call0_call0_v8 : Ref sig .tc := ⟨.hbm, 119, rfl⟩
abbrev main_call0_call0_v9 : Ref sig .tc := ⟨.hbm, 120, rfl⟩
abbrev main_call0_call0_v10 : Ref sig .tc := ⟨.hbm, 121, rfl⟩
abbrev main_call0_call0_v11 : Ref sig .tc := ⟨.hbm, 122, rfl⟩
abbrev main_call0_v1 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_cst_7 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_v125 : Ref sig .tc := ⟨.hbm, 163, rfl⟩
abbrev main_v126 : Ref sig .tc := ⟨.hbm, 164, rfl⟩
abbrev main_v127 : Ref sig .tc := ⟨.hbm, 165, rfl⟩
abbrev main_v128 : Ref sig .tc := ⟨.hbm, 166, rfl⟩
abbrev main_v129 : Ref sig .tc := ⟨.hbm, 167, rfl⟩
abbrev main_v130 : Ref sig .tc := ⟨.hbm, 168, rfl⟩
abbrev main_v131 : Ref sig .tc := ⟨.hbm, 169, rfl⟩
abbrev main_v132 : Ref sig .tc := ⟨.hbm, 170, rfl⟩
abbrev main_v133 : Ref sig .tc := ⟨.hbm, 171, rfl⟩
abbrev main_v134 : Ref sig .tc := ⟨.hbm, 172, rfl⟩
abbrev main_v135 : Ref sig .tc := ⟨.hbm, 173, rfl⟩
abbrev main_v136 : Ref sig .tc := ⟨.hbm, 174, rfl⟩
abbrev main_v137 : Ref sig .tc := ⟨.hbm, 175, rfl⟩
abbrev main_v138 : Ref sig .tc := ⟨.hbm, 176, rfl⟩
abbrev main_v139 : Ref sig .tc := ⟨.hbm, 177, rfl⟩
abbrev main_v140 : Ref sig .tc := ⟨.hbm, 178, rfl⟩
abbrev main_v141 : Ref sig .tc := ⟨.hbm, 179, rfl⟩
abbrev main_v142 : Ref sig .tc := ⟨.hbm, 180, rfl⟩
abbrev main_v143 : Ref sig .tc := ⟨.hbm, 181, rfl⟩
abbrev main_v144 : Ref sig .tc := ⟨.hbm, 182, rfl⟩
abbrev main_v145 : Ref sig .tc := ⟨.hbm, 183, rfl⟩
abbrev main_v146 : Ref sig .tc := ⟨.hbm, 184, rfl⟩
abbrev main_v147 : Ref sig .tc := ⟨.hbm, 185, rfl⟩
abbrev main_v148 : Ref sig .tc := ⟨.hbm, 186, rfl⟩
abbrev main_v149 : Ref sig .tc := ⟨.hbm, 187, rfl⟩
abbrev main_v150 : Ref sig .tc := ⟨.hbm, 188, rfl⟩
abbrev main_v151 : Ref sig .tc := ⟨.hbm, 189, rfl⟩
abbrev main_v152 : Ref sig .tc := ⟨.hbm, 190, rfl⟩
abbrev main_v153 : Ref sig .tc := ⟨.hbm, 191, rfl⟩
abbrev main_v154 : Ref sig .tc := ⟨.hbm, 192, rfl⟩
abbrev main_v155 : Ref sig .tc := ⟨.hbm, 193, rfl⟩
abbrev main_v156 : Ref sig .tc := ⟨.hbm, 194, rfl⟩
abbrev main_v157 : Ref sig .tc := ⟨.hbm, 195, rfl⟩
abbrev main_v158 : Ref sig .tc := ⟨.hbm, 196, rfl⟩

abbrev nD : Nat := 1
abbrev τ : Topo := Topo.v7x

variable {F : FTy → Type} [FloatOps F]
-- ==== Rec.lean ====
abbrev S17920x1024 : Shape := ⟨2, ![17920, 1024]⟩
abbrev S1x128x3x1024 : Shape := ⟨4, ![1, 128, 3, 1024]⟩
abbrev S1x128x1024 : Shape := ⟨3, ![1, 128, 1024]⟩
abbrev S2x6x1024 : Shape := ⟨3, ![2, 6, 1024]⟩
abbrev S1x1024x1024 : Shape := ⟨3, ![1, 1024, 1024]⟩
abbrev S1x4x1024 : Shape := ⟨3, ![1, 4, 1024]⟩
abbrev S1x1024 : Shape := ⟨2, ![1, 1024]⟩
abbrev S1x4x256x256 : Shape := ⟨4, ![1, 4, 256, 256]⟩
abbrev S128x3x1024 : Shape := ⟨3, ![128, 3, 1024]⟩
abbrev S_ : Shape := ⟨0, ![]⟩
abbrev S128x8x1024 : Shape := ⟨3, ![128, 8, 1024]⟩
abbrev S1024x1024 : Shape := ⟨2, ![1024, 1024]⟩
abbrev S128x1024 : Shape := ⟨2, ![128, 1024]⟩
abbrev S1024 : Shape := ⟨1, ![1024]⟩
abbrev S4x1024 : Shape := ⟨2, ![4, 1024]⟩
abbrev S1x2x1024 : Shape := ⟨3, ![1, 2, 1024]⟩
abbrev S2x1024 : Shape := ⟨2, ![2, 1024]⟩
abbrev S4x256x256 : Shape := ⟨3, ![4, 256, 256]⟩
abbrev S2x1x1024 : Shape := ⟨3, ![2, 1, 1024]⟩
abbrev S2x8x1024 : Shape := ⟨3, ![2, 8, 1024]⟩
abbrev S256x1024 : Shape := ⟨2, ![256, 1024]⟩
abbrev S1x1x1024 : Shape := ⟨3, ![1, 1, 1024]⟩
abbrev S1x8x1024 : Shape := ⟨3, ![1, 8, 1024]⟩
abbrev S264x1024 : Shape := ⟨2, ![264, 1024]⟩
abbrev S8x1024 : Shape := ⟨2, ![8, 1024]⟩
abbrev S256 : Shape := ⟨1, ![256]⟩
abbrev S256x1 : Shape := ⟨2, ![256, 1]⟩
abbrev S256x256 : Shape := ⟨2, ![256, 256]⟩
abbrev S1x256x256 : Shape := ⟨3, ![1, 256, 256]⟩
abbrev S32x8x1024 : Shape := ⟨3, ![32, 8, 1024]⟩
abbrev S1x8x1 : Shape := ⟨3, ![1, 8, 1]⟩

abbrev nBuf : Space → Nat
  | .hbm => 49
  | .vmem => 26
  | .smem => 0
  | _ => 0

abbrev bufTy : (tb : Table) → Fin (tcTables nBuf tb) → BufTy
  | .hbm, ⟨0, _⟩ => ⟨S17920x1024, .f32⟩
  | .hbm, ⟨1, _⟩ => ⟨S1x128x3x1024, .f32⟩
  | .hbm, ⟨2, _⟩ => ⟨S1x128x1024, .f32⟩
  | .hbm, ⟨3, _⟩ => ⟨S2x6x1024, .f32⟩
  | .hbm, ⟨4, _⟩ => ⟨S1x1024x1024, .f32⟩
  | .hbm, ⟨5, _⟩ => ⟨S1x1024x1024, .f32⟩
  | .hbm, ⟨6, _⟩ => ⟨S1x4x1024, .f32⟩
  | .hbm, ⟨7, _⟩ => ⟨S1x1024, .f32⟩
  | .hbm, ⟨8, _⟩ => ⟨S1x4x256x256, .f32⟩
  | .hbm, ⟨9, _⟩ => ⟨S1x1024, .f32⟩
  | .hbm, ⟨10, _⟩ => ⟨S1x4x256x256, .f32⟩
  | .hbm, ⟨11, _⟩ => ⟨S1x1024, .f32⟩
  | .hbm, ⟨12, _⟩ => ⟨S1x1024, .f32⟩
  | .hbm, ⟨13, _⟩ => ⟨S1x1024x1024, .f32⟩
  | .hbm, ⟨14, _⟩ => ⟨S128x3x1024, .f32⟩
  | .hbm, ⟨15, _⟩ => ⟨S_, .i32⟩
  | .hbm, ⟨16, _⟩ => ⟨S_, .f32⟩
  | .hbm, ⟨17, _⟩ => ⟨S128x8x1024, .f32⟩
  | .hbm, ⟨18, _⟩ => ⟨S1024x1024, .f32⟩
  | .hbm, ⟨19, _⟩ => ⟨S128x1024, .f32⟩
  | .hbm, ⟨20, _⟩ => ⟨S128x8x1024, .f32⟩
  | .hbm, ⟨21, _⟩ => ⟨S1024x1024, .f32⟩
  | .hbm, ⟨22, _⟩ => ⟨S1024, .f32⟩
  | .hbm, ⟨23, _⟩ => ⟨S1024, .f32⟩
  | .hbm, ⟨24, _⟩ => ⟨S1024, .f32⟩
  | .hbm, ⟨25, _⟩ => ⟨S1024, .f32⟩
  | .hbm, ⟨26, _⟩ => ⟨S1x1024, .f32⟩
  | .hbm, ⟨27, _⟩ => ⟨S1x1024, .f32⟩
  | .hbm, ⟨28, _⟩ => ⟨S1x1024, .f32⟩
  | .hbm, ⟨29, _⟩ => ⟨S1x1024, .f32⟩
  | .hbm, ⟨30, _⟩ => ⟨S4x1024, .f32⟩
  | .hbm, ⟨31, _⟩ => ⟨S1x2x1024, .f32⟩
  | .hbm, ⟨32, _⟩ => ⟨S2x1024, .f32⟩
  | .hbm, ⟨33, _⟩ => ⟨S1024x1024, .f32⟩
  | .hbm, ⟨34, _⟩ => ⟨S1024x1024, .bf16⟩
  | .hbm, ⟨35, _⟩ => ⟨S1024x1024, .f32⟩
  | .hbm, ⟨36, _⟩ => ⟨S1024x1024, .bf16⟩
  | .hbm, ⟨37, _⟩ => ⟨S4x1024, .f32⟩
  | .hbm, ⟨38, _⟩ => ⟨S4x256x256, .f32⟩
  | .hbm, ⟨39, _⟩ => ⟨S4x256x256, .bf16⟩
  | .hbm, ⟨40, _⟩ => ⟨S4x256x256, .f32⟩
  | .hbm, ⟨41, _⟩ => ⟨S4x256x256, .bf16⟩
  | .hbm, ⟨42, _⟩ => ⟨S1024x1024, .f32⟩
  | .hbm, ⟨43, _⟩ => ⟨S1024x1024, .bf16⟩
  | .hbm, ⟨44, _⟩ => ⟨S17920x1024, .f32⟩
  | .hbm, ⟨45, _⟩ => ⟨S2x1x1024, .f32⟩
  | .hbm, ⟨46, _⟩ => ⟨S2x8x1024, .f32⟩
  | .hbm, ⟨47, _⟩ => ⟨S1024x1024, .f32⟩
  | .hbm, ⟨48, _⟩ => ⟨S1024x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S2x1024, .f32⟩
  | .local _ .vmem, ⟨7, _⟩ => ⟨S1024x1024, .bf16⟩
  | .local _ .vmem, ⟨8, _⟩ => ⟨S1024x1024, .bf16⟩
  | .local _ .vmem, ⟨9, _⟩ => ⟨S4x1024, .f32⟩
  | .local _ .vmem, ⟨10, _⟩ => ⟨S4x1024, .f32⟩
  | .local _ .vmem, ⟨11, _⟩ => ⟨S4x256x256, .bf16⟩
  | .local _ .vmem, ⟨12, _⟩ => ⟨S4x256x256, .bf16⟩
  | .local _ .vmem, ⟨13, _⟩ => ⟨S1024x1024, .bf16⟩
  | .local _ .vmem, ⟨14, _⟩ => ⟨S256x1024, .f32⟩
  | .local _ .vmem, ⟨15, _⟩ => ⟨S256x1024, .f32⟩
  | .local _ .vmem, ⟨16, _⟩ => ⟨S1x1x1024, .f32⟩
  | .local _ .vmem, ⟨17, _⟩ => ⟨S1x1x1024, .f32⟩
  | .local _ .vmem, ⟨18, _⟩ => ⟨S1x8x1024, .f32⟩
  | .local _ .vmem, ⟨19, _⟩ => ⟨S1x8x1024, .f32⟩
  | .local _ .vmem, ⟨20, _⟩ => ⟨S256x1024, .f32⟩
  | .local _ .vmem, ⟨21, _⟩ => ⟨S256x1024, .f32⟩
  | .local _ .vmem, ⟨22, _⟩ => ⟨S256x1024, .f32⟩
  | .local _ .vmem, ⟨23, _⟩ => ⟨S256x1024, .f32⟩
  | .local _ .vmem, ⟨24, _⟩ => ⟨S264x1024, .f32⟩
  | .local _ .vmem, ⟨25, _⟩ => ⟨S1x1024, .f32⟩
  | _, _ => ⟨S17920x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_c : Ref sig .tc := ⟨.hbm, 15, rfl⟩
abbrev main_call0_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28_0 : Ref sig .tc := ⟨.hbm, 44, rfl⟩
abbrev main_v28_1 : Ref sig .tc := ⟨.hbm, 45, rfl⟩
abbrev main_v28_2 : Ref sig .tc := ⟨.hbm, 46, rfl⟩
abbrev main_v28_3 : Ref sig .tc := ⟨.hbm, 47, rfl⟩
abbrev main_v28_4 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_scratch0 : Ref sig .tc := ⟨.vmem, 24, rfl⟩
abbrev cc0_scratch1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23

abbrev nD : Nat := 1
abbrev τ : Topo := Topo.v7x

variable {F : FTy → Type} [FloatOps F]

abbrev grid0 : Pipeline.Grid := ⟨1, ![70], ![false]⟩

def k0_cond1 (i : grid0.Coords) : BitVec 1 :=
  let arg0 : BitVec 32 := BitVec.ofNat 32 (i 0).val
  let c66_i32 : BitVec 32 := 66#32
  let v8 : BitVec 1 := Scalar.cmpi .slt arg0 c66_i32
  let v9 : BitVec 32 := Scalar.extui v8
  let c0_i32 : BitVec 32 := 0#32
  let v10 : BitVec 1 := Scalar.cmpi .ne v9 c0_i32
  v10

def k0_cond4 (i : grid0.Coords) : BitVec 1 :=
  let arg0 : BitVec 32 := BitVec.ofNat 32 (i 0).val
  let c66_i32_4 : BitVec 32 := 66#32
  let v11 : BitVec 1 := Scalar.cmpi .sge arg0 c66_i32_4
  let v12 : BitVec 32 := Scalar.extui v11
  let c0_i32_5 : BitVec 32 := 0#32
  let v13 : BitVec 1 := Scalar.cmpi .ne v12 c0_i32_5
  v13

def k0_cond3 (i : grid0.Coords) : BitVec 1 :=
  let arg0 : BitVec 32 := BitVec.ofNat 32 (i 0).val
  let c33_i32 : BitVec 32 := 33#32
  let v14 : BitVec 1 := Scalar.cmpi .sge arg0 c33_i32
  let c33_i32_6 : BitVec 32 := 33#32
  let v15 : BitVec 32 := Scalar.subi arg0 c33_i32_6
  let v16 : BitVec 32 := Scalar.select v14 v15 arg0
  let c32_i32 : BitVec 32 := 32#32
  let v434 : BitVec 1 := Scalar.cmpi .eq v16 c32_i32
  let v435 : BitVec 32 := Scalar.extui v434
  let c0_i32_111 : BitVec 32 := 0#32
  let v436 : BitVec 1 := Scalar.cmpi .ne v435 c0_i32_111
  v436

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c66_i32 : BitVec 32 := 66#32
  let v0 : BitVec 32 := Scalar.subi arg0 c66_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c66_i32 : BitVec 32 := 66#32
  let v0 : BitVec 32 := Scalar.subi arg0 c66_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 3 → Nat :=
  let arg0 : BitVec 32 := BitVec.ofNat 32 (i 0).val
  let c33_i32 : BitVec 32 := 33#32
  let v0 : BitVec 32 := Scalar.divsi arg0 c33_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c33_i32 c0_i32_1
  let v7 : BitVec 32 := Scalar.extui v6
  let c0_i32_2 : BitVec 32 := 0#32
  let v8 : BitVec 1 := Scalar.cmpi .slt c33_i32 c0_i32_2
  let v9 : BitVec 32 := Scalar.extui v8
  let v10 : BitVec 32 := Scalar.subi v7 v9
  let v11 : BitVec 1 := Scalar.cmpi .ne v5 v10
  let v12 : BitVec 32 := Scalar.remsi arg0 c33_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.minsi v16 c1_i32_4
  let c0_i32_5 : BitVec 32 := 0#32
  let c0_i32_6 : BitVec 32 := 0#32
  let c0_i32_7 : BitVec 32 := 0#32
  ![v17.toNat, c0_i32_5.toNat, c0_i32_6.toNat]

def cc0_transform_13 (i : grid0.Coords) : Fin 3 → Nat :=
  let arg0 : BitVec 32 := BitVec.ofNat 32 (i 0).val
  let c33_i32 : BitVec 32 := 33#32
  let v0 : BitVec 32 := Scalar.divsi arg0 c33_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c33_i32 c0_i32_1
  let v7 : BitVec 32 := Scalar.extui v6
  let c0_i32_2 : BitVec 32 := 0#32
  let v8 : BitVec 1 := Scalar.cmpi .slt c33_i32 c0_i32_2
  let v9 : BitVec 32 := Scalar.extui v8
  let v10 : BitVec 32 := Scalar.subi v7 v9
  let v11 : BitVec 1 := Scalar.cmpi .ne v5 v10
  let v12 : BitVec 32 := Scalar.remsi arg0 c33_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.minsi v16 c1_i32_4
  let c0_i32_5 : BitVec 32 := 0#32
  let c0_i32_6 : BitVec 32 := 0#32
  let c0_i32_7 : BitVec 32 := 0#32
  ![v17.toNat, c0_i32_5.toNat, c0_i32_6.toNat]

def cc0_transform_14 (i : grid0.Coords) : Fin 2 → Nat :=
  let arg0 : BitVec 32 := BitVec.ofNat 32 (i 0).val
  let c66_i32 : BitVec 32 := 66#32
  let v0 : BitVec 32 := Scalar.subi arg0 c66_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_15 (i : grid0.Coords) : Fin 2 → Nat :=
  let arg0 : BitVec 32 := BitVec.ofNat 32 (i 0).val
  let c66_i32 : BitVec 32 := 66#32
  let v0 : BitVec 32 := Scalar.subi arg0 c66_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x256x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x256x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x1x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x8x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== RecRefIdeal.lean ====
abbrev S17920x1024 : Shape := ⟨2, ![17920, 1024]⟩
abbrev S1x128x3x1024 : Shape := ⟨4, ![1, 128, 3, 1024]⟩
abbrev S1x128x1024 : Shape := ⟨3, ![1, 128, 1024]⟩
abbrev S2x6x1024 : Shape := ⟨3, ![2, 6, 1024]⟩
abbrev S1x1024x1024 : Shape := ⟨3, ![1, 1024, 1024]⟩
abbrev S1x4x1024 : Shape := ⟨3, ![1, 4, 1024]⟩
abbrev S1x1024 : Shape := ⟨2, ![1, 1024]⟩
abbrev S1x4x256x256 : Shape := ⟨4, ![1, 4, 256, 256]⟩
abbrev S1x1x1024 : Shape := ⟨3, ![1, 1, 1024]⟩
abbrev S1024 : Shape := ⟨1, ![1024]⟩
abbrev S_ : Shape := ⟨0, ![]⟩
abbrev S17920 : Shape := ⟨1, ![17920]⟩
abbrev S17920x1 : Shape := ⟨2, ![17920, 1]⟩
abbrev S1024x1024 : Shape := ⟨2, ![1024, 1024]⟩
abbrev S16896x1024 : Shape := ⟨2, ![16896, 1024]⟩
abbrev S2x8448x1024 : Shape := ⟨3, ![2, 8448, 1024]⟩
abbrev S2x8208x1024 : Shape := ⟨3, ![2, 8208, 1024]⟩
abbrev S2x3x1024 : Shape := ⟨3, ![2, 3, 1024]⟩
abbrev S4x1024 : Shape := ⟨2, ![4, 1024]⟩
abbrev S2x8211x1024 : Shape := ⟨3, ![2, 8211, 1024]⟩
abbrev S4x256x256 : Shape := ⟨3, ![4, 256, 256]⟩
abbrev S2x8208x4x256 : Shape := ⟨4, ![2, 8208, 4, 256]⟩
abbrev S4x256x2x8208 : Shape := ⟨4, ![4, 256, 2, 8208]⟩
abbrev S2x1024 : Shape := ⟨2, ![2, 1024]⟩
abbrev S8208x2x1024 : Shape := ⟨3, ![8208, 2, 1024]⟩
abbrev S1x2x1024 : Shape := ⟨3, ![1, 2, 1024]⟩
abbrev S2x1x1024 : Shape := ⟨3, ![2, 1, 1024]⟩

abbrev nBuf : Space → Nat
  | .hbm => 155
  | .vmem => 0
  | .smem => 0
  | _ => 0

abbrev hbmTy0_0 (i : Nat) : BufTy := match i % 128 with
  | 0 => ⟨S17920x1024, .f32⟩
  | 1 => ⟨S1x128x3x1024, .f32⟩
  | 2 => ⟨S1x128x1024, .f32⟩
  | 3 => ⟨S2x6x1024, .f32⟩
  | 4 => ⟨S1x1024x1024, .f32⟩
  | 5 => ⟨S1x1024x1024, .f32⟩
  | 6 => ⟨S1x4x1024, .f32⟩
  | 7 => ⟨S1x1024, .f32⟩
  | 8 => ⟨S1x4x256x256, .f32⟩
  | 9 => ⟨S1x1024, .f32⟩
  | 10 => ⟨S1x4x256x256, .f32⟩
  | 11 => ⟨S1x1024, .f32⟩
  | 12 => ⟨S1x1024, .f32⟩
  | 13 => ⟨S1x1024x1024, .f32⟩
  | 14 => ⟨S1x1x1024, .f32⟩
  | 15 => ⟨S1024, .f32⟩
  | 16 => ⟨S17920x1024, .f32⟩
  | 17 => ⟨S_, .f32⟩
  | 18 => ⟨S17920, .f32⟩
  | 19 => ⟨S17920x1, .f32⟩
  | 20 => ⟨S_, .f32⟩
  | 21 => ⟨S17920x1, .f32⟩
  | 22 => ⟨S17920x1, .f32⟩
  | 23 => ⟨S_, .f32⟩
  | 24 => ⟨S17920x1, .f32⟩
  | 25 => ⟨S17920x1, .f32⟩
  | 26 => ⟨S17920x1, .f32⟩
  | 27 => ⟨S17920x1024, .f32⟩
  | 28 => ⟨S17920x1024, .f32⟩
  | 29 => ⟨S1x1024, .f32⟩
  | 30 => ⟨S17920x1024, .f32⟩
  | 31 => ⟨S17920x1024, .f32⟩
  | 32 => ⟨S1024x1024, .f32⟩
  | 33 => ⟨S17920x1024, .f32⟩
  | 34 => ⟨S16896x1024, .f32⟩
  | 35 => ⟨S2x8448x1024, .f32⟩
  | 36 => ⟨S2x8208x1024, .f32⟩
  | 37 => ⟨S_, .f32⟩
  | 38 => ⟨S2x3x1024, .f32⟩
  | 39 => ⟨S4x1024, .f32⟩
  | 40 => ⟨S1024, .f32⟩
  | 41 => ⟨S2x8211x1024, .f32⟩
  | 42 => ⟨S2x8208x1024, .f32⟩
  | 43 => ⟨S1x1024, .f32⟩
  | 44 => ⟨S1024, .f32⟩
  | 45 => ⟨S1x1x1024, .f32⟩
  | 46 => ⟨S2x8208x1024, .f32⟩
  | 47 => ⟨S2x8208x1024, .f32⟩
  | 48 => ⟨S1x1x1024, .f32⟩
  | 49 => ⟨S2x8208x1024, .f32⟩
  | 50 => ⟨S2x8208x1024, .f32⟩
  | 51 => ⟨S2x8208x1024, .f32⟩
  | 52 => ⟨S1x1024, .f32⟩
  | 53 => ⟨S1024, .f32⟩
  | 54 => ⟨S1x1x1024, .f32⟩
  | 55 => ⟨S2x8208x1024, .f32⟩
  | 56 => ⟨S2x8208x1024, .f32⟩
  | 57 => ⟨S2x8208x1024, .f32⟩
  | 58 => ⟨S2x8208x1024, .f32⟩
  | 59 => ⟨S1x1024, .f32⟩
  | 60 => ⟨S1024, .f32⟩
  | 61 => ⟨S1x1x1024, .f32⟩
  | 62 => ⟨S2x8208x1024, .f32⟩
  | 63 => ⟨S2x8208x1024, .f32⟩
  | 64 => ⟨S2x8208x1024, .f32⟩
  | 65 => ⟨S2x8208x1024, .f32⟩
  | 66 => ⟨S1x1024, .f32⟩
  | 67 => ⟨S1024, .f32⟩
  | 68 => ⟨S1x1x1024, .f32⟩
  | 69 => ⟨S2x8208x1024, .f32⟩
  | 70 => ⟨S2x8208x1024, .f32⟩
  | 71 => ⟨S2x8208x1024, .f32⟩
  | 72 => ⟨S4x256x256, .f32⟩
  | 73 => ⟨S1024, .f32⟩
  | 74 => ⟨S4x256x256, .f32⟩
  | 75 => ⟨S1024, .f32⟩
  | 76 => ⟨S1024, .f32⟩
  | 77 => ⟨S2x8208x4x256, .f32⟩
  | 78 => ⟨S4x256x2x8208, .f32⟩
  | 79 => ⟨S2x8208x4x256, .f32⟩
  | 80 => ⟨S2x8208x1024, .f32⟩
  | 81 => ⟨S1x1x1024, .f32⟩
  | 82 => ⟨S2x8208x1024, .f32⟩
  | 83 => ⟨S2x8208x1024, .f32⟩
  | 84 => ⟨S2x8208x1024, .f32⟩
  | 85 => ⟨S2x8208x1024, .f32⟩
  | 86 => ⟨S_, .f32⟩
  | 87 => ⟨S2x8208x1024, .f32⟩
  | 88 => ⟨S2x8208x1024, .f32⟩
  | 89 => ⟨S_, .f32⟩
  | 90 => ⟨S2x8208x1024, .f32⟩
  | 91 => ⟨S2x8208x1024, .f32⟩
  | 92 => ⟨S4x256x2x8208, .f32⟩
  | 93 => ⟨S2x8208x4x256, .f32⟩
  | 94 => ⟨S2x8208x1024, .f32⟩
  | 95 => ⟨S1x1x1024, .f32⟩
  | 96 => ⟨S2x8208x1024, .f32⟩
  | 97 => ⟨S2x8208x1024, .f32⟩
  | 98 => ⟨S2x8208x1024, .f32⟩
  | 99 => ⟨S2x8208x1024, .f32⟩
  | 100 => ⟨S_, .f32⟩
  | 101 => ⟨S2x8208x1024, .f32⟩
  | 102 => ⟨S2x8208x1024, .f32⟩
  | 103 => ⟨S_, .f32⟩
  | 104 => ⟨S2x8208x1024, .f32⟩
  | 105 => ⟨S2x8208x1024, .f32⟩
  | 106 => ⟨S_, .f32⟩
  | 107 => ⟨S2x8208x1024, .f32⟩
  | 108 => ⟨S2x8208x1024, .f32⟩
  | 109 => ⟨S1024, .f32⟩
  | 110 => ⟨S_, .f32⟩
  | 111 => ⟨S1024, .f32⟩
  | 112 => ⟨S1024, .f32⟩
  | 113 => ⟨S1024, .f32⟩
  | 114 => ⟨S1024, .f32⟩
  | 115 => ⟨S1024, .f32⟩
  | 116 => ⟨S1024, .f32⟩
  | 117 => ⟨S1024, .f32⟩
  | 118 => ⟨S1024, .f32⟩
  | 119 => ⟨S1x1x1024, .f32⟩
  | 120 => ⟨S2x8208x1024, .f32⟩
  | 121 => ⟨S2x8208x1024, .f32⟩
  | 122 => ⟨S2x8208x1024, .f32⟩
  | 123 => ⟨S_, .f32⟩
  | 124 => ⟨S2x8208x1024, .f32⟩
  | 125 => ⟨S2x8208x1024, .f32⟩
  | 126 => ⟨S2x8208x1024, .f32⟩
  | 127 => ⟨S2x8208x1024, .f32⟩
  | _ => ⟨S17920x1024, .f32⟩

abbrev hbmTy0_1 (i : Nat) : BufTy := match i % 128 with
  | 0 => ⟨S2x8208x1024, .f32⟩
  | 1 => ⟨S2x8208x1024, .f32⟩
  | 2 => ⟨S2x8208x1024, .f32⟩
  | 3 => ⟨S_, .f32⟩
  | 4 => ⟨S2x1024, .f32⟩
  | 5 => ⟨S8208x2x1024, .f32⟩
  | 6 => ⟨S8208x2x1024, .f32⟩
  | 7 => ⟨S_, .i32⟩
  | 8 => ⟨S8208x2x1024, .f32⟩
  | 9 => ⟨S8208x2x1024, .f32⟩
  | 10 => ⟨S_, .i32⟩
  | 11 => ⟨S2x1024, .f32⟩
  | 12 => ⟨S_, .i32⟩
  | 13 => ⟨S_, .i1⟩
  | 14 => ⟨S_, .i32⟩
  | 15 => ⟨S_, .i32⟩
  | 16 => ⟨S1x2x1024, .f32⟩
  | 17 => ⟨S2x1024, .f32⟩
  | 18 => ⟨S_, .i32⟩
  | 19 => ⟨S_, .i32⟩
  | 20 => ⟨S1x2x1024, .f32⟩
  | 21 => ⟨S2x1024, .f32⟩
  | 22 => ⟨S2x1024, .f32⟩
  | 23 => ⟨S2x1024, .f32⟩
  | 24 => ⟨S_, .i32⟩
  | 25 => ⟨S_, .i32⟩
  | 26 => ⟨S2x1x1024, .f32⟩
  | _ => ⟨S17920x1024, .f32⟩

abbrev hbmTy (i : Nat) : BufTy := match i / 128 with
  | 0 => hbmTy0_0 i
  | 1 => hbmTy0_1 i
  | _ => ⟨S17920x1024, .f32⟩

abbrev bufTy : (tb : Table) → Fin (tcTables nBuf tb) → BufTy
  | .hbm, ⟨i, _⟩ => hbmTy i
  | _, _ => ⟨S17920x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_cst : Ref sig .tc := ⟨.hbm, 17, rfl⟩
abbrev main_v3 : Ref sig .tc := ⟨.hbm, 18, rfl⟩
abbrev main_v4 : Ref sig .tc := ⟨.hbm, 19, rfl⟩
abbrev main_cst_0 : Ref sig .tc := ⟨.hbm, 20, rfl⟩
abbrev main_v5 : Ref sig .tc := ⟨.hbm, 21, rfl⟩
abbrev main_v6 : Ref sig .tc := ⟨.hbm, 22, rfl⟩
abbrev main_cst_1 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_2 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_cst_3 : Ref sig .tc := ⟨.hbm, 86, rfl⟩
abbrev main_v68 : Ref sig .tc := ⟨.hbm, 87, rfl⟩
abbrev main_v69 : Ref sig .tc := ⟨.hbm, 88, rfl⟩
abbrev main_cst_4 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_cst_5 : Ref sig .tc := ⟨.hbm, 100, rfl⟩
abbrev main_v80 : Ref sig .tc := ⟨.hbm, 101, rfl⟩
abbrev main_v81 : Ref sig .tc := ⟨.hbm, 102, rfl⟩
abbrev main_cst_6 : Ref sig .tc := ⟨.hbm, 103, rfl⟩
abbrev main_v82 : Ref sig .tc := ⟨.hbm, 104, rfl⟩
abbrev main_v83 : Ref sig .tc := ⟨.hbm, 105, rfl⟩
abbrev main_cst_7 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_cst_8 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_cst_9 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_cst_10 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_c : Ref sig .tc := ⟨.hbm, 135, rfl⟩
abbrev main_v109_0 : Ref sig .tc := ⟨.hbm, 136, rfl⟩
abbrev main_v109_1 : Ref sig .tc := ⟨.hbm, 137, rfl⟩
abbrev main_v109_2 : Ref sig .tc := ⟨.hbm, 138, rfl⟩
abbrev main_v109_3 : Ref sig .tc := ⟨.hbm, 139, rfl⟩
abbrev main_while0c_c_14 : Ref sig .tc := ⟨.hbm, 140, rfl⟩
abbrev main_while0c_v111 : Ref sig .tc := ⟨.hbm, 141, rfl⟩
abbrev main_while0b_call0_c : Ref sig .tc := ⟨.hbm, 142, rfl⟩
abbrev main_while0b_call0_c_0 : Ref sig .tc := ⟨.hbm, 143, rfl⟩
abbrev main_while0b_call0_v0 : Ref sig .tc := ⟨.hbm, 144, rfl⟩
abbrev main_while0b_v111 : Ref sig .tc := ⟨.hbm, 145, rfl⟩
abbrev main_while0b_call1_c : Ref sig .tc := ⟨.hbm, 146, rfl⟩
abbrev main_while0b_call1_c_0 : Ref sig .tc := ⟨.hbm, 147, rfl⟩
abbrev main_while0b_call1_v0 : Ref sig .tc := ⟨.hbm, 148, rfl⟩
abbrev main_while0b_v112 : Ref sig .tc := ⟨.hbm, 149, rfl⟩
abbrev main_while0b_v113 : Ref sig .tc := ⟨.hbm, 150, rfl⟩
abbrev main_while0b_v114 : Ref sig .tc := ⟨.hbm, 151, rfl⟩
abbrev main_while0b_c_14 : Ref sig .tc := ⟨.hbm, 152, rfl⟩
abbrev main_while0b_v115 : Ref sig .tc := ⟨.hbm, 153, rfl⟩
abbrev main_v110 : Ref sig .tc := ⟨.hbm, 154, rfl⟩

abbrev nD : Nat := 1
abbrev τ : Topo := Topo.v7x

variable {F : FTy → Type} [FloatOps F]

abbrev main_while0_count : Scf.Loop 32 := ⟨0#32, 8208#32, 1#32⟩
-- ==== Proof.Rows.lean ====
/-
  The layer's row functions on the extended reals: a row's root-mean-square normalisation, its product with a matrix, the
  gated feed-forward map and the half-step residual around it. Each program's value module reads its kernel's array and its
  reference's array as these functions of the same rows.
-/
module

public import Idealize.ShloMosaic.Lib.Pointwise

@[expose] public section

noncomputable section

namespace Cert.Rows

open Idealize.ShloMosaic

/-- A row times the inverse root of its mean square (plus the layer's epsilon), times the gains. -/
def rms (x g : Fin 1024 → EReal) (j : Fin 1024) : EReal :=
  x j * Ideal.rsqrt (Ideal.div (∑ k, x k * x k) (Ideal.ofBits .f32 1149239296#32) + Ideal.ofBits .f32 897988541#32) * g j

/-- A row times a matrix. -/
def lin {K N : Nat} (x : Fin K → EReal) (w : Fin K → Fin N → EReal) (j : Fin N) : EReal := ∑ k, x k * w k j

/-- The gated feed-forward map: `(silu (x w1) * (x w3)) w2`. -/
def swiglu (x : Fin 1024 → EReal) (w1 w3 : Fin 1024 → Fin 2816 → EReal) (w2 : Fin 2816 → Fin 1024 → EReal) : Fin 1024 → EReal :=
  lin (fun k => lin x w1 k * Ideal.logistic (lin x w1 k) * lin x w3 k) w2

/-- The half-step residual: `x + 1/2 * rms (swiglu (rms x))`. -/
def half (x g0 g1 : Fin 1024 → EReal) (w1 w3 : Fin 1024 → Fin 2816 → EReal) (w2 : Fin 2816 → Fin 1024 → EReal)
    (j : Fin 1024) : EReal :=
  x j + Ideal.ofBits .f32 1056964608#32 * rms (swiglu (rms x g0) w1 w3 w2) g1 j

end Cert.Rows

end
-- ==== Proof.FfnValue.lean ====
/-
  The feed-forward call computes the half-step residual of every row: the kernel's result array and the reference's are
  both `Rows.half` of the argument rows.
-/
module

public import proofs.«01_k».proof.Proof.Rows
public import proofs.«01_k».proof.Proof.Gen.FfnIdeal.Value
public import proofs.«01_k».proof.Proof.Gen.FfnRefIdeal.Run
public import proofs.«01_k».proof.Proof.Gen.FfnRefIdeal.Read
public import Idealize.ShloMosaic.Lib.Pipeline.ValueKit

@[expose] public section

set_option maxRecDepth 16384

noncomputable section

namespace Cert.FfnRows

open Idealize.ShloMosaic Idealize.ShloMosaic.TcCoe Cert.Rows

/-- The result array: row `i` is the half-step residual of row `i` of `x`. -/
def G (x : Vec Ideal ⟨2, ![17920, 1024]⟩ .f32) (g : Vec Ideal ⟨3, ![2, 6, 1024]⟩ .f32)
    (w1 w3 : Vec Ideal ⟨4, ![2, 2, 1024, 2816]⟩ .f32) (w2 : Vec Ideal ⟨4, ![2, 2, 2816, 1024]⟩ .f32) :
    Vec Ideal ⟨2, ![17920, 1024]⟩ .f32 := fun i =>
  half (fun k => x (ix2 (i 0) k)) (fun k => g (ix3 0 0 k)) (fun k => g (ix3 0 1 k)) (fun k l => w1 (ix4 0 0 k l))
    (fun k l => w3 (ix4 0 0 k l)) (fun k l => w2 (ix4 0 0 k l)) (i 1)

section Ref
open Cert.FfnRefIdeal Cert.FfnRefIdeal.Read

/-- The reference's result is `G` of its arguments. -/
theorem ref_eq (x0 : Vec Ideal S17920x1024 .f32) (x1 : Vec Ideal S2x6x1024 .f32)
    (x2 x3 : Vec Ideal S2x2x1024x2816 .f32) (x4 : Vec Ideal S2x2x2816x1024 .f32) :
    val_main_v43 (F := Ideal) x0 x1 x2 x3 x4 = G x0 x1 x2 x3 x4 := by
  funext i
  idx_vars i
  pointwise [G, half, rms, swiglu, lin, Ideal.logistic,
    val_main_v0, val_main_v1, val_main_v2, val_main_cst, val_main_v3, val_main_v4, val_main_cst_0,
    val_main_v5, val_main_v6, val_main_cst_1, val_main_v7, val_main_v8, val_main_v9, val_main_v10,
    val_main_v11, val_main_v12, val_main_v13, val_main_v14, val_main_v15, val_main_v16, val_main_v17,
    val_main_v18, val_main_v19, val_main_v20, val_main_v21, val_main_call0_v0, val_main_call0_v1,
    val_main_call0_cst, val_main_call0_v2, val_main_call0_v3, val_main_call0_cst_0, val_main_call0_v4,
    val_main_call0_v5, val_main_v22, val_main_v23, val_main_v24, val_main_v25, val_main_v26, val_main_v27,
    val_main_v28, val_main_cst_2, val_main_v29, val_main_v30, val_main_cst_3, val_main_v31, val_main_v32,
    val_main_cst_4, val_main_v33, val_main_v34, val_main_v35, val_main_v36, val_main_v37, val_main_v38,
    val_main_v39, val_main_v40, val_main_cst_5, val_main_v41, val_main_v42, val_main_v43]

end Ref

section Kernel
open Cert.FfnIdeal Cert.FfnIdeal.Gen

/-- Where each window's block stands at a grid point. -/
theorem idx : ∀ t : Fin cfg0.N, win0_0.index t = ![(grid0.coords t 0).val, 0] ∧ win0_1.index t = ![0, 0]
    ∧ win0_2.index t = ![0, 0, 0, 0] ∧ win0_3.index t = ![0, 0, 0, 0] ∧ win0_4.index t = ![0, 0, 0, 0]
    ∧ win0_5.index t = ![(grid0.coords t 0).val, 0] :=
  (by decide +kernel : ∀ t : Fin grid0.N, _)

/-- The kernel's result array is `G` of its arguments: every grid point writes its rows' half-step residuals. -/
theorem arr_eq (m : (ℓ : Loc nD τ sig) → Buf (Elt Ideal) ℓ) (c : Dev nD) :
    (dats m 0 c).arrAt 5 (cfgs 0).N = G (m ((c : Thread nD τ).loc main_arg0)) (m ((c : Thread nD τ).loc main_arg1))
      (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp
  rw [after0_5]
  frame_out
  idx_vars y
  pointwise [k0_pay1, k0_pay2, k0_pay3, k0_pay4, G, half, rms, swiglu, lin]
  blk_point [iblk, V, idx t]

end Kernel

end Cert.FfnRows

end
-- ==== Proof.FfnQValue.lean ====
/-
  Layer 1's first half step with its query projection: the kernel's three result arrays and the reference's are the
  half-step residual `y` of every row, the scaled queries of `y`, and the queries of the sample rows.
-/
module

public import proofs.«01_k».proof.Proof.Rows
public import proofs.«01_k».proof.Proof.Gen.FfnQIdeal.Value
public import proofs.«01_k».proof.Proof.Gen.FfnQRefIdeal.Run
public import proofs.«01_k».proof.Proof.Gen.FfnQRefIdeal.Read
public import Idealize.ShloMosaic.Lib.Pipeline.ValueKit

@[expose] public section

set_option maxRecDepth 16384

noncomputable section

namespace Cert.FfnQRows

open Idealize.ShloMosaic Idealize.ShloMosaic.TcCoe Cert.Rows

section Spec
variable (x : Vec Ideal ⟨2, ![17920, 1024]⟩ .f32) (g : Vec Ideal ⟨3, ![2, 6, 1024]⟩ .f32)
    (w1 w3 : Vec Ideal ⟨4, ![2, 2, 1024, 2816]⟩ .f32) (w2 : Vec Ideal ⟨4, ![2, 2, 2816, 1024]⟩ .f32)
    (wq : Vec Ideal ⟨3, ![1, 1024, 1024]⟩ .f32)

/-- Row `r` of `y`. -/
def yRow (r : Fin 17920) : Fin 1024 → EReal :=
  half (fun k => x (ix2 r k)) (fun k => g (ix3 1 0 k)) (fun k => g (ix3 1 1 k)) (fun k l => w1 (ix4 1 0 k l))
    (fun k l => w3 (ix4 1 0 k l)) (fun k l => w2 (ix4 1 0 k l))

/-- Row `r` of the queries: the normalised row of `y` times the query weights, times `1/8`. -/
def qRow (r : Fin 17920) (j : Fin 1024) : EReal :=
  lin (rms (yRow x g w1 w3 w2 r) (fun k => g (ix3 1 2 k))) (fun k l => wq (ix3 0 k l)) j * Ideal.ofBits .f32 1040187392#32

def GY : Vec Ideal ⟨2, ![17920, 1024]⟩ .f32 := fun i => yRow x g w1 w3 w2 (i 0) (i 1)
def GQ : Vec Ideal ⟨2, ![17920, 1024]⟩ .bf16 := fun i => qRow x g w1 w3 w2 wq (i 0) (i 1)
def GS : Vec Ideal ⟨2, ![1024, 1024]⟩ .f32 := fun i =>
  qRow x g w1 w3 w2 wq ⟨16896 + (i 0).val, by have : (i 0).val < 1024 := (i 0).isLt; omega⟩ (i 1)

end Spec

section Ref
open Cert.FfnQRefIdeal Cert.FfnQRefIdeal.Read

variable (x0 : Vec Ideal S17920x1024 .f32) (x1 : Vec Ideal S2x6x1024 .f32)
    (x2 x3 : Vec Ideal S2x2x1024x2816 .f32) (x4 : Vec Ideal S2x2x2816x1024 .f32) (x5 : Vec Ideal S1x1024x1024 .f32)

theorem ref_y (r : Fin 17920) (j : Fin 1024) :
    val_main_v43 (F := Ideal) x0 x1 x2 x3 x4 (ix2 r j) = yRow x0 x1 x2 x3 x4 r j := by
  pointwise [yRow, half, rms, swiglu, lin, Ideal.logistic,
    val_main_v0, val_main_v1, val_main_v2, val_main_cst, val_main_v3, val_main_v4, val_main_cst_0,
    val_main_v5, val_main_v6, val_main_cst_1, val_main_v7, val_main_v8, val_main_v9, val_main_v10,
    val_main_v11, val_main_v12, val_main_v13, val_main_v14, val_main_v15, val_main_v16, val_main_v17,
    val_main_v18, val_main_v19, val_main_v20, val_main_v21, val_main_call0_v0, val_main_call0_v1,
    val_main_call0_cst, val_main_call0_v2, val_main_call0_v3, val_main_call0_cst_0, val_main_call0_v4,
    val_main_call0_v5, val_main_v22, val_main_v23, val_main_v24, val_main_v25, val_main_v26, val_main_v27,
    val_main_v28, val_main_cst_2, val_main_v29, val_main_v30, val_main_cst_3, val_main_v31, val_main_v32,
    val_main_cst_4, val_main_v33, val_main_v34, val_main_v35, val_main_v36, val_main_v37, val_main_v38,
    val_main_v39, val_main_v40, val_main_cst_5, val_main_v41, val_main_v42, val_main_v43]

theorem ref_q (r : Fin 17920) (j : Fin 1024) :
    val_main_v62 (F := Ideal) x0 x1 x2 x3 x4 x5 (ix2 r j) = qRow x0 x1 x2 x3 x4 x5 r j := by
  pointwise [qRow, rms, lin, ref_y,
    val_main_v44, val_main_v45, val_main_v46, val_main_cst_6, val_main_v47, val_main_v48, val_main_cst_7,
    val_main_v49, val_main_v50, val_main_cst_8, val_main_v51, val_main_v52, val_main_v53, val_main_v54,
    val_main_v55, val_main_v56, val_main_v57, val_main_v58, val_main_v59, val_main_v60, val_main_cst_9,
    val_main_v61, val_main_v62]

theorem ref_eq : val_main_v43 (F := Ideal) x0 x1 x2 x3 x4 = GY x0 x1 x2 x3 x4
    ∧ val_main_v63 (F := Ideal) x0 x1 x2 x3 x4 x5 = GQ x0 x1 x2 x3 x4 x5
    ∧ val_main_v64 (F := Ideal) x0 x1 x2 x3 x4 x5 = GS x0 x1 x2 x3 x4 x5 := by
  refine ⟨?_, ?_, ?_⟩ <;> funext i <;> idx_vars i
  · exact ref_y x0 x1 x2 x3 x4 _ _
  · exact ref_q x0 x1 x2 x3 x4 x5 _ _
  · pointwise [val_main_v64, ref_q, GS]

end Ref

section Kernel
open Cert.FfnQIdeal Cert.FfnQIdeal.Gen

/-- The feed-forward payloads at a row of the block. -/
theorem pay_y (v0 : Vec Ideal S512x1024 .f32) (g0 g1 : Vec Ideal S1x1024 .f32) (w1 w3 : Vec Ideal S1x1x1024x2816 .bf16)
    (w2 : Vec Ideal S1x1x2816x1024 .bf16) (r : Fin 512) (j : Fin 1024) :
    k0_pay4 v0 (k0_pay1 v0 g0 w1 w3 w2) (k0_pay2 g1) (k0_pay3 v0 g0 w1 w3 w2) (ix2 r j) =
      half (fun k => v0 (ix2 r k)) (fun k => g0 (ix2 0 k)) (fun k => g1 (ix2 0 k)) (fun k l => w1 (ix4 0 0 k l))
        (fun k l => w3 (ix4 0 0 k l)) (fun k l => w2 (ix4 0 0 k l)) j := by
  pointwise [k0_pay1, k0_pay2, k0_pay3, k0_pay4, half, rms, swiglu, lin]

/-- The query payload at a row of the block, over the row of `y`. -/
theorem pay_q (v0 v28 : Vec Ideal S512x1024 .f32) (v30 v47 : Vec Ideal S1x1024 .f32) (v33 : Vec Ideal S512x1 .f32)
    (wq : Vec Ideal S1024x1024 .bf16) (r : Fin 512) (j : Fin 1024) :
    k0_pay5 v0 v28 v30 v33 v47 wq (ix2 r j) =
      lin (rms (fun k => k0_pay4 v0 v28 v30 v33 (ix2 r k)) (fun k => v47 (ix2 0 k))) (fun k l => wq (ix2 k l)) j
        * Ideal.ofBits .f32 1040187392#32 := by
  pointwise [k0_pay5, rms, lin]

/-- Where each window's block stands at a grid point. -/
theorem idx : ∀ t : Fin cfg0.N, win0_0.index t = ![(grid0.coords t 0).val, 0] ∧ win0_1.index t = ![0, 0]
    ∧ win0_2.index t = ![1, 0, 0, 0] ∧ win0_3.index t = ![1, 0, 0, 0] ∧ win0_4.index t = ![1, 0, 0, 0]
    ∧ win0_5.index t = ![0, 0] ∧ win0_6.index t = ![(grid0.coords t 0).val, 0]
    ∧ win0_7.index t = ![(grid0.coords t 0).val, 0] ∧ win0_8.index t = ![(grid0.coords t 0).val - 33, 0] :=
  (by decide +kernel : ∀ t : Fin grid0.N, _)

theorem coords_val : ∀ t : Fin cfg0.N, (grid0.coords t 0).val = t.val :=
  (by decide +kernel : ∀ t : Fin grid0.N, _)

theorem flush8 : ∀ t : Fin cfg0.N, (cfg0.win 8).flush t = true → 33 ≤ t.val :=
  (by decide +kernel : ∀ t : Fin grid0.N, _)

variable (m : (ℓ : Loc nD τ sig) → Buf (Elt Ideal) ℓ) (c : Dev nD)

theorem arr_y : (dats m 0 c).arrAt 6 (cfgs 0).N = GY (m ((c : Thread nD τ).loc main_arg0)) (m ((c : Thread nD τ).loc main_arg1))
      (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp
  rw [after0_6]
  by_cases h : 33 ≤ t.val
  · rw [outsAt0_B m c t h]
    frame_out
    idx_vars y
    rw [pay_y]
    pointwise [GY, yRow, half, rms, swiglu, lin]
    blk_point [iblk, V, idx t]
  · rw [outsAt0_A m c t h]
    frame_out
    idx_vars y
    rw [pay_y]
    pointwise [GY, yRow, half, rms, swiglu, lin]
    blk_point [iblk, V, idx t]

theorem arr_q : (dats m 0 c).arrAt 7 (cfgs 0).N = GQ (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) := by
  refine (dats m 0 c).arrAt_eq_of_covers 7 _ (by decide +kernel) fun t hf y => ?_
  blk_simp
  rw [after0_7]
  by_cases h : 33 ≤ t.val
  · rw [outsAt0_B m c t h]
    frame_out
    idx_vars y
    pointwise [k0_pay6, pay_q, pay_y, GQ, qRow, yRow, half, rms, swiglu, lin]
    blk_point [iblk, V, idx t]
  · rw [outsAt0_A m c t h]
    frame_out
    idx_vars y
    pointwise [k0_pay6, pay_q, pay_y, GQ, qRow, yRow, half, rms, swiglu, lin]
    blk_point [iblk, V, idx t]

theorem arr_s : (dats m 0 c).arrAt 8 (cfgs 0).N = GS (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) := by
  refine (dats m 0 c).arrAt_eq_of_covers 8 _ (by decide +kernel) fun t hf y => ?_
  have h := flush8 t hf
  have hc := coords_val t
  blk_simp
  rw [after0_8, outsAt0_B m c t h]
  frame_out
  idx_vars y
  pointwise [pay_q, pay_y, GS, qRow, yRow, half, rms, swiglu, lin]
  blk_point [iblk, V, idx t]

end Kernel

end Cert.FfnQRows

end
-- ==== Proof.Kept.lean ====
/-
  An output window whose buffer is written back some points after the last one that stored into it: what its buffer holds
  until then is what that last point left.
-/
module

public import Idealize.ShloMosaic.Lib.Pipeline.TableIdle

@[expose] public section

noncomputable section

namespace Cert.Kept

open Idealize.ShloMosaic Idealize.SL Idealize.SL.RA Idealize.SL.Sem

variable {nD : Nat} {τ : Topo} {sig : RefSig} {Val : EltTy → Type}
  {Ix : Type} [DecidableEq Ix] {Name : Type} [DecidableEq Name] {U : Type} [URA U] {Lvl : Type}
  {Λ₀ : Labels} {cfg : Pipeline.Cfg sig Λ₀} {c : Dev nD} (dat : Pipeline.Dat τ Val Ix Name U Lvl cfg c)

/-- Keeping the transfer's part of a block over other contents depends on the grid point only by the transfer's cut. -/
theorem fill_cut_congr {G : Pipeline.Grid} (w : Pipeline.Window sig G) {i i' : G.Coords} (h : w.clip i = w.clip i')
    {α : Type} (d X : w.block.Idx → α) : w.fill i d (w.cut i X) = w.fill i' d (w.cut i' X) := by
  funext j
  have e : w.moved i j = w.moved i' j := by
    show Pipeline.allAxes _ _ = Pipeline.allAxes _ _
    rw [h]
  unfold Pipeline.Window.fill
  by_cases hm : w.moved i j = true
  · rw [dif_pos hm, dif_pos (e ▸ hm)]
  · rw [dif_neg hm, dif_neg (e ▸ hm)]

/-- Through a run of points that neither store into window `w`'s buffer nor write it back, after a point `s` that
    stored and did not write back, the buffer holds what point `s` left. -/
theorem before_eq_kept (w : Fin cfg.W) (hfetch : ∀ t, (cfg.win w).fetch t = false) (s t : Fin cfg.N) (hst : s.val < t.val)
    (hlive : cfg.idle w (cfg.grid.coords s) = false) (hs : (cfg.win w).flush s = false)
    (hrun : ∀ j : Fin cfg.N, s.val < j.val → j.val < t.val →
      cfg.idle w (cfg.grid.coords j) = true ∧ (cfg.win w).flush j = false)
    (d : (cfg.win w).block.Idx → Val (cfg.win w).elt) : dat.before w t d = dat.kept w s d := by
  rw [dat.before_idle_run w hfetch d (t.val - s.val - 1) t (by omega) fun j h h' => hrun j (by omega) h',
    dat.before_of_pos w _ (by simp only; omega) (hfetch _) d]
  have e : (⟨t.val - (t.val - s.val - 1) - 1, by omega⟩ : Fin cfg.N) = s := Fin.ext (by simp only; omega)
  rw [e, hs, if_neg Bool.false_ne_true]
  unfold Pipeline.Dat.left
  rw [hlive]

/-- The same for a window whose blocks are not cut: the buffer holds `after` at point `s`. -/
theorem before_eq_after (w : Fin cfg.W) (hfetch : ∀ t, (cfg.win w).fetch t = false)
    (hclip : ∀ (i : cfg.grid.Coords) a, (cfg.win w).clip i a = none) (s t : Fin cfg.N) (hst : s.val < t.val)
    (hlive : cfg.idle w (cfg.grid.coords s) = false) (hs : (cfg.win w).flush s = false)
    (hrun : ∀ j : Fin cfg.N, s.val < j.val → j.val < t.val →
      cfg.idle w (cfg.grid.coords j) = true ∧ (cfg.win w).flush j = false)
    (d : (cfg.win w).block.Idx → Val (cfg.win w).elt) : dat.before w t d = dat.after w s := by
  rw [before_eq_kept dat w hfetch s t hst hlive hs hrun d]
  unfold Pipeline.Dat.kept
  rw [Pipeline.fill_of_clip_none w _ (hclip _) d (dat.after w s), Pipeline.Window.fill_cut]

end Cert.Kept

end
-- ==== Proof.KvIdealRun.lean ====
/-
  The key and value projection, run: every point leaves its keys and values in the rounded results' buffers, a prompt
  point also in the prompt results', a sample point in the sample results'. The prompt results' last blocks, which overhang
  the arrays' ends, are written back after the sample points, which leave their buffers alone.
-/
module

public import proofs.«01_k».proof.Proof.Gen.KvIdeal.Frame
public import proofs.«01_k».proof.Proof.Gen.KvIdeal.Skeleton
public import proofs.«01_k».proof.Proof.Kept
public import Idealize.ShloMosaic.Lib.Pipeline.FrameBody
public import Idealize.ShloMosaic.Lib.Pipeline.ValueKit
public import Idealize.ShloMosaic.Lib.Ring
public import Idealize.ShloMosaic.Lib.Tactic
public import Idealize.ShloMosaic.Lib.Claim

@[expose] public section

-- a rectangle's membership is looked up coordinate by coordinate along its longest axis
set_option maxRecDepth 16384

noncomputable section

namespace Cert.KvIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the run's term is large
set_option maxHeartbeats 1000000 in
/-- The body at a prompt point: the sample buffers are left alone. -/
theorem run_prompt (c : Dev nD) (i : grid0.Coords) (a0 : Memref sig .tc .vmem S256x1024 .f32) (h0 : a0.IsWhole) (a1 : Memref sig .tc .vmem S1x1024 .f32) (h1 : a1.IsWhole) (a2 : Memref sig .tc .vmem S1024x1024 .bf16) (h2 : a2.IsWhole) (a3 : Memref sig .tc .vmem S1024x1024 .bf16) (h3 : a3.IsWhole) (a4 : Memref sig .tc .vmem S1x256x1024 .f32) (h4 : a4.IsWhole) (a5 : Memref sig .tc .vmem S1x256x1024 .f32) (h5 : a5.IsWhole) (a6 : Memref sig .tc .vmem S256x1024 .f32) (h6 : a6.IsWhole) (a7 : Memref sig .tc .vmem S256x1024 .f32) (h7 : a7.IsWhole) (a8 : Memref sig .tc .vmem S256x1024 .bf16) (h8 : a8.IsWhole) (a9 : Memref sig .tc .vmem S256x1024 .bf16) (h9 : a9.IsWhole)
    (hc0 : k0_cond1 i = 1#1) (hc1 : ¬k0_cond2 i = 1#1) (x0 : Vec F S256x1024 .f32) (x1 : Vec F S1x1024 .f32) (x2 : Vec F S1024x1024 .bf16) (x3 : Vec F S1024x1024 .bf16)
    (z6 : Vec F S256x1024 .f32) (z7 : Vec F S256x1024 .f32) (E : Set ℕ) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ (∃ d, owns (c : Thread nD τ) a4 fullShare d) ∗ (∃ d, owns (c : Thread nD τ) a5 fullShare d) ∗ owns (c : Thread nD τ) a6 fullShare z6 ∗ owns (c : Thread nD τ) a7 fullShare z7 ∗ (∃ d, owns (c : Thread nD τ) a8 fullShare d) ∗ (∃ d, owns (c : Thread nD τ) a9 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare (k0_pay6 x0 x1 x2) ∗ owns (c : Thread nD τ) a5 fullShare (k0_pay7 x0 x1 x3) ∗ owns (c : Thread nD τ) a6 fullShare z6 ∗ owns (c : Thread nD τ) a7 fullShare z7 ∗ owns (c : Thread nD τ) a8 fullShare (k0_pay4 x0 x1 x2) ∗ owns (c : Thread nD τ) a9 fullShare (k0_pay5 x0 x1 x3)) -∗ K ⟨⟩))
      ⊢ wp frame (wpE (defs₀ (F := F)) Variants.none c none) E (cc0_kv_proj i a0 h0 a1 h1 a2 h2 a3 h3 a4 h4 a5 h5 a6 h6 a7 h7 a8 h8 a9 h9) K := by
  simp only [cc0_kv_proj_eq_skeleton]; unfold cc0_kv_proj_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%f6, %hf6, H6⟩, ⟨%f7, %hf7, H7⟩, ⟨%d8, %f8, -, H8⟩, ⟨%d9, %f9, -, H9⟩, Hk⟩
  obtain rfl := h0.eq_unread hf0; obtain rfl := h1.eq_unread hf1; obtain rfl := h2.eq_unread hf2; obtain rfl := h3.eq_unread hf3; obtain rfl := h6.eq_unread hf6; obtain rfl := h7.eq_unread hf7
  sl_exec (disch := first | sl_exact hc0 | sl_exact hc1)
  sl_step
  iapply Hk
  isplitl [H0]
  · iexists _; isplitr; · ipureintro; exact h0.read_unread _
    iexact H0
  isplitl [H1]
  · iexists _; isplitr; · ipureintro; exact h1.read_unread _
    iexact H1
  isplitl [H2]
  · iexists _; isplitr; · ipureintro; exact h2.read_unread _
    iexact H2
  isplitl [H3]
  · iexists _; isplitr; · ipureintro; exact h3.read_unread _
    iexact H3
  isplitl [H4]
  · iexists _; isplitr
    swap; · iexact H4
    ipureintro
    rw [View.read_writes_eq_canon _ _ _ (View.cover_of_tiledL _ S1x256x1024.size (by sl_kernel_rfl))]
    frame_out
  isplitl [H5]
  · iexists _; isplitr
    swap; · iexact H5
    ipureintro
    rw [View.read_writes_eq_canon _ _ _ (View.cover_of_tiledL _ S1x256x1024.size (by sl_kernel_rfl))]
    frame_out
  isplitl [H6]
  · iexists _; isplitr; · ipureintro; exact h6.read_unread _
    iexact H6
  isplitl [H7]
  · iexists _; isplitr; · ipureintro; exact h7.read_unread _
    iexact H7
  isplitl [H8]
  · iexists _; isplitr
    swap; · iexact H8
    ipureintro
    rw [View.read_writes_eq_canon _ _ _ (View.cover_of_tiledL _ S256x1024.size (by sl_kernel_rfl))]
    frame_out
  iexists _; isplitr
  swap; · iexact H9
  ipureintro
  rw [View.read_writes_eq_canon _ _ _ (View.cover_of_tiledL _ S256x1024.size (by sl_kernel_rfl))]
  frame_out

-- the run's term is large
set_option maxHeartbeats 1000000 in
/-- The body at a sample point: the prompt buffers are left alone. -/
theorem run_sample (c : Dev nD) (i : grid0.Coords) (a0 : Memref sig .tc .vmem S256x1024 .f32) (h0 : a0.IsWhole) (a1 : Memref sig .tc .vmem S1x1024 .f32) (h1 : a1.IsWhole) (a2 : Memref sig .tc .vmem S1024x1024 .bf16) (h2 : a2.IsWhole) (a3 : Memref sig .tc .vmem S1024x1024 .bf16) (h3 : a3.IsWhole) (a4 : Memref sig .tc .vmem S1x256x1024 .f32) (h4 : a4.IsWhole) (a5 : Memref sig .tc .vmem S1x256x1024 .f32) (h5 : a5.IsWhole) (a6 : Memref sig .tc .vmem S256x1024 .f32) (h6 : a6.IsWhole) (a7 : Memref sig .tc .vmem S256x1024 .f32) (h7 : a7.IsWhole) (a8 : Memref sig .tc .vmem S256x1024 .bf16) (h8 : a8.IsWhole) (a9 : Memref sig .tc .vmem S256x1024 .bf16) (h9 : a9.IsWhole)
    (hc0 : ¬k0_cond1 i = 1#1) (hc1 : k0_cond2 i = 1#1) (x0 : Vec F S256x1024 .f32) (x1 : Vec F S1x1024 .f32) (x2 : Vec F S1024x1024 .bf16) (x3 : Vec F S1024x1024 .bf16)
    (z4 : Vec F S1x256x1024 .f32) (z5 : Vec F S1x256x1024 .f32) (E : Set ℕ) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare z4 ∗ owns (c : Thread nD τ) a5 fullShare z5 ∗ (∃ d, owns (c : Thread nD τ) a6 fullShare d) ∗ (∃ d, owns (c : Thread nD τ) a7 fullShare d) ∗ (∃ d, owns (c : Thread nD τ) a8 fullShare d) ∗ (∃ d, owns (c : Thread nD τ) a9 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare z4 ∗ owns (c : Thread nD τ) a5 fullShare z5 ∗ owns (c : Thread nD τ) a6 fullShare (k0_pay2 x0 x1 x2) ∗ owns (c : Thread nD τ) a7 fullShare (k0_pay3 x0 x1 x3) ∗ owns (c : Thread nD τ) a8 fullShare (k0_pay4 x0 x1 x2) ∗ owns (c : Thread nD τ) a9 fullShare (k0_pay5 x0 x1 x3)) -∗ K ⟨⟩))
      ⊢ wp frame (wpE (defs₀ (F := F)) Variants.none c none) E (cc0_kv_proj i a0 h0 a1 h1 a2 h2 a3 h3 a4 h4 a5 h5 a6 h6 a7 h7 a8 h8 a9 h9) K := by
  simp only [cc0_kv_proj_eq_skeleton]; unfold cc0_kv_proj_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, Hk⟩
  obtain rfl := h0.eq_unread hf0; obtain rfl := h1.eq_unread hf1; obtain rfl := h2.eq_unread hf2; obtain rfl := h3.eq_unread hf3; obtain rfl := h4.eq_unread hf4; obtain rfl := h5.eq_unread hf5
  sl_exec (disch := first | sl_exact hc0 | sl_exact hc1)
  sl_step
  iapply Hk
  isplitl [H0]
  · iexists _; isplitr; · ipureintro; exact h0.read_unread _
    iexact H0
  isplitl [H1]
  · iexists _; isplitr; · ipureintro; exact h1.read_unread _
    iexact H1
  isplitl [H2]
  · iexists _; isplitr; · ipureintro; exact h2.read_unread _
    iexact H2
  isplitl [H3]
  · iexists _; isplitr; · ipureintro; exact h3.read_unread _
    iexact H3
  isplitl [H4]
  · iexists _; isplitr; · ipureintro; exact h4.read_unread _
    iexact H4
  isplitl [H5]
  · iexists _; isplitr; · ipureintro; exact h5.read_unread _
    iexact H5
  isplitl [H6]
  · iexists _; isplitr
    swap; · iexact H6
    ipureintro
    rw [View.read_writes_eq_canon _ _ _ (View.cover_of_tiledL _ S256x1024.size (by sl_kernel_rfl))]
    frame_out
  isplitl [H7]
  · iexists _; isplitr
    swap; · iexact H7
    ipureintro
    rw [View.read_writes_eq_canon _ _ _ (View.cover_of_tiledL _ S256x1024.size (by sl_kernel_rfl))]
    frame_out
  isplitl [H8]
  · iexists _; isplitr
    swap; · iexact H8
    ipureintro
    rw [View.read_writes_eq_canon _ _ _ (View.cover_of_tiledL _ S256x1024.size (by sl_kernel_rfl))]
    frame_out
  iexists _; isplitr
  swap; · iexact H9
  ipureintro
  rw [View.read_writes_eq_canon _ _ _ (View.cover_of_tiledL _ S256x1024.size (by sl_kernel_rfl))]
  frame_out

theorem isPrompt : ∀ t : Fin cfg0.N, k0_cond1 (grid0.coords t) = 1#1 ↔ t.val < 66 :=
  (by decide +kernel : ∀ t : Fin grid0.N, k0_cond1 (grid0.coords t) = 1#1 ↔ t.val < 66)
theorem isSample : ∀ t : Fin cfg0.N, k0_cond2 (grid0.coords t) = 1#1 ↔ 66 ≤ t.val :=
  (by decide +kernel : ∀ t : Fin grid0.N, k0_cond2 (grid0.coords t) = 1#1 ↔ 66 ≤ t.val)
theorem idle4 : ∀ t : Fin cfg0.N, cfg0.idle 4 (cfg0.grid.coords t) = decide (66 ≤ t.val) :=
  (by decide +kernel : ∀ t : Fin grid0.N, idle0 4 (grid0.coords t) = decide (66 ≤ t.val))
theorem flush4_iff : ∀ t : Fin cfg0.N, (cfg0.win 4).flush t = (decide (t.val < 65) || decide (t.val = 69)) :=
  (by decide +kernel : ∀ t : Fin grid0.N, win0_4.flush t = (decide (t.val < 65) || decide (t.val = 69)))
theorem clip4 : ∀ a, win0_4.clip (grid0.coords ⟨65, by decide⟩) a = win0_4.clip (grid0.coords ⟨69, by decide⟩) a := by
  decide +kernel
theorem idle5 : ∀ t : Fin cfg0.N, cfg0.idle 5 (cfg0.grid.coords t) = decide (66 ≤ t.val) :=
  (by decide +kernel : ∀ t : Fin grid0.N, idle0 5 (grid0.coords t) = decide (66 ≤ t.val))
theorem flush5_iff : ∀ t : Fin cfg0.N, (cfg0.win 5).flush t = (decide (t.val < 65) || decide (t.val = 69)) :=
  (by decide +kernel : ∀ t : Fin grid0.N, win0_5.flush t = (decide (t.val < 65) || decide (t.val = 69)))
theorem clip5 : ∀ a, win0_5.clip (grid0.coords ⟨65, by decide⟩) a = win0_5.clip (grid0.coords ⟨69, by decide⟩) a := by
  decide +kernel
theorem idle6 : ∀ t : Fin cfg0.N, cfg0.idle 6 (cfg0.grid.coords t) = decide (t.val < 66) :=
  (by decide +kernel : ∀ t : Fin grid0.N, idle0 6 (grid0.coords t) = decide (t.val < 66))
theorem flush6_iff : ∀ t : Fin cfg0.N, (cfg0.win 6).flush t = decide (66 ≤ t.val) :=
  (by decide +kernel : ∀ t : Fin grid0.N, win0_6.flush t = decide (66 ≤ t.val))
theorem idle7 : ∀ t : Fin cfg0.N, cfg0.idle 7 (cfg0.grid.coords t) = decide (t.val < 66) :=
  (by decide +kernel : ∀ t : Fin grid0.N, idle0 7 (grid0.coords t) = decide (t.val < 66))
theorem flush7_iff : ∀ t : Fin cfg0.N, (cfg0.win 7).flush t = decide (66 ≤ t.val) :=
  (by decide +kernel : ∀ t : Fin grid0.N, win0_7.flush t = decide (66 ≤ t.val))

/-- The last prompt point up to point `t`. -/
def lastPrompt (t : Fin cfg0.N) : Fin cfg0.N := ⟨min t.val 65, lt_of_le_of_lt (min_le_left _ _) t.isLt⟩

theorem lastPrompt_of_lt {t : Fin cfg0.N} (h : t.val < 66) : lastPrompt t = t := Fin.ext (by simp only [lastPrompt]; omega)

/-- What the pipeline's buffers hold after each point: the inputs their blocks, the prompt results the blocks of the last
    prompt point so far, the other results the point's blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => k0_pay6 (iblk m c 0 (lastPrompt t)) (iblk m c 1 (lastPrompt t)) (iblk m c 2 (lastPrompt t))
    | ⟨5, _⟩ => k0_pay7 (iblk m c 0 (lastPrompt t)) (iblk m c 1 (lastPrompt t)) (iblk m c 3 (lastPrompt t))
    | ⟨6, _⟩ => k0_pay2 (iblk m c 0 t) (iblk m c 1 t) (iblk m c 2 t)
    | ⟨7, _⟩ => k0_pay3 (iblk m c 0 t) (iblk m c 1 t) (iblk m c 3 t)
    | ⟨8, _⟩ => k0_pay4 (iblk m c 0 t) (iblk m c 1 t) (iblk m c 2 t)
    | ⟨9, _⟩ => k0_pay5 (iblk m c 0 t) (iblk m c 1 t) (iblk m c 3 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = k0_pay6 (iblk m c 0 (lastPrompt t)) (iblk m c 1 (lastPrompt t)) (iblk m c 2 (lastPrompt t)) := by
  dsimp only [dats]
theorem after0_5 (c : Dev nD) (t : Fin cfg0.N) : (dats m 0 c).after 5 t = k0_pay7 (iblk m c 0 (lastPrompt t)) (iblk m c 1 (lastPrompt t)) (iblk m c 3 (lastPrompt t)) := by
  dsimp only [dats]
theorem after0_6 (c : Dev nD) (t : Fin cfg0.N) : (dats m 0 c).after 6 t = k0_pay2 (iblk m c 0 t) (iblk m c 1 t) (iblk m c 2 t) := by
  dsimp only [dats]
theorem after0_7 (c : Dev nD) (t : Fin cfg0.N) : (dats m 0 c).after 7 t = k0_pay3 (iblk m c 0 t) (iblk m c 1 t) (iblk m c 3 t) := by
  dsimp only [dats]
theorem after0_8 (c : Dev nD) (t : Fin cfg0.N) : (dats m 0 c).after 8 t = k0_pay4 (iblk m c 0 t) (iblk m c 1 t) (iblk m c 2 t) := by
  dsimp only [dats]
theorem after0_9 (c : Dev nD) (t : Fin cfg0.N) : (dats m 0 c).after 9 t = k0_pay5 (iblk m c 0 t) (iblk m c 1 t) (iblk m c 3 t) := by
  dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- At the last point the prompt buffer still holds, on the part that is written back, the last prompt point's block. -/
theorem before0_4 (c : Dev nD) (t : Fin cfg0.N) (ht : t.val = 69) (d) : (dats m 0 c).before 4 t d =
    (cfg0.win 4).fill (cfg0.grid.coords t) d ((cfg0.win 4).cut (cfg0.grid.coords t) ((dats m 0 c).after 4 t)) := by
  have hN : (65 : ℕ) < cfg0.N := lt_of_le_of_lt (by omega : 65 ≤ t.val) t.isLt
  rw [Cert.Kept.before_eq_kept (dats m 0 c) 4 (fun s => (cfg0.win 4).fetch_out rfl s) ⟨65, hN⟩ t
    (by simp only; omega) (by rw [idle4]; rfl) (by rw [flush4_iff]; rfl)
    (fun j h h' => ⟨by rw [idle4]; simp only at h ⊢; exact decide_eq_true (by omega),
      by rw [flush4_iff]; simp only at h; simp only [Bool.or_eq_false_iff, decide_eq_false_iff_not]; omega⟩) d]
  have e : (dats m 0 c).after 4 ⟨65, hN⟩ = (dats m 0 c).after 4 t := by
    rw [after0_4, after0_4, show lastPrompt ⟨65, hN⟩ = lastPrompt t from Fin.ext (by simp only [lastPrompt]; omega)]
  unfold Dat.kept
  rw [e]
  exact Cert.Kept.fill_cut_congr (cfg0.win 4) (funext fun a => (clip4 a).trans
    (congrArg (fun s : Fin grid0.N => win0_4.clip (grid0.coords s) a) (Fin.ext ht.symm))) d _

/-- The prompt buffer as a prompt point leaves it. -/
theorem leaves4_live (c : Dev nD) (t : Fin cfg0.N) (h : t.val < 66) :
    owns (c : Thread nD τ) (win0_4.stage (cfg0.slots t 4)) fullShare (k0_pay6 (iblk m c 0 t) (iblk m c 1 t) (iblk m c 2 t)) ⊢ ((dats m 0 c).leaves 4 t : sProp 𝕄) := by
  have e := (dats m 0 c).leaves_intro 4 t
  unfold Dat.leavesExact at e
  rw [idle4 t, decide_eq_false (by omega), after0_4, lastPrompt_of_lt h] at e
  exact e

/-- The prompt buffer as the last point leaves it. -/
theorem leaves4_last (c : Dev nD) (t : Fin cfg0.N) (h : t.val = 69) (d) :
    owns (c : Thread nD τ) (win0_4.stage (cfg0.slots t 4)) fullShare ((dats m 0 c).before 4 t d) ⊢ ((dats m 0 c).leaves 4 t : sProp 𝕄) := by
  rw [before0_4 m c t h d]
  unfold Dat.leaves
  rw [idle4 t, decide_eq_true (by omega), flush4_iff t, decide_eq_true h, Bool.or_true]
  iintro H; iexists d; iexact H

/-- At the last point the prompt buffer still holds, on the part that is written back, the last prompt point's block. -/
theorem before0_5 (c : Dev nD) (t : Fin cfg0.N) (ht : t.val = 69) (d) : (dats m 0 c).before 5 t d =
    (cfg0.win 5).fill (cfg0.grid.coords t) d ((cfg0.win 5).cut (cfg0.grid.coords t) ((dats m 0 c).after 5 t)) := by
  have hN : (65 : ℕ) < cfg0.N := lt_of_le_of_lt (by omega : 65 ≤ t.val) t.isLt
  rw [Cert.Kept.before_eq_kept (dats m 0 c) 5 (fun s => (cfg0.win 5).fetch_out rfl s) ⟨65, hN⟩ t
    (by simp only; omega) (by rw [idle5]; rfl) (by rw [flush5_iff]; rfl)
    (fun j h h' => ⟨by rw [idle5]; simp only at h ⊢; exact decide_eq_true (by omega),
      by rw [flush5_iff]; simp only at h; simp only [Bool.or_eq_false_iff, decide_eq_false_iff_not]; omega⟩) d]
  have e : (dats m 0 c).after 5 ⟨65, hN⟩ = (dats m 0 c).after 5 t := by
    rw [after0_5, after0_5, show lastPrompt ⟨65, hN⟩ = lastPrompt t from Fin.ext (by simp only [lastPrompt]; omega)]
  unfold Dat.kept
  rw [e]
  exact Cert.Kept.fill_cut_congr (cfg0.win 5) (funext fun a => (clip5 a).trans
    (congrArg (fun s : Fin grid0.N => win0_5.clip (grid0.coords s) a) (Fin.ext ht.symm))) d _

/-- The prompt buffer as a prompt point leaves it. -/
theorem leaves5_live (c : Dev nD) (t : Fin cfg0.N) (h : t.val < 66) :
    owns (c : Thread nD τ) (win0_5.stage (cfg0.slots t 5)) fullShare (k0_pay7 (iblk m c 0 t) (iblk m c 1 t) (iblk m c 3 t)) ⊢ ((dats m 0 c).leaves 5 t : sProp 𝕄) := by
  have e := (dats m 0 c).leaves_intro 5 t
  unfold Dat.leavesExact at e
  rw [idle5 t, decide_eq_false (by omega), after0_5, lastPrompt_of_lt h] at e
  exact e

/-- The prompt buffer as the last point leaves it. -/
theorem leaves5_last (c : Dev nD) (t : Fin cfg0.N) (h : t.val = 69) (d) :
    owns (c : Thread nD τ) (win0_5.stage (cfg0.slots t 5)) fullShare ((dats m 0 c).before 5 t d) ⊢ ((dats m 0 c).leaves 5 t : sProp 𝕄) := by
  rw [before0_5 m c t h d]
  unfold Dat.leaves
  rw [idle5 t, decide_eq_true (by omega), flush5_iff t, decide_eq_true h, Bool.or_true]
  iintro H; iexists d; iexact H

/-- What the body is called with at a point, and what it hands back. -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d)))
def bodyPost (c : Dev nD) (t : Fin cfg0.N) : sProp 𝕄 :=
  iprop((dats m 0 c).Φ t.succ ∗ (dats m 0 c).owesAt () t.succ
    ∗ (dats m 0 c).leaves 0 t
    ∗ (dats m 0 c).leaves 1 t
    ∗ (dats m 0 c).leaves 2 t
    ∗ (dats m 0 c).leaves 3 t
    ∗ (dats m 0 c).leaves 4 t
    ∗ (dats m 0 c).leaves 5 t
    ∗ (dats m 0 c).leaves 6 t
    ∗ (dats m 0 c).leaves 7 t
    ∗ (dats m 0 c).leaves 8 t
    ∗ (dats m 0 c).leaves 9 t)

set_option maxHeartbeats 1600000 in
/-- The body at any point, by the kind of the point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl]
  rw [show (dats m 0 c).leaves 0 t = owns (c : Thread nD τ) (win0_0.stage (cfg0.slots t 0)) fullShare ((dats m 0 c).after 0 t) from rfl, after0_0]
  rw [show (dats m 0 c).leaves 1 t = owns (c : Thread nD τ) (win0_1.stage (cfg0.slots t 1)) fullShare ((dats m 0 c).after 1 t) from rfl, after0_1]
  rw [show (dats m 0 c).leaves 2 t = owns (c : Thread nD τ) (win0_2.stage (cfg0.slots t 2)) fullShare ((dats m 0 c).after 2 t) from rfl, after0_2]
  rw [show (dats m 0 c).leaves 3 t = owns (c : Thread nD τ) (win0_3.stage (cfg0.slots t 3)) fullShare ((dats m 0 c).after 3 t) from rfl, after0_3]
  rw [show (dats m 0 c).leaves 8 t = owns (c : Thread nD τ) (win0_8.stage (cfg0.slots t 8)) fullShare ((dats m 0 c).after 8 t) from rfl, after0_8]
  rw [show (dats m 0 c).leaves 9 t = owns (c : Thread nD τ) (win0_9.stage (cfg0.slots t 9)) fullShare ((dats m 0 c).after 9 t) from rfl, after0_9]
  have hN : t.val < 70 := lt_of_lt_of_eq t.isLt (show cfg0.N = 70 from N_0)
  by_cases h : t.val < 66
  · rw [(dats m 0 c).leaves_idle 6 t (by rw [idle6]; exact decide_eq_true h) (by rw [flush6_iff]; exact decide_eq_false (by omega)),
      (dats m 0 c).leaves_idle 7 t (by rw [idle7]; exact decide_eq_true h) (by rw [flush7_iff]; exact decide_eq_false (by omega))]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (run_prompt c (grid0.coords t) _ _ _ _ _ _ _ _ _ _ _ _ _ _ _ _ _ _ _ _ ((isPrompt t).mpr h) (fun e => by have := (isSample t).mp e; omega) (iblk m c 0 t) (iblk m c 1 t) (iblk m c 2 t) (iblk m c 3 t) _ _ Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexact H6
    isplitl [H7]; · iexact H7
    isplitl [H8]; · iexists _; iexact H8
    isplitl [H9]; · iexists _; iexact H9
    iintro ⟨H0, H1, H2, H3, H4, H5, H6, H7, H8, H9⟩
    isplitl [HΦ]; · iexact HΦ
    isplitl [Ho]; · iexact Ho
    isplitl [H0]; · iexact H0
    isplitl [H1]; · iexact H1
    isplitl [H2]; · iexact H2
    isplitl [H3]; · iexact H3
    isplitl [H4]; · iapply leaves4_live m c t h; iexact H4
    isplitl [H5]; · iapply leaves5_live m c t h; iexact H5
    isplitl [H6]; · iexists _; iexact H6
    isplitl [H7]; · iexists _; iexact H7
    isplitl [H8]; · iexact H8
    iexact H9
  · rw [show (dats m 0 c).leaves 6 t = owns (c : Thread nD τ) (win0_6.stage (cfg0.slots t 6)) fullShare ((dats m 0 c).after 6 t) from by
        unfold Dat.leaves; rw [idle6 t, decide_eq_false h], after0_6]
    rw [show (dats m 0 c).leaves 7 t = owns (c : Thread nD τ) (win0_7.stage (cfg0.slots t 7)) fullShare ((dats m 0 c).after 7 t) from by
        unfold Dat.leaves; rw [idle7 t, decide_eq_false h], after0_7]
    by_cases hl : t.val = 69
    · iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (run_sample c (grid0.coords t) _ _ _ _ _ _ _ _ _ _ _ _ _ _ _ _ _ _ _ _ (fun e => h ((isPrompt t).mp e)) ((isSample t).mpr (by omega)) (iblk m c 0 t) (iblk m c 1 t) (iblk m c 2 t) (iblk m c 3 t) _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [H9]; · iexists _; iexact H9
      iintro ⟨H0, H1, H2, H3, H4, H5, H6, H7, H8, H9⟩
      isplitl [HΦ]; · iexact HΦ
      isplitl [Ho]; · iexact Ho
      isplitl [H0]; · iexact H0
      isplitl [H1]; · iexact H1
      isplitl [H2]; · iexact H2
      isplitl [H3]; · iexact H3
      isplitl [H4]; · iapply leaves4_last m c t hl d4; iexact H4
      isplitl [H5]; · iapply leaves5_last m c t hl d5; iexact H5
      isplitl [H6]; · iexact H6
      isplitl [H7]; · iexact H7
      isplitl [H8]; · iexact H8
      iexact H9
    · rw [(dats m 0 c).leaves_idle 4 t (by rw [idle4]; exact decide_eq_true (by omega))
          (by rw [flush4_iff]; simp only [Bool.or_eq_false_iff, decide_eq_false_iff_not]; omega),
        (dats m 0 c).leaves_idle 5 t (by rw [idle5]; exact decide_eq_true (by omega))
          (by rw [flush5_iff]; simp only [Bool.or_eq_false_iff, decide_eq_false_iff_not]; omega)]
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (run_sample c (grid0.coords t) _ _ _ _ _ _ _ _ _ _ _ _ _ _ _ _ _ _ _ _ (fun e => h ((isPrompt t).mp e)) ((isSample t).mpr (by omega)) (iblk m c 0 t) (iblk m c 1 t) (iblk m c 2 t) (iblk m c 3 t) _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [H9]; · iexists _; iexact H9
      iintro ⟨H0, H1, H2, H3, H4, H5, H6, H7, H8, H9⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexact H6
      isplitl [H7]; · iexact H7
      isplitl [H8]; · iexact H8
      iexact H9

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligationLoose (dats (F := F) m 0 c) (defs₀ (F := F)) Variants.none () Set.univ := fun t => by
  rw [bigSep_W0, bigSep_W0, defs₀_row]
  exact triple_restated (sound_body m c t) rfl .rfl fun _ => .rfl

-- the pipeline theorem's arguments are found by unification with this statement
set_option backward.isDefEq.respectTransparency.types false in
/-- Every run ends with the windowed arrays at the contents `dats` names and every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- Every run ends with the arguments as they were and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ))
  ((θ_run defs _ _).mono (fun _ h => h.2) (run_main_quiescent m ρ))

end Cert.KvIdeal.Gen

end
-- ==== Proof.KvValue.lean ====
/-
  The key and value projection: each of the kernel's six results and each of the reference's is the product of the
  normalised token rows with the key or the value weights, over that result's rows.
-/
module

public import proofs.«01_k».proof.Proof.Rows
public import proofs.«01_k».proof.Proof.KvIdealRun
public import proofs.«01_k».proof.Proof.Gen.KvRefIdeal.Run
public import proofs.«01_k».proof.Proof.Gen.KvRefIdeal.Read
public import Idealize.ShloMosaic.Lib.Pipeline.ValueKit

@[expose] public section

set_option maxRecDepth 16384

noncomputable section

namespace Cert.KvRows

open Idealize.ShloMosaic Idealize.ShloMosaic.TcCoe Cert.Rows

section Spec
variable (x : Vec Ideal ⟨2, ![17920, 1024]⟩ .f32) (g : Vec Ideal ⟨1, ![1024]⟩ .f32) (w : Vec Ideal ⟨2, ![1024, 1024]⟩ .f32)

/-- A token's row of keys (or of values, by the weights). -/
def kvRow (r : Fin 17920) : Fin 1024 → EReal :=
  lin (rms (fun k => x (ix2 r k)) (fun k => g (ix1 k))) (fun k l => w (ix2 k l))

/-- All rows, rounded (which is the identity on the extended reals). -/
def GA : Vec Ideal ⟨2, ![17920, 1024]⟩ .bf16 := fun i => kvRow x g w (i 0) (i 1)

/-- The prompt result: token `i` of sequence `b` is row `8448 b + i`. -/
def GP : Vec Ideal ⟨3, ![2, 8208, 1024]⟩ .f32 := fun i =>
  kvRow x g w ⟨(i 0).val * 8448 + (i 1).val, by
    have h0 : (i 0).val < 2 := (i 0).isLt
    have h1 : (i 1).val < 8208 := (i 1).isLt
    omega⟩ (i 2)

/-- The sample result: row `i` is row `16896 + i` of the input. -/
def GS : Vec Ideal ⟨2, ![1024, 1024]⟩ .f32 := fun i =>
  kvRow x g w ⟨16896 + (i 0).val, by have : (i 0).val < 1024 := (i 0).isLt; omega⟩ (i 1)

end Spec

section Ref
open Cert.KvRefIdeal Cert.KvRefIdeal.Read

variable (x0 : Vec Ideal S17920x1024 .f32) (x1 : Vec Ideal S1024 .f32) (x2 x3 : Vec Ideal S1024x1024 .f32)

theorem ref_k (r : Fin 17920) (j : Fin 1024) : val_main_v13 (F := Ideal) x0 x1 x2 (ix2 r j) = kvRow x0 x1 x2 r j := by
  pointwise [kvRow, rms, lin, val_main_v13, val_main_v0, val_main_cst, val_main_v1, val_main_v2, val_main_cst_0, val_main_v3, val_main_v4, val_main_cst_1, val_main_v5, val_main_v6, val_main_v7, val_main_v8, val_main_v9, val_main_v10, val_main_v11, val_main_v12]
theorem ref_v (r : Fin 17920) (j : Fin 1024) : val_main_v14 (F := Ideal) x0 x1 x3 (ix2 r j) = kvRow x0 x1 x3 r j := by
  pointwise [kvRow, rms, lin, val_main_v14, val_main_v0, val_main_cst, val_main_v1, val_main_v2, val_main_cst_0, val_main_v3, val_main_v4, val_main_cst_1, val_main_v5, val_main_v6, val_main_v7, val_main_v8, val_main_v9, val_main_v10, val_main_v11, val_main_v12]

theorem ref_eq : val_main_v17 (F := Ideal) x0 x1 x2 = GP x0 x1 x2 ∧ val_main_v20 (F := Ideal) x0 x1 x3 = GP x0 x1 x3
    ∧ val_main_v21 (F := Ideal) x0 x1 x2 = GS x0 x1 x2 ∧ val_main_v22 (F := Ideal) x0 x1 x3 = GS x0 x1 x3
    ∧ val_main_v23 (F := Ideal) x0 x1 x2 = GA x0 x1 x2 ∧ val_main_v24 (F := Ideal) x0 x1 x3 = GA x0 x1 x3 := by
  refine ⟨?_, ?_, ?_, ?_, ?_, ?_⟩ <;> funext i <;> idx_vars i
  · pointwise [val_main_v17, val_main_v16, val_main_v15, ref_k, GP]
  · pointwise [val_main_v20, val_main_v19, val_main_v18, ref_v, GP]
  · pointwise [val_main_v21, ref_k, GS]
  · pointwise [val_main_v22, ref_v, GS]
  · pointwise [val_main_v23, ref_k, GA]
  · pointwise [val_main_v24, ref_v, GA]

end Ref

section Kernel
open Cert.KvIdeal Cert.KvIdeal.Gen

variable (x0 : Vec Ideal S256x1024 .f32) (x1 : Vec Ideal S1x1024 .f32) (w : Vec Ideal S1024x1024 .bf16)

/-- The row of a block of keys or values. -/
def blkRow (r : Fin 256) : Fin 1024 → EReal :=
  lin (rms (fun k => x0 (ix2 r k)) (fun k => x1 (ix2 0 k))) (fun k l => w (ix2 k l))

theorem pay2_at (r : Fin 256) (j : Fin 1024) : k0_pay2 x0 x1 w (ix2 r j) = blkRow x0 x1 w r j := by
  pointwise [k0_pay2, k0_pay1, blkRow, lin, rms]
theorem pay3_at (r : Fin 256) (j : Fin 1024) : k0_pay3 x0 x1 w (ix2 r j) = blkRow x0 x1 w r j := by
  pointwise [k0_pay3, k0_pay1, blkRow, lin, rms]
theorem pay4_at (r : Fin 256) (j : Fin 1024) : k0_pay4 x0 x1 w (ix2 r j) = blkRow x0 x1 w r j := by
  pointwise [k0_pay4, pay2_at]
theorem pay5_at (r : Fin 256) (j : Fin 1024) : k0_pay5 x0 x1 w (ix2 r j) = blkRow x0 x1 w r j := by
  pointwise [k0_pay5, pay3_at]
theorem pay6_at (u : Fin 1) (r : Fin 256) (j : Fin 1024) : k0_pay6 x0 x1 w (ix3 u r j) = blkRow x0 x1 w r j := by
  pointwise [k0_pay6, pay2_at]
theorem pay7_at (u : Fin 1) (r : Fin 256) (j : Fin 1024) : k0_pay7 x0 x1 w (ix3 u r j) = blkRow x0 x1 w r j := by
  pointwise [k0_pay7, pay3_at]

/-- Where each window's block stands at a grid point. -/
theorem idx : ∀ t : Fin cfg0.N, win0_0.index t = ![t.val, 0] ∧ win0_1.index t = ![0, 0] ∧ win0_2.index t = ![0, 0]
    ∧ win0_3.index t = ![0, 0] ∧ win0_8.index t = ![t.val, 0] ∧ win0_9.index t = ![t.val, 0] :=
  (by decide +kernel : ∀ t : Fin grid0.N, _)
theorem idx_sample : ∀ t : Fin cfg0.N, 66 ≤ t.val → win0_6.index t = ![t.val - 66, 0] ∧ win0_7.index t = ![t.val - 66, 0] :=
  (by decide +kernel : ∀ t : Fin grid0.N, 66 ≤ t.val → _)
theorem idx_prompt : ∀ t : Fin cfg0.N, win0_4.index t = ![(lastPrompt t).val / 33, (lastPrompt t).val % 33, 0]
    ∧ win0_5.index t = ![(lastPrompt t).val / 33, (lastPrompt t).val % 33, 0] :=
  (by decide +kernel : ∀ t : Fin grid0.N, _)

variable (m : (ℓ : Loc nD τ sig) → Buf (Elt Ideal) ℓ) (c : Dev nD)

theorem lt70 (t : Fin cfg0.N) : t.val < 70 := lt_of_lt_of_eq t.isLt (show cfg0.N = 70 from N_0)
theorem blk0 (t : Fin cfg0.N) (r : Fin 256) (k : Fin 1024) : iblk m c 0 t (ix2 r k) =
    (m ((c : Thread nD τ).loc main_arg0)) (ix2 ⟨t.val * 256 + r.val, by have := r.isLt; have := lt70 t; omega⟩ k) := by
  blk_point [iblk, V, idx t]
theorem blk1 (t : Fin cfg0.N) (k : Fin 1024) : iblk m c 1 t (ix2 0 k) = (m ((c : Thread nD τ).loc main_arg1)) (ix1 k) := by
  blk_point [iblk, V, idx t]
theorem blk2 (t : Fin cfg0.N) (k l : Fin 1024) : iblk m c 2 t (ix2 k l) = (m ((c : Thread nD τ).loc main_arg2)) (ix2 k l) := by
  blk_point [iblk, V, idx t]
theorem blk3 (t : Fin cfg0.N) (k l : Fin 1024) : iblk m c 3 t (ix2 k l) = (m ((c : Thread nD τ).loc main_arg3)) (ix2 k l) := by
  blk_point [iblk, V, idx t]

/-- A row of a point's keys and of its values is a token's. -/
theorem row_k (t : Fin cfg0.N) (r : Fin 256) (r' : Fin 17920) (h : r'.val = t.val * 256 + r.val) :
    blkRow (iblk m c 0 t) (iblk m c 1 t) (iblk m c 2 t) r = kvRow (m ((c : Thread nD τ).loc main_arg0)) (m ((c : Thread nD τ).loc main_arg1)) (m ((c : Thread nD τ).loc main_arg2)) r' := by
  rw [show r' = ⟨t.val * 256 + r.val, h ▸ r'.isLt⟩ from Fin.ext h]
  simp only [blkRow, kvRow, blk0, blk1, blk2]
theorem row_v (t : Fin cfg0.N) (r : Fin 256) (r' : Fin 17920) (h : r'.val = t.val * 256 + r.val) :
    blkRow (iblk m c 0 t) (iblk m c 1 t) (iblk m c 3 t) r = kvRow (m ((c : Thread nD τ).loc main_arg0)) (m ((c : Thread nD τ).loc main_arg1)) (m ((c : Thread nD τ).loc main_arg3)) r' := by
  rw [show r' = ⟨t.val * 256 + r.val, h ▸ r'.isLt⟩ from Fin.ext h]
  simp only [blkRow, kvRow, blk0, blk1, blk3]

/-- The rounded keys, blockwise. -/
theorem arr_8 : (dats m 0 c).arrAt 8 (cfgs 0).N = GA (m ((c : Thread nD τ).loc main_arg0)) (m ((c : Thread nD τ).loc main_arg1)) (m ((c : Thread nD τ).loc main_arg2)) := by
  refine (dats m 0 c).arrAt_eq_of_covers 8 _ (by decide +kernel) fun t hf y => ?_
  have i0 := idx t
  blk_simp
  rw [after0_8]
  idx_vars y
  rw [pay4_at, row_k m c t y0 ⟨t.val * 256 + y0.val, by have := y0.isLt; have := lt70 t; omega⟩ rfl]
  have e : ((cfg0.win 8).blk t).view.emb (ix2 y0 y1) = ix2 ⟨t.val * 256 + y0.val, by have := y0.isLt; have := lt70 t; omega⟩ y1 := by
    blk_ext [i0]
  exact (congrArg (GA (m ((c : Thread nD τ).loc main_arg0)) (m ((c : Thread nD τ).loc main_arg1)) (m ((c : Thread nD τ).loc main_arg2))) e).symm

/-- The rounded values, blockwise. -/
theorem arr_9 : (dats m 0 c).arrAt 9 (cfgs 0).N = GA (m ((c : Thread nD τ).loc main_arg0)) (m ((c : Thread nD τ).loc main_arg1)) (m ((c : Thread nD τ).loc main_arg3)) := by
  refine (dats m 0 c).arrAt_eq_of_covers 9 _ (by decide +kernel) fun t hf y => ?_
  have i0 := idx t
  blk_simp
  rw [after0_9]
  idx_vars y
  rw [pay5_at, row_v m c t y0 ⟨t.val * 256 + y0.val, by have := y0.isLt; have := lt70 t; omega⟩ rfl]
  have e : ((cfg0.win 9).blk t).view.emb (ix2 y0 y1) = ix2 ⟨t.val * 256 + y0.val, by have := y0.isLt; have := lt70 t; omega⟩ y1 := by
    blk_ext [i0]
  exact (congrArg (GA (m ((c : Thread nD τ).loc main_arg0)) (m ((c : Thread nD τ).loc main_arg1)) (m ((c : Thread nD τ).loc main_arg3))) e).symm

/-- The sample keys, blockwise. -/
theorem arr_6 : (dats m 0 c).arrAt 6 (cfgs 0).N = GS (m ((c : Thread nD τ).loc main_arg0)) (m ((c : Thread nD τ).loc main_arg1)) (m ((c : Thread nD τ).loc main_arg2)) := by
  refine (dats m 0 c).arrAt_eq_of_covers 6 _ (by decide +kernel) fun t hf y => ?_
  have h : 66 ≤ t.val := by have := flush6_iff t; rw [hf] at this; simpa using this.symm
  have i0 := idx_sample t h
  blk_simp
  rw [after0_6]
  idx_vars y
  rw [pay2_at, row_k m c t y0 ⟨16896 + ((t.val - 66) * 256 + y0.val), by have := y0.isLt; have := lt70 t; omega⟩
    (by show 16896 + ((t.val - 66) * 256 + y0.val) = _; omega)]
  have e : ((cfg0.win 6).blk t).view.emb (ix2 y0 y1) = ix2 ⟨(t.val - 66) * 256 + y0.val, by have := y0.isLt; have := lt70 t; omega⟩ y1 := by
    blk_ext [i0]
  exact (congrArg (GS (m ((c : Thread nD τ).loc main_arg0)) (m ((c : Thread nD τ).loc main_arg1)) (m ((c : Thread nD τ).loc main_arg2))) e).symm

/-- The sample values, blockwise. -/
theorem arr_7 : (dats m 0 c).arrAt 7 (cfgs 0).N = GS (m ((c : Thread nD τ).loc main_arg0)) (m ((c : Thread nD τ).loc main_arg1)) (m ((c : Thread nD τ).loc main_arg3)) := by
  refine (dats m 0 c).arrAt_eq_of_covers 7 _ (by decide +kernel) fun t hf y => ?_
  have h : 66 ≤ t.val := by have := flush7_iff t; rw [hf] at this; simpa using this.symm
  have i0 := idx_sample t h
  blk_simp
  rw [after0_7]
  idx_vars y
  rw [pay3_at, row_v m c t y0 ⟨16896 + ((t.val - 66) * 256 + y0.val), by have := y0.isLt; have := lt70 t; omega⟩
    (by show 16896 + ((t.val - 66) * 256 + y0.val) = _; omega)]
  have e : ((cfg0.win 7).blk t).view.emb (ix2 y0 y1) = ix2 ⟨(t.val - 66) * 256 + y0.val, by have := y0.isLt; have := lt70 t; omega⟩ y1 := by
    blk_ext [i0]
  exact (congrArg (GS (m ((c : Thread nD τ).loc main_arg0)) (m ((c : Thread nD τ).loc main_arg1)) (m ((c : Thread nD τ).loc main_arg3))) e).symm

/-- The coordinates of a written element of a block that may overhang the array's end. -/
theorem emb4 (t : Fin cfg0.N) (y : (win0_4.xblock (grid0.coords t)).Idx) (a : Fin 3) :
    ((((cfg0.win 4).blk t).view.emb y a : Fin _) : ℕ) = win0_4.index t a * S1x256x1024.size a + (y a).val := by
  show win0_4.index t a * S1x256x1024.size a + 1 * (y a).val = _; omega

/-- The prompt keys, blockwise: what is written back is the part inside the array of the last prompt point's block. -/
theorem arr_4 : (dats m 0 c).arrAt 4 (cfgs 0).N = GP (m ((c : Thread nD τ).loc main_arg0)) (m ((c : Thread nD τ).loc main_arg1)) (m ((c : Thread nD τ).loc main_arg2)) := by
  refine (dats m 0 c).arrAt_eq_of_covers 4 _ (by decide +kernel) fun t hf y => ?_
  have hi := (idx_prompt t).1
  have e0 := emb4 t y
  have hs : (lastPrompt t).val < 66 := by simp only [lastPrompt]; omega
  rw [after0_4]
  show k0_pay6 (iblk m c 0 (lastPrompt t)) (iblk m c 1 (lastPrompt t)) (iblk m c 2 (lastPrompt t)) (win0_4.xinj (grid0.coords t) y) = GP (m ((c : Thread nD τ).loc main_arg0)) (m ((c : Thread nD τ).loc main_arg1)) (m ((c : Thread nD τ).loc main_arg2)) (((cfg0.win 4).blk t).view.emb y)
  have hz : ∀ a, (win0_4.xinj (grid0.coords t) y a).val = (y a).val := fun _ => rfl
  generalize win0_4.xinj (grid0.coords t) y = z at *
  generalize ((cfg0.win 4).blk t).view.emb y = i at *
  generalize lastPrompt t = s at *
  have q0 := hz 0
  have q1 := hz 1
  have q2 := hz 2
  have j0 := e0 0
  have j1 := e0 1
  have j2 := e0 2
  rw [hi] at j0 j1 j2
  idx_vars z
  idx_vars i
  rw [pay6_at]
  simp only [ix3, Matrix.cons_val_zero, Matrix.cons_val_one, Matrix.cons_val_two, Matrix.cons_val, Matrix.tail_cons, Matrix.head_cons] at q0 q1 q2 j0 j1 j2
  rw [row_k m c s z1 ⟨i0.val * 8448 + i1.val, by have h0 := i0.isLt; have h1 := i1.isLt; omega⟩ (by show i0.val * 8448 + i1.val = _; have := z1.isLt; omega)]
  exact congrArg (kvRow (m ((c : Thread nD τ).loc main_arg0)) (m ((c : Thread nD τ).loc main_arg1)) (m ((c : Thread nD τ).loc main_arg2)) _) (Fin.ext (by show z2.val = i2.val; omega))

/-- The coordinates of a written element of a block that may overhang the array's end. -/
theorem emb5 (t : Fin cfg0.N) (y : (win0_5.xblock (grid0.coords t)).Idx) (a : Fin 3) :
    ((((cfg0.win 5).blk t).view.emb y a : Fin _) : ℕ) = win0_5.index t a * S1x256x1024.size a + (y a).val := by
  show win0_5.index t a * S1x256x1024.size a + 1 * (y a).val = _; omega

/-- The prompt values, blockwise: what is written back is the part inside the array of the last prompt point's block. -/
theorem arr_5 : (dats m 0 c).arrAt 5 (cfgs 0).N = GP (m ((c : Thread nD τ).loc main_arg0)) (m ((c : Thread nD τ).loc main_arg1)) (m ((c : Thread nD τ).loc main_arg3)) := by
  refine (dats m 0 c).arrAt_eq_of_covers 5 _ (by decide +kernel) fun t hf y => ?_
  have hi := (idx_prompt t).2
  have e0 := emb5 t y
  have hs : (lastPrompt t).val < 66 := by simp only [lastPrompt]; omega
  rw [after0_5]
  show k0_pay7 (iblk m c 0 (lastPrompt t)) (iblk m c 1 (lastPrompt t)) (iblk m c 3 (lastPrompt t)) (win0_5.xinj (grid0.coords t) y) = GP (m ((c : Thread nD τ).loc main_arg0)) (m ((c : Thread nD τ).loc main_arg1)) (m ((c : Thread nD τ).loc main_arg3)) (((cfg0.win 5).blk t).view.emb y)
  have hz : ∀ a, (win0_5.xinj (grid0.coords t) y a).val = (y a).val := fun _ => rfl
  generalize win0_5.xinj (grid0.coords t) y = z at *
  generalize ((cfg0.win 5).blk t).view.emb y = i at *
  generalize lastPrompt t = s at *
  have q0 := hz 0
  have q1 := hz 1
  have q2 := hz 2
  have j0 := e0 0
  have j1 := e0 1
  have j2 := e0 2
  rw [hi] at j0 j1 j2
  idx_vars z
  idx_vars i
  rw [pay7_at]
  simp only [ix3, Matrix.cons_val_zero, Matrix.cons_val_one, Matrix.cons_val_two, Matrix.cons_val, Matrix.tail_cons, Matrix.head_cons] at q0 q1 q2 j0 j1 j2
  rw [row_v m c s z1 ⟨i0.val * 8448 + i1.val, by have h0 := i0.isLt; have h1 := i1.isLt; omega⟩ (by show i0.val * 8448 + i1.val = _; have := z1.isLt; omega)]
  exact congrArg (kvRow (m ((c : Thread nD τ).loc main_arg0)) (m ((c : Thread nD τ).loc main_arg1)) (m ((c : Thread nD τ).loc main_arg3)) _) (Fin.ext (by show z2.val = i2.val; omega))

end Kernel

end Cert.KvRows

end
-- ==== Proof.FfnOutIdealRun.lean ====
/-
  The last call (output projection, residual and second feed-forward of layer 1), run: at each prompt point the body
  leaves the prompt block in the first result's buffer, at each sample point the sample block in the second's. The first
  result's last block is written back after the sample points, which leave its buffer alone.
-/
module

public import proofs.«01_k».proof.Proof.Gen.FfnOutIdeal.Frame
public import proofs.«01_k».proof.Proof.Gen.FfnOutIdeal.Skeleton
public import proofs.«01_k».proof.Proof.Kept
public import Idealize.ShloMosaic.Lib.Pipeline.FrameBody
public import Idealize.ShloMosaic.Lib.Pipeline.ValueKit
public import Idealize.ShloMosaic.Lib.Ring
public import Idealize.ShloMosaic.Lib.Tactic
public import Idealize.ShloMosaic.Lib.Claim

@[expose] public section

-- a rectangle's membership is looked up coordinate by coordinate along its longest axis
set_option maxRecDepth 16384

noncomputable section

namespace Cert.FfnOutIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Row `k` of the three gain rows. -/
def gain0 (x : Vec F S3x1024 .f32) : Vec F S1x1024 .f32 := View.ld x (Rect.unit (s := S3x1024) ![0, 0] S1x1024.size inb_S3x1024_S1x1024_0_0)
def gain1 (x : Vec F S3x1024 .f32) : Vec F S1x1024 .f32 := View.ld x (Rect.unit (s := S3x1024) ![1, 0] S1x1024.size inb_S3x1024_S1x1024_1_0)
def gain2 (x : Vec F S3x1024 .f32) : Vec F S1x1024 .f32 := View.ld x (Rect.unit (s := S3x1024) ![2, 0] S1x1024.size inb_S3x1024_S1x1024_2_0)

/-- The block of rows the body computes from its input blocks. -/
def rowsOut (i : grid0.Coords) (x0 : Vec F S512x1024 .f32) (x1 : Vec F S512x1024 .f32) (x2 : Vec F S512x1024 .f32) (x3 : Vec F S1024x1024 .bf16) (x4 : Vec F S3x1024 .f32) (x5 : Vec F S1x1x1024x2816 .bf16) (x6 : Vec F S1x1x1024x2816 .bf16) (x7 : Vec F S1x1x2816x1024 .bf16) : Vec F S512x1024 .f32 :=
  k0_pay3 (k0_pay1 i x2 x1 x0 x3 (gain0 x4)) (k0_pay2 i x2 x1 x0 x3 (gain0 x4) (gain1 x4)) x5 x6 x7 (gain2 x4)

/-- The same block as the prompt result's buffer holds it, with its leading axis of length 1. -/
def promptOut (i : grid0.Coords) (x0 : Vec F S512x1024 .f32) (x1 : Vec F S512x1024 .f32) (x2 : Vec F S512x1024 .f32) (x3 : Vec F S1024x1024 .bf16) (x4 : Vec F S3x1024 .f32) (x5 : Vec F S1x1x1024x2816 .bf16) (x6 : Vec F S1x1x1024x2816 .bf16) (x7 : Vec F S1x1x2816x1024 .bf16) : Vec F S1x512x1024 .f32 :=
  k0_pay4 (k0_pay1 i x2 x1 x0 x3 (gain0 x4)) (k0_pay2 i x2 x1 x0 x3 (gain0 x4) (gain1 x4)) x5 x6 x7 (gain2 x4)

-- the run's term is large
set_option maxHeartbeats 1000000 in
/-- The body at a prompt point: the prompt buffer ends at the point's block, the sample buffer is left alone. -/
theorem run_prompt (c : Dev nD) (i : grid0.Coords) (a0 : Memref sig .tc .vmem S512x1024 .f32) (h0 : a0.IsWhole) (a1 : Memref sig .tc .vmem S512x1024 .f32) (h1 : a1.IsWhole) (a2 : Memref sig .tc .vmem S512x1024 .f32) (h2 : a2.IsWhole) (a3 : Memref sig .tc .vmem S1024x1024 .bf16) (h3 : a3.IsWhole) (a4 : Memref sig .tc .vmem S3x1024 .f32) (h4 : a4.IsWhole) (a5 : Memref sig .tc .vmem S1x1x1024x2816 .bf16) (h5 : a5.IsWhole) (a6 : Memref sig .tc .vmem S1x1x1024x2816 .bf16) (h6 : a6.IsWhole) (a7 : Memref sig .tc .vmem S1x1x2816x1024 .bf16) (h7 : a7.IsWhole) (a8 : Memref sig .tc .vmem S1x512x1024 .f32) (h8 : a8.IsWhole) (a9 : Memref sig .tc .vmem S512x1024 .f32) (h9 : a9.IsWhole)
    (hc0 : k0_cond1 i = 1#1) (hc1 : ¬k0_cond2 i = 1#1) (x0 : Vec F S512x1024 .f32) (x1 : Vec F S512x1024 .f32) (x2 : Vec F S512x1024 .f32) (x3 : Vec F S1024x1024 .bf16) (x4 : Vec F S3x1024 .f32) (x5 : Vec F S1x1x1024x2816 .bf16) (x6 : Vec F S1x1x1024x2816 .bf16) (x7 : Vec F S1x1x2816x1024 .bf16)
    (z : Vec F S512x1024 .f32) (E : Set ℕ) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ (∃ d, owns (c : Thread nD τ) a8 fullShare d) ∗ owns (c : Thread nD τ) a9 fullShare z
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare (promptOut i x0 x1 x2 x3 x4 x5 x6 x7) ∗ owns (c : Thread nD τ) a9 fullShare z) -∗ K ⟨⟩))
      ⊢ wp frame (wpE (defs₀ (F := F)) Variants.none c none) E (cc0_ffn_out i a0 h0 a1 h1 a2 h2 a3 h3 a4 h4 a5 h5 a6 h6 a7 h7 a8 h8 a9 h9) K := by
  simp only [cc0_ffn_out_eq_skeleton]; unfold cc0_ffn_out_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, Hk⟩
  obtain rfl := h0.eq_unread hf0; obtain rfl := h1.eq_unread hf1; obtain rfl := h2.eq_unread hf2; obtain rfl := h3.eq_unread hf3; obtain rfl := h4.eq_unread hf4; obtain rfl := h5.eq_unread hf5; obtain rfl := h6.eq_unread hf6; obtain rfl := h7.eq_unread hf7; obtain rfl := h9.eq_unread hf9
  sl_exec (disch := first | sl_exact hc0 | sl_exact hc1)
  sl_step
  iapply Hk
  isplitl [H0]
  · iexists _; isplitr; · ipureintro; exact h0.read_unread _
    iexact H0
  isplitl [H1]
  · iexists _; isplitr; · ipureintro; exact h1.read_unread _
    iexact H1
  isplitl [H2]
  · iexists _; isplitr; · ipureintro; exact h2.read_unread _
    iexact H2
  isplitl [H3]
  · iexists _; isplitr; · ipureintro; exact h3.read_unread _
    iexact H3
  isplitl [H4]
  · iexists _; isplitr; · ipureintro; exact h4.read_unread _
    iexact H4
  isplitl [H5]
  · iexists _; isplitr; · ipureintro; exact h5.read_unread _
    iexact H5
  isplitl [H6]
  · iexists _; isplitr; · ipureintro; exact h6.read_unread _
    iexact H6
  isplitl [H7]
  · iexists _; isplitr; · ipureintro; exact h7.read_unread _
    iexact H7
  isplitl [H8]
  · iexists _; isplitr
    swap; · iexact H8
    ipureintro
    rw [View.read_writes_eq_canon _ _ _ (View.cover_of_tiledL _ S1x512x1024.size (by sl_kernel_rfl))]
    frame_out
    rfl
  iexists _; isplitr; · ipureintro; exact h9.read_unread _
  iexact H9

-- the run's term is large
set_option maxHeartbeats 1000000 in
/-- The body at a sample point: the sample buffer ends at the point's block, the prompt buffer is left alone. -/
theorem run_sample (c : Dev nD) (i : grid0.Coords) (a0 : Memref sig .tc .vmem S512x1024 .f32) (h0 : a0.IsWhole) (a1 : Memref sig .tc .vmem S512x1024 .f32) (h1 : a1.IsWhole) (a2 : Memref sig .tc .vmem S512x1024 .f32) (h2 : a2.IsWhole) (a3 : Memref sig .tc .vmem S1024x1024 .bf16) (h3 : a3.IsWhole) (a4 : Memref sig .tc .vmem S3x1024 .f32) (h4 : a4.IsWhole) (a5 : Memref sig .tc .vmem S1x1x1024x2816 .bf16) (h5 : a5.IsWhole) (a6 : Memref sig .tc .vmem S1x1x1024x2816 .bf16) (h6 : a6.IsWhole) (a7 : Memref sig .tc .vmem S1x1x2816x1024 .bf16) (h7 : a7.IsWhole) (a8 : Memref sig .tc .vmem S1x512x1024 .f32) (h8 : a8.IsWhole) (a9 : Memref sig .tc .vmem S512x1024 .f32) (h9 : a9.IsWhole)
    (hc0 : ¬k0_cond1 i = 1#1) (hc1 : k0_cond2 i = 1#1) (x0 : Vec F S512x1024 .f32) (x1 : Vec F S512x1024 .f32) (x2 : Vec F S512x1024 .f32) (x3 : Vec F S1024x1024 .bf16) (x4 : Vec F S3x1024 .f32) (x5 : Vec F S1x1x1024x2816 .bf16) (x6 : Vec F S1x1x1024x2816 .bf16) (x7 : Vec F S1x1x2816x1024 .bf16)
    (z : Vec F S1x512x1024 .f32) (E : Set ℕ) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare z ∗ (∃ d, owns (c : Thread nD τ) a9 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare z ∗ owns (c : Thread nD τ) a9 fullShare (rowsOut i x0 x1 x2 x3 x4 x5 x6 x7)) -∗ K ⟨⟩))
      ⊢ wp frame (wpE (defs₀ (F := F)) Variants.none c none) E (cc0_ffn_out i a0 h0 a1 h1 a2 h2 a3 h3 a4 h4 a5 h5 a6 h6 a7 h7 a8 h8 a9 h9) K := by
  simp only [cc0_ffn_out_eq_skeleton]; unfold cc0_ffn_out_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  obtain rfl := h0.eq_unread hf0; obtain rfl := h1.eq_unread hf1; obtain rfl := h2.eq_unread hf2; obtain rfl := h3.eq_unread hf3; obtain rfl := h4.eq_unread hf4; obtain rfl := h5.eq_unread hf5; obtain rfl := h6.eq_unread hf6; obtain rfl := h7.eq_unread hf7; obtain rfl := h8.eq_unread hf8
  sl_exec (disch := first | sl_exact hc0 | sl_exact hc1)
  sl_step
  iapply Hk
  isplitl [H0]
  · iexists _; isplitr; · ipureintro; exact h0.read_unread _
    iexact H0
  isplitl [H1]
  · iexists _; isplitr; · ipureintro; exact h1.read_unread _
    iexact H1
  isplitl [H2]
  · iexists _; isplitr; · ipureintro; exact h2.read_unread _
    iexact H2
  isplitl [H3]
  · iexists _; isplitr; · ipureintro; exact h3.read_unread _
    iexact H3
  isplitl [H4]
  · iexists _; isplitr; · ipureintro; exact h4.read_unread _
    iexact H4
  isplitl [H5]
  · iexists _; isplitr; · ipureintro; exact h5.read_unread _
    iexact H5
  isplitl [H6]
  · iexists _; isplitr; · ipureintro; exact h6.read_unread _
    iexact H6
  isplitl [H7]
  · iexists _; isplitr; · ipureintro; exact h7.read_unread _
    iexact H7
  isplitl [H8]
  · iexists _; isplitr; · ipureintro; exact h8.read_unread _
    iexact H8
  iexists _; isplitr
  swap; · iexact H9
  ipureintro
  rw [View.read_writes_eq_canon _ _ _ (View.cover_of_tiledL _ S512x1024.size (by sl_kernel_rfl))]
  frame_out
  rfl

theorem isPrompt : ∀ t : Fin cfg0.N, k0_cond1 (grid0.coords t) = 1#1 ↔ t.val < 32 :=
  (by decide +kernel : ∀ t : Fin grid0.N, k0_cond1 (grid0.coords t) = 1#1 ↔ t.val < 32)
theorem isSample : ∀ t : Fin cfg0.N, k0_cond2 (grid0.coords t) = 1#1 ↔ 32 ≤ t.val :=
  (by decide +kernel : ∀ t : Fin grid0.N, k0_cond2 (grid0.coords t) = 1#1 ↔ 32 ≤ t.val)
theorem idle8 : ∀ t : Fin cfg0.N, cfg0.idle 8 (cfg0.grid.coords t) = decide (32 ≤ t.val) :=
  (by decide +kernel : ∀ t : Fin grid0.N, idle0 8 (grid0.coords t) = decide (32 ≤ t.val))
theorem idle9 : ∀ t : Fin cfg0.N, cfg0.idle 9 (cfg0.grid.coords t) = decide (t.val < 32) :=
  (by decide +kernel : ∀ t : Fin grid0.N, idle0 9 (grid0.coords t) = decide (t.val < 32))
theorem flush8_iff : ∀ t : Fin cfg0.N, (cfg0.win 8).flush t = (decide (t.val < 31) || decide (t.val = 33)) :=
  (by decide +kernel : ∀ t : Fin grid0.N, win0_8.flush t = (decide (t.val < 31) || decide (t.val = 33)))
theorem flush9_iff : ∀ t : Fin cfg0.N, (cfg0.win 9).flush t = decide (32 ≤ t.val) :=
  (by decide +kernel : ∀ t : Fin grid0.N, win0_9.flush t = decide (32 ≤ t.val))

/-- The last prompt point up to point `t`. -/
def lastPrompt (t : Fin cfg0.N) : Fin cfg0.N := ⟨min t.val 31, lt_of_le_of_lt (min_le_left _ _) t.isLt⟩

theorem lastPrompt_of_lt {t : Fin cfg0.N} (h : t.val < 32) : lastPrompt t = t := Fin.ext (by simp only [lastPrompt]; omega)

/-- What the pipeline's buffers hold after each point: the inputs their blocks, the prompt result the block of the last
    prompt point so far, the sample result the point's block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => promptOut (grid0.coords (lastPrompt t)) (iblk m c 0 (lastPrompt t)) (iblk m c 1 (lastPrompt t)) (iblk m c 2 (lastPrompt t)) (iblk m c 3 (lastPrompt t)) (iblk m c 4 (lastPrompt t)) (iblk m c 5 (lastPrompt t)) (iblk m c 6 (lastPrompt t)) (iblk m c 7 (lastPrompt t))
    | ⟨9, _⟩ => rowsOut (grid0.coords t) (iblk m c 0 t) (iblk m c 1 t) (iblk m c 2 t) (iblk m c 3 t) (iblk m c 4 t) (iblk m c 5 t) (iblk m c 6 t) (iblk m c 7 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = promptOut (grid0.coords (lastPrompt t)) (iblk m c 0 (lastPrompt t)) (iblk m c 1 (lastPrompt t)) (iblk m c 2 (lastPrompt t)) (iblk m c 3 (lastPrompt t)) (iblk m c 4 (lastPrompt t)) (iblk m c 5 (lastPrompt t)) (iblk m c 6 (lastPrompt t)) (iblk m c 7 (lastPrompt t)) := by
  dsimp only [dats]
theorem after0_9 (c : Dev nD) (t : Fin cfg0.N) : (dats m 0 c).after 9 t = rowsOut (grid0.coords t) (iblk m c 0 t) (iblk m c 1 t) (iblk m c 2 t) (iblk m c 3 t) (iblk m c 4 t) (iblk m c 5 t) (iblk m c 6 t) (iblk m c 7 t) := by
  dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-- At the last point the prompt buffer still holds the last prompt point's block. -/
theorem before0_8 (c : Dev nD) (t : Fin cfg0.N) (ht : t.val = 33) (d) : (dats m 0 c).before 8 t d = (dats m 0 c).after 8 t := by
  have hN : (31 : ℕ) < cfg0.N := lt_of_le_of_lt (by omega : 31 ≤ t.val) t.isLt
  rw [Cert.Kept.before_eq_after (dats m 0 c) 8 (fun s => (cfg0.win 8).fetch_out rfl s) (fun _ _ => rfl) ⟨31, hN⟩ t
    (by simp only; omega) (by rw [idle8]; rfl) (by rw [flush8_iff]; rfl)
    (fun j h h' => ⟨by rw [idle8]; simp only at h ⊢; exact decide_eq_true (by omega),
      by rw [flush8_iff]; simp only at h; simp only [Bool.or_eq_false_iff, decide_eq_false_iff_not]; omega⟩) d,
    after0_8, after0_8]
  have e : lastPrompt t = lastPrompt ⟨31, hN⟩ := Fin.ext (by simp only [lastPrompt]; omega)
  rw [e]

/-- What the body is called with at a point, and what it hands back. -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d)))
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

set_option maxHeartbeats 1600000 in
/-- The body at any point, by the kind of the point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl]
  rw [show (dats m 0 c).leavesExact 0 t = owns (c : Thread nD τ) (win0_0.stage (cfg0.slots t 0)) fullShare ((dats m 0 c).after 0 t) from rfl, after0_0]
  rw [show (dats m 0 c).leavesExact 1 t = owns (c : Thread nD τ) (win0_1.stage (cfg0.slots t 1)) fullShare ((dats m 0 c).after 1 t) from rfl, after0_1]
  rw [show (dats m 0 c).leavesExact 2 t = owns (c : Thread nD τ) (win0_2.stage (cfg0.slots t 2)) fullShare ((dats m 0 c).after 2 t) from rfl, after0_2]
  rw [show (dats m 0 c).leavesExact 3 t = owns (c : Thread nD τ) (win0_3.stage (cfg0.slots t 3)) fullShare ((dats m 0 c).after 3 t) from rfl, after0_3]
  rw [show (dats m 0 c).leavesExact 4 t = owns (c : Thread nD τ) (win0_4.stage (cfg0.slots t 4)) fullShare ((dats m 0 c).after 4 t) from rfl, after0_4]
  rw [show (dats m 0 c).leavesExact 5 t = owns (c : Thread nD τ) (win0_5.stage (cfg0.slots t 5)) fullShare ((dats m 0 c).after 5 t) from rfl, after0_5]
  rw [show (dats m 0 c).leavesExact 6 t = owns (c : Thread nD τ) (win0_6.stage (cfg0.slots t 6)) fullShare ((dats m 0 c).after 6 t) from rfl, after0_6]
  rw [show (dats m 0 c).leavesExact 7 t = owns (c : Thread nD τ) (win0_7.stage (cfg0.slots t 7)) fullShare ((dats m 0 c).after 7 t) from rfl, after0_7]
  have hN : t.val < 34 := lt_of_lt_of_eq t.isLt (show cfg0.N = 34 from N_0)
  by_cases h : t.val < 32
  · rw [show (dats m 0 c).leavesExact 8 t = owns (c : Thread nD τ) (win0_8.stage (cfg0.slots t 8)) fullShare ((dats m 0 c).after 8 t) from by
        unfold Dat.leavesExact; rw [idle8 t, decide_eq_false (by omega)], after0_8, lastPrompt_of_lt h,
      (dats m 0 c).leavesExact_idle 9 t (by rw [idle9]; exact decide_eq_true h) (by rw [flush9_iff]; exact decide_eq_false (by omega))]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (run_prompt c (grid0.coords t) _ _ _ _ _ _ _ _ _ _ _ _ _ _ _ _ _ _ _ _ ((isPrompt t).mpr h) (fun e => by have := (isSample t).mp e; omega) (iblk m c 0 t) (iblk m c 1 t) (iblk m c 2 t) (iblk m c 3 t) (iblk m c 4 t) (iblk m c 5 t) (iblk m c 6 t) (iblk m c 7 t) _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexact H9
    iintro ⟨H0, H1, H2, H3, H4, H5, H6, H7, H8, H9⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexists _; iexact H9
  · rw [show (dats m 0 c).leavesExact 9 t = owns (c : Thread nD τ) (win0_9.stage (cfg0.slots t 9)) fullShare ((dats m 0 c).after 9 t) from by
        unfold Dat.leavesExact; rw [idle9 t, decide_eq_false h], after0_9]
    by_cases h' : t.val = 33
    · rw [show (dats m 0 c).leavesExact 8 t = owns (c : Thread nD τ) (win0_8.stage (cfg0.slots t 8)) fullShare ((dats m 0 c).after 8 t) from by
        unfold Dat.leavesExact; rw [idle8 t, decide_eq_true (by omega), flush8_iff t, decide_eq_true h', Bool.or_true]]
      simp only [before0_8 m c t h']
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (run_sample c (grid0.coords t) _ _ _ _ _ _ _ _ _ _ _ _ _ _ _ _ _ _ _ _ (fun e => h ((isPrompt t).mp e)) ((isSample t).mpr (by omega)) (iblk m c 0 t) (iblk m c 1 t) (iblk m c 2 t) (iblk m c 3 t) (iblk m c 4 t) (iblk m c 5 t) (iblk m c 6 t) (iblk m c 7 t) _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      iintro ⟨H0, H1, H2, H3, H4, H5, H6, H7, H8, H9⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    · rw [(dats m 0 c).leavesExact_idle 8 t (by rw [idle8]; exact decide_eq_true (by omega))
        (by rw [flush8_iff]; simp only [Bool.or_eq_false_iff, decide_eq_false_iff_not]; omega)]
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (run_sample c (grid0.coords t) _ _ _ _ _ _ _ _ _ _ _ _ _ _ _ _ _ _ _ _ (fun e => h ((isPrompt t).mp e)) ((isSample t).mpr (by omega)) (iblk m c 0 t) (iblk m c 1 t) (iblk m c 2 t) (iblk m c 3 t) (iblk m c 4 t) (iblk m c 5 t) (iblk m c 6 t) (iblk m c 7 t) _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      iintro ⟨H0, H1, H2, H3, H4, H5, H6, H7, H8, H9⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      iexact H9

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

-- the pipeline theorem's arguments are found by unification with this statement
set_option backward.isDefEq.respectTransparency.types false in
/-- Every run ends with the windowed arrays at the contents `dats` names and every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- Every run ends with the arguments as they were and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (frame_of m ρ (dats m) (A_eq m) (run_main m ρ))
  ((θ_run defs _ _).mono (fun _ h => h.2) (run_main_quiescent m ρ))

end Cert.FfnOutIdeal.Gen

end
-- ==== Proof.FfnOutValue.lean ====
/-
  The attention output projection with layer 1's second half step: the kernel's two results and the reference's are the
  finished row of the prompt's and of the sample's tokens: the row plus its normalised attention output, then the half-step
  residual.
-/
module

public import proofs.«01_k».proof.Proof.Rows
public import proofs.«01_k».proof.Proof.FfnOutIdealRun
public import proofs.«01_k».proof.Proof.Gen.FfnOutRefIdeal.Run
public import proofs.«01_k».proof.Proof.Gen.FfnOutRefIdeal.Read
public import Idealize.ShloMosaic.Lib.Pipeline.ValueKit

@[expose] public section

set_option maxRecDepth 16384

noncomputable section

namespace Cert.FfnOutRows

open Idealize.ShloMosaic Idealize.ShloMosaic.TcCoe Cert.Rows

/-- A row plus the normalised product of its attention row with the output weights. -/
def resid (x o : Fin 1024 → EReal) (w : Fin 1024 → Fin 1024 → EReal) (g : Fin 1024 → EReal) (j : Fin 1024) : EReal :=
  x j + rms (lin o w) g j

section Spec
variable (x : Vec Ideal ⟨2, ![17920, 1024]⟩ .f32) (op : Vec Ideal ⟨2, ![16896, 1024]⟩ .f32)
    (os : Vec Ideal ⟨2, ![1024, 1024]⟩ .f32) (wo : Vec Ideal ⟨3, ![1, 1024, 1024]⟩ .f32)
    (g : Vec Ideal ⟨3, ![2, 6, 1024]⟩ .f32) (w1 w3 : Vec Ideal ⟨4, ![2, 2, 1024, 2816]⟩ .f32)
    (w2 : Vec Ideal ⟨4, ![2, 2, 2816, 1024]⟩ .f32)

/-- The finished row of an input row and its attention row. -/
def outRow (xr o : Fin 1024 → EReal) : Fin 1024 → EReal :=
  half (resid xr o (fun k l => wo (ix3 0 k l)) (fun k => g (ix3 1 3 k))) (fun k => g (ix3 1 4 k))
    (fun k => g (ix3 1 5 k)) (fun k l => w1 (ix4 1 1 k l)) (fun k l => w3 (ix4 1 1 k l)) (fun k l => w2 (ix4 1 1 k l))

/-- The prompt result: token `i` of sequence `b` is row `8448 b + 16 + i`. -/
def GP : Vec Ideal ⟨3, ![2, 8192, 1024]⟩ .f32 := fun i =>
  outRow wo g w1 w3 w2
    (fun k => x (ix2 ⟨(i 0).val * 8448 + (i 1).val + 16, by
      have h0 : (i 0).val < 2 := (i 0).isLt
      have h1 : (i 1).val < 8192 := (i 1).isLt
      omega⟩ k))
    (fun k => op (ix2 ⟨(i 0).val * 8448 + (i 1).val + 16, by
      have h0 : (i 0).val < 2 := (i 0).isLt
      have h1 : (i 1).val < 8192 := (i 1).isLt
      omega⟩ k)) (i 2)

/-- The sample result: row `i` is row `16896 + i` of the input. -/
def GS : Vec Ideal ⟨2, ![1024, 1024]⟩ .f32 := fun i =>
  outRow wo g w1 w3 w2 (fun k => x (ix2 ⟨16896 + (i 0).val, by have : (i 0).val < 1024 := (i 0).isLt; omega⟩ k))
    (fun k => os (ix2 (i 0) k)) (i 1)

end Spec

section Ref
open Cert.FfnOutRefIdeal Cert.FfnOutRefIdeal.Read

variable (x0 : Vec Ideal S17920x1024 .f32) (x1 : Vec Ideal S16896x1024 .f32) (x2 : Vec Ideal S1024x1024 .f32)
    (x3 : Vec Ideal S1x1024x1024 .f32) (x4 : Vec Ideal S2x6x1024 .f32)
    (x5 x6 : Vec Ideal S2x2x1024x2816 .f32) (x7 : Vec Ideal S2x2x2816x1024 .f32)

theorem ref_o_prompt (r : Fin 16896) (k : Fin 1024) :
    val_main_v0 (F := Ideal) x1 x2 (ix2 ⟨r.val, by omega⟩ k) = x1 (ix2 r k) := by
  have hr := r.isLt
  pointwise [val_main_v0]

theorem ref_o_prompt' (r : Fin 17920) (r' : Fin 16896) (h : r.val = r'.val) (k : Fin 1024) :
    val_main_v0 (F := Ideal) x1 x2 (ix2 r k) = x1 (ix2 r' k) := by
  rw [show r = ⟨r'.val, lt_trans r'.isLt (by norm_num)⟩ from Fin.ext h]
  exact ref_o_prompt x1 x2 r' k

theorem ref_o_sample (r : Fin 1024) (k : Fin 1024) :
    val_main_v0 (F := Ideal) x1 x2 (ix2 ⟨16896 + r.val, by omega⟩ k) = x2 (ix2 r k) := by
  have hr := r.isLt
  pointwise [val_main_v0]

theorem ref_resid (r : Fin 17920) (j : Fin 1024) :
    val_main_v18 (F := Ideal) x0 x1 x2 x3 x4 (ix2 r j) =
      resid (fun k => x0 (ix2 r k)) (fun k => val_main_v0 (F := Ideal) x1 x2 (ix2 r k)) (fun k l => x3 (ix3 0 k l))
        (fun k => x4 (ix3 1 3 k)) j := by
  pointwise [resid, rms, lin,
    val_main_v1, val_main_v2, val_main_v3, val_main_v4, val_main_v5, val_main_cst, val_main_v6, val_main_v7,
    val_main_cst_0, val_main_v8, val_main_v9, val_main_cst_1, val_main_v10, val_main_v11, val_main_v12,
    val_main_v13, val_main_v14, val_main_v15, val_main_v16, val_main_v17, val_main_v18]

theorem ref_out (r : Fin 17920) (j : Fin 1024) :
    val_main_v62 (F := Ideal) x0 x1 x2 x3 x4 x5 x6 x7 (ix2 r j) =
      outRow x3 x4 x5 x6 x7 (fun k => x0 (ix2 r k)) (fun k => val_main_v0 (F := Ideal) x1 x2 (ix2 r k)) j := by
  pointwise [outRow, half, rms, swiglu, lin, Ideal.logistic, ref_resid,
    val_main_v19, val_main_v20, val_main_v21, val_main_cst_2, val_main_v22, val_main_v23, val_main_cst_3,
    val_main_v24, val_main_v25, val_main_cst_4, val_main_v26, val_main_v27, val_main_v28, val_main_v29,
    val_main_v30, val_main_v31, val_main_v32, val_main_v33, val_main_v34, val_main_v35, val_main_v36,
    val_main_v37, val_main_v38, val_main_v39, val_main_v40, val_main_call0_v0, val_main_call0_v1,
    val_main_call0_cst, val_main_call0_v2, val_main_call0_v3, val_main_call0_cst_0, val_main_call0_v4,
    val_main_call0_v5, val_main_v41, val_main_v42, val_main_v43, val_main_v44, val_main_v45, val_main_v46,
    val_main_v47, val_main_cst_5, val_main_v48, val_main_v49, val_main_cst_6, val_main_v50, val_main_v51,
    val_main_cst_7, val_main_v52, val_main_v53, val_main_v54, val_main_v55, val_main_v56, val_main_v57,
    val_main_v58, val_main_v59, val_main_cst_8, val_main_v60, val_main_v61, val_main_v62]

theorem ref_eq : val_main_v65 (F := Ideal) x0 x1 x2 x3 x4 x5 x6 x7 = GP x0 x1 x3 x4 x5 x6 x7
    ∧ val_main_v66 (F := Ideal) x0 x1 x2 x3 x4 x5 x6 x7 = GS x0 x2 x3 x4 x5 x6 x7 := by
  refine ⟨?_, ?_⟩ <;> funext i <;> idx_vars i
  · pointwise [val_main_v65, val_main_v64, val_main_v63, ref_out, GP]
    refine congrArg₂ (fun a b => outRow x3 x4 x5 x6 x7 a b i2) (funext fun k => ?_) (funext fun k => ?_)
    · exact congrArg (fun r => x0 (ix2 r k)) (Fin.ext (by show _ + (16 + _) = _ + _ + 16; omega))
    · exact ref_o_prompt' x1 x2 _ _ (by show _ + (16 + _) = _ + _ + 16; omega) k
  · pointwise [val_main_v66, ref_out, ref_o_sample, GS]

end Ref

section Kernel
open Cert.FfnOutIdeal Cert.FfnOutIdeal.Gen

variable (x0 x1 x2 : Vec Ideal S512x1024 .f32) (x3 : Vec Ideal S1024x1024 .bf16) (x4 : Vec Ideal S3x1024 .f32)
    (x5 x6 : Vec Ideal S1x1x1024x2816 .bf16) (x7 : Vec Ideal S1x1x2816x1024 .bf16)

theorem gain0_at (k : Fin 1024) : gain0 x4 (ix2 0 k) = x4 (ix2 0 k) := by
  unfold gain0; pointwise []
theorem gain1_at (k : Fin 1024) : gain1 x4 (ix2 0 k) = x4 (ix2 1 k) := by
  unfold gain1; pointwise []
theorem gain2_at (k : Fin 1024) : gain2 x4 (ix2 0 k) = x4 (ix2 2 k) := by
  unfold gain2; pointwise []

/-- The row of a block of results, over the block of attention rows the point takes. -/
def blkRow (o : Vec Ideal S512x1024 .f32) (r : Fin 512) : Fin 1024 → EReal :=
  half (resid (fun k => x0 (ix2 r k)) (fun k => o (ix2 r k)) (fun k l => x3 (ix2 k l)) (fun k => x4 (ix2 0 k)))
    (fun k => x4 (ix2 1 k)) (fun k => x4 (ix2 2 k)) (fun k l => x5 (ix4 0 0 k l)) (fun k l => x6 (ix4 0 0 k l))
    (fun k l => x7 (ix4 0 0 k l))

/-- The comparison the body selects the attention rows by. -/
theorem sel_prompt {i : grid0.Coords} (h : (i 0).val < 32) : Scalar.cmpi .sge (BitVec.ofNat 32 (i 0).val) 32#32 = 0#1 :=
  (by decide +kernel : ∀ n : Fin 34, n.val < 32 → Scalar.cmpi .sge (BitVec.ofNat 32 n.val) 32#32 = 0#1) (i 0) h
theorem sel_sample {i : grid0.Coords} (h : 32 ≤ (i 0).val) : Scalar.cmpi .sge (BitVec.ofNat 32 (i 0).val) 32#32 = 1#1 :=
  (by decide +kernel : ∀ n : Fin 34, 32 ≤ n.val → Scalar.cmpi .sge (BitVec.ofNat 32 n.val) 32#32 = 1#1) (i 0) h

theorem pay_x_prompt {i : grid0.Coords} (h : (i 0).val < 32) (g : Vec Ideal S1x1024 .f32) (r : Fin 512) (j : Fin 1024) :
    k0_pay1 i x2 x1 x0 x3 g (ix2 r j) =
      resid (fun k => x0 (ix2 r k)) (fun k => x1 (ix2 r k)) (fun k l => x3 (ix2 k l)) (fun k => g (ix2 0 k)) j := by
  have e := sel_prompt h
  unfold k0_pay1
  simp only [e, Scalar.select, show ((1#1 : BitVec 1) = 1) from rfl, show ¬((0#1 : BitVec 1) = 1) by decide, if_true, if_false]
  pointwise [resid, rms, lin]

theorem pay_x_sample {i : grid0.Coords} (h : 32 ≤ (i 0).val) (g : Vec Ideal S1x1024 .f32) (r : Fin 512) (j : Fin 1024) :
    k0_pay1 i x2 x1 x0 x3 g (ix2 r j) =
      resid (fun k => x0 (ix2 r k)) (fun k => x2 (ix2 r k)) (fun k l => x3 (ix2 k l)) (fun k => g (ix2 0 k)) j := by
  have e := sel_sample h
  unfold k0_pay1
  simp only [e, Scalar.select, show ((1#1 : BitVec 1) = 1) from rfl, show ¬((0#1 : BitVec 1) = 1) by decide, if_true, if_false]
  pointwise [resid, rms, lin]

/-- The normalised rows the feed-forward map takes, over the rows with the attention added. -/
theorem pay_n (i : grid0.Coords) (g g' : Vec Ideal S1x1024 .f32) (r : Fin 512) (j : Fin 1024) :
    k0_pay2 i x2 x1 x0 x3 g g' (ix2 r j) =
      rms (fun k => k0_pay1 i x2 x1 x0 x3 g (ix2 r k)) (fun k => g' (ix2 0 k)) j := by
  pointwise [k0_pay2, rms]

/-- The half step, over the rows and their normalised rows. -/
theorem pay_h (a : Vec Ideal S512x1024 .f32) (b : Vec Ideal S512x1024 .bf16) (g : Vec Ideal S1x1024 .f32) (r : Fin 512)
    (j : Fin 1024) :
    k0_pay3 a b x5 x6 x7 g (ix2 r j) =
      a (ix2 r j) + Ideal.ofBits .f32 1056964608#32 * rms (swiglu (fun k => b (ix2 r k)) (fun k l => x5 (ix4 0 0 k l))
        (fun k l => x6 (ix4 0 0 k l)) (fun k l => x7 (ix4 0 0 k l))) (fun k => g (ix2 0 k)) j := by
  pointwise [k0_pay3, rms, swiglu, lin]

theorem promptOut_at {i : grid0.Coords} (h : (i 0).val < 32) (u : Fin 1) (r : Fin 512) (j : Fin 1024) :
    promptOut i x0 x1 x2 x3 x4 x5 x6 x7 (ix3 u r j) = blkRow x0 x3 x4 x5 x6 x7 x1 r j := by
  pointwise [promptOut, k0_pay4]
  rw [pay_h]
  simp only [pay_n, pay_x_prompt _ _ _ _ h, gain0_at, gain1_at, gain2_at, blkRow, half]

theorem rowsOut_at {i : grid0.Coords} (h : 32 ≤ (i 0).val) (r : Fin 512) (j : Fin 1024) :
    rowsOut i x0 x1 x2 x3 x4 x5 x6 x7 (ix2 r j) = blkRow x0 x3 x4 x5 x6 x7 x2 r j := by
  unfold rowsOut
  rw [pay_h]
  simp only [pay_n, pay_x_sample _ _ _ _ h, gain0_at, gain1_at, gain2_at, blkRow, half]

/-- Where each window's block stands at a grid point. -/
theorem idx : ∀ t : Fin cfg0.N, win0_3.index t = ![0, 0] ∧ win0_4.index t = ![0, 0]
    ∧ win0_5.index t = ![1, 1, 0, 0] ∧ win0_6.index t = ![1, 1, 0, 0] ∧ win0_7.index t = ![1, 1, 0, 0] :=
  (by decide +kernel : ∀ t : Fin grid0.N, _)

theorem idx_prompt : ∀ t : Fin cfg0.N, t.val < 32 →
    win0_0.index t = ![t.val / 16 * 8448 + t.val % 16 * 512 + 16, 0]
    ∧ win0_1.index t = ![t.val / 16 * 8448 + t.val % 16 * 512 + 16, 0]
    ∧ win0_8.index t = ![t.val / 16, t.val % 16, 0] :=
  (by decide +kernel : ∀ t : Fin grid0.N, t.val < 32 → _)

theorem idx_sample : ∀ t : Fin cfg0.N, 32 ≤ t.val →
    win0_0.index t = ![16896 + (t.val - 32) * 512, 0] ∧ win0_2.index t = ![t.val - 32, 0]
    ∧ win0_8.index t = ![1, 15, 0] ∧ win0_9.index t = ![t.val - 32, 0] :=
  (by decide +kernel : ∀ t : Fin grid0.N, 32 ≤ t.val → _)

/-- The row and column of an element of a block of input rows, which stands at an element offset. -/
theorem emb0 (t : Fin cfg0.N) (y0 : Fin 512) (y1 : Fin 1024) (a : Fin 2) :
    ((((View.whole main_arg0).slice (win0_0.rect t)).emb (ix2 y0 y1) a : Fin _) : ℕ) =
      win0_0.index t a + (ix2 y0 y1 a).val := by
  show win0_0.index t a + 1 * (ix2 y0 y1 a).val = _; omega
theorem emb1 (t : Fin cfg0.N) (y0 : Fin 512) (y1 : Fin 1024) (a : Fin 2) :
    ((((View.whole main_arg1).slice (win0_1.rect t)).emb (ix2 y0 y1) a : Fin _) : ℕ) =
      win0_1.index t a + (ix2 y0 y1 a).val := by
  show win0_1.index t a + 1 * (ix2 y0 y1 a).val = _; omega

theorem idx8 : ∀ t : Fin cfg0.N, win0_8.index t = ![(lastPrompt t).val / 16, (lastPrompt t).val % 16, 0] :=
  (by decide +kernel : ∀ t : Fin grid0.N, _)

theorem coords_val : ∀ t : Fin cfg0.N, (grid0.coords t 0).val = t.val :=
  (by decide +kernel : ∀ t : Fin grid0.N, _)

variable (m : (ℓ : Loc nD τ sig) → Buf (Elt Ideal) ℓ) (c : Dev nD)

theorem blk3 (t : Fin cfg0.N) (k l : Fin 1024) : iblk m c 3 t (ix2 k l) = (m ((c : Thread nD τ).loc main_arg3)) (ix3 0 k l) := by
  blk_point [iblk, V, idx t]
theorem blk4_0 (t : Fin cfg0.N) (k : Fin 1024) : iblk m c 4 t (ix2 0 k) = (m ((c : Thread nD τ).loc main_arg4)) (ix3 1 3 k) := by
  blk_point [iblk, V, idx t]
theorem blk4_1 (t : Fin cfg0.N) (k : Fin 1024) : iblk m c 4 t (ix2 1 k) = (m ((c : Thread nD τ).loc main_arg4)) (ix3 1 4 k) := by
  blk_point [iblk, V, idx t]
theorem blk4_2 (t : Fin cfg0.N) (k : Fin 1024) : iblk m c 4 t (ix2 2 k) = (m ((c : Thread nD τ).loc main_arg4)) (ix3 1 5 k) := by
  blk_point [iblk, V, idx t]
theorem blk5 (t : Fin cfg0.N) (k : Fin 1024) (l : Fin 2816) : iblk m c 5 t (ix4 0 0 k l) = (m ((c : Thread nD τ).loc main_arg5)) (ix4 1 1 k l) := by
  blk_point [iblk, V, idx t]
theorem blk6 (t : Fin cfg0.N) (k : Fin 1024) (l : Fin 2816) : iblk m c 6 t (ix4 0 0 k l) = (m ((c : Thread nD τ).loc main_arg6)) (ix4 1 1 k l) := by
  blk_point [iblk, V, idx t]
theorem blk7 (t : Fin cfg0.N) (k : Fin 2816) (l : Fin 1024) : iblk m c 7 t (ix4 0 0 k l) = (m ((c : Thread nD τ).loc main_arg7)) (ix4 1 1 k l) := by
  blk_point [iblk, V, idx t]

/-- A row of a block of input rows, at a prompt point and at a sample point. -/
theorem blk0_prompt (t : Fin cfg0.N) (h : t.val < 32) (r : Fin 512) (k : Fin 1024) :
    iblk m c 0 t (ix2 r k) =
      (m ((c : Thread nD τ).loc main_arg0)) (ix2 ⟨t.val / 16 * 8448 + (t.val % 16 * 512 + r.val) + 16, by have := r.isLt; omega⟩ k) := by
  have i0 := idx_prompt t h
  blk_point [iblk, V, i0]
  all_goals exact (emb0 _ _ _ _).trans (by rw [i0.1]; simp [ix2] <;> omega)
theorem blk1_prompt (t : Fin cfg0.N) (h : t.val < 32) (r : Fin 512) (k : Fin 1024) :
    iblk m c 1 t (ix2 r k) =
      (m ((c : Thread nD τ).loc main_arg1)) (ix2 ⟨t.val / 16 * 8448 + (t.val % 16 * 512 + r.val) + 16, by have := r.isLt; omega⟩ k) := by
  have i0 := idx_prompt t h
  blk_point [iblk, V, i0]
  all_goals exact (emb1 _ _ _ _).trans (by rw [i0.2.1]; simp [ix2] <;> omega)
theorem lt34 (t : Fin cfg0.N) : t.val < 34 := lt_of_lt_of_eq t.isLt (show cfg0.N = 34 from N_0)
theorem blk0_sample (t : Fin cfg0.N) (h : 32 ≤ t.val) (r : Fin 512) (k : Fin 1024) :
    iblk m c 0 t (ix2 r k) =
      (m ((c : Thread nD τ).loc main_arg0)) (ix2 ⟨16896 + ((t.val - 32) * 512 + r.val), by have := r.isLt; have := lt34 t; omega⟩ k) := by
  have i0 := idx_sample t h
  blk_point [iblk, V, i0]
  all_goals exact (emb0 _ _ _ _).trans (by rw [i0.1]; simp [ix2] <;> omega)
theorem blk2_sample (t : Fin cfg0.N) (h : 32 ≤ t.val) (r : Fin 512) (k : Fin 1024) :
    iblk m c 2 t (ix2 r k) =
      (m ((c : Thread nD τ).loc main_arg2)) (ix2 ⟨(t.val - 32) * 512 + r.val, by have := r.isLt; have := lt34 t; omega⟩ k) := by
  have i0 := idx_sample t h
  blk_point [iblk, V, i0]

/-- The sample result, blockwise: the block of a sample point is the finished rows of its block. -/
theorem arr_s : (dats m 0 c).arrAt 9 (cfgs 0).N = GS (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 9 _ (by decide +kernel) fun t hf y => ?_
  have h : 32 ≤ t.val := by have := flush9_iff t; rw [hf] at this; simpa using this.symm
  have hc : 32 ≤ (grid0.coords t 0).val := by rw [coords_val]; exact h
  have i0 := idx_sample t h
  blk_simp
  rw [after0_9]
  idx_vars y
  rw [rowsOut_at _ _ _ _ _ _ _ _ hc]
  simp only [blkRow, blk0_sample m c t h, blk2_sample m c t h, blk3, blk4_0, blk4_1, blk4_2, blk5, blk6, blk7]
  have e : ((cfg0.win 9).blk t).view.emb (ix2 y0 y1) = ix2 ⟨(t.val - 32) * 512 + y0.val, by have := y0.isLt; have := lt34 t; omega⟩ y1 := by
    blk_ext [i0]
  exact (congrArg (GS (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) e).symm

/-- The prompt result, blockwise: what is written back at a point is the finished rows of the last prompt point's block. -/
theorem arr_p : (dats m 0 c).arrAt 8 (cfgs 0).N = GP (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 8 _ (by decide +kernel) fun t hf y => ?_
  blk_simp
  rw [after0_8]
  idx_vars y
  have i8 := idx8 t
  have hs : (lastPrompt t).val < 32 := by simp only [lastPrompt]; omega
  generalize lastPrompt t = s at *
  rw [promptOut_at _ _ _ _ _ _ _ _ (by rw [coords_val]; exact hs)]
  simp only [blkRow, blk0_prompt m c s hs, blk1_prompt m c s hs, blk3, blk4_0, blk4_1, blk4_2, blk5, blk6, blk7]
  have e : ((cfg0.win 8).blk t).view.emb (ix3 y0 y1 y2) =
      ix3 ⟨s.val / 16, by omega⟩ ⟨s.val % 16 * 512 + y1.val, by have := y1.isLt; omega⟩ y2 := by
    blk_ext [i8]
  exact (congrArg (GP (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7))) e).symm

end Kernel

end Cert.FfnOutRows

end
-- ==== Proof.LruMath.lean ====
/-
  The recurrent layer's scalar functions on the extended reals: the two ways of writing the sigmoid and the input's scale,
  and the eight-step recurrence, sequentially and by doubling.
-/
module

public import Idealize.ShloMosaic.Lib.Pointwise
public import Idealize.ShloMosaic.Lib.IdealHost

@[expose] public section

noncomputable section

namespace Cert.LruRows

open Idealize.ShloMosaic

/-- The logarithm of the sigmoid, in its stable form. -/
def logSig (l : EReal) : EReal := -(max (-l) 0 + Ideal.log1p (Ideal.exp (-(max l (-l)))))

/-- The logarithm of a step's decay, from its gate's argument. -/
def logDecay (z l : EReal) : EReal := 8 * Ideal.logistic z * logSig l

/-- The scale of a step's input, from the logarithm of its decay. -/
def inScale (L : EReal) : EReal := Ideal.sqrt (-(Ideal.exp (2 * L) - 1))

/-- The causal convolution's four taps. -/
def conv (b w0 w1 w2 w3 p0 p1 p2 p3 : EReal) : EReal := b + p0 * w0 + p1 * w1 + p2 * w2 + p3 * w3

/-- The recurrence `h t = a t * h (t - 1) + b t`. -/
def hseq (a b : Fin 8 → EReal) (h : EReal) : ℕ → EReal
  | 0 => a 0 * h + b 0
  | n + 1 => a (Fin.ofNat 8 (n + 1)) * hseq a b h n + b (Fin.ofNat 8 (n + 1))

theorem exp_nonneg (x : EReal) : 0 ≤ Ideal.exp x := by
  induction x with
  | bot => exact le_refl _
  | top => exact le_top
  | coe r => exact EReal.coe_nonneg.mpr (Real.exp_pos r).le

theorem log_nonneg {x : EReal} (h : 1 ≤ x) : 0 ≤ Ideal.log x := by
  induction x with
  | bot => exact absurd h (by decide)
  | top => exact le_top
  | coe r =>
    have h' : (1 : ℝ) ≤ r := by exact_mod_cast h
    show (0 : EReal) ≤ if r ≤ 0 then ⊥ else (Real.log r : EReal)
    rw [if_neg (by linarith)]
    exact EReal.coe_nonneg.mpr (Real.log_nonneg h')

theorem logSig_nonpos (l : EReal) : logSig l ≤ 0 := by
  unfold logSig
  rw [EReal.neg_le, neg_zero]
  refine add_nonneg (le_max_right _ _) (log_nonneg ?_)
  exact le_add_of_nonneg_right (exp_nonneg _)

/-- The sigmoid is a real between zero and one. -/
theorem logistic_real (z : EReal) : ∃ r : ℝ, 0 ≤ r ∧ r ≤ 1 ∧ Ideal.logistic z = r := by
  induction z with
  | bot =>
    refine ⟨0, le_refl _, zero_le_one, ?_⟩
    show Ideal.div 1 (1 + Ideal.exp (-⊥)) = _
    rw [EReal.neg_bot, show Ideal.exp ⊤ = ⊤ from rfl, EReal.add_top_of_ne_bot (by decide)]
    unfold Ideal.div
    rw [if_neg (by decide), EReal.inv_top, mul_zero]; rfl
  | top =>
    refine ⟨1, zero_le_one, le_refl _, ?_⟩
    show Ideal.div 1 (1 + Ideal.exp (-⊤)) = _
    rw [EReal.neg_top, show Ideal.exp ⊥ = 0 from rfl, add_zero]
    unfold Ideal.div
    rw [if_neg one_ne_zero, one_mul, show (1 : EReal) = ((1 : ℝ) : EReal) from rfl, ← EReal.coe_inv, inv_one]
  | coe r =>
    have hp : (0 : ℝ) < 1 + Real.exp (-r) := by have := Real.exp_pos (-r); linarith
    refine ⟨(1 + Real.exp (-r))⁻¹, (inv_pos.mpr hp).le, inv_le_one_of_one_le₀ (by have := Real.exp_pos (-r); linarith), ?_⟩
    show Ideal.div 1 (1 + ((Real.exp (-r) : ℝ) : EReal)) = _
    rw [show (1 : EReal) = ((1 : ℝ) : EReal) from rfl, ← EReal.coe_add]
    unfold Ideal.div
    rw [if_neg (by rw [EReal.coe_eq_zero]; exact hp.ne'), ← EReal.coe_inv, ← EReal.coe_mul, one_mul]

/-- The sigmoid by the hyperbolic tangent. -/
theorem half_tanh (z : EReal) : ((1 / 2 : ℝ) : EReal) * Ideal.tanh (((1 / 2 : ℝ) : EReal) * z) + ((1 / 2 : ℝ) : EReal) = Ideal.logistic z := by
  have hh : (0 : ℝ) < 1 / 2 := by norm_num
  induction z with
  | bot =>
    rw [EReal.coe_mul_bot_of_pos hh]
    show ((1 / 2 : ℝ) : EReal) * ((-1 : ℝ) : EReal) + ((1 / 2 : ℝ) : EReal) = Ideal.div 1 (1 + Ideal.exp (-⊥))
    rw [EReal.neg_bot, show Ideal.exp ⊤ = ⊤ from rfl, EReal.add_top_of_ne_bot (by decide)]
    unfold Ideal.div
    rw [if_neg (by decide), EReal.inv_top, mul_zero, ← EReal.coe_mul, ← EReal.coe_add]
    norm_num
  | top =>
    rw [EReal.coe_mul_top_of_pos hh]
    show ((1 / 2 : ℝ) : EReal) * ((1 : ℝ) : EReal) + ((1 / 2 : ℝ) : EReal) = Ideal.div 1 (1 + Ideal.exp (-⊤))
    rw [EReal.neg_top, show Ideal.exp ⊥ = 0 from rfl, add_zero]
    unfold Ideal.div
    rw [if_neg one_ne_zero, one_mul, show (1 : EReal) = ((1 : ℝ) : EReal) from rfl, ← EReal.coe_inv, inv_one, ← EReal.coe_mul, ← EReal.coe_add]
    norm_num
  | coe r =>
    rw [← EReal.coe_mul]
    show ((1 / 2 : ℝ) : EReal) * ((Real.tanh (1 / 2 * r) : ℝ) : EReal) + ((1 / 2 : ℝ) : EReal) = Ideal.div 1 (1 + ((Real.exp (-r) : ℝ) : EReal))
    have hp : (0 : ℝ) < 1 + Real.exp (-r) := by have := Real.exp_pos (-r); linarith
    rw [show (1 : EReal) = ((1 : ℝ) : EReal) from rfl, ← EReal.coe_add]
    unfold Ideal.div
    rw [if_neg (by rw [EReal.coe_eq_zero]; exact hp.ne'), ← EReal.coe_inv, ← EReal.coe_mul, ← EReal.coe_mul, ← EReal.coe_add]
    congr 1
    have e : Real.exp (-r) = Real.exp (-(1 / 2 * r)) * Real.exp (-(1 / 2 * r)) := by rw [← Real.exp_add]; congr 1; ring
    have e' : Real.exp (1 / 2 * r) * Real.exp (-(1 / 2 * r)) = 1 := by rw [← Real.exp_add]; simp
    rw [Real.tanh_eq_sinh_div_cosh, Real.sinh_eq, Real.cosh_eq, e]
    have h1 := Real.exp_pos (1 / 2 * r)
    have h2 := Real.exp_pos (-(1 / 2 * r))
    generalize Real.exp (1 / 2 * r) = p at *
    generalize Real.exp (-(1 / 2 * r)) = q at *
    have : p + q ≠ 0 := by positivity
    have : 1 + q * q ≠ 0 := by positivity
    field_simp
    nlinarith

/-- A decay's logarithm is not positive. -/
theorem logDecay_nonpos (z l : EReal) : logDecay z l ≤ 0 := by
  obtain ⟨r, h0, -, e⟩ := logistic_real z
  unfold logDecay
  rw [e, show (8 : EReal) = ((8 : ℝ) : EReal) from rfl, ← EReal.coe_mul]
  have h := mul_nonneg (EReal.coe_nonneg.mpr (by positivity : 0 ≤ 8 * r)) (EReal.neg_nonneg.mpr (logSig_nonpos l))
  rw [mul_neg] at h
  exact EReal.neg_nonneg.mp h

/-- A decay is a real that is not negative. -/
theorem decay_real {L : EReal} (h : L ≤ 0) : ∃ r : ℝ, 0 ≤ r ∧ Ideal.exp L = r := by
  induction L with
  | bot => exact ⟨0, le_refl _, rfl⟩
  | top => exact absurd h (by decide)
  | coe r => exact ⟨Real.exp r, (Real.exp_pos r).le, rfl⟩

/-- The input's scale by the hyperbolic tangent. -/
theorem inScale_tanh {L : EReal} (h : L ≤ 0) :
    (if 0 < (0 - Ideal.tanh L) * (Ideal.exp L * Ideal.exp L + 1) then
      ((0 - Ideal.tanh L) * (Ideal.exp L * Ideal.exp L + 1)) * Ideal.rsqrt ((0 - Ideal.tanh L) * (Ideal.exp L * Ideal.exp L + 1)) else 0)
      = inScale L := by
  have key : ∀ y : ℝ, 0 ≤ y → (if (0 : EReal) < (y : EReal) then (y : EReal) * Ideal.rsqrt (y : EReal) else 0) = Ideal.sqrt (y : EReal) := by
    intro y hy
    show _ = if y < 0 then ⊥ else (Real.sqrt y : EReal)
    rw [if_neg (not_lt.mpr hy)]
    rcases hy.eq_or_lt with rfl | hy
    · rw [if_neg (by simp)]; simp
    · rw [if_pos (EReal.coe_pos.mpr hy)]
      show (y : EReal) * (if y < 0 then ⊥ else if y = 0 then ⊤ else (((Real.sqrt y)⁻¹ : ℝ) : EReal)) = _
      rw [if_neg (not_lt.mpr hy.le), if_neg hy.ne', ← EReal.coe_mul]
      congr 1
      have := Real.sqrt_pos.mpr hy
      field_simp
      exact (Real.sq_sqrt hy.le).symm
  induction L with
  | bot =>
    have e : (0 - Ideal.tanh ⊥) * (Ideal.exp ⊥ * Ideal.exp ⊥ + 1) = ((1 : ℝ) : EReal) := by
      show (0 - (-1 : EReal)) * ((0 : EReal) * 0 + 1) = 1
      simp
    rw [e, key 1 zero_le_one]
    unfold inScale
    rw [EReal.mul_bot_of_pos (by norm_num)]
    show _ = Ideal.sqrt (-((0 : EReal) - 1))
    simp
  | top => exact absurd h (by decide)
  | coe r =>
    have hr : r ≤ 0 := by exact_mod_cast h
    have e : (0 - Ideal.tanh (r : EReal)) * (Ideal.exp (r : EReal) * Ideal.exp (r : EReal) + 1) = ((1 - Real.exp (2 * r) : ℝ) : EReal) := by
      show ((0 : ℝ) - ((Real.tanh r : ℝ) : EReal)) * (((Real.exp r : ℝ) : EReal) * ((Real.exp r : ℝ) : EReal) + ((1 : ℝ) : EReal)) = _
      rw [← EReal.coe_sub, ← EReal.coe_mul, ← EReal.coe_add, ← EReal.coe_mul]
      congr 1
      rw [show Real.exp (2 * r) = Real.exp r * Real.exp r from by rw [← Real.exp_add]; congr 1; ring,
        Real.tanh_eq_sinh_div_cosh, Real.sinh_eq, Real.cosh_eq]
      have e' : Real.exp r * Real.exp (-r) = 1 := by rw [← Real.exp_add]; simp
      have h1 := Real.exp_pos r
      have h2 := Real.exp_pos (-r)
      generalize Real.exp r = p at *
      generalize Real.exp (-r) = q at *
      have : p + q ≠ 0 := by positivity
      field_simp
      have hp : p * p * q = p := by rw [mul_assoc, e', mul_one]
      nlinarith
    have hy : 0 ≤ 1 - Real.exp (2 * r) := by have := Real.exp_le_one_iff.mpr (by linarith : 2 * r ≤ 0); linarith
    rw [e, key _ hy]
    unfold inScale
    congr 1
    show _ = -(Ideal.exp (((2 : ℝ) : EReal) * (r : EReal)) - ((1 : ℝ) : EReal))
    rw [← EReal.coe_mul]
    show _ = -(((Real.exp (2 * r) : ℝ) : EReal) - ((1 : ℝ) : EReal))
    rw [← EReal.coe_sub, ← EReal.coe_neg]
    congr 1; ring

/-- A product with a real that is not negative goes over a sum. -/
theorem coe_mul_add {r : ℝ} (h : 0 ≤ r) (x y : EReal) : (r : EReal) * (x + y) = r * x + r * y :=
  EReal.left_distrib_of_nonneg_of_ne_top (EReal.coe_nonneg.mpr h) (EReal.coe_ne_top r) x y

end Cert.LruRows

end
-- ==== Proof.LruIdealRun.lean ====
/-
  The recurrent layer: its run. A prompt point works on a tile of a sequence, its carried state in scratch: the first tile, an
  inner one and the last one differ; only the last hands out its last projected rows, whose second block is written back after
  the sample points, which leave that buffer alone. A sample point leaves its states and its projected rows. Of the layer's rows
  and of the prompt's last states the run names nothing.
-/
module

public import proofs.«01_k».proof.Proof.Gen.LruIdeal.Frame
public import proofs.«01_k».proof.Proof.Gen.LruIdeal.Skeleton
public import proofs.«01_k».proof.Proof.Kept
public import Idealize.ShloMosaic.Lib.Pipeline.FrameBody
public import Idealize.ShloMosaic.Lib.Pipeline.ValueKit
public import Idealize.ShloMosaic.Lib.Ring
public import Idealize.ShloMosaic.Lib.Tactic
public import Idealize.ShloMosaic.Lib.Claim

@[expose] public section

-- a rectangle's membership is looked up coordinate by coordinate along its longest axis
set_option maxRecDepth 16384

noncomputable section

namespace Cert.LruIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A small array's row `k`, as the body reads it. -/
abbrev row2 (x : Vec F S2x1024 .f32) : Vec F S1x1024 .f32 := View.ld x (Rect.unit ![0, 0] ![1, 1024] inb_S2x1024_S1x1024_0_0)
abbrev row4_0 (x : Vec F S4x1024 .f32) : Vec F S1x1024 .f32 := View.ld x (Rect.unit ![0, 0] ![1, 1024] inb_S4x1024_S1x1024_0_0)
abbrev row4_1 (x : Vec F S4x1024 .f32) : Vec F S1x1024 .f32 := View.ld x (Rect.unit ![1, 0] ![1, 1024] inb_S4x1024_S1x1024_1_0)
abbrev row4_2 (x : Vec F S4x1024 .f32) : Vec F S1x1024 .f32 := View.ld x (Rect.unit ![2, 0] ![1, 1024] inb_S4x1024_S1x1024_2_0)
abbrev row4_3 (x : Vec F S4x1024 .f32) : Vec F S1x1024 .f32 := View.ld x (Rect.unit ![3, 0] ![1, 1024] inb_S4x1024_S1x1024_3_0)
/-- A block-diagonal matrix's block `k`, as the body reads it. -/
abbrev gate_0 (x : Vec F S4x256x256 .bf16) : Vec F S1x256x256 .bf16 := View.ld x (Rect.unit ![0, 0, 0] ![1, 256, 256] inb_S4x256x256_S1x256x256_0_0_0)
abbrev gate_1 (x : Vec F S4x256x256 .bf16) : Vec F S1x256x256 .bf16 := View.ld x (Rect.unit ![1, 0, 0] ![1, 256, 256] inb_S4x256x256_S1x256x256_1_0_0)
abbrev gate_2 (x : Vec F S4x256x256 .bf16) : Vec F S1x256x256 .bf16 := View.ld x (Rect.unit ![2, 0, 0] ![1, 256, 256] inb_S4x256x256_S1x256x256_2_0_0)
abbrev gate_3 (x : Vec F S4x256x256 .bf16) : Vec F S1x256x256 .bf16 := View.ld x (Rect.unit ![3, 0, 0] ![1, 256, 256] inb_S4x256x256_S1x256x256_3_0_0)

/-- The projected rows a sequence's last tile hands out. -/
def tailRows (x0 : Vec F S256x1024 .f32) (x3 : Vec F S2x1024 .f32) (x5 : Vec F S1024x1024 .bf16) : Vec F S1x8x1024 .f32 :=
  k0_pay6 (k0_pay11 x0 (row2 x3) x5)

/-- The projected rows of a sample tile. -/
def sampleU (x0 : Vec F S256x1024 .f32) (x3 : Vec F S2x1024 .f32) (x5 : Vec F S1024x1024 .bf16) : Vec F S256x1024 .f32 :=
  k0_pay81 x0 (row2 x3) x5

/-- The convolved rows of a sample tile (kept three ways by the body). -/
def sampleV (u x1 : Vec F S256x1024 .f32) (x6 x7 : Vec F S4x1024 .f32) : Vec F S256x1024 .f32 :=
  k0_pay85 (k0_pay1 (row4_0 x7)) u k0_pay82 (k0_pay83 x1) (k0_pay84 (row4_3 x6)) (row4_2 x6) (row4_1 x6) (row4_0 x6)
def sampleV' (u x1 : Vec F S256x1024 .f32) (x6 x7 : Vec F S4x1024 .f32) :=
  k0_pay86 (k0_pay1 (row4_0 x7)) u k0_pay82 (k0_pay83 x1) (k0_pay84 (row4_3 x6)) (row4_2 x6) (row4_1 x6) (row4_0 x6)
def sampleV'' (u x1 : Vec F S256x1024 .f32) (x6 x7 : Vec F S4x1024 .f32) :=
  k0_pay87 (k0_pay1 (row4_0 x7)) u k0_pay82 (k0_pay83 x1) (k0_pay84 (row4_3 x6)) (row4_2 x6) (row4_1 x6) (row4_0 x6)

/-- The recurrence gate's product of a sample tile. -/
def sampleR (u x1 : Vec F S256x1024 .f32) (x6 x7 : Vec F S4x1024 .f32) (x8 : Vec F S4x256x256 .bf16) :=
  k0_pay88 (sampleV' u x1 x6 x7) (sampleV'' u x1 x6 x7) (gate_0 x8) (gate_1 x8) (gate_2 x8) (gate_3 x8)

/-- The decay of a sample tile's rows. -/
def sampleA (u x1 : Vec F S256x1024 .f32) (x6 x7 : Vec F S4x1024 .f32) (x8 : Vec F S4x256x256 .bf16) :=
  k0_pay96 (k0_pay2 (row4_1 x7)) (k0_pay4 (row4_3 x7)) (sampleR u x1 x6 x7 x8)

/-- The inputs of a sample tile's recurrence. -/
def sampleB (u x1 : Vec F S256x1024 .f32) (x6 x7 : Vec F S4x1024 .f32) (x8 x9 : Vec F S4x256x256 .bf16) :=
  k0_pay97 (k0_pay2 (row4_1 x7)) (k0_pay3 (row4_2 x7)) (k0_pay4 (row4_3 x7)) (sampleV u x1 x6 x7) (sampleR u x1 x6 x7 x8)
    (k0_pay89 (sampleV' u x1 x6 x7) (gate_0 x9)) (k0_pay90 (sampleV' u x1 x6 x7) (gate_1 x9)) (k0_pay91 (sampleV' u x1 x6 x7) (gate_2 x9))
    (k0_pay92 (sampleV' u x1 x6 x7)) (k0_pay93 (gate_3 x9)) (constant S256x256 FTy.f32 0#32)

/-- The scanned rows of a sample tile. -/
def scanned (a b : Vec F S32x8x1024 .f32) (x2 : Vec F S256x1024 .f32) : Vec F S256x1024 .f32 :=
  k0_pay105 (k0_pay101 a) (k0_pay103 a) (k0_pay104 a b) x2

/-- The states of a sample tile. -/
def sampleH (x0 x1 x2 : Vec F S256x1024 .f32) (x3 : Vec F S2x1024 .f32) (x5 : Vec F S1024x1024 .bf16) (x6 x7 : Vec F S4x1024 .f32)
    (x8 x9 : Vec F S4x256x256 .bf16) : Vec F S256x1024 .f32 :=
  scanned (sampleA (sampleU x0 x3 x5) x1 x6 x7 x8) (sampleB (sampleU x0 x3 x5) x1 x6 x7 x8 x9) x2

-- the run's term is large
set_option maxHeartbeats 4000000 in
/-- The body at a sequence's first tile. -/
theorem run_first (c : Dev nD) (i : grid0.Coords) (a0 : Memref sig .tc .vmem S256x1024 .f32) (h0 : a0.IsWhole) (a1 : Memref sig .tc .vmem S256x1024 .f32) (h1 : a1.IsWhole) (a2 : Memref sig .tc .vmem S256x1024 .f32) (h2 : a2.IsWhole) (a3 : Memref sig .tc .vmem S2x1024 .f32) (h3 : a3.IsWhole) (a4 : Memref sig .tc .vmem S1024x1024 .bf16) (h4 : a4.IsWhole) (a5 : Memref sig .tc .vmem S1024x1024 .bf16) (h5 : a5.IsWhole) (a6 : Memref sig .tc .vmem S4x1024 .f32) (h6 : a6.IsWhole) (a7 : Memref sig .tc .vmem S4x1024 .f32) (h7 : a7.IsWhole) (a8 : Memref sig .tc .vmem S4x256x256 .bf16) (h8 : a8.IsWhole) (a9 : Memref sig .tc .vmem S4x256x256 .bf16) (h9 : a9.IsWhole) (a10 : Memref sig .tc .vmem S1024x1024 .bf16) (h10 : a10.IsWhole) (a11 : Memref sig .tc .vmem S256x1024 .f32) (h11 : a11.IsWhole) (a12 : Memref sig .tc .vmem S1x1x1024 .f32) (h12 : a12.IsWhole) (a13 : Memref sig .tc .vmem S1x8x1024 .f32) (h13 : a13.IsWhole) (a14 : Memref sig .tc .vmem S256x1024 .f32) (h14 : a14.IsWhole) (a15 : Memref sig .tc .vmem S256x1024 .f32) (h15 : a15.IsWhole) (a16 : Memref sig .tc .vmem S264x1024 .f32) (h16 : a16.IsWhole) (a17 : Memref sig .tc .vmem S1x1024 .f32) (h17 : a17.IsWhole)
    (hc0 : k0_cond1 i = 1#1) (hc1 : (Scalar.cmpi .ne (Scalar.extui (Scalar.cmpi .eq (Scalar.select (Scalar.cmpi .sge (BitVec.ofNat 32 (i 0).val) 33#32) (Scalar.subi (BitVec.ofNat 32 (i 0).val) 33#32) (BitVec.ofNat 32 (i 0).val)) 0#32)) 0#32 = 1#1)) (hc2 : ¬k0_cond3 i = 1#1) (hc3 : ¬k0_cond4 i = 1#1) (x0 : Vec F S256x1024 .f32) (x1 : Vec F S256x1024 .f32) (x2 : Vec F S256x1024 .f32) (x3 : Vec F S2x1024 .f32) (x4 : Vec F S1024x1024 .bf16) (x5 : Vec F S1024x1024 .bf16) (x6 : Vec F S4x1024 .f32) (x7 : Vec F S4x1024 .f32) (x8 : Vec F S4x256x256 .bf16) (x9 : Vec F S4x256x256 .bf16) (x10 : Vec F S1024x1024 .bf16)
    (z13 : Vec F S1x8x1024 .f32) (z14 : Vec F S256x1024 .f32) (z15 : Vec F S256x1024 .f32) (E : Set ℕ) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ (∃ d, owns (c : Thread nD τ) a11 fullShare d) ∗ (∃ d, owns (c : Thread nD τ) a12 fullShare d) ∗ owns (c : Thread nD τ) a13 fullShare z13 ∗ owns (c : Thread nD τ) a14 fullShare z14 ∗ owns (c : Thread nD τ) a15 fullShare z15 ∗ (∃ d, owns (c : Thread nD τ) a16 fullShare d) ∗ (∃ d, owns (c : Thread nD τ) a17 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ (∃ d, owns (c : Thread nD τ) a11 fullShare d) ∗ (∃ d, owns (c : Thread nD τ) a12 fullShare d) ∗ owns (c : Thread nD τ) a13 fullShare z13 ∗ owns (c : Thread nD τ) a14 fullShare z14 ∗ owns (c : Thread nD τ) a15 fullShare z15 ∗ (∃ d, owns (c : Thread nD τ) a16 fullShare d) ∗ (∃ d, owns (c : Thread nD τ) a17 fullShare d)) -∗ K ⟨⟩))
      ⊢ wp frame (wpE (defs₀ (F := F)) Variants.none c none) E (cc0_lru_layer i a0 h0 a1 h1 a2 h2 a3 h3 a4 h4 a5 h5 a6 h6 a7 h7 a8 h8 a9 h9 a10 h10 a11 h11 a12 h12 a13 h13 a14 h14 a15 h15 a16 h16 a17 h17) K := by
  simp only [cc0_lru_layer_eq_skeleton]; unfold cc0_lru_layer_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%f13, %hf13, H13⟩, ⟨%f14, %hf14, H14⟩, ⟨%f15, %hf15, H15⟩, ⟨%d16, %f16, -, H16⟩, ⟨%d17, %f17, -, H17⟩, Hk⟩
  obtain rfl := h0.eq_unread hf0; obtain rfl := h1.eq_unread hf1; obtain rfl := h2.eq_unread hf2; obtain rfl := h3.eq_unread hf3; obtain rfl := h4.eq_unread hf4; obtain rfl := h5.eq_unread hf5; obtain rfl := h6.eq_unread hf6; obtain rfl := h7.eq_unread hf7; obtain rfl := h8.eq_unread hf8; obtain rfl := h9.eq_unread hf9; obtain rfl := h10.eq_unread hf10; obtain rfl := h13.eq_unread hf13; obtain rfl := h14.eq_unread hf14; obtain rfl := h15.eq_unread hf15
  sl_exec (disch := first | sl_exact hc0 | sl_exact hc1 | sl_exact hc2 | sl_exact hc3)
  sl_step
  iapply Hk
  isplitl [H0]
  · iexists _; isplitr; · ipureintro; exact h0.read_unread _
    iexact H0
  isplitl [H1]
  · iexists _; isplitr; · ipureintro; exact h1.read_unread _
    iexact H1
  isplitl [H2]
  · iexists _; isplitr; · ipureintro; exact h2.read_unread _
    iexact H2
  isplitl [H3]
  · iexists _; isplitr; · ipureintro; exact h3.read_unread _
    iexact H3
  isplitl [H4]
  · iexists _; isplitr; · ipureintro; exact h4.read_unread _
    iexact H4
  isplitl [H5]
  · iexists _; isplitr; · ipureintro; exact h5.read_unread _
    iexact H5
  isplitl [H6]
  · iexists _; isplitr; · ipureintro; exact h6.read_unread _
    iexact H6
  isplitl [H7]
  · iexists _; isplitr; · ipureintro; exact h7.read_unread _
    iexact H7
  isplitl [H8]
  · iexists _; isplitr; · ipureintro; exact h8.read_unread _
    iexact H8
  isplitl [H9]
  · iexists _; isplitr; · ipureintro; exact h9.read_unread _
    iexact H9
  isplitl [H10]
  · iexists _; isplitr; · ipureintro; exact h10.read_unread _
    iexact H10
  isplitl [H11]
  · iexists _, _; isplitr; swap; · iexact H11
    ipureintro; rfl
  isplitl [H12]
  · iexists _, _; isplitr; swap; · iexact H12
    ipureintro; rfl
  isplitl [H13]
  · iexists _; isplitr; · ipureintro; exact h13.read_unread _
    iexact H13
  isplitl [H14]
  · iexists _; isplitr; · ipureintro; exact h14.read_unread _
    iexact H14
  isplitl [H15]
  · iexists _; isplitr; · ipureintro; exact h15.read_unread _
    iexact H15
  isplitl [H16]
  · iexists _, _; isplitr; swap; · iexact H16
    ipureintro; rfl
  iexists _, _; isplitr; swap; · iexact H17
  ipureintro; rfl

-- the run's term is large
set_option maxHeartbeats 4000000 in
/-- The body at a sequence's tile that is neither its first nor its last. -/
theorem run_inner (c : Dev nD) (i : grid0.Coords) (a0 : Memref sig .tc .vmem S256x1024 .f32) (h0 : a0.IsWhole) (a1 : Memref sig .tc .vmem S256x1024 .f32) (h1 : a1.IsWhole) (a2 : Memref sig .tc .vmem S256x1024 .f32) (h2 : a2.IsWhole) (a3 : Memref sig .tc .vmem S2x1024 .f32) (h3 : a3.IsWhole) (a4 : Memref sig .tc .vmem S1024x1024 .bf16) (h4 : a4.IsWhole) (a5 : Memref sig .tc .vmem S1024x1024 .bf16) (h5 : a5.IsWhole) (a6 : Memref sig .tc .vmem S4x1024 .f32) (h6 : a6.IsWhole) (a7 : Memref sig .tc .vmem S4x1024 .f32) (h7 : a7.IsWhole) (a8 : Memref sig .tc .vmem S4x256x256 .bf16) (h8 : a8.IsWhole) (a9 : Memref sig .tc .vmem S4x256x256 .bf16) (h9 : a9.IsWhole) (a10 : Memref sig .tc .vmem S1024x1024 .bf16) (h10 : a10.IsWhole) (a11 : Memref sig .tc .vmem S256x1024 .f32) (h11 : a11.IsWhole) (a12 : Memref sig .tc .vmem S1x1x1024 .f32) (h12 : a12.IsWhole) (a13 : Memref sig .tc .vmem S1x8x1024 .f32) (h13 : a13.IsWhole) (a14 : Memref sig .tc .vmem S256x1024 .f32) (h14 : a14.IsWhole) (a15 : Memref sig .tc .vmem S256x1024 .f32) (h15 : a15.IsWhole) (a16 : Memref sig .tc .vmem S264x1024 .f32) (h16 : a16.IsWhole) (a17 : Memref sig .tc .vmem S1x1024 .f32) (h17 : a17.IsWhole)
    (hc0 : k0_cond1 i = 1#1) (hc1 : ¬(Scalar.cmpi .ne (Scalar.extui (Scalar.cmpi .eq (Scalar.select (Scalar.cmpi .sge (BitVec.ofNat 32 (i 0).val) 33#32) (Scalar.subi (BitVec.ofNat 32 (i 0).val) 33#32) (BitVec.ofNat 32 (i 0).val)) 0#32)) 0#32 = 1#1)) (hc2 : ¬k0_cond3 i = 1#1) (hc3 : ¬k0_cond4 i = 1#1) (x0 : Vec F S256x1024 .f32) (x1 : Vec F S256x1024 .f32) (x2 : Vec F S256x1024 .f32) (x3 : Vec F S2x1024 .f32) (x4 : Vec F S1024x1024 .bf16) (x5 : Vec F S1024x1024 .bf16) (x6 : Vec F S4x1024 .f32) (x7 : Vec F S4x1024 .f32) (x8 : Vec F S4x256x256 .bf16) (x9 : Vec F S4x256x256 .bf16) (x10 : Vec F S1024x1024 .bf16)
    (z13 : Vec F S1x8x1024 .f32) (z14 : Vec F S256x1024 .f32) (z15 : Vec F S256x1024 .f32) (E : Set ℕ) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ (∃ d, owns (c : Thread nD τ) a11 fullShare d) ∗ (∃ d, owns (c : Thread nD τ) a12 fullShare d) ∗ owns (c : Thread nD τ) a13 fullShare z13 ∗ owns (c : Thread nD τ) a14 fullShare z14 ∗ owns (c : Thread nD τ) a15 fullShare z15 ∗ (∃ d, owns (c : Thread nD τ) a16 fullShare d) ∗ (∃ d, owns (c : Thread nD τ) a17 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ (∃ d, owns (c : Thread nD τ) a11 fullShare d) ∗ (∃ d, owns (c : Thread nD τ) a12 fullShare d) ∗ owns (c : Thread nD τ) a13 fullShare z13 ∗ owns (c : Thread nD τ) a14 fullShare z14 ∗ owns (c : Thread nD τ) a15 fullShare z15 ∗ (∃ d, owns (c : Thread nD τ) a16 fullShare d) ∗ (∃ d, owns (c : Thread nD τ) a17 fullShare d)) -∗ K ⟨⟩))
      ⊢ wp frame (wpE (defs₀ (F := F)) Variants.none c none) E (cc0_lru_layer i a0 h0 a1 h1 a2 h2 a3 h3 a4 h4 a5 h5 a6 h6 a7 h7 a8 h8 a9 h9 a10 h10 a11 h11 a12 h12 a13 h13 a14 h14 a15 h15 a16 h16 a17 h17) K := by
  simp only [cc0_lru_layer_eq_skeleton]; unfold cc0_lru_layer_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%f13, %hf13, H13⟩, ⟨%f14, %hf14, H14⟩, ⟨%f15, %hf15, H15⟩, ⟨%d16, %f16, -, H16⟩, ⟨%d17, %f17, -, H17⟩, Hk⟩
  obtain rfl := h0.eq_unread hf0; obtain rfl := h1.eq_unread hf1; obtain rfl := h2.eq_unread hf2; obtain rfl := h3.eq_unread hf3; obtain rfl := h4.eq_unread hf4; obtain rfl := h5.eq_unread hf5; obtain rfl := h6.eq_unread hf6; obtain rfl := h7.eq_unread hf7; obtain rfl := h8.eq_unread hf8; obtain rfl := h9.eq_unread hf9; obtain rfl := h10.eq_unread hf10; obtain rfl := h13.eq_unread hf13; obtain rfl := h14.eq_unread hf14; obtain rfl := h15.eq_unread hf15
  sl_exec (disch := first | sl_exact hc0 | sl_exact hc1 | sl_exact hc2 | sl_exact hc3)
  sl_step
  iapply Hk
  isplitl [H0]
  · iexists _; isplitr; · ipureintro; exact h0.read_unread _
    iexact H0
  isplitl [H1]
  · iexists _; isplitr; · ipureintro; exact h1.read_unread _
    iexact H1
  isplitl [H2]
  · iexists _; isplitr; · ipureintro; exact h2.read_unread _
    iexact H2
  isplitl [H3]
  · iexists _; isplitr; · ipureintro; exact h3.read_unread _
    iexact H3
  isplitl [H4]
  · iexists _; isplitr; · ipureintro; exact h4.read_unread _
    iexact H4
  isplitl [H5]
  · iexists _; isplitr; · ipureintro; exact h5.read_unread _
    iexact H5
  isplitl [H6]
  · iexists _; isplitr; · ipureintro; exact h6.read_unread _
    iexact H6
  isplitl [H7]
  · iexists _; isplitr; · ipureintro; exact h7.read_unread _
    iexact H7
  isplitl [H8]
  · iexists _; isplitr; · ipureintro; exact h8.read_unread _
    iexact H8
  isplitl [H9]
  · iexists _; isplitr; · ipureintro; exact h9.read_unread _
    iexact H9
  isplitl [H10]
  · iexists _; isplitr; · ipureintro; exact h10.read_unread _
    iexact H10
  isplitl [H11]
  · iexists _, _; isplitr; swap; · iexact H11
    ipureintro; rfl
  isplitl [H12]
  · iexists _, _; isplitr; swap; · iexact H12
    ipureintro; rfl
  isplitl [H13]
  · iexists _; isplitr; · ipureintro; exact h13.read_unread _
    iexact H13
  isplitl [H14]
  · iexists _; isplitr; · ipureintro; exact h14.read_unread _
    iexact H14
  isplitl [H15]
  · iexists _; isplitr; · ipureintro; exact h15.read_unread _
    iexact H15
  isplitl [H16]
  · iexists _, _; isplitr; swap; · iexact H16
    ipureintro; rfl
  iexists _, _; isplitr; swap; · iexact H17
  ipureintro; rfl

-- the run's term is large
set_option maxHeartbeats 4000000 in
/-- The body at a sequence's last tile: it leaves the last projected rows. -/
theorem run_last (c : Dev nD) (i : grid0.Coords) (a0 : Memref sig .tc .vmem S256x1024 .f32) (h0 : a0.IsWhole) (a1 : Memref sig .tc .vmem S256x1024 .f32) (h1 : a1.IsWhole) (a2 : Memref sig .tc .vmem S256x1024 .f32) (h2 : a2.IsWhole) (a3 : Memref sig .tc .vmem S2x1024 .f32) (h3 : a3.IsWhole) (a4 : Memref sig .tc .vmem S1024x1024 .bf16) (h4 : a4.IsWhole) (a5 : Memref sig .tc .vmem S1024x1024 .bf16) (h5 : a5.IsWhole) (a6 : Memref sig .tc .vmem S4x1024 .f32) (h6 : a6.IsWhole) (a7 : Memref sig .tc .vmem S4x1024 .f32) (h7 : a7.IsWhole) (a8 : Memref sig .tc .vmem S4x256x256 .bf16) (h8 : a8.IsWhole) (a9 : Memref sig .tc .vmem S4x256x256 .bf16) (h9 : a9.IsWhole) (a10 : Memref sig .tc .vmem S1024x1024 .bf16) (h10 : a10.IsWhole) (a11 : Memref sig .tc .vmem S256x1024 .f32) (h11 : a11.IsWhole) (a12 : Memref sig .tc .vmem S1x1x1024 .f32) (h12 : a12.IsWhole) (a13 : Memref sig .tc .vmem S1x8x1024 .f32) (h13 : a13.IsWhole) (a14 : Memref sig .tc .vmem S256x1024 .f32) (h14 : a14.IsWhole) (a15 : Memref sig .tc .vmem S256x1024 .f32) (h15 : a15.IsWhole) (a16 : Memref sig .tc .vmem S264x1024 .f32) (h16 : a16.IsWhole) (a17 : Memref sig .tc .vmem S1x1024 .f32) (h17 : a17.IsWhole)
    (hc0 : k0_cond1 i = 1#1) (hc1 : ¬(Scalar.cmpi .ne (Scalar.extui (Scalar.cmpi .eq (Scalar.select (Scalar.cmpi .sge (BitVec.ofNat 32 (i 0).val) 33#32) (Scalar.subi (BitVec.ofNat 32 (i 0).val) 33#32) (BitVec.ofNat 32 (i 0).val)) 0#32)) 0#32 = 1#1)) (hc2 : k0_cond3 i = 1#1) (hc3 : ¬k0_cond4 i = 1#1) (x0 : Vec F S256x1024 .f32) (x1 : Vec F S256x1024 .f32) (x2 : Vec F S256x1024 .f32) (x3 : Vec F S2x1024 .f32) (x4 : Vec F S1024x1024 .bf16) (x5 : Vec F S1024x1024 .bf16) (x6 : Vec F S4x1024 .f32) (x7 : Vec F S4x1024 .f32) (x8 : Vec F S4x256x256 .bf16) (x9 : Vec F S4x256x256 .bf16) (x10 : Vec F S1024x1024 .bf16)
    (z14 : Vec F S256x1024 .f32) (z15 : Vec F S256x1024 .f32) (E : Set ℕ) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ (∃ d, owns (c : Thread nD τ) a11 fullShare d) ∗ (∃ d, owns (c : Thread nD τ) a12 fullShare d) ∗ (∃ d, owns (c : Thread nD τ) a13 fullShare d) ∗ owns (c : Thread nD τ) a14 fullShare z14 ∗ owns (c : Thread nD τ) a15 fullShare z15 ∗ (∃ d, owns (c : Thread nD τ) a16 fullShare d) ∗ (∃ d, owns (c : Thread nD τ) a17 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ (∃ d, owns (c : Thread nD τ) a11 fullShare d) ∗ (∃ d, owns (c : Thread nD τ) a12 fullShare d) ∗ owns (c : Thread nD τ) a13 fullShare (tailRows x0 x3 x5) ∗ owns (c : Thread nD τ) a14 fullShare z14 ∗ owns (c : Thread nD τ) a15 fullShare z15 ∗ (∃ d, owns (c : Thread nD τ) a16 fullShare d) ∗ (∃ d, owns (c : Thread nD τ) a17 fullShare d)) -∗ K ⟨⟩))
      ⊢ wp frame (wpE (defs₀ (F := F)) Variants.none c none) E (cc0_lru_layer i a0 h0 a1 h1 a2 h2 a3 h3 a4 h4 a5 h5 a6 h6 a7 h7 a8 h8 a9 h9 a10 h10 a11 h11 a12 h12 a13 h13 a14 h14 a15 h15 a16 h16 a17 h17) K := by
  simp only [cc0_lru_layer_eq_skeleton]; unfold cc0_lru_layer_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%f14, %hf14, H14⟩, ⟨%f15, %hf15, H15⟩, ⟨%d16, %f16, -, H16⟩, ⟨%d17, %f17, -, H17⟩, Hk⟩
  obtain rfl := h0.eq_unread hf0; obtain rfl := h1.eq_unread hf1; obtain rfl := h2.eq_unread hf2; obtain rfl := h3.eq_unread hf3; obtain rfl := h4.eq_unread hf4; obtain rfl := h5.eq_unread hf5; obtain rfl := h6.eq_unread hf6; obtain rfl := h7.eq_unread hf7; obtain rfl := h8.eq_unread hf8; obtain rfl := h9.eq_unread hf9; obtain rfl := h10.eq_unread hf10; obtain rfl := h14.eq_unread hf14; obtain rfl := h15.eq_unread hf15
  sl_exec (disch := first | sl_exact hc0 | sl_exact hc1 | sl_exact hc2 | sl_exact hc3)
  sl_step
  iapply Hk
  isplitl [H0]
  · iexists _; isplitr; · ipureintro; exact h0.read_unread _
    iexact H0
  isplitl [H1]
  · iexists _; isplitr; · ipureintro; exact h1.read_unread _
    iexact H1
  isplitl [H2]
  · iexists _; isplitr; · ipureintro; exact h2.read_unread _
    iexact H2
  isplitl [H3]
  · iexists _; isplitr; · ipureintro; exact h3.read_unread _
    iexact H3
  isplitl [H4]
  · iexists _; isplitr; · ipureintro; exact h4.read_unread _
    iexact H4
  isplitl [H5]
  · iexists _; isplitr; · ipureintro; exact h5.read_unread _
    iexact H5
  isplitl [H6]
  · iexists _; isplitr; · ipureintro; exact h6.read_unread _
    iexact H6
  isplitl [H7]
  · iexists _; isplitr; · ipureintro; exact h7.read_unread _
    iexact H7
  isplitl [H8]
  · iexists _; isplitr; · ipureintro; exact h8.read_unread _
    iexact H8
  isplitl [H9]
  · iexists _; isplitr; · ipureintro; exact h9.read_unread _
    iexact H9
  isplitl [H10]
  · iexists _; isplitr; · ipureintro; exact h10.read_unread _
    iexact H10
  isplitl [H11]
  · iexists _, _; isplitr; swap; · iexact H11
    ipureintro; rfl
  isplitl [H12]
  · iexists _, _; isplitr; swap; · iexact H12
    ipureintro; rfl
  isplitl [H13]
  · iexists _; isplitr
    swap; · iexact H13
    ipureintro
    rw [View.read_writes_eq_canon _ _ _ (View.cover_of_tiledL _ S1x8x1024.size (by sl_kernel_rfl))]
    frame_out
    all_goals rfl
  isplitl [H14]
  · iexists _; isplitr; · ipureintro; exact h14.read_unread _
    iexact H14
  isplitl [H15]
  · iexists _; isplitr; · ipureintro; exact h15.read_unread _
    iexact H15
  isplitl [H16]
  · iexists _, _; isplitr; swap; · iexact H16
    ipureintro; rfl
  iexists _, _; isplitr; swap; · iexact H17
  ipureintro; rfl

-- the run's term is large
set_option maxHeartbeats 4000000 in
/-- The body at a sample tile: it leaves the states and the projected rows. -/
theorem run_sample (c : Dev nD) (i : grid0.Coords) (a0 : Memref sig .tc .vmem S256x1024 .f32) (h0 : a0.IsWhole) (a1 : Memref sig .tc .vmem S256x1024 .f32) (h1 : a1.IsWhole) (a2 : Memref sig .tc .vmem S256x1024 .f32) (h2 : a2.IsWhole) (a3 : Memref sig .tc .vmem S2x1024 .f32) (h3 : a3.IsWhole) (a4 : Memref sig .tc .vmem S1024x1024 .bf16) (h4 : a4.IsWhole) (a5 : Memref sig .tc .vmem S1024x1024 .bf16) (h5 : a5.IsWhole) (a6 : Memref sig .tc .vmem S4x1024 .f32) (h6 : a6.IsWhole) (a7 : Memref sig .tc .vmem S4x1024 .f32) (h7 : a7.IsWhole) (a8 : Memref sig .tc .vmem S4x256x256 .bf16) (h8 : a8.IsWhole) (a9 : Memref sig .tc .vmem S4x256x256 .bf16) (h9 : a9.IsWhole) (a10 : Memref sig .tc .vmem S1024x1024 .bf16) (h10 : a10.IsWhole) (a11 : Memref sig .tc .vmem S256x1024 .f32) (h11 : a11.IsWhole) (a12 : Memref sig .tc .vmem S1x1x1024 .f32) (h12 : a12.IsWhole) (a13 : Memref sig .tc .vmem S1x8x1024 .f32) (h13 : a13.IsWhole) (a14 : Memref sig .tc .vmem S256x1024 .f32) (h14 : a14.IsWhole) (a15 : Memref sig .tc .vmem S256x1024 .f32) (h15 : a15.IsWhole) (a16 : Memref sig .tc .vmem S264x1024 .f32) (h16 : a16.IsWhole) (a17 : Memref sig .tc .vmem S1x1024 .f32) (h17 : a17.IsWhole)
    (hc0 : ¬k0_cond1 i = 1#1) (hc3 : k0_cond4 i = 1#1) (x0 : Vec F S256x1024 .f32) (x1 : Vec F S256x1024 .f32) (x2 : Vec F S256x1024 .f32) (x3 : Vec F S2x1024 .f32) (x4 : Vec F S1024x1024 .bf16) (x5 : Vec F S1024x1024 .bf16) (x6 : Vec F S4x1024 .f32) (x7 : Vec F S4x1024 .f32) (x8 : Vec F S4x256x256 .bf16) (x9 : Vec F S4x256x256 .bf16) (x10 : Vec F S1024x1024 .bf16)
    (z13 : Vec F S1x8x1024 .f32) (E : Set ℕ) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ (∃ d, owns (c : Thread nD τ) a11 fullShare d) ∗ (∃ d, owns (c : Thread nD τ) a12 fullShare d) ∗ owns (c : Thread nD τ) a13 fullShare z13 ∗ (∃ d, owns (c : Thread nD τ) a14 fullShare d) ∗ (∃ d, owns (c : Thread nD τ) a15 fullShare d) ∗ (∃ d, owns (c : Thread nD τ) a16 fullShare d) ∗ (∃ d, owns (c : Thread nD τ) a17 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ (∃ d, owns (c : Thread nD τ) a11 fullShare d) ∗ (∃ d, owns (c : Thread nD τ) a12 fullShare d) ∗ owns (c : Thread nD τ) a13 fullShare z13 ∗ owns (c : Thread nD τ) a14 fullShare (sampleH x0 x1 x2 x3 x5 x6 x7 x8 x9) ∗ owns (c : Thread nD τ) a15 fullShare (sampleU x0 x3 x5) ∗ (∃ d, owns (c : Thread nD τ) a16 fullShare d) ∗ (∃ d, owns (c : Thread nD τ) a17 fullShare d)) -∗ K ⟨⟩))
      ⊢ wp frame (wpE (defs₀ (F := F)) Variants.none c none) E (cc0_lru_layer i a0 h0 a1 h1 a2 h2 a3 h3 a4 h4 a5 h5 a6 h6 a7 h7 a8 h8 a9 h9 a10 h10 a11 h11 a12 h12 a13 h13 a14 h14 a15 h15 a16 h16 a17 h17) K := by
  simp only [cc0_lru_layer_eq_skeleton]; unfold cc0_lru_layer_skel
  simp only [k0_part10_eq_skeleton, k0_part11_eq_skeleton, k0_part12_eq_skeleton, k0_part13_eq_skeleton, k0_part14_eq_skeleton, k0_part15_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%f13, %hf13, H13⟩, ⟨%d14, %f14, -, H14⟩, ⟨%d15, %f15, -, H15⟩, ⟨%d16, %f16, -, H16⟩, ⟨%d17, %f17, -, H17⟩, Hk⟩
  obtain rfl := h0.eq_unread hf0; obtain rfl := h1.eq_unread hf1; obtain rfl := h2.eq_unread hf2; obtain rfl := h3.eq_unread hf3; obtain rfl := h4.eq_unread hf4; obtain rfl := h5.eq_unread hf5; obtain rfl := h6.eq_unread hf6; obtain rfl := h7.eq_unread hf7; obtain rfl := h8.eq_unread hf8; obtain rfl := h9.eq_unread hf9; obtain rfl := h10.eq_unread hf10; obtain rfl := h13.eq_unread hf13
  sl_exec (disch := first | sl_exact hc0 | sl_exact hc3)
  sl_step
  iapply Hk
  isplitl [H0]
  · iexists _; isplitr; · ipureintro; exact h0.read_unread _
    iexact H0
  isplitl [H1]
  · iexists _; isplitr; · ipureintro; exact h1.read_unread _
    iexact H1
  isplitl [H2]
  · iexists _; isplitr; · ipureintro; exact h2.read_unread _
    iexact H2
  isplitl [H3]
  · iexists _; isplitr; · ipureintro; exact h3.read_unread _
    iexact H3
  isplitl [H4]
  · iexists _; isplitr; · ipureintro; exact h4.read_unread _
    iexact H4
  isplitl [H5]
  · iexists _; isplitr; · ipureintro; exact h5.read_unread _
    iexact H5
  isplitl [H6]
  · iexists _; isplitr; · ipureintro; exact h6.read_unread _
    iexact H6
  isplitl [H7]
  · iexists _; isplitr; · ipureintro; exact h7.read_unread _
    iexact H7
  isplitl [H8]
  · iexists _; isplitr; · ipureintro; exact h8.read_unread _
    iexact H8
  isplitl [H9]
  · iexists _; isplitr; · ipureintro; exact h9.read_unread _
    iexact H9
  isplitl [H10]
  · iexists _; isplitr; · ipureintro; exact h10.read_unread _
    iexact H10
  isplitl [H11]
  · iexists _, _; isplitr; swap; · iexact H11
    ipureintro; rfl
  isplitl [H12]
  · iexists _, _; isplitr; swap; · iexact H12
    ipureintro; rfl
  isplitl [H13]
  · iexists _; isplitr; · ipureintro; exact h13.read_unread _
    iexact H13
  isplitl [H14]
  · iexists _; isplitr
    swap; · iexact H14
    ipureintro
    rw [View.read_writes_eq_canon _ _ _ (View.cover_of_tiledL _ S256x1024.size (by sl_kernel_rfl))]
    frame_out
    all_goals rfl
  isplitl [H15]
  · iexists _; isplitr
    swap; · iexact H15
    ipureintro
    rw [View.read_writes_eq_canon _ _ _ (View.cover_of_tiledL _ S256x1024.size (by sl_kernel_rfl))]
    frame_out
    all_goals rfl
  isplitl [H16]
  · iexists _, _; isplitr; swap; · iexact H16
    ipureintro; rfl
  iexists _, _; isplitr; swap; · iexact H17
  ipureintro; rfl

theorem isPrompt : ∀ t : Fin cfg0.N, k0_cond1 (grid0.coords t) = 1#1 ↔ t.val < 66 :=
  (by decide +kernel : ∀ t : Fin grid0.N, k0_cond1 (grid0.coords t) = 1#1 ↔ t.val < 66)
theorem isFirst : ∀ t : Fin cfg0.N, (Scalar.cmpi .ne (Scalar.extui (Scalar.cmpi .eq (Scalar.select (Scalar.cmpi .sge (BitVec.ofNat 32 (grid0.coords t 0).val) 33#32) (Scalar.subi (BitVec.ofNat 32 (grid0.coords t 0).val) 33#32) (BitVec.ofNat 32 (grid0.coords t 0).val)) 0#32)) 0#32 = 1#1) ↔ t.val = 0 ∨ t.val = 33 :=
  (by decide +kernel : ∀ t : Fin grid0.N, (Scalar.cmpi .ne (Scalar.extui (Scalar.cmpi .eq (Scalar.select (Scalar.cmpi .sge (BitVec.ofNat 32 (grid0.coords t 0).val) 33#32) (Scalar.subi (BitVec.ofNat 32 (grid0.coords t 0).val) 33#32) (BitVec.ofNat 32 (grid0.coords t 0).val)) 0#32)) 0#32 = 1#1) ↔ t.val = 0 ∨ t.val = 33)
theorem isLast : ∀ t : Fin cfg0.N, t.val < 66 → (k0_cond3 (grid0.coords t) = 1#1 ↔ t.val = 32 ∨ t.val = 65) :=
  (by decide +kernel : ∀ t : Fin grid0.N, t.val < 66 → (k0_cond3 (grid0.coords t) = 1#1 ↔ t.val = 32 ∨ t.val = 65))
theorem isSample : ∀ t : Fin cfg0.N, k0_cond4 (grid0.coords t) = 1#1 ↔ 66 ≤ t.val :=
  (by decide +kernel : ∀ t : Fin grid0.N, k0_cond4 (grid0.coords t) = 1#1 ↔ 66 ≤ t.val)
theorem idle13 : ∀ t : Fin cfg0.N, cfg0.idle 13 (cfg0.grid.coords t) = !(decide (t.val = 32) || decide (t.val = 65)) :=
  (by decide +kernel : ∀ t : Fin grid0.N, idle0 13 (grid0.coords t) = !(decide (t.val = 32) || decide (t.val = 65)))
theorem flush13_iff : ∀ t : Fin cfg0.N, (cfg0.win 13).flush t = (decide (t.val = 32) || decide (t.val = 69)) :=
  (by decide +kernel : ∀ t : Fin grid0.N, win0_13.flush t = (decide (t.val = 32) || decide (t.val = 69)))
theorem idle14 : ∀ t : Fin cfg0.N, cfg0.idle 14 (cfg0.grid.coords t) = decide (t.val < 66) :=
  (by decide +kernel : ∀ t : Fin grid0.N, idle0 14 (grid0.coords t) = decide (t.val < 66))
theorem flush14_iff : ∀ t : Fin cfg0.N, (cfg0.win 14).flush t = decide (66 ≤ t.val) :=
  (by decide +kernel : ∀ t : Fin grid0.N, win0_14.flush t = decide (66 ≤ t.val))
theorem idle15 : ∀ t : Fin cfg0.N, cfg0.idle 15 (cfg0.grid.coords t) = decide (t.val < 66) :=
  (by decide +kernel : ∀ t : Fin grid0.N, idle0 15 (grid0.coords t) = decide (t.val < 66))
theorem flush15_iff : ∀ t : Fin cfg0.N, (cfg0.win 15).flush t = decide (66 ≤ t.val) :=
  (by decide +kernel : ∀ t : Fin grid0.N, win0_15.flush t = decide (66 ≤ t.val))

/-- The last tile of the sequence that a point belongs to. -/
def lastTile (t : Fin cfg0.N) : Fin cfg0.N :=
  if t.val < 33 then ⟨32, lt_of_lt_of_eq (by omega) N_0.symm⟩ else ⟨65, lt_of_lt_of_eq (by omega) N_0.symm⟩

theorem lastTile_self {t : Fin cfg0.N} (h : t.val = 32 ∨ t.val = 65) : lastTile t = t := by
  unfold lastTile
  rcases h with h | h
  · rw [if_pos (by omega)]; exact Fin.ext h.symm
  · rw [if_neg (by omega)]; exact Fin.ext h.symm

theorem lastTile_late {t : Fin cfg0.N} (h : 33 ≤ t.val) : lastTile t = ⟨65, lt_of_lt_of_eq (by omega) N_0.symm⟩ := by
  unfold lastTile; rw [if_neg (by omega)]

/-- The windows of which nothing is claimed: the layer's rows and the prompt's last states. -/
abbrev fgt : Fin 16 → Bool := fun w => w.val == 11 || w.val == 12

/-- What the pipeline's buffers hold after each point: the inputs their blocks, the last projected rows those of the
    point's sequence, the sample results the point's blocks; of the two forgotten results nothing is named. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, h⟩ => Pipeline.Dat.unnamed (cfg := cfg0) ⟨11, h⟩ t
    | ⟨12, h⟩ => Pipeline.Dat.unnamed (cfg := cfg0) ⟨12, h⟩ t
    | ⟨13, _⟩ => tailRows (iblk m c 0 (lastTile t)) (iblk m c 3 (lastTile t)) (iblk m c 5 (lastTile t))
    | ⟨14, _⟩ => sampleH (iblk m c 0 t) (iblk m c 1 t) (iblk m c 2 t) (iblk m c 3 t) (iblk m c 5 t) (iblk m c 6 t) (iblk m c 7 t) (iblk m c 8 t) (iblk m c 9 t)
    | ⟨15, _⟩ => sampleU (iblk m c 0 t) (iblk m c 3 t) (iblk m c 5 t)
    | ⟨_ + 16, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_13 (c : Dev nD) (t : Fin cfg0.N) : (dats m 0 c).after 13 t = tailRows (iblk m c 0 (lastTile t)) (iblk m c 3 (lastTile t)) (iblk m c 5 (lastTile t)) := by
  dsimp only [dats]
theorem after0_14 (c : Dev nD) (t : Fin cfg0.N) : (dats m 0 c).after 14 t = sampleH (iblk m c 0 t) (iblk m c 1 t) (iblk m c 2 t) (iblk m c 3 t) (iblk m c 5 t) (iblk m c 6 t) (iblk m c 7 t) (iblk m c 8 t) (iblk m c 9 t) := by
  dsimp only [dats]
theorem after0_15 (c : Dev nD) (t : Fin cfg0.N) : (dats m 0 c).after 15 t = sampleU (iblk m c 0 t) (iblk m c 3 t) (iblk m c 5 t) := by
  dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d

/-- At the last point the buffer of the last projected rows still holds the second sequence's. -/
theorem before0_13 (c : Dev nD) (t : Fin cfg0.N) (ht : t.val = 69) (d) : (dats m 0 c).before 13 t d = (dats m 0 c).after 13 t := by
  have hN : (65 : ℕ) < cfg0.N := lt_of_le_of_lt (by omega : 65 ≤ t.val) t.isLt
  rw [Cert.Kept.before_eq_after (dats m 0 c) 13 (fun s => (cfg0.win 13).fetch_out rfl s) (fun _ _ => rfl) ⟨65, hN⟩ t
    (by simp only; omega) (by rw [idle13]; rfl) (by rw [flush13_iff]; rfl)
    (fun j h h' => ⟨by rw [idle13]; simp only at h ⊢; simp only [Bool.not_eq_true', Bool.or_eq_false_iff, decide_eq_false_iff_not]; omega,
      by rw [flush13_iff]; simp only at h; simp only [Bool.or_eq_false_iff, decide_eq_false_iff_not]; omega⟩) d,
    after0_13, after0_13]
  have e : lastTile t = lastTile ⟨65, hN⟩ := by rw [lastTile_late (by omega), lastTile_late (by simp only; omega)]
  rw [e]

/-- The scratch and the generator's register, one by one. -/
theorem scratch_eq (c : Dev nD) : (Pipeline.ΦA spec0 c : sProp 𝕄)
    = iprop(iprop((∃ d, owns (c : Thread nD τ) (Memref.whole cc0_scratch0 : Memref sig .tc .vmem S264x1024 .f32) fullShare d)
        ∗ (∃ d, owns (c : Thread nD τ) (Memref.whole cc0_scratch1 : Memref sig .tc .vmem S1x1024 .f32) fullShare d)) ∗ (∃ r, prngReg c r)) := by
  unfold Pipeline.ΦA; rw [scopedRest0_eq]; simp only [owns_whole]; try rfl

/-- What the body is called with at a point, and what it hands back. -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d))
    ∗ (∃ d, owns (c : Thread nD τ) (win0_10.stage (cfg0.slots t 10)) fullShare ((dats m 0 c).before 10 t d))
    ∗ (∃ d, owns (c : Thread nD τ) (win0_11.stage (cfg0.slots t 11)) fullShare d)
    ∗ (∃ d, owns (c : Thread nD τ) (win0_12.stage (cfg0.slots t 12)) fullShare d)
    ∗ (∃ d, owns (c : Thread nD τ) (win0_13.stage (cfg0.slots t 13)) fullShare ((dats m 0 c).before 13 t d))
    ∗ (∃ d, owns (c : Thread nD τ) (win0_14.stage (cfg0.slots t 14)) fullShare ((dats m 0 c).before 14 t d))
    ∗ (∃ d, owns (c : Thread nD τ) (win0_15.stage (cfg0.slots t 15)) fullShare ((dats m 0 c).before 15 t d)))
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (∃ d, owns (c : Thread nD τ) (win0_11.stage (cfg0.slots t 11)) fullShare d)
    ∗ (∃ d, owns (c : Thread nD τ) (win0_12.stage (cfg0.slots t 12)) fullShare d)
    ∗ (dats m 0 c).leavesExact 13 t
    ∗ (dats m 0 c).leavesExact 14 t
    ∗ (dats m 0 c).leavesExact 15 t)

set_option maxHeartbeats 3200000 in
/-- The body at any point, by the kind of the point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).Φ t.succ = Pipeline.ΦA spec0 c from rfl, show (dats m 0 c).Φ t.castSucc = Pipeline.ΦA spec0 c from rfl, scratch_eq,
    show (dats m 0 c).owesAt () t.succ = (dats m 0 c).owesAt () t.castSucc from rfl]
  rw [show (dats m 0 c).leavesExact 0 t = owns (c : Thread nD τ) (win0_0.stage (cfg0.slots t 0)) fullShare ((dats m 0 c).after 0 t) from rfl, after0_0]
  rw [show (dats m 0 c).leavesExact 1 t = owns (c : Thread nD τ) (win0_1.stage (cfg0.slots t 1)) fullShare ((dats m 0 c).after 1 t) from rfl, after0_1]
  rw [show (dats m 0 c).leavesExact 2 t = owns (c : Thread nD τ) (win0_2.stage (cfg0.slots t 2)) fullShare ((dats m 0 c).after 2 t) from rfl, after0_2]
  rw [show (dats m 0 c).leavesExact 3 t = owns (c : Thread nD τ) (win0_3.stage (cfg0.slots t 3)) fullShare ((dats m 0 c).after 3 t) from rfl, after0_3]
  rw [show (dats m 0 c).leavesExact 4 t = owns (c : Thread nD τ) (win0_4.stage (cfg0.slots t 4)) fullShare ((dats m 0 c).after 4 t) from rfl, after0_4]
  rw [show (dats m 0 c).leavesExact 5 t = owns (c : Thread nD τ) (win0_5.stage (cfg0.slots t 5)) fullShare ((dats m 0 c).after 5 t) from rfl, after0_5]
  rw [show (dats m 0 c).leavesExact 6 t = owns (c : Thread nD τ) (win0_6.stage (cfg0.slots t 6)) fullShare ((dats m 0 c).after 6 t) from rfl, after0_6]
  rw [show (dats m 0 c).leavesExact 7 t = owns (c : Thread nD τ) (win0_7.stage (cfg0.slots t 7)) fullShare ((dats m 0 c).after 7 t) from rfl, after0_7]
  rw [show (dats m 0 c).leavesExact 8 t = owns (c : Thread nD τ) (win0_8.stage (cfg0.slots t 8)) fullShare ((dats m 0 c).after 8 t) from rfl, after0_8]
  rw [show (dats m 0 c).leavesExact 9 t = owns (c : Thread nD τ) (win0_9.stage (cfg0.slots t 9)) fullShare ((dats m 0 c).after 9 t) from rfl, after0_9]
  rw [show (dats m 0 c).leavesExact 10 t = owns (c : Thread nD τ) (win0_10.stage (cfg0.slots t 10)) fullShare ((dats m 0 c).after 10 t) from rfl, after0_10]
  have hN : t.val < 70 := lt_of_lt_of_eq t.isLt (show cfg0.N = 70 from N_0)
  by_cases h : t.val < 66
  · have c4 : ¬(k0_cond4 (grid0.coords t) = 1#1) := fun e => by have := (isSample t).mp e; omega
    rw [(dats m 0 c).leavesExact_idle 14 t (by rw [idle14]; exact decide_eq_true h) (by rw [flush14_iff]; exact decide_eq_false (by omega))]
    rw [(dats m 0 c).leavesExact_idle 15 t (by rw [idle15]; exact decide_eq_true h) (by rw [flush15_iff]; exact decide_eq_false (by omega))]
    by_cases hl : t.val = 32 ∨ t.val = 65
    · have h3 := ((isLast t h).mpr hl)
      rw [show (dats m 0 c).leavesExact 13 t = owns (c : Thread nD τ) (win0_13.stage (cfg0.slots t 13)) fullShare ((dats m 0 c).after 13 t) from by unfold Dat.leavesExact; rw [idle13 t, show (decide (t.val = 32) || decide (t.val = 65)) = true from by simp only [Bool.or_eq_true, decide_eq_true_eq]; exact hl, Bool.not_true], after0_13]
      rw [lastTile_self hl]
      iintro ⟨⟨⟨S0, S1⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
      iapply (run_last c (grid0.coords t) _ _ _ _ _ _ _ _ _ _ _ _ _ _ _ _ _ _ _ _ _ _ _ _ _ _ _ _ _ _ _ _ _ _ _ _ ((isPrompt t).mpr h) (fun e => by have := (isFirst t).mp e; omega) h3 c4 (iblk m c 0 t) (iblk m c 1 t) (iblk m c 2 t) (iblk m c 3 t) (iblk m c 4 t) (iblk m c 5 t) (iblk m c 6 t) (iblk m c 7 t) (iblk m c 8 t) (iblk m c 9 t) (iblk m c 10 t) _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      isplitl [H12]; · iexists _; iexact H12
      isplitl [H13]; · iexists _; iexact H13
      isplitl [H14]; · iexact H14
      isplitl [H15]; · iexact H15
      isplitl [S0]; · iexact S0
      isplitl [S1]; · iexact S1
      iintro ⟨H0, H1, H2, H3, H4, H5, H6, H7, H8, H9, H10, H11, H12, H13, H14, H15, S0, S1⟩
      isplitl [S0 S1 Hr]
      · isplitl [S0 S1]
        · isplitl [S0]; · iexact S0
          iexact S1
        iexact Hr
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexists _; iexact H14
      iexists _; iexact H15
    · have h3 : ¬(k0_cond3 (grid0.coords t) = 1#1) := fun e => hl ((isLast t h).mp e)
      rw [(dats m 0 c).leavesExact_idle 13 t (by rw [idle13]; simp only [Bool.not_eq_true', Bool.or_eq_false_iff, decide_eq_false_iff_not]; omega) (by rw [flush13_iff]; simp only [Bool.or_eq_false_iff, decide_eq_false_iff_not]; omega)]
      by_cases hf : t.val = 0 ∨ t.val = 33
      · iintro ⟨⟨⟨S0, S1⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
        iapply (run_first c (grid0.coords t) _ _ _ _ _ _ _ _ _ _ _ _ _ _ _ _ _ _ _ _ _ _ _ _ _ _ _ _ _ _ _ _ _ _ _ _ ((isPrompt t).mpr h) ((isFirst t).mpr hf) h3 c4 (iblk m c 0 t) (iblk m c 1 t) (iblk m c 2 t) (iblk m c 3 t) (iblk m c 4 t) (iblk m c 5 t) (iblk m c 6 t) (iblk m c 7 t) (iblk m c 8 t) (iblk m c 9 t) (iblk m c 10 t) _ _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexists _; iexact H11
        isplitl [H12]; · iexists _; iexact H12
        isplitl [H13]; · iexact H13
        isplitl [H14]; · iexact H14
        isplitl [H15]; · iexact H15
        isplitl [S0]; · iexact S0
        isplitl [S1]; · iexact S1
        iintro ⟨H0, H1, H2, H3, H4, H5, H6, H7, H8, H9, H10, H11, H12, H13, H14, H15, S0, S1⟩
        isplitl [S0 S1 Hr]
        · isplitl [S0 S1]
          · isplitl [S0]; · iexact S0
            iexact S1
          iexact Hr
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexists _; iexact H13
        isplitl [H14]; · iexists _; iexact H14
        iexists _; iexact H15
      · iintro ⟨⟨⟨S0, S1⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
        iapply (run_inner c (grid0.coords t) _ _ _ _ _ _ _ _ _ _ _ _ _ _ _ _ _ _ _ _ _ _ _ _ _ _ _ _ _ _ _ _ _ _ _ _ ((isPrompt t).mpr h) (fun e => hf ((isFirst t).mp e)) h3 c4 (iblk m c 0 t) (iblk m c 1 t) (iblk m c 2 t) (iblk m c 3 t) (iblk m c 4 t) (iblk m c 5 t) (iblk m c 6 t) (iblk m c 7 t) (iblk m c 8 t) (iblk m c 9 t) (iblk m c 10 t) _ _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexists _; iexact H11
        isplitl [H12]; · iexists _; iexact H12
        isplitl [H13]; · iexact H13
        isplitl [H14]; · iexact H14
        isplitl [H15]; · iexact H15
        isplitl [S0]; · iexact S0
        isplitl [S1]; · iexact S1
        iintro ⟨H0, H1, H2, H3, H4, H5, H6, H7, H8, H9, H10, H11, H12, H13, H14, H15, S0, S1⟩
        isplitl [S0 S1 Hr]
        · isplitl [S0 S1]
          · isplitl [S0]; · iexact S0
            iexact S1
          iexact Hr
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexists _; iexact H13
        isplitl [H14]; · iexists _; iexact H14
        iexists _; iexact H15
  · have c4 : k0_cond4 (grid0.coords t) = 1#1 := (isSample t).mpr (by omega)
    have c1 : ¬(k0_cond1 (grid0.coords t) = 1#1) := fun e => h ((isPrompt t).mp e)
    rw [show (dats m 0 c).leavesExact 14 t = owns (c : Thread nD τ) (win0_14.stage (cfg0.slots t 14)) fullShare ((dats m 0 c).after 14 t) from by unfold Dat.leavesExact; rw [idle14 t, decide_eq_false h], after0_14]
    rw [show (dats m 0 c).leavesExact 15 t = owns (c : Thread nD τ) (win0_15.stage (cfg0.slots t 15)) fullShare ((dats m 0 c).after 15 t) from by unfold Dat.leavesExact; rw [idle15 t, decide_eq_false h], after0_15]
    by_cases hl : t.val = 69
    · rw [show (dats m 0 c).leavesExact 13 t = owns (c : Thread nD τ) (win0_13.stage (cfg0.slots t 13)) fullShare ((dats m 0 c).after 13 t) from by
        unfold Dat.leavesExact; rw [idle13 t, flush13_iff t, decide_eq_true hl, Bool.or_true, decide_eq_false (by omega), decide_eq_false (by omega)]; rfl]
      simp only [before0_13 m c t hl]
      iintro ⟨⟨⟨S0, S1⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
      iapply (run_sample c (grid0.coords t) _ _ _ _ _ _ _ _ _ _ _ _ _ _ _ _ _ _ _ _ _ _ _ _ _ _ _ _ _ _ _ _ _ _ _ _ c1 c4 (iblk m c 0 t) (iblk m c 1 t) (iblk m c 2 t) (iblk m c 3 t) (iblk m c 4 t) (iblk m c 5 t) (iblk m c 6 t) (iblk m c 7 t) (iblk m c 8 t) (iblk m c 9 t) (iblk m c 10 t) _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      isplitl [H12]; · iexists _; iexact H12
      isplitl [H13]; · iexact H13
      isplitl [H14]; · iexists _; iexact H14
      isplitl [H15]; · iexists _; iexact H15
      isplitl [S0]; · iexact S0
      isplitl [S1]; · iexact S1
      iintro ⟨H0, H1, H2, H3, H4, H5, H6, H7, H8, H9, H10, H11, H12, H13, H14, H15, S0, S1⟩
      isplitl [S0 S1 Hr]
      · isplitl [S0 S1]
        · isplitl [S0]; · iexact S0
          iexact S1
        iexact Hr
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      iexact H15
    ·
      rw [(dats m 0 c).leavesExact_idle 13 t (by rw [idle13]; simp only [Bool.not_eq_true', Bool.or_eq_false_iff, decide_eq_false_iff_not]; omega) (by rw [flush13_iff]; simp only [Bool.or_eq_false_iff, decide_eq_false_iff_not]; omega)]
      iintro ⟨⟨⟨S0, S1⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
      iapply (run_sample c (grid0.coords t) _ _ _ _ _ _ _ _ _ _ _ _ _ _ _ _ _ _ _ _ _ _ _ _ _ _ _ _ _ _ _ _ _ _ _ _ c1 c4 (iblk m c 0 t) (iblk m c 1 t) (iblk m c 2 t) (iblk m c 3 t) (iblk m c 4 t) (iblk m c 5 t) (iblk m c 6 t) (iblk m c 7 t) (iblk m c 8 t) (iblk m c 9 t) (iblk m c 10 t) _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      isplitl [H12]; · iexists _; iexact H12
      isplitl [H13]; · iexact H13
      isplitl [H14]; · iexists _; iexact H14
      isplitl [H15]; · iexists _; iexact H15
      isplitl [S0]; · iexact S0
      isplitl [S1]; · iexact S1
      iintro ⟨H0, H1, H2, H3, H4, H5, H6, H7, H8, H9, H10, H11, H12, H13, H14, H15, S0, S1⟩
      isplitl [S0 S1 Hr]
      · isplitl [S0 S1]
        · isplitl [S0]; · iexact S0
          iexact S1
        iexact Hr
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexists _; iexact H13
      isplitl [H14]; · iexact H14
      iexact H15

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ fgt := fun t => by
  rw [bigSep_W0, bigSep_W0, defs₀_row]
  exact triple_restated (sound_body m c t) rfl .rfl fun _ => .rfl

-- the pipeline theorem's arguments are found by unification with this statement
set_option backward.isDefEq.respectTransparency.types false in
/-- Every run ends with the windowed arrays that are not forgotten at the contents `dats` names and every semaphore counter at zero. -/
theorem run_main_quiescent : θ_run defs (onTc (τ := τ) (main (F := F))) (s₀ m ρ) (fun r => (Pipeline.RDat.FramePost (cfgs 0) (fun c => (dats m 0 c).toRForget fgt) (V m)) r ∧ r.2.sem = fun _ => 0) :=
  Pipeline.θ_run_frame_track_forget (Q' := _) cfgs (dats m) (0 : Fin 1) launch0 defs₀ Variants.none fgt m ρ main
    (hbody := fun c => (body_obligation m c).loose) (hshare := fun c => (dats m 0 c).share_full fun _ => rfl)
    (howed := fun _ _ => rfl) (V := V m) (hmain := hmain m Variants.none) (hA := A_eq m) (hin := fun _ => .rfl) (hout := fun _ => .rfl)

theorem run_main : θ_run defs (onTc (τ := τ) (main (F := F))) (s₀ m ρ) (Pipeline.RDat.FramePost (cfgs 0) (fun c => (dats m 0 c).toRForget fgt) (V m)) :=
  (θ_run defs _ _).mono (fun _ h => h.1) (run_main_quiescent m ρ)

/-- Every run ends with the arguments as they were. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨(Pipeline.RDat.FramePost.arr_in h c 0 rfl).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c),
    ((h c).2 main_arg7 (Pipeline.mem_restRefs_of main_arg7 (by decide) (by decide))).trans (V_main_arg7 m c),
    ((h c).2 main_arg8 (Pipeline.mem_restRefs_of main_arg8 (by decide) (by decide))).trans (V_main_arg8 m c),
    ((h c).2 main_arg9 (Pipeline.mem_restRefs_of main_arg9 (by decide) (by decide))).trans (V_main_arg9 m c),
    ((h c).2 main_arg10 (Pipeline.mem_restRefs_of main_arg10 (by decide) (by decide))).trans (V_main_arg10 m c),
    ((h c).2 main_arg11 (Pipeline.mem_restRefs_of main_arg11 (by decide) (by decide))).trans (V_main_arg11 m c),
    ((h c).2 main_arg12 (Pipeline.mem_restRefs_of main_arg12 (by decide) (by decide))).trans (V_main_arg12 m c),
    ((h c).2 main_arg13 (Pipeline.mem_restRefs_of main_arg13 (by decide) (by decide))).trans (V_main_arg13 m c)⟩) (run_main m ρ)

/-- Every run ends with the arguments as they were and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0) :=
  θ_run_and (unchanged m ρ)
  ((θ_run defs _ _).mono (fun _ h => h.2) (run_main_quiescent m ρ))

end Cert.LruIdeal.Gen

end
-- ==== Proof.LruTile.lean ====
/-
  The recurrent layer's sample tile on the extended reals: what the body's arrays hold at a row and a column, as the layer's
  own steps: the projection, the convolution over the kept rows, the two gates, the decay, the input and the recurrence.
-/
module

public import proofs.«01_k».proof.Proof.Rows
public import proofs.«01_k».proof.Proof.LruMath
public import proofs.«01_k».proof.Proof.LruIdealRun
public import Idealize.ShloMosaic.Lib.Pipeline.ValueKit

@[expose] public section

set_option maxRecDepth 16384

noncomputable section

namespace Cert.LruRows

open Idealize.ShloMosaic Idealize.ShloMosaic.TcCoe Cert.Rows

theorem ofBits_half : Ideal.ofBits .f32 1056964608#32 = ((1 / 2 : ℝ) : EReal) := by
  simp [Ideal.ofBits, Ideal.ieee, -EReal.coe_mul]; norm_num
theorem ofBits_two : Ideal.ofBits .f32 1073741824#32 = (2 : EReal) := by
  rw [show (2 : EReal) = ((2 : ℝ) : EReal) by norm_cast]
  simp [Ideal.ofBits, Ideal.ieee, -EReal.coe_mul]; norm_num
theorem ofBits_eight : Ideal.ofBits .f32 1090519040#32 = (8 : EReal) := by
  rw [show (8 : EReal) = ((8 : ℝ) : EReal) by norm_cast]
  simp [Ideal.ofBits, Ideal.ieee, -EReal.coe_mul]; norm_num

section Spec

/-- A sequence's rows with the three kept rows before them. -/
def padded (buf : Fin 3 → EReal) (u : Fin 8 → EReal) (i : Fin 11) : EReal :=
  if h : i.val < 3 then buf ⟨i.val, h⟩ else u ⟨i.val - 3, by have := i.isLt; omega⟩

/-- The convolved column at a step. -/
def convAt (b : EReal) (w : Fin 4 → EReal) (buf : Fin 3 → EReal) (u : Fin 8 → EReal) (t : Fin 8) : EReal :=
  conv b (w 0) (w 1) (w 2) (w 3) (padded buf u ⟨t.val, by omega⟩) (padded buf u ⟨t.val + 1, by omega⟩)
    (padded buf u ⟨t.val + 2, by omega⟩) (padded buf u ⟨t.val + 3, by omega⟩)

/-- A row times a block-diagonal matrix of four blocks. -/
def blockLin (v : Fin 1024 → EReal) (w : Fin 4 → Fin 256 → Fin 256 → EReal) (j : Fin 1024) : EReal :=
  ∑ d : Fin 256, v ⟨256 * (j.val / 256) + d.val, by omega⟩ * w ⟨j.val / 256, by omega⟩ d ⟨j.val % 256, by omega⟩

/-- The convolved rows of a sequence of eight steps: from the projected rows, the kept rows and the taps. -/
def convRows (b : Fin 1024 → EReal) (w : Fin 4 → Fin 1024 → EReal) (buf : Fin 3 → Fin 1024 → EReal) (u : Fin 8 → Fin 1024 → EReal)
    (t : Fin 8) (j : Fin 1024) : EReal :=
  convAt (b j) (fun n => w n j) (fun i => buf i j) (fun i => u i j) t

/-- The logarithm of a step's decay, from its convolved row. -/
def decayLog (v : Fin 1024 → EReal) (wa : Fin 4 → Fin 256 → Fin 256 → EReal) (ba lam : Fin 1024 → EReal) (j : Fin 1024) : EReal :=
  logDecay (blockLin v wa j + ba j) (lam j)

/-- A step's input, from its convolved row. -/
def stepIn (v : Fin 1024 → EReal) (wa wx : Fin 4 → Fin 256 → Fin 256 → EReal) (ba bx lam : Fin 1024 → EReal) (j : Fin 1024) : EReal :=
  inScale (decayLog v wa ba lam j) * (Ideal.logistic (blockLin v wx j + bx j) * v j)

/-- The state after step `t`, from the convolved rows of the sequence. -/
def stateAt (v : Fin 8 → Fin 1024 → EReal) (wa wx : Fin 4 → Fin 256 → Fin 256 → EReal) (ba bx lam : Fin 1024 → EReal) (h : Fin 1024 → EReal)
    (t : Fin 8) (j : Fin 1024) : EReal :=
  hseq (fun k => Ideal.exp (decayLog (v k) wa ba lam j)) (fun k => stepIn (v k) wa wx ba bx lam j) (h j) t.val

end Spec

section Kernel
open Cert.LruIdeal Cert.LruIdeal.Gen

variable (u x0 x1 x2 : Vec Ideal S256x1024 .f32) (x3 : Vec Ideal S2x1024 .f32) (x5 : Vec Ideal S1024x1024 .bf16) (x6 x7 : Vec Ideal S4x1024 .f32) (x8 x9 : Vec Ideal S4x256x256 .bf16)

theorem sampleU_at (r : Fin 256) (j : Fin 1024) : sampleU x0 x3 x5 (ix2 r j) =
    lin (rms (fun k => x0 (ix2 r k)) (fun k => x3 (ix2 0 k))) (fun k l => x5 (ix2 k l)) j := by
  pointwise [sampleU, row2, k0_pay81, k0_pay80, lin, rms]

theorem tailRows_at (a : Fin 1) (r : Fin 8) (j : Fin 1024) : tailRows x0 x3 x5 (ix3 a r j) =
    lin (rms (fun k => x0 (ix2 ⟨8 + r.val, by omega⟩ k)) (fun k => x3 (ix2 0 k))) (fun k l => x5 (ix2 k l)) j := by
  pointwise [tailRows, row2, k0_pay6, k0_pay11, k0_pay10, lin, rms]

/-- A tile's row number within its sequence. -/
theorem step_at (r : Fin 256) (z : Fin 1) : k0_pay82 (ix2 r z) = BitVec.ofNat 32 (r.val % 8) := by
  pointwise [k0_pay82]
  revert r
  decide +kernel

theorem ge_1 : ∀ t : Fin 8, IntOp.cmpi .sge (BitVec.ofNat 32 t.val) 1#32 = BitVec.ofBool (decide (1 ≤ t.val)) := by decide +kernel
theorem ge_2 : ∀ t : Fin 8, IntOp.cmpi .sge (BitVec.ofNat 32 t.val) 2#32 = BitVec.ofBool (decide (2 ≤ t.val)) := by decide +kernel
theorem ge_3 : ∀ t : Fin 8, IntOp.cmpi .sge (BitVec.ofNat 32 t.val) 3#32 = BitVec.ofBool (decide (3 ≤ t.val)) := by decide +kernel

/-- A tap's choice between the tile's own rows and the kept rows. -/
theorem tap (b : Vec Ideal S256x1024 .f32) (q : Fin 32) (t : Fin 8) (j : Fin 1024) (n : ℕ) (h1 : 1 ≤ n) (h3 : n ≤ 3) (k : Fin 11) (hk : k.val = t.val + 3 - n)
    (c : BitVec 1) (hc : c = BitVec.ofBool (decide (n ≤ t.val))) (r r' : Fin 256) (hr : r.val = (8 * q.val + t.val + 256 - n) % 256)
    (hr' : r'.val = (8 * q.val + t.val + 256 - (248 + n)) % 256) :
    Scalar.select c (u (ix2 r j)) (b (ix2 r' j)) =
      padded (fun i => b (ix2 ⟨8 * q.val + 5 + i.val, by omega⟩ j)) (fun i => u (ix2 ⟨8 * q.val + i.val, by omega⟩ j)) k := by
  subst hc
  unfold padded
  by_cases h : n ≤ t.val
  · rw [dif_neg (by omega), decide_eq_true h]
    show u (ix2 r j) = _
    rw [show r = ⟨8 * q.val + (k.val - 3), by omega⟩ from Fin.ext (by simp only []; omega)]
  · rw [dif_pos (by omega), decide_eq_false h]
    show b (ix2 r' j) = _
    rw [show r' = ⟨8 * q.val + 5 + k.val, by omega⟩ from Fin.ext (by simp only []; omega)]

/-- The taps in the body's order. -/
theorem tapSum (x w0 w1 w2 w3 p0 p1 p2 p3 : EReal) : x + w3 * p3 + w2 * p2 + w1 * p1 + w0 * p0 = conv x w0 w1 w2 w3 p0 p1 p2 p3 := by
  unfold conv
  ac_rfl

theorem sampleV_at (q : Fin 32) (t : Fin 8) (j : Fin 1024) : sampleV u x1 x6 x7 (ix2 ⟨8 * q.val + t.val, by omega⟩ j) =
    convAt (x7 (ix2 0 j)) (fun n => x6 (ix2 n j)) (fun i => x1 (ix2 ⟨8 * q.val + 5 + i.val, by omega⟩ j))
      (fun i => u (ix2 ⟨8 * q.val + i.val, by omega⟩ j)) t := by
  pointwise [sampleV, row4_0, row4_1, row4_2, row4_3, k0_pay85, step_at, k0_pay83, k0_pay84, k0_pay1]
  have e : (8 * q.val + t.val) % 8 = t.val := by omega
  rw [tap u x1 q t j 1 (by omega) (by omega) ⟨t.val + 2, by omega⟩ rfl _ (by rw [e]; exact ge_1 t) _ _ rfl rfl,
    tap u x1 q t j 2 (by omega) (by omega) ⟨t.val + 1, by omega⟩ rfl _ (by rw [e]; exact ge_2 t) _ _ rfl rfl,
    tap u x1 q t j 3 (by omega) (by omega) ⟨t.val, by omega⟩ rfl _ (by rw [e]; exact ge_3 t) _ _ rfl rfl]
  unfold convAt
  rw [show padded (fun i => x1 (ix2 ⟨8 * q.val + 5 + i.val, by omega⟩ j)) (fun i => u (ix2 ⟨8 * q.val + i.val, by omega⟩ j)) ⟨t.val + 3, by omega⟩ =
      u (ix2 ⟨8 * q.val + t.val, by omega⟩ j) by
    unfold padded; rw [dif_neg (by simp)]; simp]
  exact tapSum _ _ _ _ _ _ _ _ _

theorem sampleV'_eq : (sampleV' u x1 x6 x7 : S256x1024.Idx → EReal) = sampleV u x1 x6 x7 := rfl
theorem sampleV''_at (r : Fin 256) (k : Fin 256) : sampleV'' u x1 x6 x7 (ix2 r k) = sampleV u x1 x6 x7 (ix2 r ⟨k.val, by omega⟩) := by
  pointwise [sampleV'', k0_pay87]
  rfl

/-- A block-diagonal product's block. -/
theorem blockLin_at (v : Fin 1024 → EReal) (w : Fin 4 → Fin 256 → Fin 256 → EReal) (j : Fin 1024) (n : Fin 4) (l : Fin 256) (h : j.val = 256 * n.val + l.val) :
    blockLin v w j = ∑ d : Fin 256, v ⟨256 * n.val + d.val, by omega⟩ * w n d l := by
  unfold blockLin
  rw [show (⟨j.val / 256, by omega⟩ : Fin 4) = n from Fin.ext (by simp only []; omega), show (⟨j.val % 256, by omega⟩ : Fin 256) = l from Fin.ext (by simp only []; omega)]
  refine Finset.sum_congr rfl fun d _ => ?_
  rw [show (⟨256 * (j.val / 256) + d.val, by omega⟩ : Fin 1024) = ⟨256 * n.val + d.val, by omega⟩ from Fin.ext (by simp only []; omega)]

/-- The four blocks' products laid side by side. -/
theorem blockLin_ifs (v : Fin 1024 → EReal) (w : Fin 4 → Fin 256 → Fin 256 → EReal) (j : Fin 1024) :
    (if h : j.val < 256 then ∑ x : Fin 256, v ⟨x.val, by omega⟩ * w 0 x ⟨j.val, h⟩
    else if h : j.val - 256 < 256 then ∑ x : Fin 256, v ⟨256 + x.val, by omega⟩ * w 1 x ⟨j.val - 256, h⟩
    else if h : j.val - 256 - 256 < 256 then ∑ x : Fin 256, v ⟨512 + x.val, by omega⟩ * w 2 x ⟨j.val - 256 - 256, h⟩
    else ∑ x : Fin 256, v ⟨768 + x.val, by omega⟩ * w 3 x ⟨j.val - 256 - 256 - 256, by omega⟩) = blockLin v w j := by
  split_ifs
  · rw [blockLin_at _ _ j 0 ⟨j.val, by omega⟩ (by simp)]; simp
  · rw [blockLin_at _ _ j 1 ⟨j.val - 256, by omega⟩ (by simp; omega)]; rfl
  · rw [blockLin_at _ _ j 2 ⟨j.val - 256 - 256, by omega⟩ (by simp; omega)]; rfl
  · rw [blockLin_at _ _ j 3 ⟨j.val - 256 - 256 - 256, by omega⟩ (by simp; omega)]; rfl

theorem sampleR_at (r : Fin 256) (j : Fin 1024) : sampleR u x1 x6 x7 x8 (ix2 r j) =
    blockLin (fun k => sampleV u x1 x6 x7 (ix2 r k)) (fun n k l => x8 (ix3 n k l)) j := by
  pointwise [sampleR, gate_0, gate_1, gate_2, gate_3, k0_pay88, sampleV''_at, sampleV'_eq]
  exact blockLin_ifs (fun k => sampleV u x1 x6 x7 (ix2 r k)) (fun n k l => x8 (ix3 n k l)) j

theorem sampleA_at (q : Fin 32) (k : Fin 8) (j : Fin 1024) : sampleA u x1 x6 x7 x8 (ix3 q k j) =
    Ideal.exp (logDecay (blockLin (fun k' => sampleV u x1 x6 x7 (ix2 ⟨8 * q.val + k.val, by omega⟩ k')) (fun n k l => x8 (ix3 n k l)) j + x7 (ix2 1 j)) (x7 (ix2 3 j))) := by
  pointwise [sampleA, k0_pay96, k0_pay95, k0_pay94, k0_pay2, k0_pay4, row4_1, row4_3, sampleR_at, logDecay, logSig, ofBits_eight, zero_sub, mul_comm q.val 8]
  rfl

theorem sampleB_at (q : Fin 32) (k : Fin 8) (j : Fin 1024) : sampleB u x1 x6 x7 x8 x9 (ix3 q k j) =
    inScale (logDecay (blockLin (fun k' => sampleV u x1 x6 x7 (ix2 ⟨8 * q.val + k.val, by omega⟩ k')) (fun n k l => x8 (ix3 n k l)) j + x7 (ix2 1 j)) (x7 (ix2 3 j))) *
      (Ideal.logistic (blockLin (fun k' => sampleV u x1 x6 x7 (ix2 ⟨8 * q.val + k.val, by omega⟩ k')) (fun n k l => x9 (ix3 n k l)) j + x7 (ix2 2 j)) *
        sampleV u x1 x6 x7 (ix2 ⟨8 * q.val + k.val, by omega⟩ j)) := by
  rw [← inScale_tanh (logDecay_nonpos _ _), ← half_tanh]
  pointwise [sampleB, k0_pay97, k0_pay95, k0_pay94, k0_pay2, k0_pay3, k0_pay4, k0_pay89, k0_pay90, k0_pay91, k0_pay92, k0_pay93, row4_1, row4_2, row4_3, gate_0, gate_1, gate_2, gate_3,
    sampleR_at, sampleV'_eq, logDecay, logSig, ofBits_eight, ofBits_half, zero_sub, mul_comm q.val 8]
  have e := blockLin_ifs (fun k' => sampleV u x1 x6 x7 (ix2 ⟨8 * q.val + k.val, by omega⟩ k')) (fun n k l => x9 (ix3 n k l)) j
  beta_reduce at e
  rw [e]
  rfl

theorem sel_ge (k n : ℕ) (hk : k < 8) (hn : n < 8) (h : n ≤ k) (x y : EReal) :
    Scalar.select (IntOp.cmpi .sge (BitVec.ofNat 32 k) (BitVec.ofNat 32 n)) x y = x := by
  interval_cases k <;> interval_cases n <;> first | rfl | omega
theorem sel_lt (k n : ℕ) (hk : k < 8) (hn : n < 8) (h : k < n) (x y : EReal) :
    Scalar.select (IntOp.cmpi .sge (BitVec.ofNat 32 k) (BitVec.ofNat 32 n)) x y = y := by
  interval_cases k <;> interval_cases n <;> first | rfl | omega

variable (a b : Vec Ideal S32x8x1024 .f32)

theorem scanned_form (q : Fin 32) (k : Fin 8) (j : Fin 1024) : scanned a b x2 (ix2 ⟨8 * q.val + k.val, by omega⟩ j) =
    k0_pay101 (F := Ideal) a (ix3 q k j) * k0_pay103 (F := Ideal) a (ix3 q k j) * x2 (ix2 ⟨8 * q.val + k.val, by omega⟩ j)
      + k0_pay104 (F := Ideal) a b (ix3 q k j) := by
  pointwise [scanned, k0_pay105]

/-- The tile's scan by doubling is the recurrence, step by step, where the decays are reals that are not negative. -/
theorem scanned_at (q : Fin 32) (j : Fin 1024) (r : Fin 8 → ℝ) (hr : ∀ k, 0 ≤ r k) (ha : ∀ k, a (ix3 q k j) = ((r k : ℝ) : EReal)) (k : Fin 8) :
    scanned a b x2 (ix2 ⟨8 * q.val + k.val, by omega⟩ j) =
      hseq (fun k => a (ix3 q k j)) (fun k => b (ix3 q k j)) (x2 (ix2 ⟨8 * q.val + k.val, by omega⟩ j)) k.val := by
  rw [scanned_form]
  generalize x2 (ix2 ⟨8 * q.val + k.val, _⟩ j) = h
  obtain rfl | rfl | rfl | rfl | rfl | rfl | rfl | rfl := (by decide : ∀ k : Fin 8, k = 0 ∨ k = 1 ∨ k = 2 ∨ k = 3 ∨ k = 4 ∨ k = 5 ∨ k = 6 ∨ k = 7) k
  all_goals
    pointwise [k0_pay104, k0_pay103, k0_pay101, k0_pay102, k0_pay98, k0_pay99, k0_pay100]
    simp (config := { decide := true }) only [sel_ge, sel_lt, hseq, mul_one, mul_zero, zero_add, add_zero]
  all_goals
    try simp only [show Fin.ofNat 8 1 = 1 from rfl, show Fin.ofNat 8 (1 + 1) = 2 from rfl, show Fin.ofNat 8 (2 + 1) = 3 from rfl, show Fin.ofNat 8 (3 + 1) = 4 from rfl,
      show Fin.ofNat 8 (4 + 1) = 5 from rfl, show Fin.ofNat 8 (5 + 1) = 6 from rfl, show Fin.ofNat 8 (6 + 1) = 7 from rfl]
    simp only [ha]
    simp only [mul_assoc, coe_mul_add (hr _), add_assoc]

/-- The tile's states: each sequence of eight rows runs the recurrence from its own first state. -/
theorem sampleH_at (q : Fin 32) (t : Fin 8) (j : Fin 1024) : sampleH x0 x1 x2 x3 x5 x6 x7 x8 x9 (ix2 ⟨8 * q.val + t.val, by omega⟩ j) =
    stateAt (convRows (fun j => x7 (ix2 0 j)) (fun n j => x6 (ix2 n j)) (fun i j => x1 (ix2 ⟨8 * q.val + 5 + i.val, by omega⟩ j))
        (fun i => lin (rms (fun k => x0 (ix2 ⟨8 * q.val + i.val, by omega⟩ k)) (fun k => x3 (ix2 0 k))) (fun k l => x5 (ix2 k l))))
      (fun n k l => x8 (ix3 n k l)) (fun n k l => x9 (ix3 n k l)) (fun j => x7 (ix2 1 j)) (fun j => x7 (ix2 2 j)) (fun j => x7 (ix2 3 j))
      (fun j => x2 (ix2 ⟨8 * q.val + t.val, by omega⟩ j)) t j := by
  have hv : ∀ k : Fin 8, (fun k' => sampleV (sampleU x0 x3 x5) x1 x6 x7 (ix2 ⟨8 * q.val + k.val, by omega⟩ k')) =
      convRows (fun j => x7 (ix2 0 j)) (fun n j => x6 (ix2 n j)) (fun i j => x1 (ix2 ⟨8 * q.val + 5 + i.val, by omega⟩ j))
        (fun i => lin (rms (fun k => x0 (ix2 ⟨8 * q.val + i.val, by omega⟩ k)) (fun k => x3 (ix2 0 k))) (fun k l => x5 (ix2 k l))) k := by
    intro k; funext j; rw [sampleV_at]; simp only [sampleU_at]; rfl
  have hA := fun k => sampleA_at (sampleU x0 x3 x5) x1 x6 x7 x8 q k j
  have hB := fun k => sampleB_at (sampleU x0 x3 x5) x1 x6 x7 x8 x9 q k j
  have hr : ∀ k, ∃ r : ℝ, 0 ≤ r ∧ sampleA (sampleU x0 x3 x5) x1 x6 x7 x8 (ix3 q k j) = (r : EReal) := by
    intro k; rw [hA]; exact decay_real (logDecay_nonpos _ _)
  choose r h0 ha using hr
  unfold sampleH
  rw [scanned_at x2 _ _ q j r h0 ha t]
  unfold stateAt
  congr 1
  · funext k; rw [hA, hv]; rfl
  · funext k; rw [hB, hv, show sampleV (sampleU x0 x3 x5) x1 x6 x7 (ix2 ⟨8 * q.val + k.val, by omega⟩ j) = _ from congrFun (hv k) j]; rfl

end Kernel
end Cert.LruRows
end
-- ==== Proof.LruValue.lean ====
/-
  The recurrent layer: the kernel's projected tail rows, its sample states and its projected sample rows are the reference's.
-/
module

public import proofs.«01_k».proof.Proof.Rows
public import proofs.«01_k».proof.Proof.LruMath
public import proofs.«01_k».proof.Proof.LruTile
public import proofs.«01_k».proof.Proof.Gen.LruRefIdeal.Run
public import proofs.«01_k».proof.Proof.Gen.LruRefIdeal.Read
public import Idealize.ShloMosaic.Lib.Pipeline.ValueKit
public import Idealize.ShloMosaic.Lib.StableHlo.ReadAt

@[expose] public section

set_option maxRecDepth 16384

noncomputable section

namespace Cert.LruRows

open Idealize.ShloMosaic Idealize.ShloMosaic.TcCoe Cert.Rows

section Spec
variable (x0 : Vec Ideal ⟨2, ![17920, 1024]⟩ .f32) (x1 : Vec Ideal ⟨4, ![1, 128, 3, 1024]⟩ .f32) (x2 : Vec Ideal ⟨3, ![1, 128, 1024]⟩ .f32)
  (x3 : Vec Ideal ⟨3, ![2, 6, 1024]⟩ .f32) (x5 : Vec Ideal ⟨3, ![1, 1024, 1024]⟩ .f32) (x6 : Vec Ideal ⟨3, ![1, 4, 1024]⟩ .f32)
  (x7 x9 x11 x12 : Vec Ideal ⟨2, ![1, 1024]⟩ .f32) (x8 x10 : Vec Ideal ⟨4, ![1, 4, 256, 256]⟩ .f32)

/-- A token's projected row. -/
def uRow (r : Fin 17920) : Fin 1024 → EReal :=
  lin (rms (fun k => x0 (ix2 r k)) (fun k => x3 (ix3 0 2 k))) (fun k l => x5 (ix3 0 k l))

/-- A sample sequence's convolved rows. -/
def vRows (s : Fin 128) : Fin 8 → Fin 1024 → EReal :=
  convRows (fun j => x7 (ix2 0 j)) (fun n j => x6 (ix3 0 n j)) (fun i j => x1 (ix4 0 s i j))
    (fun i => uRow x0 x3 x5 ⟨16896 + (8 * s.val + i.val), by omega⟩)

/-- A sample sequence's state after a step. -/
def hRow (s : Fin 128) (t : Fin 8) : Fin 1024 → EReal :=
  stateAt (vRows x0 x1 x3 x5 x6 x7 s) (fun n k l => x8 (ix4 0 n k l)) (fun n k l => x10 (ix4 0 n k l))
    (fun j => x9 (ix2 0 j)) (fun j => x11 (ix2 0 j)) (fun j => x12 (ix2 0 j)) (fun j => x2 (ix3 0 s j)) t

/-- The last eight projected rows of each prompt sequence. -/
def GU : Vec Ideal ⟨3, ![2, 8, 1024]⟩ .f32 := fun i =>
  uRow x0 x3 x5 ⟨(i 0).val * 8448 + (8200 + (i 1).val), by
    have h0 : (i 0).val < 2 := (i 0).isLt
    have h1 : (i 1).val < 8 := (i 1).isLt
    omega⟩ (i 2)
/-- The projected sample rows. -/
def GS : Vec Ideal ⟨2, ![1024, 1024]⟩ .f32 := fun i =>
  uRow x0 x3 x5 ⟨16896 + (i 0).val, by have : (i 0).val < 1024 := (i 0).isLt; omega⟩ (i 1)
/-- The sample states: sequence `s` after step `t` is row `8 s + t`. -/
def GH : Vec Ideal ⟨2, ![1024, 1024]⟩ .f32 := fun i =>
  hRow x0 x1 x2 x3 x5 x6 x7 x9 x11 x12 x8 x10 ⟨(i 0).val / 8, by have : (i 0).val < 1024 := (i 0).isLt; omega⟩ ⟨(i 0).val % 8, by omega⟩ (i 1)

end Spec

section Ref
open Cert.LruRefIdeal Cert.LruRefIdeal.Read

variable (x0 : Vec Ideal S17920x1024 .f32) (x1 : Vec Ideal S1x128x3x1024 .f32) (x2 : Vec Ideal S1x128x1024 .f32) (x3 : Vec Ideal S2x6x1024 .f32)
  (x5 : Vec Ideal S1x1024x1024 .f32) (x6 : Vec Ideal S1x4x1024 .f32) (x7 x9 x11 x12 : Vec Ideal S1x1024 .f32) (x8 x10 : Vec Ideal S1x4x256x256 .f32)

theorem ref_u (r : Fin 17920) (j : Fin 1024) : val_main_v16 (F := Ideal) x0 x3 x5 (ix2 r j) = uRow x0 x3 x5 r j := by
  pointwise [uRow, rms, lin, val_main_v0, val_main_v1, val_main_v2, val_main_v3, val_main_v4, val_main_v5, val_main_v6, val_main_v7, val_main_v8, val_main_v9, val_main_v10, val_main_v11, val_main_v12, val_main_v13, val_main_v14, val_main_v15, val_main_v16, val_main_cst, val_main_cst_0, val_main_cst_1]

theorem ref_up (s : Fin 128) (i : Fin 11) (j : Fin 1024) : val_main_v24 (F := Ideal) x0 x1 x3 x5 (ix3 s i j) =
    padded (fun i => x1 (ix4 0 s i j)) (fun i => uRow x0 x3 x5 ⟨16896 + (8 * s.val + i.val), by omega⟩ j) i := by
  pointwise [val_main_v24, val_main_v21, val_main_v20, val_main_v19, ref_u, padded]
  simp only [Nat.mul_comm s.val 8]

theorem ref_v (s : Fin 128) (t : Fin 8) (j : Fin 1024) : val_main_v54 (F := Ideal) x0 x1 x3 x5 x6 x7 (ix3 s t j) = vRows x0 x1 x3 x5 x6 x7 s t j := by
  pointwise [vRows, convRows, convAt, conv, val_main_v22, val_main_v23, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51, val_main_v52, val_main_v53, val_main_v54, ref_up]
  simp only [Nat.add_comm 1, Nat.add_comm 2, Nat.add_comm 3]

theorem ref_r (s : Fin 128) (t : Fin 8) (j : Fin 1024) : val_main_v66 (F := Ideal) x0 x1 x3 x5 x6 x7 x8 x9 (ix3 s t j) =
    blockLin (vRows x0 x1 x3 x5 x6 x7 s t) (fun n k l => x8 (ix4 0 n k l)) j + x9 (ix2 0 j) := by
  pointwise [val_main_v55, val_main_v56, val_main_v60, val_main_v61, val_main_v62, val_main_v63, val_main_v64, val_main_v65, val_main_v66, ref_v]
  unfold blockLin
  simp only [mul_comm (x8 _), Nat.mul_comm _ 256]

theorem ref_i (s : Fin 128) (t : Fin 8) (j : Fin 1024) : val_main_v78 (F := Ideal) x0 x1 x3 x5 x6 x7 x10 x11 (ix3 s t j) =
    blockLin (vRows x0 x1 x3 x5 x6 x7 s t) (fun n k l => x10 (ix4 0 n k l)) j + x11 (ix2 0 j) := by
  pointwise [val_main_v57, val_main_v58, val_main_v60, val_main_v73, val_main_v74, val_main_v75, val_main_v76, val_main_v77, val_main_v78, ref_v]
  unfold blockLin
  simp only [mul_comm (x10 _), Nat.mul_comm _ 256]

theorem ref_sig (j : Fin 1024) : val_main_v87 (F := Ideal) x12 (ix1 j) = logSig (x12 (ix2 0 j)) := by
  pointwise [logSig, val_main_v59, val_main_v87, val_main_call0_v0, val_main_call0_v1, val_main_call0_call0_cst, val_main_call0_call0_v0, val_main_call0_call0_v1, val_main_call0_call0_v2, val_main_call0_call0_v3, val_main_call0_call0_v4, val_main_call0_call0_v5, val_main_call0_call0_v6, val_main_call0_call0_v7, val_main_call0_call0_v8, val_main_call0_call0_v9, val_main_call0_call0_v10, val_main_call0_call0_v11]
  rw [if_neg (fun h => h rfl)]
  show -(max (-x12 (ix2 0 j)) 0 + Ideal.log1p (Ideal.exp (-max (-x12 (ix2 0 j)) (- -x12 (ix2 0 j))))) = _
  rw [neg_neg, max_comm (-x12 (ix2 0 j)) (x12 (ix2 0 j))]

theorem ref_la (s : Fin 128) (t : Fin 8) (j : Fin 1024) : val_main_v90 (F := Ideal) x0 x1 x3 x5 x6 x7 x8 x9 x12 (ix3 s t j) =
    decayLog (vRows x0 x1 x3 x5 x6 x7 s t) (fun n k l => x8 (ix4 0 n k l)) (fun j => x9 (ix2 0 j)) (fun j => x12 (ix2 0 j)) j := by
  pointwise [decayLog, logDecay, val_main_v67, val_main_v68, val_main_v69, val_main_v70, val_main_v71, val_main_v72, val_main_v85, val_main_v86, val_main_v88, val_main_v89, val_main_v90, val_main_cst_2, val_main_cst_3, val_main_cst_6, ref_r, ref_sig, ofBits_eight]
  rfl

theorem ref_b (s : Fin 128) (t : Fin 8) (j : Fin 1024) : val_main_v98 (F := Ideal) x0 x1 x3 x5 x6 x7 x8 x9 x10 x11 x12 (ix3 s t j) =
    stepIn (vRows x0 x1 x3 x5 x6 x7 s t) (fun n k l => x8 (ix4 0 n k l)) (fun n k l => x10 (ix4 0 n k l))
      (fun j => x9 (ix2 0 j)) (fun j => x11 (ix2 0 j)) (fun j => x12 (ix2 0 j)) j := by
  pointwise [stepIn, inScale, val_main_v79, val_main_v80, val_main_v81, val_main_v82, val_main_v83, val_main_v84, val_main_v92, val_main_v93, val_main_v94, val_main_v95, val_main_v96, val_main_v97, val_main_v98, val_main_cst_4, val_main_cst_5, val_main_cst_7, ref_i, ref_la, ref_v, ofBits_two]
  rfl

theorem ref_h0 (s : Fin 128) (j : Fin 1024) : val_main_v105 (F := Ideal) x0 x1 x2 x3 x5 x6 x7 x8 x9 x10 x11 x12 (ix2 s j) = hRow x0 x1 x2 x3 x5 x6 x7 x9 x11 x12 x8 x10 s 0 j := by
  pointwise [val_main_v99, val_main_v100, val_main_v101, val_main_v102, val_main_v103, val_main_v104, val_main_v105, val_main_v91, ref_la, ref_b]
  rfl

theorem ref_h1 (s : Fin 128) (j : Fin 1024) : val_main_v111 (F := Ideal) x0 x1 x2 x3 x5 x6 x7 x8 x9 x10 x11 x12 (ix2 s j) = hRow x0 x1 x2 x3 x5 x6 x7 x9 x11 x12 x8 x10 s 1 j := by
  pointwise [val_main_v106, val_main_v107, val_main_v108, val_main_v109, val_main_v110, val_main_v111, ref_h0, val_main_v91, ref_la, ref_b]
  rfl

theorem ref_h2 (s : Fin 128) (j : Fin 1024) : val_main_v117 (F := Ideal) x0 x1 x2 x3 x5 x6 x7 x8 x9 x10 x11 x12 (ix2 s j) = hRow x0 x1 x2 x3 x5 x6 x7 x9 x11 x12 x8 x10 s 2 j := by
  pointwise [val_main_v112, val_main_v113, val_main_v114, val_main_v115, val_main_v116, val_main_v117, ref_h1, val_main_v91, ref_la, ref_b]
  rfl

theorem ref_h3 (s : Fin 128) (j : Fin 1024) : val_main_v123 (F := Ideal) x0 x1 x2 x3 x5 x6 x7 x8 x9 x10 x11 x12 (ix2 s j) = hRow x0 x1 x2 x3 x5 x6 x7 x9 x11 x12 x8 x10 s 3 j := by
  pointwise [val_main_v118, val_main_v119, val_main_v120, val_main_v121, val_main_v122, val_main_v123, ref_h2, val_main_v91, ref_la, ref_b]
  rfl

theorem ref_h4 (s : Fin 128) (j : Fin 1024) : val_main_v129 (F := Ideal) x0 x1 x2 x3 x5 x6 x7 x8 x9 x10 x11 x12 (ix2 s j) = hRow x0 x1 x2 x3 x5 x6 x7 x9 x11 x12 x8 x10 s 4 j := by
  pointwise [val_main_v124, val_main_v125, val_main_v126, val_main_v127, val_main_v128, val_main_v129, ref_h3, val_main_v91, ref_la, ref_b]
  rfl

theorem ref_h5 (s : Fin 128) (j : Fin 1024) : val_main_v135 (F := Ideal) x0 x1 x2 x3 x5 x6 x7 x8 x9 x10 x11 x12 (ix2 s j) = hRow x0 x1 x2 x3 x5 x6 x7 x9 x11 x12 x8 x10 s 5 j := by
  pointwise [val_main_v130, val_main_v131, val_main_v132, val_main_v133, val_main_v134, val_main_v135, ref_h4, val_main_v91, ref_la, ref_b]
  rfl

theorem ref_h6 (s : Fin 128) (j : Fin 1024) : val_main_v141 (F := Ideal) x0 x1 x2 x3 x5 x6 x7 x8 x9 x10 x11 x12 (ix2 s j) = hRow x0 x1 x2 x3 x5 x6 x7 x9 x11 x12 x8 x10 s 6 j := by
  pointwise [val_main_v136, val_main_v137, val_main_v138, val_main_v139, val_main_v140, val_main_v141, ref_h5, val_main_v91, ref_la, ref_b]
  rfl

theorem ref_h7 (s : Fin 128) (j : Fin 1024) : val_main_v147 (F := Ideal) x0 x1 x2 x3 x5 x6 x7 x8 x9 x10 x11 x12 (ix2 s j) = hRow x0 x1 x2 x3 x5 x6 x7 x9 x11 x12 x8 x10 s 7 j := by
  pointwise [val_main_v142, val_main_v143, val_main_v144, val_main_v145, val_main_v146, val_main_v147, ref_h6, val_main_v91, ref_la, ref_b]
  rfl

theorem ref_hs (s : Fin 128) (t : Fin 8) (j : Fin 1024) : val_main_v157 (F := Ideal) x0 x1 x2 x3 x5 x6 x7 x8 x9 x10 x11 x12 (ix3 s t j) = hRow x0 x1 x2 x3 x5 x6 x7 x9 x11 x12 x8 x10 s t j := by
  obtain rfl | rfl | rfl | rfl | rfl | rfl | rfl | rfl := (by decide : ∀ k : Fin 8, k = 0 ∨ k = 1 ∨ k = 2 ∨ k = 3 ∨ k = 4 ∨ k = 5 ∨ k = 6 ∨ k = 7) t
  all_goals
    pointwise [val_main_v157, val_main_v149, val_main_v150, val_main_v151, val_main_v152, val_main_v153, val_main_v154, val_main_v155, val_main_v156, ref_h0, ref_h1, ref_h2, ref_h3, ref_h4, ref_h5, ref_h6, ref_h7]

theorem ref_eq : val_main_v148 (F := Ideal) x0 x3 x5 = GU x0 x3 x5 ∧ val_main_v158 (F := Ideal) x0 x1 x2 x3 x5 x6 x7 x8 x9 x10 x11 x12 = GH x0 x1 x2 x3 x5 x6 x7 x9 x11 x12 x8 x10 ∧ val_main_v19 (F := Ideal) x0 x3 x5 = GS x0 x3 x5 := by
  refine ⟨?_, ?_, ?_⟩ <;> funext i <;> idx_vars i
  · pointwise [val_main_v148, val_main_v18, val_main_v17, ref_u, GU]
  · pointwise [val_main_v158, ref_hs, GH]
  · pointwise [val_main_v19, ref_u, GS]

end Ref

section Kernel
open Cert.LruIdeal Cert.LruIdeal.Gen

/-- Where each window's block stands at a grid point. -/
theorem idx : ∀ t : Fin cfg0.N, win0_0.index t = ![t.val, 0] ∧ win0_3.index t = ![0, 0] ∧ win0_5.index t = ![0, 0]
    ∧ win0_6.index t = ![0, 0] ∧ win0_7.index t = ![0, 0] ∧ win0_8.index t = ![0, 0, 0] ∧ win0_9.index t = ![0, 0, 0] :=
  (by decide +kernel : ∀ t : Fin grid0.N, _)
theorem idx_sample : ∀ t : Fin cfg0.N, 66 ≤ t.val → win0_1.index t = ![t.val - 66, 0] ∧ win0_2.index t = ![t.val - 66, 0]
    ∧ win0_14.index t = ![t.val - 66, 0] ∧ win0_15.index t = ![t.val - 66, 0] :=
  (by decide +kernel : ∀ t : Fin grid0.N, 66 ≤ t.val → _)
theorem idx_tail : ∀ t : Fin cfg0.N, win0_13.index t = ![(lastTile t).val / 33, 0, 0] :=
  (by decide +kernel : ∀ t : Fin grid0.N, _)
theorem last_tile : ∀ t : Fin cfg0.N, (lastTile t).val = 33 * ((lastTile t).val / 33) + 32 :=
  (by decide +kernel : ∀ t : Fin grid0.N, _)

variable (m : (ℓ : Loc nD τ sig) → Buf (Elt Ideal) ℓ) (c : Dev nD)

theorem lt70 (t : Fin cfg0.N) : t.val < 70 := lt_of_lt_of_eq t.isLt (show cfg0.N = 70 from N_0)
theorem blk0 (t : Fin cfg0.N) (r : Fin 256) (k : Fin 1024) : iblk m c 0 t (ix2 r k) =
    (m ((c : Thread nD τ).loc main_arg0)) (ix2 ⟨t.val * 256 + r.val, by have := r.isLt; have := lt70 t; omega⟩ k) := by
  blk_point [iblk, V, List.flatten_cons, List.flatten_nil, List.append_nil, List.cons_append, List.nil_append, hostOps0, hostOps0_1, hostOps0_2, idx t]
theorem gains (k : Fin 1024) : V m c main_v16 (ix2 0 k) = (m ((c : Thread nD τ).loc main_arg3)) (ix3 0 2 k) := by
  simp only [V, List.flatten_cons, List.flatten_nil, List.append_nil, List.cons_append, List.nil_append, hostOps0, hostOps0_1, hostOps0_2]
  after_reads_at
theorem proj (k l : Fin 1024) : V m c main_v20 (ix2 k l) = (m ((c : Thread nD τ).loc main_arg5)) (ix3 0 k l) := by
  simp only [V, List.flatten_cons, List.flatten_nil, List.append_nil, List.cons_append, List.nil_append, hostOps0, hostOps0_1, hostOps0_2]
  after_reads_at
theorem taps (n : Fin 4) (l : Fin 1024) : V m c main_v21 (ix2 n l) = (m ((c : Thread nD τ).loc main_arg6)) (ix3 0 n l) := by
  simp only [V, List.flatten_cons, List.flatten_nil, List.append_nil, List.cons_append, List.nil_append, hostOps0, hostOps0_1, hostOps0_2]
  after_reads_at
theorem vec_0 (l : Fin 1024) : V m c main_v14 (ix2 0 l) = (m ((c : Thread nD τ).loc main_arg7)) (ix2 0 l) := by
  simp only [V, List.flatten_cons, List.flatten_nil, List.append_nil, List.cons_append, List.nil_append, hostOps0, hostOps0_1, hostOps0_2]
  after_reads_at
  rw [StableHlo.unary_result]
  after_reads_at
theorem vec_1 (l : Fin 1024) : V m c main_v14 (ix2 1 l) = (m ((c : Thread nD τ).loc main_arg9)) (ix2 0 l) := by
  simp only [V, List.flatten_cons, List.flatten_nil, List.append_nil, List.cons_append, List.nil_append, hostOps0, hostOps0_1, hostOps0_2]
  after_reads_at
  rw [StableHlo.unary_result]
  after_reads_at
theorem vec_2 (l : Fin 1024) : V m c main_v14 (ix2 2 l) = (m ((c : Thread nD τ).loc main_arg11)) (ix2 0 l) := by
  simp only [V, List.flatten_cons, List.flatten_nil, List.append_nil, List.cons_append, List.nil_append, hostOps0, hostOps0_1, hostOps0_2]
  after_reads_at
  rw [StableHlo.unary_result]
  after_reads_at
theorem vec_3 (l : Fin 1024) : V m c main_v14 (ix2 3 l) = (m ((c : Thread nD τ).loc main_arg12)) (ix2 0 l) := by
  simp only [V, List.flatten_cons, List.flatten_nil, List.append_nil, List.cons_append, List.nil_append, hostOps0, hostOps0_1, hostOps0_2]
  after_reads_at
  rw [StableHlo.unary_result]
  after_reads_at
theorem gate_a (n : Fin 4) (k l : Fin 256) : V m c main_v23 (ix3 n k l) = (m ((c : Thread nD τ).loc main_arg8)) (ix4 0 n k l) := by
  simp only [V, List.flatten_cons, List.flatten_nil, List.append_nil, List.cons_append, List.nil_append, hostOps0, hostOps0_1, hostOps0_2]
  after_reads_at
theorem gate_x (n : Fin 4) (k l : Fin 256) : V m c main_v25 (ix3 n k l) = (m ((c : Thread nD τ).loc main_arg10)) (ix4 0 n k l) := by
  simp only [V, List.flatten_cons, List.flatten_nil, List.append_nil, List.cons_append, List.nil_append, hostOps0, hostOps0_1, hostOps0_2]
  after_reads_at
theorem state_rows (r l : Fin 1024) : V m c main_v5 (ix2 r l) = (m ((c : Thread nD τ).loc main_arg2)) (ix3 0 ⟨r.val / 8, by omega⟩ l) := by
  simp only [V, List.flatten_cons, List.flatten_nil, List.append_nil, List.cons_append, List.nil_append, hostOps0, hostOps0_1, hostOps0_2]
  after_reads_at
theorem kept_rows (s : Fin 128) (i : Fin 3) (l : Fin 1024) : V m c main_v2 (ix2 ⟨8 * s.val + 5 + i.val, by omega⟩ l) = (m ((c : Thread nD τ).loc main_arg1)) (ix4 0 s i l) := by
  simp only [V, List.flatten_cons, List.flatten_nil, List.append_nil, List.cons_append, List.nil_append, hostOps0, hostOps0_1, hostOps0_2]
  after_reads_at
  have e : (8 * s.val + 5 + i.val) % 8 = 5 + i.val := by omega
  rw [dif_pos (by omega)]
  refine congrArg (fun a : Fin 3 => m ((c : Thread nD τ).loc main_arg1) (ix4 0 s a l)) (Fin.ext ?_)
  show (8 * s.val + 5 + i.val) % 8 - 5 = i.val
  omega
theorem blk3 (t : Fin cfg0.N) (k : Fin 1024) : iblk m c 3 t (ix2 0 k) = (m ((c : Thread nD τ).loc main_arg3)) (ix3 0 2 k) := by
  show V m c main_v16 (((cfg0.win 3).blk t).view.emb (ix2 0 k)) = _
  have e : ((cfg0.win 3).blk t).view.emb (ix2 0 k) = (ix2 0 k) := by
    blk_ext [idx t]
  exact (congrArg (V m c main_v16) e).trans (gains m c k)
theorem blk5 (t : Fin cfg0.N) (k l : Fin 1024) : iblk m c 5 t (ix2 k l) = (m ((c : Thread nD τ).loc main_arg5)) (ix3 0 k l) := by
  show V m c main_v20 (((cfg0.win 5).blk t).view.emb (ix2 k l)) = _
  have e : ((cfg0.win 5).blk t).view.emb (ix2 k l) = (ix2 k l) := by
    blk_ext [idx t]
  exact (congrArg (V m c main_v20) e).trans (proj m c k l)
theorem blk6 (t : Fin cfg0.N) (n : Fin 4) (l : Fin 1024) : iblk m c 6 t (ix2 n l) = (m ((c : Thread nD τ).loc main_arg6)) (ix3 0 n l) := by
  show V m c main_v21 (((cfg0.win 6).blk t).view.emb (ix2 n l)) = _
  have e : ((cfg0.win 6).blk t).view.emb (ix2 n l) = (ix2 n l) := by
    blk_ext [idx t]
  exact (congrArg (V m c main_v21) e).trans (taps m c n l)
theorem blk7_0 (t : Fin cfg0.N) (l : Fin 1024) : iblk m c 7 t (ix2 0 l) = (m ((c : Thread nD τ).loc main_arg7)) (ix2 0 l) := by
  show V m c main_v14 (((cfg0.win 7).blk t).view.emb (ix2 0 l)) = _
  have e : ((cfg0.win 7).blk t).view.emb (ix2 0 l) = (ix2 0 l) := by
    blk_ext [idx t]
  exact (congrArg (V m c main_v14) e).trans (vec_0 m c l)
theorem blk7_1 (t : Fin cfg0.N) (l : Fin 1024) : iblk m c 7 t (ix2 1 l) = (m ((c : Thread nD τ).loc main_arg9)) (ix2 0 l) := by
  show V m c main_v14 (((cfg0.win 7).blk t).view.emb (ix2 1 l)) = _
  have e : ((cfg0.win 7).blk t).view.emb (ix2 1 l) = (ix2 1 l) := by
    blk_ext [idx t]
  exact (congrArg (V m c main_v14) e).trans (vec_1 m c l)
theorem blk7_2 (t : Fin cfg0.N) (l : Fin 1024) : iblk m c 7 t (ix2 2 l) = (m ((c : Thread nD τ).loc main_arg11)) (ix2 0 l) := by
  show V m c main_v14 (((cfg0.win 7).blk t).view.emb (ix2 2 l)) = _
  have e : ((cfg0.win 7).blk t).view.emb (ix2 2 l) = (ix2 2 l) := by
    blk_ext [idx t]
  exact (congrArg (V m c main_v14) e).trans (vec_2 m c l)
theorem blk7_3 (t : Fin cfg0.N) (l : Fin 1024) : iblk m c 7 t (ix2 3 l) = (m ((c : Thread nD τ).loc main_arg12)) (ix2 0 l) := by
  show V m c main_v14 (((cfg0.win 7).blk t).view.emb (ix2 3 l)) = _
  have e : ((cfg0.win 7).blk t).view.emb (ix2 3 l) = (ix2 3 l) := by
    blk_ext [idx t]
  exact (congrArg (V m c main_v14) e).trans (vec_3 m c l)
theorem blk8 (t : Fin cfg0.N) (n : Fin 4) (k l : Fin 256) : iblk m c 8 t (ix3 n k l) = (m ((c : Thread nD τ).loc main_arg8)) (ix4 0 n k l) := by
  show V m c main_v23 (((cfg0.win 8).blk t).view.emb (ix3 n k l)) = _
  have e : ((cfg0.win 8).blk t).view.emb (ix3 n k l) = (ix3 n k l) := by
    blk_ext [idx t]
  exact (congrArg (V m c main_v23) e).trans (gate_a m c n k l)
theorem blk9 (t : Fin cfg0.N) (n : Fin 4) (k l : Fin 256) : iblk m c 9 t (ix3 n k l) = (m ((c : Thread nD τ).loc main_arg10)) (ix4 0 n k l) := by
  show V m c main_v25 (((cfg0.win 9).blk t).view.emb (ix3 n k l)) = _
  have e : ((cfg0.win 9).blk t).view.emb (ix3 n k l) = (ix3 n k l) := by
    blk_ext [idx t]
  exact (congrArg (V m c main_v25) e).trans (gate_x m c n k l)
theorem blk1 (t : Fin cfg0.N) (h : 66 ≤ t.val) (q : Fin 32) (s : Fin 128) (hs : s.val = (t.val - 66) * 32 + q.val) (i : Fin 3) (l : Fin 1024) : iblk m c 1 t (ix2 ⟨8 * q.val + 5 + i.val, by omega⟩ l) = (m ((c : Thread nD τ).loc main_arg1)) (ix4 0 s i l) := by
  have i0 := idx_sample t h
  show V m c main_v2 (((cfg0.win 1).blk t).view.emb (ix2 ⟨8 * q.val + 5 + i.val, by omega⟩ l)) = _
  have e : ((cfg0.win 1).blk t).view.emb (ix2 ⟨8 * q.val + 5 + i.val, by omega⟩ l) = ix2 ⟨8 * s.val + 5 + i.val, by omega⟩ l := by
    blk_ext [i0]
  exact (congrArg (V m c main_v2) e).trans (kept_rows m c s i l)
theorem blk2 (t : Fin cfg0.N) (h : 66 ≤ t.val) (q : Fin 32) (s : Fin 128) (hs : s.val = (t.val - 66) * 32 + q.val) (k : Fin 8) (l : Fin 1024) : iblk m c 2 t (ix2 ⟨8 * q.val + k.val, by omega⟩ l) = (m ((c : Thread nD τ).loc main_arg2)) (ix3 0 s l) := by
  have i0 := idx_sample t h
  show V m c main_v5 (((cfg0.win 2).blk t).view.emb (ix2 ⟨8 * q.val + k.val, by omega⟩ l)) = _
  have e : ((cfg0.win 2).blk t).view.emb (ix2 ⟨8 * q.val + k.val, by omega⟩ l) = ix2 ⟨8 * s.val + k.val, by omega⟩ l := by
    blk_ext [i0]
  refine (congrArg (V m c main_v5) e).trans ((state_rows m c _ l).trans ?_)
  refine congrArg (fun a : Fin 128 => (m ((c : Thread nD τ).loc main_arg2)) (ix3 0 a l)) (Fin.ext ?_)
  show (8 * s.val + k.val) / 8 = s.val
  omega
theorem blk0_sample (t : Fin cfg0.N) (h : 66 ≤ t.val) (q : Fin 32) (s : Fin 128) (hs : s.val = (t.val - 66) * 32 + q.val) (i : Fin 8) (k : Fin 1024) : iblk m c 0 t (ix2 ⟨8 * q.val + i.val, by omega⟩ k) =
    (m ((c : Thread nD τ).loc main_arg0)) (ix2 ⟨16896 + (8 * s.val + i.val), by omega⟩ k) :=
  (blk0 m c t _ k).trans (congrArg (fun a : Fin 17920 => (m ((c : Thread nD τ).loc main_arg0)) (ix2 a k)) (Fin.ext (by show t.val * 256 + (8 * q.val + i.val) = 16896 + (8 * s.val + i.val); omega)))

/-- A row of a tile, projected. -/
theorem tile_u (t : Fin cfg0.N) (r : Fin 256) (e : Fin 17920) (he : e.val = t.val * 256 + r.val) (j : Fin 1024) :
    lin (rms (fun k => iblk m c 0 t (ix2 r k)) (fun k => iblk m c 3 t (ix2 0 k))) (fun k l => iblk m c 5 t (ix2 k l)) j
      = uRow (m ((c : Thread nD τ).loc main_arg0)) (m ((c : Thread nD τ).loc main_arg3)) (m ((c : Thread nD τ).loc main_arg5)) e j := by
  have hr : e = ⟨t.val * 256 + r.val, by have := r.isLt; have := lt70 t; omega⟩ := Fin.ext he
  rw [hr]
  unfold uRow
  simp only [blk0 m c t, blk3 m c t, blk5 m c t]

/-- A sample sequence of a tile: its state after a step. -/
theorem tile_h (t : Fin cfg0.N) (h : 66 ≤ t.val) (q : Fin 32) (s : Fin 128) (hs : s.val = (t.val - 66) * 32 + q.val) (k : Fin 8) (j : Fin 1024) :
    sampleH (iblk m c 0 t) (iblk m c 1 t) (iblk m c 2 t) (iblk m c 3 t) (iblk m c 5 t) (iblk m c 6 t) (iblk m c 7 t) (iblk m c 8 t) (iblk m c 9 t)
      (ix2 ⟨8 * q.val + k.val, by omega⟩ j) = hRow (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg9)) (m ((c : Thread nD τ).loc main_arg11)) (m ((c : Thread nD τ).loc main_arg12)) (m ((c : Thread nD τ).loc main_arg8)) (m ((c : Thread nD τ).loc main_arg10)) s k j := by
  refine (sampleH_at _ _ _ _ _ _ _ _ _ q k j).trans ?_
  unfold hRow vRows uRow
  simp only [blk0_sample m c t h q s hs, blk1 m c t h q s hs, blk2 m c t h q s hs, blk3 m c t, blk5 m c t, blk6 m c t, blk7_0 m c t, blk7_1 m c t, blk7_2 m c t, blk7_3 m c t, blk8 m c t, blk9 m c t]

/-- The last projected rows of each prompt sequence. -/
theorem arr_13 : (dats m 0 c).arrAt 13 (cfgs 0).N = GU (m ((c : Thread nD τ).loc main_arg0)) (m ((c : Thread nD τ).loc main_arg3)) (m ((c : Thread nD τ).loc main_arg5)) := by
  refine (dats m 0 c).arrAt_eq_of_covers 13 _ (by decide +kernel) fun t hf y => ?_
  have i0 := idx_tail t
  have hl := last_tile t
  have h70 := lt70 (lastTile t)
  blk_simp
  rw [after0_13]
  idx_vars y
  have h1 := y0.isLt
  have h2 := y1.isLt
  have e : ((cfg0.win 13).blk t).view.emb (ix3 y0 y1 y2) = ix3 ⟨(lastTile t).val / 33, by omega⟩ y1 y2 := by
    blk_ext [i0]
  refine (tailRows_at _ _ _ y0 y1 y2).trans ((tile_u m c (lastTile t) _ ⟨(lastTile t).val / 33 * 8448 + (8200 + y1.val), by omega⟩ ?_ y2).trans ?_)
  · show (lastTile t).val / 33 * 8448 + (8200 + y1.val) = (lastTile t).val * 256 + (8 + y1.val)
    omega
  · exact (congrArg (GU (m ((c : Thread nD τ).loc main_arg0)) (m ((c : Thread nD τ).loc main_arg3)) (m ((c : Thread nD τ).loc main_arg5))) e).symm

/-- The sample states. -/
theorem arr_14 : (dats m 0 c).arrAt 14 (cfgs 0).N = GH (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg9)) (m ((c : Thread nD τ).loc main_arg11)) (m ((c : Thread nD τ).loc main_arg12)) (m ((c : Thread nD τ).loc main_arg8)) (m ((c : Thread nD τ).loc main_arg10)) := by
  refine (dats m 0 c).arrAt_eq_of_covers 14 _ (by decide +kernel) fun t hf y => ?_
  have h : 66 ≤ t.val := by have := flush14_iff t; rw [hf] at this; simpa using this.symm
  have i0 := idx_sample t h
  have h70 := lt70 t
  blk_simp
  rw [after0_14]
  idx_vars y
  have e : ((cfg0.win 14).blk t).view.emb (ix2 y0 y1) = ix2 ⟨(t.val - 66) * 256 + y0.val, by have := y0.isLt; omega⟩ y1 := by
    blk_ext [i0]
  obtain ⟨q, k, rfl⟩ : ∃ q : Fin 32, ∃ k : Fin 8, y0 = ⟨8 * q.val + k.val, by omega⟩ :=
    ⟨⟨y0.val / 8, by have := y0.isLt; omega⟩, ⟨y0.val % 8, by omega⟩, Fin.ext (by show y0.val = 8 * (y0.val / 8) + y0.val % 8; omega)⟩
  refine (tile_h m c t h q ⟨(t.val - 66) * 32 + q.val, by omega⟩ rfl k y1).trans (Eq.trans ?_ (congrArg (GH (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg9)) (m ((c : Thread nD τ).loc main_arg11)) (m ((c : Thread nD τ).loc main_arg12)) (m ((c : Thread nD τ).loc main_arg8)) (m ((c : Thread nD τ).loc main_arg10))) e).symm)
  have e1 : (⟨(t.val - 66) * 32 + q.val, by omega⟩ : Fin 128) = ⟨((t.val - 66) * 256 + (8 * q.val + k.val)) / 8, by omega⟩ := Fin.ext (by show (t.val - 66) * 32 + q.val = ((t.val - 66) * 256 + (8 * q.val + k.val)) / 8; omega)
  have e2 : k = (⟨((t.val - 66) * 256 + (8 * q.val + k.val)) % 8, by omega⟩ : Fin 8) := Fin.ext (by show k.val = ((t.val - 66) * 256 + (8 * q.val + k.val)) % 8; omega)
  exact congrArg₂ (fun a b => hRow (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg9)) (m ((c : Thread nD τ).loc main_arg11)) (m ((c : Thread nD τ).loc main_arg12)) (m ((c : Thread nD τ).loc main_arg8)) (m ((c : Thread nD τ).loc main_arg10)) a b y1) e1 e2

/-- The projected sample rows. -/
theorem arr_15 : (dats m 0 c).arrAt 15 (cfgs 0).N = GS (m ((c : Thread nD τ).loc main_arg0)) (m ((c : Thread nD τ).loc main_arg3)) (m ((c : Thread nD τ).loc main_arg5)) := by
  refine (dats m 0 c).arrAt_eq_of_covers 15 _ (by decide +kernel) fun t hf y => ?_
  have h : 66 ≤ t.val := by have := flush15_iff t; rw [hf] at this; simpa using this.symm
  have i0 := idx_sample t h
  have h70 := lt70 t
  blk_simp
  rw [after0_15]
  idx_vars y
  have hy := y0.isLt
  have e : ((cfg0.win 15).blk t).view.emb (ix2 y0 y1) = ix2 ⟨(t.val - 66) * 256 + y0.val, by omega⟩ y1 := by
    blk_ext [i0]
  refine (sampleU_at _ _ _ y0 y1).trans ((tile_u m c t y0 ⟨16896 + ((t.val - 66) * 256 + y0.val), by omega⟩ ?_ y1).trans ?_)
  · show 16896 + ((t.val - 66) * 256 + y0.val) = t.val * 256 + y0.val
    omega
  · exact (congrArg (GS (m ((c : Thread nD τ).loc main_arg0)) (m ((c : Thread nD τ).loc main_arg3)) (m ((c : Thread nD τ).loc main_arg5))) e).symm

end Kernel

end Cert.LruRows
end
-- ==== Proof.RecIdealRun.lean ====
/-
  The recurrence over the prompt: its run. A prompt point works on a tile of a sequence, with the rows before it and its state
  in scratch: the first tile starts from zeros, each tile leaves the next one its last rows and its last state, and the last
  one hands out its last state. A sample point leaves that result alone. Of the other results the run names nothing.
-/
module

public import proofs.«01_k».proof.Proof.Gen.RecIdeal.Frame
public import proofs.«01_k».proof.Proof.Gen.RecIdeal.Skeleton
public import proofs.«01_k».proof.Proof.Kept
public import proofs.«01_k».proof.Proof.Rows
public import Idealize.ShloMosaic.Lib.Pipeline.FrameBody
public import Idealize.ShloMosaic.Lib.Pipeline.ValueKit
public import Idealize.ShloMosaic.Lib.Ring
public import Idealize.ShloMosaic.Lib.VecWindow
public import Idealize.ShloMosaic.Lib.Tactic
public import Idealize.ShloMosaic.Lib.Claim

@[expose] public section

-- a rectangle's membership is looked up coordinate by coordinate along its longest axis
set_option maxRecDepth 16384

noncomputable section

namespace Cert.RecIdeal.Gen

open Idealize.ShloMosaic Idealize.ShloMosaic.TcCoe Idealize.ShloMosaic.Tactic
open Cert.Rows
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A small array's row `k`, as the body reads it. -/
abbrev row2 (x : Vec F S2x1024 .f32) : Vec F S1x1024 .f32 := View.ld x (Rect.unit ![0, 0] ![1, 1024] inb_S2x1024_S1x1024_0_0)
abbrev row4_0 (x : Vec F S4x1024 .f32) : Vec F S1x1024 .f32 := View.ld x (Rect.unit ![0, 0] ![1, 1024] inb_S4x1024_S1x1024_0_0)
abbrev row4_1 (x : Vec F S4x1024 .f32) : Vec F S1x1024 .f32 := View.ld x (Rect.unit ![1, 0] ![1, 1024] inb_S4x1024_S1x1024_1_0)
abbrev row4_2 (x : Vec F S4x1024 .f32) : Vec F S1x1024 .f32 := View.ld x (Rect.unit ![2, 0] ![1, 1024] inb_S4x1024_S1x1024_2_0)
abbrev row4_3 (x : Vec F S4x1024 .f32) : Vec F S1x1024 .f32 := View.ld x (Rect.unit ![3, 0] ![1, 1024] inb_S4x1024_S1x1024_3_0)
/-- A block-diagonal matrix's block `k`, as the body reads it. -/
abbrev gate_0 (x : Vec F S4x256x256 .bf16) : Vec F S1x256x256 .bf16 := View.ld x (Rect.unit ![0, 0, 0] ![1, 256, 256] inb_S4x256x256_S1x256x256_0_0_0)
abbrev gate_1 (x : Vec F S4x256x256 .bf16) : Vec F S1x256x256 .bf16 := View.ld x (Rect.unit ![1, 0, 0] ![1, 256, 256] inb_S4x256x256_S1x256x256_1_0_0)
abbrev gate_2 (x : Vec F S4x256x256 .bf16) : Vec F S1x256x256 .bf16 := View.ld x (Rect.unit ![2, 0, 0] ![1, 256, 256] inb_S4x256x256_S1x256x256_2_0_0)
abbrev gate_3 (x : Vec F S4x256x256 .bf16) : Vec F S1x256x256 .bf16 := View.ld x (Rect.unit ![3, 0, 0] ![1, 256, 256] inb_S4x256x256_S1x256x256_3_0_0)

/-- The projected rows of a prompt tile, and the last eight of them. -/
def tileU (x0 : Vec F S256x1024 .f32) (x3 : Vec F S2x1024 .f32) (x5 : Vec F S1024x1024 .bf16) : Vec F S256x1024 .f32 :=
  k0_pay12 x0 (row2 x3) x5
def tailU (x0 : Vec F S256x1024 .f32) (x3 : Vec F S2x1024 .f32) (x5 : Vec F S1024x1024 .bf16) : Vec F S8x1024 .f32 :=
  k0_pay78 (k0_pay11 x0 (row2 x3) x5)

/-- Eight rows under a tile's rows. -/
def ext (P : Vec F S8x1024 .f32) (u : Vec F S256x1024 .f32) : Vec F S264x1024 .f32 := fun y =>
  if h : (y 0).val < 8 then P (ix2 ⟨(y 0).val, h⟩ (y 1))
  else u (ix2 ⟨(y 0).val - 8, by have := (y 0).isLt; change (y 0).val < 264 at this; omega⟩ (y 1))

/-- A tile's rows one, two and three rows earlier. -/
abbrev lag_7 (X : Vec F S264x1024 .f32) : Vec F S256x1024 .f32 := View.ld X (Rect.unit ![7, 0] S256x1024.size inb_S264x1024_S256x1024_7_0)
abbrev lag_6 (X : Vec F S264x1024 .f32) : Vec F S256x1024 .f32 := View.ld X (Rect.unit ![6, 0] S256x1024.size inb_S264x1024_S256x1024_6_0)
abbrev lag_5 (X : Vec F S264x1024 .f32) : Vec F S256x1024 .f32 := View.ld X (Rect.unit ![5, 0] S256x1024.size inb_S264x1024_S256x1024_5_0)

/-- The convolved rows of a prompt tile, in the forms the body keeps them. -/
def tileV (x0 : Vec F S256x1024 .f32) (x3 : Vec F S2x1024 .f32) (x5 : Vec F S1024x1024 .bf16) (x6 x7 : Vec F S4x1024 .f32) (X : Vec F S264x1024 .f32) :=
  k0_pay15 (k0_pay13 (k0_pay1 (row4_0 x7)) x0 (row2 x3) x5 (row4_3 x6)) (k0_pay14 (row4_2 x6)) (lag_7 X) (row4_1 x6) (lag_6 X) (row4_0 x6) (lag_5 X)
def tileV' (x0 : Vec F S256x1024 .f32) (x3 : Vec F S2x1024 .f32) (x5 : Vec F S1024x1024 .bf16) (x6 x7 : Vec F S4x1024 .f32) (X : Vec F S264x1024 .f32) :=
  k0_pay16 (k0_pay13 (k0_pay1 (row4_0 x7)) x0 (row2 x3) x5 (row4_3 x6)) (k0_pay14 (row4_2 x6)) (lag_7 X) (row4_1 x6) (lag_6 X) (row4_0 x6) (lag_5 X)
def tileV'' (x0 : Vec F S256x1024 .f32) (x3 : Vec F S2x1024 .f32) (x5 : Vec F S1024x1024 .bf16) (x6 x7 : Vec F S4x1024 .f32) (X : Vec F S264x1024 .f32) :=
  k0_pay18 (k0_pay13 (k0_pay1 (row4_0 x7)) x0 (row2 x3) x5 (row4_3 x6)) (k0_pay14 (row4_2 x6)) (lag_7 X) (row4_1 x6) (lag_6 X) (row4_0 x6) (lag_5 X)

/-- The recurrence gate's product of a prompt tile, with its bias. -/
def tileR (x0 : Vec F S256x1024 .f32) (x3 : Vec F S2x1024 .f32) (x5 : Vec F S1024x1024 .bf16) (x6 x7 : Vec F S4x1024 .f32) (x8 : Vec F S4x256x256 .bf16) (X : Vec F S264x1024 .f32) :=
  k0_pay20 (k0_pay2 (row4_1 x7)) (k0_pay17 (k0_pay13 (k0_pay1 (row4_0 x7)) x0 (row2 x3) x5 (row4_3 x6)) (k0_pay14 (row4_2 x6)) (lag_7 X) (row4_1 x6) (lag_6 X) (row4_0 x6) (lag_5 X)
    (gate_0 x8) (gate_1 x8) (gate_2 x8) (gate_3 x8))
/-- The input gate's product of a prompt tile, with its bias. -/
def tileI (x0 : Vec F S256x1024 .f32) (x3 : Vec F S2x1024 .f32) (x5 : Vec F S1024x1024 .bf16) (x6 x7 : Vec F S4x1024 .f32) (x9 : Vec F S4x256x256 .bf16) (X : Vec F S264x1024 .f32) :=
  k0_pay19 (k0_pay3 (row4_2 x7)) (tileV' x0 x3 x5 x6 x7 X) (tileV'' x0 x3 x5 x6 x7 X) (gate_0 x9) (gate_1 x9) (gate_2 x9) (gate_3 x9)

/-- A tile's decays, by groups of eight rows, and the same with the row before. -/
def tileA (R : Vec F S256x1024 .f32) (x7 : Vec F S4x1024 .f32) : Vec F S32x8x1024 .f32 :=
  k0_pay28 R (k0_pay21 (k0_pay4 (row4_3 x7))) (k0_pay22 (k0_pay4 (row4_3 x7)))
def tileA' (R : Vec F S256x1024 .f32) (x7 : Vec F S4x1024 .f32) : Vec F S32x8x1024 .f32 :=
  k0_pay30 R (k0_pay21 (k0_pay4 (row4_3 x7))) (k0_pay22 (k0_pay4 (row4_3 x7)))
/-- The inputs of a tile's recurrence, by groups of eight rows. -/
def tileB (V I R : Vec F S256x1024 .f32) (x7 : Vec F S4x1024 .f32) : Vec F S32x8x1024 .f32 :=
  k0_pay27 V I R (k0_pay21 (k0_pay4 (row4_3 x7))) (k0_pay22 (k0_pay4 (row4_3 x7)))

/-- The rows' places in their groups. -/
abbrev place : IVec S1x8x1 32 := iota .tc S1x8x1 32 [1] iota_S1x8x1_d1_w32

/-- The state after four, fourteen, twenty-four and all of a tile's groups. -/
def carry4 (a a' b : Vec F S32x8x1024 .f32) (h : Vec F S1x1024 .f32) := k0_pay39 place b a k0_pay29 a' h
def carry14 (a a' b : Vec F S32x8x1024 .f32) (h : Vec F S1x1024 .f32) :=
  k0_pay51 (k0_pay33 place a a') (k0_pay34 place b a k0_pay29 a') (carry4 a a' b h) (k0_pay40 place a a')
def carry24 (a a' b : Vec F S32x8x1024 .f32) (h : Vec F S1x1024 .f32) :=
  k0_pay63 (k0_pay33 place a a') (k0_pay34 place b a k0_pay29 a') (carry14 a a' b h) (k0_pay52 (k0_pay33 place a a'))
def carry32 (a a' b : Vec F S32x8x1024 .f32) (h : Vec F S1x1024 .f32) : Vec F S1x1024 .f32 :=
  k0_pay79 (k0_pay73 (k0_pay33 place a a') (k0_pay34 place b a k0_pay29 a') (carry24 a a' b h) (k0_pay64 (k0_pay33 place a a')))

/-- The state a tile leaves, from the rows under it and the state it is entered with. -/
def tileH (x0 : Vec F S256x1024 .f32) (x3 : Vec F S2x1024 .f32) (x5 : Vec F S1024x1024 .bf16) (x6 x7 : Vec F S4x1024 .f32) (x8 x9 : Vec F S4x256x256 .bf16) (X : Vec F S264x1024 .f32) (h : Vec F S1x1024 .f32) : Vec F S1x1024 .f32 :=
  carry32 (tileA (tileR x0 x3 x5 x6 x7 x8 X) x7) (tileA' (tileR x0 x3 x5 x6 x7 x8 X) x7)
    (tileB (tileV x0 x3 x5 x6 x7 X) (tileI x0 x3 x5 x6 x7 x9 X) (tileR x0 x3 x5 x6 x7 x8 X) x7) h

/-- A tile's sixteenth state. -/
def tileL (x0 : Vec F S256x1024 .f32) (x3 : Vec F S2x1024 .f32) (x5 : Vec F S1024x1024 .bf16) (x6 x7 : Vec F S4x1024 .f32) (x8 x9 : Vec F S4x256x256 .bf16) (X : Vec F S264x1024 .f32) (h : Vec F S1x1024 .f32) : Vec F S1x1x1024 .f32 := fun y =>
  k0_pay36 place (tileB (tileV x0 x3 x5 x6 x7 X) (tileI x0 x3 x5 x6 x7 x9 X) (tileR x0 x3 x5 x6 x7 x8 X) x7)
    (tileA (tileR x0 x3 x5 x6 x7 x8 X) x7) k0_pay29 (tileA' (tileR x0 x3 x5 x6 x7 x8 X) x7) h
    (ix2 (7 : Fin 8) (y 2))

/-- The sixteenth row of a tile's states is the second group's last. -/
theorem last_row (v193 : FVec F S256x1024 .f32) (v194 : FVec F S256x1024 .f32) (v200 : FVec F S8x1024 .f32) (v206 : FVec F S8x1024 .f32) (v212 : FVec F S8x1024 .f32) (v218 : FVec F S8x1024 .f32) (v224 : FVec F S8x1024 .f32) (v230 : FVec F S8x1024 .f32) (v236 : FVec F S8x1024 .f32) (v242 : FVec F S8x1024 .f32) (v248 : FVec F S8x1024 .f32) (v254 : FVec F S8x1024 .f32) (v260 : FVec F S8x1024 .f32) (v266 : FVec F S8x1024 .f32) (v272 : FVec F S8x1024 .f32) (v278 : FVec F S8x1024 .f32) (v284 : FVec F S8x1024 .f32) (v290 : FVec F S8x1024 .f32) (v296 : FVec F S8x1024 .f32) (v302 : FVec F S8x1024 .f32) (v308 : FVec F S8x1024 .f32) (v314 : FVec F S8x1024 .f32) (v320 : FVec F S8x1024 .f32) (v326 : FVec F S8x1024 .f32) (v332 : FVec F S8x1024 .f32) (v338 : FVec F S8x1024 .f32) (v339 : FVec F S1x1024 .f32) (v340 : FVec F S8x1024 .f32) :
    k0_pay5 (k0_pay74 v193 v194 v200 v206 v212 v218 v224 v230 v236 v242 v248 v254 v260 v266 v272 v278 v284 v290 v296 v302 v308 v314 v320 v326 v332 v338 v339 v340) = fun y => v206 (ix2 (7 : Fin 8) (y 2)) := by
  funext y
  idx_vars y
  pointwise [k0_pay5, k0_pay74]

/-- A tile's rows put over eight rows that were put before. -/
theorem put_ext (X : Vec F S264x1024 .f32) (P : Vec F S8x1024 .f32) (u : Vec F S256x1024 .f32) :
    VecWindow.put (VecWindow.put X ![0, 0] S8x1024.size P) ![8, 0] S256x1024.size u = ext P u := by
  funext y
  idx_vars y
  unfold VecWindow.put ext
  have hi := y0.isLt
  by_cases h : y0.val < 8
  · rw [dif_neg (fun H => by have := (H 0).1; change 8 ≤ y0.val at this; omega), dif_pos (by
      intro a; fin_cases a
      · exact ⟨Nat.zero_le _, show y0.val < 0 + 8 by omega⟩
      · exact ⟨Nat.zero_le _, show y1.val < 0 + 1024 by omega⟩)]
    show _ = dite (y0.val < 8) (fun h => P (ix2 ⟨y0.val, h⟩ y1)) (fun h => u (ix2 ⟨y0.val - 8, by omega⟩ y1))
    rw [dif_pos h]
    refine congrArg P ?_
    funext a; fin_cases a <;> exact Fin.ext (Nat.sub_zero _)
  · rw [dif_pos (by
      intro a; fin_cases a
      · exact ⟨show 8 ≤ y0.val by omega, show y0.val < 8 + 256 by omega⟩
      · exact ⟨Nat.zero_le _, show y1.val < 0 + 1024 by omega⟩)]
    show _ = dite (y0.val < 8) (fun h => P (ix2 ⟨y0.val, h⟩ y1)) (fun h => u (ix2 ⟨y0.val - 8, by omega⟩ y1))
    rw [dif_neg h]
    refine congrArg u ?_
    funext a; fin_cases a
    · rfl
    · exact Fin.ext (Nat.sub_zero _)

-- the run's term is large
set_option maxHeartbeats 4000000 in
/-- The body at a sequence's first tile: it starts from zeros. -/
theorem run_first (c : Dev nD) (i : grid0.Coords) (a0 : Memref sig .tc .vmem S256x1024 .f32) (h0 : a0.IsWhole) (a1 : Memref sig .tc .vmem S256x1024 .f32) (h1 : a1.IsWhole) (a2 : Memref sig .tc .vmem S256x1024 .f32) (h2 : a2.IsWhole) (a3 : Memref sig .tc .vmem S2x1024 .f32) (h3 : a3.IsWhole) (a4 : Memref sig .tc .vmem S1024x1024 .bf16) (h4 : a4.IsWhole) (a5 : Memref sig .tc .vmem S1024x1024 .bf16) (h5 : a5.IsWhole) (a6 : Memref sig .tc .vmem S4x1024 .f32) (h6 : a6.IsWhole) (a7 : Memref sig .tc .vmem S4x1024 .f32) (h7 : a7.IsWhole) (a8 : Memref sig .tc .vmem S4x256x256 .bf16) (h8 : a8.IsWhole) (a9 : Memref sig .tc .vmem S4x256x256 .bf16) (h9 : a9.IsWhole) (a10 : Memref sig .tc .vmem S1024x1024 .bf16) (h10 : a10.IsWhole) (a11 : Memref sig .tc .vmem S256x1024 .f32) (h11 : a11.IsWhole) (a12 : Memref sig .tc .vmem S1x1x1024 .f32) (h12 : a12.IsWhole) (a13 : Memref sig .tc .vmem S1x8x1024 .f32) (h13 : a13.IsWhole) (a14 : Memref sig .tc .vmem S256x1024 .f32) (h14 : a14.IsWhole) (a15 : Memref sig .tc .vmem S256x1024 .f32) (h15 : a15.IsWhole) (a16 : Memref sig .tc .vmem S264x1024 .f32) (h16 : a16.IsWhole) (a17 : Memref sig .tc .vmem S1x1024 .f32) (h17 : a17.IsWhole)
    (hc0 : k0_cond1 i = 1#1) (hc1 : (Scalar.cmpi .ne (Scalar.extui (Scalar.cmpi .eq (Scalar.select (Scalar.cmpi .sge (BitVec.ofNat 32 (i 0).val) 33#32) (Scalar.subi (BitVec.ofNat 32 (i 0).val) 33#32) (BitVec.ofNat 32 (i 0).val)) 0#32)) 0#32 = 1#1)) (hc2 : ¬k0_cond3 i = 1#1) (hc3 : ¬k0_cond4 i = 1#1) (x0 : Vec F S256x1024 .f32) (x1 : Vec F S256x1024 .f32) (x2 : Vec F S256x1024 .f32) (x3 : Vec F S2x1024 .f32) (x4 : Vec F S1024x1024 .bf16) (x5 : Vec F S1024x1024 .bf16) (x6 : Vec F S4x1024 .f32) (x7 : Vec F S4x1024 .f32) (x8 : Vec F S4x256x256 .bf16) (x9 : Vec F S4x256x256 .bf16) (x10 : Vec F S1024x1024 .bf16)
     (z12 : Vec F S1x1x1024 .f32) (E : Set ℕ) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ (∃ d, owns (c : Thread nD τ) a11 fullShare d) ∗ owns (c : Thread nD τ) a12 fullShare z12 ∗ (∃ d, owns (c : Thread nD τ) a13 fullShare d) ∗ (∃ d, owns (c : Thread nD τ) a14 fullShare d) ∗ (∃ d, owns (c : Thread nD τ) a15 fullShare d) ∗ (∃ d, owns (c : Thread nD τ) a16 fullShare d) ∗ (∃ d, owns (c : Thread nD τ) a17 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ (∃ d, owns (c : Thread nD τ) a11 fullShare d) ∗ owns (c : Thread nD τ) a12 fullShare z12 ∗ (∃ d, owns (c : Thread nD τ) a13 fullShare d) ∗ (∃ d, owns (c : Thread nD τ) a14 fullShare d) ∗ (∃ d, owns (c : Thread nD τ) a15 fullShare d) ∗ (∃ X, owns (c : Thread nD τ) a16 fullShare (VecWindow.put X ![0, 0] S8x1024.size (tailU x0 x3 x5))) ∗ owns (c : Thread nD τ) a17 fullShare (tileH x0 x3 x5 x6 x7 x8 x9 (ext k0_pay8 (tileU x0 x3 x5)) k0_pay9)) -∗ K ⟨⟩))
      ⊢ wp frame (wpE (defs₀ (F := F)) Variants.none c none) E (cc0_lru_layer i a0 h0 a1 h1 a2 h2 a3 h3 a4 h4 a5 h5 a6 h6 a7 h7 a8 h8 a9 h9 a10 h10 a11 h11 a12 h12 a13 h13 a14 h14 a15 h15 a16 h16 a17 h17) K := by
  simp only [cc0_lru_layer_eq_skeleton]; unfold cc0_lru_layer_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%f12, %hf12, H12⟩, ⟨%d13, %f13, -, H13⟩, ⟨%d14, %f14, -, H14⟩, ⟨%d15, %f15, -, H15⟩, ⟨%d16, %f16, -, H16⟩, ⟨%d17, %f17, -, H17⟩, Hk⟩
  obtain rfl := h0.eq_unread hf0; obtain rfl := h1.eq_unread hf1; obtain rfl := h2.eq_unread hf2; obtain rfl := h3.eq_unread hf3; obtain rfl := h4.eq_unread hf4; obtain rfl := h5.eq_unread hf5; obtain rfl := h6.eq_unread hf6; obtain rfl := h7.eq_unread hf7; obtain rfl := h8.eq_unread hf8; obtain rfl := h9.eq_unread hf9; obtain rfl := h10.eq_unread hf10; obtain rfl := h12.eq_unread hf12
  sl_exec (disch := first | sl_exact hc0 | sl_exact hc1 | sl_exact hc2 | sl_exact hc3)
  sl_step
  iapply Hk
  isplitl [H0]
  · iexists _; isplitr; · ipureintro; exact h0.read_unread _
    iexact H0
  isplitl [H1]
  · iexists _; isplitr; · ipureintro; exact h1.read_unread _
    iexact H1
  isplitl [H2]
  · iexists _; isplitr; · ipureintro; exact h2.read_unread _
    iexact H2
  isplitl [H3]
  · iexists _; isplitr; · ipureintro; exact h3.read_unread _
    iexact H3
  isplitl [H4]
  · iexists _; isplitr; · ipureintro; exact h4.read_unread _
    iexact H4
  isplitl [H5]
  · iexists _; isplitr; · ipureintro; exact h5.read_unread _
    iexact H5
  isplitl [H6]
  · iexists _; isplitr; · ipureintro; exact h6.read_unread _
    iexact H6
  isplitl [H7]
  · iexists _; isplitr; · ipureintro; exact h7.read_unread _
    iexact H7
  isplitl [H8]
  · iexists _; isplitr; · ipureintro; exact h8.read_unread _
    iexact H8
  isplitl [H9]
  · iexists _; isplitr; · ipureintro; exact h9.read_unread _
    iexact H9
  isplitl [H10]
  · iexists _; isplitr; · ipureintro; exact h10.read_unread _
    iexact H10
  isplitl [H11]
  · iexists _, _; isplitr; swap; · iexact H11
    ipureintro; rfl
  isplitl [H12]
  · iexists _; isplitr; · ipureintro; exact h12.read_unread _
    iexact H12
  isplitl [H13]
  · iexists _, _; isplitr; swap; · iexact H13
    ipureintro; rfl
  isplitl [H14]
  · iexists _, _; isplitr; swap; · iexact H14
    ipureintro; rfl
  isplitl [H15]
  · iexists _, _; isplitr; swap; · iexact H15
    ipureintro; rfl
  isplitl [H16]
  · iexists _, _; isplitr; swap; · iexact H16
    ipureintro
    refine (View.read_writes_cons_put _ _ _ _ _ rfl).trans (congrArg (VecWindow.put _ _ _) ?_)
    frame_out; all_goals rfl
  iexists _; isplitr; swap; · iexact H17
  ipureintro
  refine (View.read_writes_full _ _ _ _ _).trans ?_
  have hE : a16.view.read (Elt F) (a16.view.writes (Elt F) a16.view.junk [⟨Rect.unit ![8, 0] S256x1024.size inb_S264x1024_S256x1024_8_0, k0_pay12 x0 (View.ld x3 (Rect.unit ![0, 0] ![1, 1024] inb_S2x1024_S1x1024_0_0)) x5⟩, ⟨Rect.unit ![0, 0] S8x1024.size inb_S264x1024_S8x1024_0_0, k0_pay8⟩]) = ext k0_pay8 (tileU x0 x3 x5) :=
    (View.read_writes_cons_put _ _ _ _ _ rfl).trans (by rw [View.read_writes_cons_put a16.view _ _ _ _ rfl]; exact put_ext _ _ _)
  have e7 : a16.view.readCov [⟨Rect.unit ![8, 0] S256x1024.size inb_S264x1024_S256x1024_8_0, k0_pay12 x0 (View.ld x3 (Rect.unit ![0, 0] ![1, 1024] inb_S2x1024_S1x1024_0_0)) x5⟩, ⟨Rect.unit ![0, 0] S8x1024.size inb_S264x1024_S8x1024_0_0, k0_pay8⟩] (Rect.unit (s := S264x1024) ![7, 0] S256x1024.size inb_S264x1024_S256x1024_7_0).toLoadRect = lag_7 (ext k0_pay8 (tileU x0 x3 x5)) :=
    congrArg (fun X => View.ld X (Rect.unit (s := S264x1024) ![7, 0] S256x1024.size inb_S264x1024_S256x1024_7_0)) hE
  have e6 : a16.view.readCov [⟨Rect.unit ![8, 0] S256x1024.size inb_S264x1024_S256x1024_8_0, k0_pay12 x0 (View.ld x3 (Rect.unit ![0, 0] ![1, 1024] inb_S2x1024_S1x1024_0_0)) x5⟩, ⟨Rect.unit ![0, 0] S8x1024.size inb_S264x1024_S8x1024_0_0, k0_pay8⟩] (Rect.unit (s := S264x1024) ![6, 0] S256x1024.size inb_S264x1024_S256x1024_6_0).toLoadRect = lag_6 (ext k0_pay8 (tileU x0 x3 x5)) :=
    congrArg (fun X => View.ld X (Rect.unit (s := S264x1024) ![6, 0] S256x1024.size inb_S264x1024_S256x1024_6_0)) hE
  have e5 : a16.view.readCov [⟨Rect.unit ![8, 0] S256x1024.size inb_S264x1024_S256x1024_8_0, k0_pay12 x0 (View.ld x3 (Rect.unit ![0, 0] ![1, 1024] inb_S2x1024_S1x1024_0_0)) x5⟩, ⟨Rect.unit ![0, 0] S8x1024.size inb_S264x1024_S8x1024_0_0, k0_pay8⟩] (Rect.unit (s := S264x1024) ![5, 0] S256x1024.size inb_S264x1024_S256x1024_5_0).toLoadRect = lag_5 (ext k0_pay8 (tileU x0 x3 x5)) :=
    congrArg (fun X => View.ld X (Rect.unit (s := S264x1024) ![5, 0] S256x1024.size inb_S264x1024_S256x1024_5_0)) hE
  frame_out
  simp only [e7, e6, e5]
  all_goals rfl

-- the run's term is large
set_option maxHeartbeats 4000000 in
/-- The body at a sequence's tile that is neither its first nor its last. -/
theorem run_inner (c : Dev nD) (i : grid0.Coords) (a0 : Memref sig .tc .vmem S256x1024 .f32) (h0 : a0.IsWhole) (a1 : Memref sig .tc .vmem S256x1024 .f32) (h1 : a1.IsWhole) (a2 : Memref sig .tc .vmem S256x1024 .f32) (h2 : a2.IsWhole) (a3 : Memref sig .tc .vmem S2x1024 .f32) (h3 : a3.IsWhole) (a4 : Memref sig .tc .vmem S1024x1024 .bf16) (h4 : a4.IsWhole) (a5 : Memref sig .tc .vmem S1024x1024 .bf16) (h5 : a5.IsWhole) (a6 : Memref sig .tc .vmem S4x1024 .f32) (h6 : a6.IsWhole) (a7 : Memref sig .tc .vmem S4x1024 .f32) (h7 : a7.IsWhole) (a8 : Memref sig .tc .vmem S4x256x256 .bf16) (h8 : a8.IsWhole) (a9 : Memref sig .tc .vmem S4x256x256 .bf16) (h9 : a9.IsWhole) (a10 : Memref sig .tc .vmem S1024x1024 .bf16) (h10 : a10.IsWhole) (a11 : Memref sig .tc .vmem S256x1024 .f32) (h11 : a11.IsWhole) (a12 : Memref sig .tc .vmem S1x1x1024 .f32) (h12 : a12.IsWhole) (a13 : Memref sig .tc .vmem S1x8x1024 .f32) (h13 : a13.IsWhole) (a14 : Memref sig .tc .vmem S256x1024 .f32) (h14 : a14.IsWhole) (a15 : Memref sig .tc .vmem S256x1024 .f32) (h15 : a15.IsWhole) (a16 : Memref sig .tc .vmem S264x1024 .f32) (h16 : a16.IsWhole) (a17 : Memref sig .tc .vmem S1x1024 .f32) (h17 : a17.IsWhole)
    (hc0 : k0_cond1 i = 1#1) (hc1 : ¬(Scalar.cmpi .ne (Scalar.extui (Scalar.cmpi .eq (Scalar.select (Scalar.cmpi .sge (BitVec.ofNat 32 (i 0).val) 33#32) (Scalar.subi (BitVec.ofNat 32 (i 0).val) 33#32) (BitVec.ofNat 32 (i 0).val)) 0#32)) 0#32 = 1#1)) (hc2 : ¬k0_cond3 i = 1#1) (hc3 : ¬k0_cond4 i = 1#1) (x0 : Vec F S256x1024 .f32) (x1 : Vec F S256x1024 .f32) (x2 : Vec F S256x1024 .f32) (x3 : Vec F S2x1024 .f32) (x4 : Vec F S1024x1024 .bf16) (x5 : Vec F S1024x1024 .bf16) (x6 : Vec F S4x1024 .f32) (x7 : Vec F S4x1024 .f32) (x8 : Vec F S4x256x256 .bf16) (x9 : Vec F S4x256x256 .bf16) (x10 : Vec F S1024x1024 .bf16)
     (z12 : Vec F S1x1x1024 .f32) (P : Vec F S8x1024 .f32) (h : Vec F S1x1024 .f32) (E : Set ℕ) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ (∃ d, owns (c : Thread nD τ) a11 fullShare d) ∗ owns (c : Thread nD τ) a12 fullShare z12 ∗ (∃ d, owns (c : Thread nD τ) a13 fullShare d) ∗ (∃ d, owns (c : Thread nD τ) a14 fullShare d) ∗ (∃ d, owns (c : Thread nD τ) a15 fullShare d) ∗ (∃ X, owns (c : Thread nD τ) a16 fullShare (VecWindow.put X ![0, 0] S8x1024.size P)) ∗ owns (c : Thread nD τ) a17 fullShare h
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ (∃ d, owns (c : Thread nD τ) a11 fullShare d) ∗ owns (c : Thread nD τ) a12 fullShare z12 ∗ (∃ d, owns (c : Thread nD τ) a13 fullShare d) ∗ (∃ d, owns (c : Thread nD τ) a14 fullShare d) ∗ (∃ d, owns (c : Thread nD τ) a15 fullShare d) ∗ (∃ X, owns (c : Thread nD τ) a16 fullShare (VecWindow.put X ![0, 0] S8x1024.size (tailU x0 x3 x5))) ∗ owns (c : Thread nD τ) a17 fullShare (tileH x0 x3 x5 x6 x7 x8 x9 (ext P (tileU x0 x3 x5)) h)) -∗ K ⟨⟩))
      ⊢ wp frame (wpE (defs₀ (F := F)) Variants.none c none) E (cc0_lru_layer i a0 h0 a1 h1 a2 h2 a3 h3 a4 h4 a5 h5 a6 h6 a7 h7 a8 h8 a9 h9 a10 h10 a11 h11 a12 h12 a13 h13 a14 h14 a15 h15 a16 h16 a17 h17) K := by
  simp only [cc0_lru_layer_eq_skeleton]; unfold cc0_lru_layer_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%f12, %hf12, H12⟩, ⟨%d13, %f13, -, H13⟩, ⟨%d14, %f14, -, H14⟩, ⟨%d15, %f15, -, H15⟩, ⟨%X, %f16, %hf16, H16⟩, ⟨%f17, %hf17, H17⟩, Hk⟩
  obtain rfl := h0.eq_unread hf0; obtain rfl := h1.eq_unread hf1; obtain rfl := h2.eq_unread hf2; obtain rfl := h3.eq_unread hf3; obtain rfl := h4.eq_unread hf4; obtain rfl := h5.eq_unread hf5; obtain rfl := h6.eq_unread hf6; obtain rfl := h7.eq_unread hf7; obtain rfl := h8.eq_unread hf8; obtain rfl := h9.eq_unread hf9; obtain rfl := h10.eq_unread hf10; obtain rfl := h12.eq_unread hf12; obtain rfl := h16.eq_unread hf16; obtain rfl := h17.eq_unread hf17
  sl_exec (disch := first | sl_exact hc0 | sl_exact hc1 | sl_exact hc2 | sl_exact hc3)
  sl_step
  iapply Hk
  isplitl [H0]
  · iexists _; isplitr; · ipureintro; exact h0.read_unread _
    iexact H0
  isplitl [H1]
  · iexists _; isplitr; · ipureintro; exact h1.read_unread _
    iexact H1
  isplitl [H2]
  · iexists _; isplitr; · ipureintro; exact h2.read_unread _
    iexact H2
  isplitl [H3]
  · iexists _; isplitr; · ipureintro; exact h3.read_unread _
    iexact H3
  isplitl [H4]
  · iexists _; isplitr; · ipureintro; exact h4.read_unread _
    iexact H4
  isplitl [H5]
  · iexists _; isplitr; · ipureintro; exact h5.read_unread _
    iexact H5
  isplitl [H6]
  · iexists _; isplitr; · ipureintro; exact h6.read_unread _
    iexact H6
  isplitl [H7]
  · iexists _; isplitr; · ipureintro; exact h7.read_unread _
    iexact H7
  isplitl [H8]
  · iexists _; isplitr; · ipureintro; exact h8.read_unread _
    iexact H8
  isplitl [H9]
  · iexists _; isplitr; · ipureintro; exact h9.read_unread _
    iexact H9
  isplitl [H10]
  · iexists _; isplitr; · ipureintro; exact h10.read_unread _
    iexact H10
  isplitl [H11]
  · iexists _, _; isplitr; swap; · iexact H11
    ipureintro; rfl
  isplitl [H12]
  · iexists _; isplitr; · ipureintro; exact h12.read_unread _
    iexact H12
  isplitl [H13]
  · iexists _, _; isplitr; swap; · iexact H13
    ipureintro; rfl
  isplitl [H14]
  · iexists _, _; isplitr; swap; · iexact H14
    ipureintro; rfl
  isplitl [H15]
  · iexists _, _; isplitr; swap; · iexact H15
    ipureintro; rfl
  isplitl [H16]
  · iexists _, _; isplitr; swap; · iexact H16
    ipureintro
    refine (View.read_writes_cons_put _ _ _ _ _ rfl).trans (congrArg (VecWindow.put _ _ _) ?_)
    frame_out; all_goals rfl
  iexists _; isplitr; swap; · iexact H17
  ipureintro
  refine (View.read_writes_full _ _ _ _ _).trans ?_
  have hE : a16.view.read (Elt F) (a16.view.writes (Elt F) (h16.unread (VecWindow.put X ![0, 0] S8x1024.size P)) [⟨Rect.unit ![8, 0] S256x1024.size inb_S264x1024_S256x1024_8_0, k0_pay12 x0 (View.ld x3 (Rect.unit ![0, 0] ![1, 1024] inb_S2x1024_S1x1024_0_0)) x5⟩]) = ext P (tileU x0 x3 x5) :=
    (View.read_writes_cons_put _ _ _ _ _ rfl).trans (by
      rw [show a16.view.read (Elt F) (a16.view.writes (Elt F) (h16.unread (VecWindow.put X ![0, 0] S8x1024.size P)) []) = VecWindow.put X ![0, 0] S8x1024.size P from h16.read_unread _]
      exact put_ext _ _ _)
  frame_out
  rw [hE]
  all_goals rfl

-- the run's term is large
set_option maxHeartbeats 4000000 in
/-- The body at a sequence's last tile: it leaves the last state. -/
theorem run_last (c : Dev nD) (i : grid0.Coords) (a0 : Memref sig .tc .vmem S256x1024 .f32) (h0 : a0.IsWhole) (a1 : Memref sig .tc .vmem S256x1024 .f32) (h1 : a1.IsWhole) (a2 : Memref sig .tc .vmem S256x1024 .f32) (h2 : a2.IsWhole) (a3 : Memref sig .tc .vmem S2x1024 .f32) (h3 : a3.IsWhole) (a4 : Memref sig .tc .vmem S1024x1024 .bf16) (h4 : a4.IsWhole) (a5 : Memref sig .tc .vmem S1024x1024 .bf16) (h5 : a5.IsWhole) (a6 : Memref sig .tc .vmem S4x1024 .f32) (h6 : a6.IsWhole) (a7 : Memref sig .tc .vmem S4x1024 .f32) (h7 : a7.IsWhole) (a8 : Memref sig .tc .vmem S4x256x256 .bf16) (h8 : a8.IsWhole) (a9 : Memref sig .tc .vmem S4x256x256 .bf16) (h9 : a9.IsWhole) (a10 : Memref sig .tc .vmem S1024x1024 .bf16) (h10 : a10.IsWhole) (a11 : Memref sig .tc .vmem S256x1024 .f32) (h11 : a11.IsWhole) (a12 : Memref sig .tc .vmem S1x1x1024 .f32) (h12 : a12.IsWhole) (a13 : Memref sig .tc .vmem S1x8x1024 .f32) (h13 : a13.IsWhole) (a14 : Memref sig .tc .vmem S256x1024 .f32) (h14 : a14.IsWhole) (a15 : Memref sig .tc .vmem S256x1024 .f32) (h15 : a15.IsWhole) (a16 : Memref sig .tc .vmem S264x1024 .f32) (h16 : a16.IsWhole) (a17 : Memref sig .tc .vmem S1x1024 .f32) (h17 : a17.IsWhole)
    (hc0 : k0_cond1 i = 1#1) (hc1 : ¬(Scalar.cmpi .ne (Scalar.extui (Scalar.cmpi .eq (Scalar.select (Scalar.cmpi .sge (BitVec.ofNat 32 (i 0).val) 33#32) (Scalar.subi (BitVec.ofNat 32 (i 0).val) 33#32) (BitVec.ofNat 32 (i 0).val)) 0#32)) 0#32 = 1#1)) (hc2 : k0_cond3 i = 1#1) (hc3 : ¬k0_cond4 i = 1#1) (x0 : Vec F S256x1024 .f32) (x1 : Vec F S256x1024 .f32) (x2 : Vec F S256x1024 .f32) (x3 : Vec F S2x1024 .f32) (x4 : Vec F S1024x1024 .bf16) (x5 : Vec F S1024x1024 .bf16) (x6 : Vec F S4x1024 .f32) (x7 : Vec F S4x1024 .f32) (x8 : Vec F S4x256x256 .bf16) (x9 : Vec F S4x256x256 .bf16) (x10 : Vec F S1024x1024 .bf16)
     (P : Vec F S8x1024 .f32) (h : Vec F S1x1024 .f32) (E : Set ℕ) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ (∃ d, owns (c : Thread nD τ) a11 fullShare d) ∗ (∃ d, owns (c : Thread nD τ) a12 fullShare d) ∗ (∃ d, owns (c : Thread nD τ) a13 fullShare d) ∗ (∃ d, owns (c : Thread nD τ) a14 fullShare d) ∗ (∃ d, owns (c : Thread nD τ) a15 fullShare d) ∗ (∃ X, owns (c : Thread nD τ) a16 fullShare (VecWindow.put X ![0, 0] S8x1024.size P)) ∗ owns (c : Thread nD τ) a17 fullShare h
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ (∃ d, owns (c : Thread nD τ) a11 fullShare d) ∗ owns (c : Thread nD τ) a12 fullShare (tileL x0 x3 x5 x6 x7 x8 x9 (ext P (tileU x0 x3 x5)) h) ∗ (∃ d, owns (c : Thread nD τ) a13 fullShare d) ∗ (∃ d, owns (c : Thread nD τ) a14 fullShare d) ∗ (∃ d, owns (c : Thread nD τ) a15 fullShare d) ∗ (∃ X, owns (c : Thread nD τ) a16 fullShare (VecWindow.put X ![0, 0] S8x1024.size (tailU x0 x3 x5))) ∗ owns (c : Thread nD τ) a17 fullShare (tileH x0 x3 x5 x6 x7 x8 x9 (ext P (tileU x0 x3 x5)) h)) -∗ K ⟨⟩))
      ⊢ wp frame (wpE (defs₀ (F := F)) Variants.none c none) E (cc0_lru_layer i a0 h0 a1 h1 a2 h2 a3 h3 a4 h4 a5 h5 a6 h6 a7 h7 a8 h8 a9 h9 a10 h10 a11 h11 a12 h12 a13 h13 a14 h14 a15 h15 a16 h16 a17 h17) K := by
  simp only [cc0_lru_layer_eq_skeleton]; unfold cc0_lru_layer_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%d15, %f15, -, H15⟩, ⟨%X, %f16, %hf16, H16⟩, ⟨%f17, %hf17, H17⟩, Hk⟩
  obtain rfl := h0.eq_unread hf0; obtain rfl := h1.eq_unread hf1; obtain rfl := h2.eq_unread hf2; obtain rfl := h3.eq_unread hf3; obtain rfl := h4.eq_unread hf4; obtain rfl := h5.eq_unread hf5; obtain rfl := h6.eq_unread hf6; obtain rfl := h7.eq_unread hf7; obtain rfl := h8.eq_unread hf8; obtain rfl := h9.eq_unread hf9; obtain rfl := h10.eq_unread hf10; obtain rfl := h16.eq_unread hf16; obtain rfl := h17.eq_unread hf17
  sl_exec (disch := first | sl_exact hc0 | sl_exact hc1 | sl_exact hc2 | sl_exact hc3)
  sl_step
  iapply Hk
  isplitl [H0]
  · iexists _; isplitr; · ipureintro; exact h0.read_unread _
    iexact H0
  isplitl [H1]
  · iexists _; isplitr; · ipureintro; exact h1.read_unread _
    iexact H1
  isplitl [H2]
  · iexists _; isplitr; · ipureintro; exact h2.read_unread _
    iexact H2
  isplitl [H3]
  · iexists _; isplitr; · ipureintro; exact h3.read_unread _
    iexact H3
  isplitl [H4]
  · iexists _; isplitr; · ipureintro; exact h4.read_unread _
    iexact H4
  isplitl [H5]
  · iexists _; isplitr; · ipureintro; exact h5.read_unread _
    iexact H5
  isplitl [H6]
  · iexists _; isplitr; · ipureintro; exact h6.read_unread _
    iexact H6
  isplitl [H7]
  · iexists _; isplitr; · ipureintro; exact h7.read_unread _
    iexact H7
  isplitl [H8]
  · iexists _; isplitr; · ipureintro; exact h8.read_unread _
    iexact H8
  isplitl [H9]
  · iexists _; isplitr; · ipureintro; exact h9.read_unread _
    iexact H9
  isplitl [H10]
  · iexists _; isplitr; · ipureintro; exact h10.read_unread _
    iexact H10
  isplitl [H11]
  · iexists _, _; isplitr; swap; · iexact H11
    ipureintro; rfl
  isplitl [H12]
  · iexists _; isplitr; swap; · iexact H12
    ipureintro
    refine (View.read_writes_full _ _ _ _ _).trans ?_
    refine (last_row _ _ _ _ _ _ _ _ _ _ _ _ _ _ _ _ _ _ _ _ _ _ _ _ _ _ _ _).trans ?_
    have hE : a16.view.read (Elt F) (a16.view.writes (Elt F) (h16.unread (VecWindow.put X ![0, 0] S8x1024.size P)) [⟨Rect.unit ![8, 0] S256x1024.size inb_S264x1024_S256x1024_8_0, k0_pay12 x0 (View.ld x3 (Rect.unit ![0, 0] ![1, 1024] inb_S2x1024_S1x1024_0_0)) x5⟩]) = ext P (tileU x0 x3 x5) :=
      (View.read_writes_cons_put _ _ _ _ _ rfl).trans (by
        rw [show a16.view.read (Elt F) (a16.view.writes (Elt F) (h16.unread (VecWindow.put X ![0, 0] S8x1024.size P)) []) = VecWindow.put X ![0, 0] S8x1024.size P from h16.read_unread _]
        exact put_ext _ _ _)
    frame_out
    simp only [hE]
    all_goals rfl
  isplitl [H13]
  · iexists _, _; isplitr; swap; · iexact H13
    ipureintro; rfl
  isplitl [H14]
  · iexists _, _; isplitr; swap; · iexact H14
    ipureintro; rfl
  isplitl [H15]
  · iexists _, _; isplitr; swap; · iexact H15
    ipureintro; rfl
  isplitl [H16]
  · iexists _, _; isplitr; swap; · iexact H16
    ipureintro
    refine (View.read_writes_cons_put _ _ _ _ _ rfl).trans (congrArg (VecWindow.put _ _ _) ?_)
    frame_out; all_goals rfl
  iexists _; isplitr; swap; · iexact H17
  ipureintro
  refine (View.read_writes_full _ _ _ _ _).trans ?_
  have hE : a16.view.read (Elt F) (a16.view.writes (Elt F) (h16.unread (VecWindow.put X ![0, 0] S8x1024.size P)) [⟨Rect.unit ![8, 0] S256x1024.size inb_S264x1024_S256x1024_8_0, k0_pay12 x0 (View.ld x3 (Rect.unit ![0, 0] ![1, 1024] inb_S2x1024_S1x1024_0_0)) x5⟩]) = ext P (tileU x0 x3 x5) :=
    (View.read_writes_cons_put _ _ _ _ _ rfl).trans (by
      rw [show a16.view.read (Elt F) (a16.view.writes (Elt F) (h16.unread (VecWindow.put X ![0, 0] S8x1024.size P)) []) = VecWindow.put X ![0, 0] S8x1024.size P from h16.read_unread _]
      exact put_ext _ _ _)
  frame_out
  rw [hE]
  all_goals rfl

-- the run's term is large
set_option maxHeartbeats 4000000 in
/-- The body at a sample tile: nothing of it is named. -/
theorem run_sample (c : Dev nD) (i : grid0.Coords) (a0 : Memref sig .tc .vmem S256x1024 .f32) (h0 : a0.IsWhole) (a1 : Memref sig .tc .vmem S256x1024 .f32) (h1 : a1.IsWhole) (a2 : Memref sig .tc .vmem S256x1024 .f32) (h2 : a2.IsWhole) (a3 : Memref sig .tc .vmem S2x1024 .f32) (h3 : a3.IsWhole) (a4 : Memref sig .tc .vmem S1024x1024 .bf16) (h4 : a4.IsWhole) (a5 : Memref sig .tc .vmem S1024x1024 .bf16) (h5 : a5.IsWhole) (a6 : Memref sig .tc .vmem S4x1024 .f32) (h6 : a6.IsWhole) (a7 : Memref sig .tc .vmem S4x1024 .f32) (h7 : a7.IsWhole) (a8 : Memref sig .tc .vmem S4x256x256 .bf16) (h8 : a8.IsWhole) (a9 : Memref sig .tc .vmem S4x256x256 .bf16) (h9 : a9.IsWhole) (a10 : Memref sig .tc .vmem S1024x1024 .bf16) (h10 : a10.IsWhole) (a11 : Memref sig .tc .vmem S256x1024 .f32) (h11 : a11.IsWhole) (a12 : Memref sig .tc .vmem S1x1x1024 .f32) (h12 : a12.IsWhole) (a13 : Memref sig .tc .vmem S1x8x1024 .f32) (h13 : a13.IsWhole) (a14 : Memref sig .tc .vmem S256x1024 .f32) (h14 : a14.IsWhole) (a15 : Memref sig .tc .vmem S256x1024 .f32) (h15 : a15.IsWhole) (a16 : Memref sig .tc .vmem S264x1024 .f32) (h16 : a16.IsWhole) (a17 : Memref sig .tc .vmem S1x1024 .f32) (h17 : a17.IsWhole)
    (hc0 : ¬k0_cond1 i = 1#1) (hc3 : k0_cond4 i = 1#1) (x0 : Vec F S256x1024 .f32) (x1 : Vec F S256x1024 .f32) (x2 : Vec F S256x1024 .f32) (x3 : Vec F S2x1024 .f32) (x4 : Vec F S1024x1024 .bf16) (x5 : Vec F S1024x1024 .bf16) (x6 : Vec F S4x1024 .f32) (x7 : Vec F S4x1024 .f32) (x8 : Vec F S4x256x256 .bf16) (x9 : Vec F S4x256x256 .bf16) (x10 : Vec F S1024x1024 .bf16)
     (z12 : Vec F S1x1x1024 .f32) (E : Set ℕ) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ (∃ d, owns (c : Thread nD τ) a11 fullShare d) ∗ owns (c : Thread nD τ) a12 fullShare z12 ∗ (∃ d, owns (c : Thread nD τ) a13 fullShare d) ∗ (∃ d, owns (c : Thread nD τ) a14 fullShare d) ∗ (∃ d, owns (c : Thread nD τ) a15 fullShare d) ∗ (∃ d, owns (c : Thread nD τ) a16 fullShare d) ∗ (∃ d, owns (c : Thread nD τ) a17 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ (∃ d, owns (c : Thread nD τ) a11 fullShare d) ∗ owns (c : Thread nD τ) a12 fullShare z12 ∗ (∃ d, owns (c : Thread nD τ) a13 fullShare d) ∗ (∃ d, owns (c : Thread nD τ) a14 fullShare d) ∗ (∃ d, owns (c : Thread nD τ) a15 fullShare d) ∗ (∃ d, owns (c : Thread nD τ) a16 fullShare d) ∗ (∃ d, owns (c : Thread nD τ) a17 fullShare d)) -∗ K ⟨⟩))
      ⊢ wp frame (wpE (defs₀ (F := F)) Variants.none c none) E (cc0_lru_layer i a0 h0 a1 h1 a2 h2 a3 h3 a4 h4 a5 h5 a6 h6 a7 h7 a8 h8 a9 h9 a10 h10 a11 h11 a12 h12 a13 h13 a14 h14 a15 h15 a16 h16 a17 h17) K := by
  simp only [cc0_lru_layer_eq_skeleton]; unfold cc0_lru_layer_skel
  simp only [k0_part10_eq_skeleton, k0_part11_eq_skeleton, k0_part12_eq_skeleton, k0_part13_eq_skeleton, k0_part14_eq_skeleton, k0_part15_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%f12, %hf12, H12⟩, ⟨%d13, %f13, -, H13⟩, ⟨%d14, %f14, -, H14⟩, ⟨%d15, %f15, -, H15⟩, ⟨%d16, %f16, -, H16⟩, ⟨%d17, %f17, -, H17⟩, Hk⟩
  obtain rfl := h0.eq_unread hf0; obtain rfl := h1.eq_unread hf1; obtain rfl := h2.eq_unread hf2; obtain rfl := h3.eq_unread hf3; obtain rfl := h4.eq_unread hf4; obtain rfl := h5.eq_unread hf5; obtain rfl := h6.eq_unread hf6; obtain rfl := h7.eq_unread hf7; obtain rfl := h8.eq_unread hf8; obtain rfl := h9.eq_unread hf9; obtain rfl := h10.eq_unread hf10; obtain rfl := h12.eq_unread hf12
  sl_exec (disch := first | sl_exact hc0 | sl_exact hc3)
  sl_step
  iapply Hk
  isplitl [H0]
  · iexists _; isplitr; · ipureintro; exact h0.read_unread _
    iexact H0
  isplitl [H1]
  · iexists _; isplitr; · ipureintro; exact h1.read_unread _
    iexact H1
  isplitl [H2]
  · iexists _; isplitr; · ipureintro; exact h2.read_unread _
    iexact H2
  isplitl [H3]
  · iexists _; isplitr; · ipureintro; exact h3.read_unread _
    iexact H3
  isplitl [H4]
  · iexists _; isplitr; · ipureintro; exact h4.read_unread _
    iexact H4
  isplitl [H5]
  · iexists _; isplitr; · ipureintro; exact h5.read_unread _
    iexact H5
  isplitl [H6]
  · iexists _; isplitr; · ipureintro; exact h6.read_unread _
    iexact H6
  isplitl [H7]
  · iexists _; isplitr; · ipureintro; exact h7.read_unread _
    iexact H7
  isplitl [H8]
  · iexists _; isplitr; · ipureintro; exact h8.read_unread _
    iexact H8
  isplitl [H9]
  · iexists _; isplitr; · ipureintro; exact h9.read_unread _
    iexact H9
  isplitl [H10]
  · iexists _; isplitr; · ipureintro; exact h10.read_unread _
    iexact H10
  isplitl [H11]
  · iexists _, _; isplitr; swap; · iexact H11
    ipureintro; rfl
  isplitl [H12]
  · iexists _; isplitr; · ipureintro; exact h12.read_unread _
    iexact H12
  isplitl [H13]
  · iexists _, _; isplitr; swap; · iexact H13
    ipureintro; rfl
  isplitl [H14]
  · iexists _, _; isplitr; swap; · iexact H14
    ipureintro; rfl
  isplitl [H15]
  · iexists _, _; isplitr; swap; · iexact H15
    ipureintro; rfl
  isplitl [H16]
  · iexists _, _; isplitr; swap; · iexact H16
    ipureintro; rfl
  iexists _, _; isplitr; swap; · iexact H17
  ipureintro; rfl

theorem isPrompt : ∀ t : Fin cfg0.N, k0_cond1 (grid0.coords t) = 1#1 ↔ t.val < 66 :=
  (by decide +kernel : ∀ t : Fin grid0.N, k0_cond1 (grid0.coords t) = 1#1 ↔ t.val < 66)
theorem isFirst : ∀ t : Fin cfg0.N, (Scalar.cmpi .ne (Scalar.extui (Scalar.cmpi .eq (Scalar.select (Scalar.cmpi .sge (BitVec.ofNat 32 (grid0.coords t 0).val) 33#32) (Scalar.subi (BitVec.ofNat 32 (grid0.coords t 0).val) 33#32) (BitVec.ofNat 32 (grid0.coords t 0).val)) 0#32)) 0#32 = 1#1) ↔ t.val = 0 ∨ t.val = 33 :=
  (by decide +kernel : ∀ t : Fin grid0.N, (Scalar.cmpi .ne (Scalar.extui (Scalar.cmpi .eq (Scalar.select (Scalar.cmpi .sge (BitVec.ofNat 32 (grid0.coords t 0).val) 33#32) (Scalar.subi (BitVec.ofNat 32 (grid0.coords t 0).val) 33#32) (BitVec.ofNat 32 (grid0.coords t 0).val)) 0#32)) 0#32 = 1#1) ↔ t.val = 0 ∨ t.val = 33)
theorem isLast : ∀ t : Fin cfg0.N, t.val < 66 → (k0_cond3 (grid0.coords t) = 1#1 ↔ t.val = 32 ∨ t.val = 65) :=
  (by decide +kernel : ∀ t : Fin grid0.N, t.val < 66 → (k0_cond3 (grid0.coords t) = 1#1 ↔ t.val = 32 ∨ t.val = 65))
theorem isSample : ∀ t : Fin cfg0.N, k0_cond4 (grid0.coords t) = 1#1 ↔ 66 ≤ t.val :=
  (by decide +kernel : ∀ t : Fin grid0.N, k0_cond4 (grid0.coords t) = 1#1 ↔ 66 ≤ t.val)
theorem idle12 : ∀ t : Fin cfg0.N, cfg0.idle 12 (cfg0.grid.coords t) = !(decide (t.val = 32) || decide (t.val = 65)) :=
  (by decide +kernel : ∀ t : Fin grid0.N, idle0 12 (grid0.coords t) = !(decide (t.val = 32) || decide (t.val = 65)))
theorem flush12_iff : ∀ t : Fin cfg0.N, (cfg0.win 12).flush t = (decide (t.val = 32) || decide (t.val = 69)) :=
  (by decide +kernel : ∀ t : Fin grid0.N, win0_12.flush t = (decide (t.val = 32) || decide (t.val = 69)))

/-- The last tile of the sequence that a point belongs to. -/
def lastTile (t : Fin cfg0.N) : Fin cfg0.N :=
  if t.val < 33 then ⟨32, lt_of_lt_of_eq (by omega) N_0.symm⟩ else ⟨65, lt_of_lt_of_eq (by omega) N_0.symm⟩

theorem lastTile_self {t : Fin cfg0.N} (h : t.val = 32 ∨ t.val = 65) : lastTile t = t := by
  unfold lastTile
  rcases h with h | h
  · rw [if_pos (by omega)]; exact Fin.ext h.symm
  · rw [if_neg (by omega)]; exact Fin.ext h.symm

theorem lastTile_late {t : Fin cfg0.N} (h : 33 ≤ t.val) : lastTile t = ⟨65, lt_of_lt_of_eq (by omega) N_0.symm⟩ := by
  unfold lastTile; rw [if_neg (by omega)]

/-- What a tile is entered with: the eight projected rows before it and the state; zeros at a sequence's start. -/
def entry (c : Dev nD) : ℕ → Vec F S8x1024 .f32 × Vec F S1x1024 .f32
  | 0 => (k0_pay8, k0_pay9)
  | n + 1 => if h : n < cfg0.N ∧ n + 1 ≠ 33 then
      (tailU (iblk m c 0 ⟨n, h.1⟩) (iblk m c 3 ⟨n, h.1⟩) (iblk m c 5 ⟨n, h.1⟩), tileH (iblk m c 0 ⟨n, h.1⟩) (iblk m c 3 ⟨n, h.1⟩) (iblk m c 5 ⟨n, h.1⟩) (iblk m c 6 ⟨n, h.1⟩) (iblk m c 7 ⟨n, h.1⟩) (iblk m c 8 ⟨n, h.1⟩) (iblk m c 9 ⟨n, h.1⟩) (ext (entry c n).1 (tileU (iblk m c 0 ⟨n, h.1⟩) (iblk m c 3 ⟨n, h.1⟩) (iblk m c 5 ⟨n, h.1⟩))) (entry c n).2)
    else (k0_pay8, k0_pay9)

theorem entry_first (c : Dev nD) (n : ℕ) (h : n = 0 ∨ n = 33) : entry m c n = (k0_pay8, k0_pay9) := by
  rcases h with rfl | rfl
  · rfl
  · rw [entry, dif_neg (by simp)]

theorem entry_succ (c : Dev nD) (t : Fin cfg0.N) (h : t.val + 1 ≠ 33) : entry m c (t.val + 1) =
    (tailU (iblk m c 0 t) (iblk m c 3 t) (iblk m c 5 t), tileH (iblk m c 0 t) (iblk m c 3 t) (iblk m c 5 t) (iblk m c 6 t) (iblk m c 7 t) (iblk m c 8 t) (iblk m c 9 t) (ext (entry m c t.val).1 (tileU (iblk m c 0 t) (iblk m c 3 t) (iblk m c 5 t))) (entry m c t.val).2) := by
  rw [entry, dif_pos ⟨t.isLt, h⟩]

/-- The scratch before point `n`: inside a sequence what its next tile is entered with, elsewhere anything. -/
def scr (c : Dev nD) (n : ℕ) : sProp 𝕄 :=
  if 0 < n ∧ n < 66 ∧ n ≠ 33 then
    iprop((∃ X, owns (c : Thread nD τ) (Memref.whole cc0_scratch0 : Memref sig .tc .vmem S264x1024 .f32) fullShare (VecWindow.put X ![0, 0] S8x1024.size (entry m c n).1)) ∗ owns (c : Thread nD τ) (Memref.whole cc0_scratch1 : Memref sig .tc .vmem S1x1024 .f32) fullShare (entry m c n).2)
  else iprop((∃ d, owns (c : Thread nD τ) (Memref.whole cc0_scratch0 : Memref sig .tc .vmem S264x1024 .f32) fullShare d) ∗ (∃ d, owns (c : Thread nD τ) (Memref.whole cc0_scratch1 : Memref sig .tc .vmem S1x1024 .f32) fullShare d))

theorem scr_named (c : Dev nD) (n : ℕ) (h : 0 < n ∧ n < 66 ∧ n ≠ 33) : scr m c n =
    iprop((∃ X, owns (c : Thread nD τ) (Memref.whole cc0_scratch0 : Memref sig .tc .vmem S264x1024 .f32) fullShare (VecWindow.put X ![0, 0] S8x1024.size (entry m c n).1)) ∗ owns (c : Thread nD τ) (Memref.whole cc0_scratch1 : Memref sig .tc .vmem S1x1024 .f32) fullShare (entry m c n).2) :=
  if_pos h
theorem scr_free (c : Dev nD) (n : ℕ) (h : ¬(0 < n ∧ n < 66 ∧ n ≠ 33)) : scr m c n =
    iprop((∃ d, owns (c : Thread nD τ) (Memref.whole cc0_scratch0 : Memref sig .tc .vmem S264x1024 .f32) fullShare d) ∗ (∃ d, owns (c : Thread nD τ) (Memref.whole cc0_scratch1 : Memref sig .tc .vmem S1x1024 .f32) fullShare d)) :=
  if_neg h

/-- The windows of which nothing is claimed: all results but the prompt's last states. -/
abbrev fgt : Fin 16 → Bool := fun w => w.val == 11 || w.val == 13 || w.val == 14 || w.val == 15

/-- What the pipeline's buffers hold after each point: the inputs their blocks, the last states those of the point's
    sequence; of the forgotten results nothing is named. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, h⟩ => Pipeline.Dat.unnamed (cfg := cfg0) ⟨11, h⟩ t
    | ⟨12, _⟩ => tileL (iblk m c 0 (lastTile t)) (iblk m c 3 (lastTile t)) (iblk m c 5 (lastTile t)) (iblk m c 6 (lastTile t)) (iblk m c 7 (lastTile t)) (iblk m c 8 (lastTile t)) (iblk m c 9 (lastTile t)) (ext (entry m c (lastTile t).val).1 (tileU (iblk m c 0 (lastTile t)) (iblk m c 3 (lastTile t)) (iblk m c 5 (lastTile t)))) (entry m c (lastTile t).val).2
    | ⟨13, h⟩ => Pipeline.Dat.unnamed (cfg := cfg0) ⟨13, h⟩ t
    | ⟨14, h⟩ => Pipeline.Dat.unnamed (cfg := cfg0) ⟨14, h⟩ t
    | ⟨15, h⟩ => Pipeline.Dat.unnamed (cfg := cfg0) ⟨15, h⟩ t
    | ⟨_ + 16, h⟩ => absurd h (Nat.not_lt.2 (Nat.le_add_left _ _))
  Φ t := iprop(scr m c t.val ∗ (∃ r, prngReg c r))
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_12 (c : Dev nD) (t : Fin cfg0.N) : (dats m 0 c).after 12 t = tileL (iblk m c 0 (lastTile t)) (iblk m c 3 (lastTile t)) (iblk m c 5 (lastTile t)) (iblk m c 6 (lastTile t)) (iblk m c 7 (lastTile t)) (iblk m c 8 (lastTile t)) (iblk m c 9 (lastTile t)) (ext (entry m c (lastTile t).val).1 (tileU (iblk m c 0 (lastTile t)) (iblk m c 3 (lastTile t)) (iblk m c 5 (lastTile t)))) (entry m c (lastTile t).val).2 := by
  dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d

/-- At the last point the buffer of the last states still holds the second sequence's. -/
theorem before0_12 (c : Dev nD) (t : Fin cfg0.N) (ht : t.val = 69) (d) : (dats m 0 c).before 12 t d = (dats m 0 c).after 12 t := by
  have hN : (65 : ℕ) < cfg0.N := lt_of_le_of_lt (by omega : 65 ≤ t.val) t.isLt
  rw [Cert.Kept.before_eq_after (dats m 0 c) 12 (fun s => (cfg0.win 12).fetch_out rfl s) (fun _ _ => rfl) ⟨65, hN⟩ t
    (by simp only; omega) (by rw [idle12]; rfl) (by rw [flush12_iff]; rfl)
    (fun j h h' => ⟨by rw [idle12]; simp only at h ⊢; simp only [Bool.not_eq_true', Bool.or_eq_false_iff, decide_eq_false_iff_not]; omega,
      by rw [flush12_iff]; simp only at h; simp only [Bool.or_eq_false_iff, decide_eq_false_iff_not]; omega⟩) d,
    after0_12, after0_12]
  have e : lastTile t = lastTile ⟨65, hN⟩ := by rw [lastTile_late (by omega), lastTile_late (by simp only; omega)]
  rw [e]

/-- The scratch and the generator's register, one by one. -/
theorem scratch_eq (c : Dev nD) (n : ℕ) (h : ¬(0 < n ∧ n < 66 ∧ n ≠ 33)) : (Pipeline.ΦA spec0 c : sProp 𝕄)
    = iprop(scr m c n ∗ (∃ r, prngReg c r)) := by
  rw [scr_free m c n h]
  unfold Pipeline.ΦA; rw [scopedRest0_eq]; simp only [owns_whole]; try rfl

/-- What the body is called with at a point, and what it hands back. -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d))
    ∗ (∃ d, owns (c : Thread nD τ) (win0_10.stage (cfg0.slots t 10)) fullShare ((dats m 0 c).before 10 t d))
    ∗ (∃ d, owns (c : Thread nD τ) (win0_11.stage (cfg0.slots t 11)) fullShare d)
    ∗ (∃ d, owns (c : Thread nD τ) (win0_12.stage (cfg0.slots t 12)) fullShare ((dats m 0 c).before 12 t d))
    ∗ (∃ d, owns (c : Thread nD τ) (win0_13.stage (cfg0.slots t 13)) fullShare d)
    ∗ (∃ d, owns (c : Thread nD τ) (win0_14.stage (cfg0.slots t 14)) fullShare d)
    ∗ (∃ d, owns (c : Thread nD τ) (win0_15.stage (cfg0.slots t 15)) fullShare d))
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (∃ d, owns (c : Thread nD τ) (win0_11.stage (cfg0.slots t 11)) fullShare d)
    ∗ (dats m 0 c).leavesExact 12 t
    ∗ (∃ d, owns (c : Thread nD τ) (win0_13.stage (cfg0.slots t 13)) fullShare d)
    ∗ (∃ d, owns (c : Thread nD τ) (win0_14.stage (cfg0.slots t 14)) fullShare d)
    ∗ (∃ d, owns (c : Thread nD τ) (win0_15.stage (cfg0.slots t 15)) fullShare d))

set_option maxHeartbeats 3200000 in
/-- The body at any point, by the kind of the point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).Φ t.succ = iprop(scr m c (t.val + 1) ∗ (∃ r, prngReg c r)) from rfl, show (dats m 0 c).Φ t.castSucc = iprop(scr m c t.val ∗ (∃ r, prngReg c r)) from rfl,
    show (dats m 0 c).owesAt () t.succ = (dats m 0 c).owesAt () t.castSucc from rfl]
  rw [show (dats m 0 c).leavesExact 0 t = owns (c : Thread nD τ) (win0_0.stage (cfg0.slots t 0)) fullShare ((dats m 0 c).after 0 t) from rfl, after0_0]
  rw [show (dats m 0 c).leavesExact 1 t = owns (c : Thread nD τ) (win0_1.stage (cfg0.slots t 1)) fullShare ((dats m 0 c).after 1 t) from rfl, after0_1]
  rw [show (dats m 0 c).leavesExact 2 t = owns (c : Thread nD τ) (win0_2.stage (cfg0.slots t 2)) fullShare ((dats m 0 c).after 2 t) from rfl, after0_2]
  rw [show (dats m 0 c).leavesExact 3 t = owns (c : Thread nD τ) (win0_3.stage (cfg0.slots t 3)) fullShare ((dats m 0 c).after 3 t) from rfl, after0_3]
  rw [show (dats m 0 c).leavesExact 4 t = owns (c : Thread nD τ) (win0_4.stage (cfg0.slots t 4)) fullShare ((dats m 0 c).after 4 t) from rfl, after0_4]
  rw [show (dats m 0 c).leavesExact 5 t = owns (c : Thread nD τ) (win0_5.stage (cfg0.slots t 5)) fullShare ((dats m 0 c).after 5 t) from rfl, after0_5]
  rw [show (dats m 0 c).leavesExact 6 t = owns (c : Thread nD τ) (win0_6.stage (cfg0.slots t 6)) fullShare ((dats m 0 c).after 6 t) from rfl, after0_6]
  rw [show (dats m 0 c).leavesExact 7 t = owns (c : Thread nD τ) (win0_7.stage (cfg0.slots t 7)) fullShare ((dats m 0 c).after 7 t) from rfl, after0_7]
  rw [show (dats m 0 c).leavesExact 8 t = owns (c : Thread nD τ) (win0_8.stage (cfg0.slots t 8)) fullShare ((dats m 0 c).after 8 t) from rfl, after0_8]
  rw [show (dats m 0 c).leavesExact 9 t = owns (c : Thread nD τ) (win0_9.stage (cfg0.slots t 9)) fullShare ((dats m 0 c).after 9 t) from rfl, after0_9]
  rw [show (dats m 0 c).leavesExact 10 t = owns (c : Thread nD τ) (win0_10.stage (cfg0.slots t 10)) fullShare ((dats m 0 c).after 10 t) from rfl, after0_10]
  have hN : t.val < 70 := lt_of_lt_of_eq t.isLt (show cfg0.N = 70 from N_0)
  by_cases h : t.val < 66
  · have c4 : ¬(k0_cond4 (grid0.coords t) = 1#1) := fun e => by have := (isSample t).mp e; omega
    by_cases hl : t.val = 32 ∨ t.val = 65
    · have h3 := ((isLast t h).mpr hl)
      rw [scr_named m c t.val (by omega), scr_free m c (t.val + 1) (by omega)]
      rw [show (dats m 0 c).leavesExact 12 t = owns (c : Thread nD τ) (win0_12.stage (cfg0.slots t 12)) fullShare ((dats m 0 c).after 12 t) from by unfold Dat.leavesExact; rw [idle12 t, show (decide (t.val = 32) || decide (t.val = 65)) = true from by simp only [Bool.or_eq_true, decide_eq_true_eq]; exact hl, Bool.not_true], after0_12]
      rw [lastTile_self hl]
      iintro ⟨⟨⟨S0, S1⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
      iapply (run_last c (grid0.coords t) _ _ _ _ _ _ _ _ _ _ _ _ _ _ _ _ _ _ _ _ _ _ _ _ _ _ _ _ _ _ _ _ _ _ _ _ ((isPrompt t).mpr h) (fun e => by have := (isFirst t).mp e; omega) h3 c4 (iblk m c 0 t) (iblk m c 1 t) (iblk m c 2 t) (iblk m c 3 t) (iblk m c 4 t) (iblk m c 5 t) (iblk m c 6 t) (iblk m c 7 t) (iblk m c 8 t) (iblk m c 9 t) (iblk m c 10 t) (entry m c t.val).1 (entry m c t.val).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      isplitl [H12]; · iexists _; iexact H12
      isplitl [H13]; · iexists _; iexact H13
      isplitl [H14]; · iexists _; iexact H14
      isplitl [H15]; · iexists _; iexact H15
      isplitl [S0]; · iexact S0
      isplitl [S1]; · iexact S1
      iintro ⟨H0, H1, H2, H3, H4, H5, H6, H7, H8, H9, H10, H11, H12, H13, H14, H15, S0, S1⟩
      icases S0 with ⟨%X, S0⟩
      isplitl [S0 S1 Hr]
      · isplitl [S0 S1]
        · isplitl [S0]; · iexists _; iexact S0
          iexists _; iexact S1
        iexact Hr
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      iexact H15
    · have h3 : ¬(k0_cond3 (grid0.coords t) = 1#1) := fun e => hl ((isLast t h).mp e)
      rw [(dats m 0 c).leavesExact_idle 12 t (by rw [idle12]; simp only [Bool.not_eq_true', Bool.or_eq_false_iff, decide_eq_false_iff_not]; omega) (by rw [flush12_iff]; simp only [Bool.or_eq_false_iff, decide_eq_false_iff_not]; omega)]
      rw [scr_named m c (t.val + 1) (by omega), entry_succ m c t (by omega)]
      by_cases hf : t.val = 0 ∨ t.val = 33
      · rw [scr_free m c t.val (by omega), entry_first m c t.val hf]
        iintro ⟨⟨⟨S0, S1⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
        iapply (run_first c (grid0.coords t) _ _ _ _ _ _ _ _ _ _ _ _ _ _ _ _ _ _ _ _ _ _ _ _ _ _ _ _ _ _ _ _ _ _ _ _ ((isPrompt t).mpr h) ((isFirst t).mpr hf) h3 c4 (iblk m c 0 t) (iblk m c 1 t) (iblk m c 2 t) (iblk m c 3 t) (iblk m c 4 t) (iblk m c 5 t) (iblk m c 6 t) (iblk m c 7 t) (iblk m c 8 t) (iblk m c 9 t) (iblk m c 10 t) _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexists _; iexact H11
        isplitl [H12]; · iexact H12
        isplitl [H13]; · iexists _; iexact H13
        isplitl [H14]; · iexists _; iexact H14
        isplitl [H15]; · iexists _; iexact H15
        isplitl [S0]; · iexact S0
        isplitl [S1]; · iexact S1
        iintro ⟨H0, H1, H2, H3, H4, H5, H6, H7, H8, H9, H10, H11, H12, H13, H14, H15, S0, S1⟩
        isplitl [S0 S1 Hr]
        · isplitl [S0 S1]
          · isplitl [S0]; · iexact S0
            iexact S1
          iexact Hr
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexists _; iexact H12
        isplitl [H13]; · iexact H13
        isplitl [H14]; · iexact H14
        iexact H15
      · rw [scr_named m c t.val (by omega)]
        iintro ⟨⟨⟨S0, S1⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
        iapply (run_inner c (grid0.coords t) _ _ _ _ _ _ _ _ _ _ _ _ _ _ _ _ _ _ _ _ _ _ _ _ _ _ _ _ _ _ _ _ _ _ _ _ ((isPrompt t).mpr h) (fun e => hf ((isFirst t).mp e)) h3 c4 (iblk m c 0 t) (iblk m c 1 t) (iblk m c 2 t) (iblk m c 3 t) (iblk m c 4 t) (iblk m c 5 t) (iblk m c 6 t) (iblk m c 7 t) (iblk m c 8 t) (iblk m c 9 t) (iblk m c 10 t) _ (entry m c t.val).1 (entry m c t.val).2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexists _; iexact H11
        isplitl [H12]; · iexact H12
        isplitl [H13]; · iexists _; iexact H13
        isplitl [H14]; · iexists _; iexact H14
        isplitl [H15]; · iexists _; iexact H15
        isplitl [S0]; · iexact S0
        isplitl [S1]; · iexact S1
        iintro ⟨H0, H1, H2, H3, H4, H5, H6, H7, H8, H9, H10, H11, H12, H13, H14, H15, S0, S1⟩
        isplitl [S0 S1 Hr]
        · isplitl [S0 S1]
          · isplitl [S0]; · iexact S0
            iexact S1
          iexact Hr
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexists _; iexact H12
        isplitl [H13]; · iexact H13
        isplitl [H14]; · iexact H14
        iexact H15
  · have c4 : k0_cond4 (grid0.coords t) = 1#1 := (isSample t).mpr (by omega)
    have c1 : ¬(k0_cond1 (grid0.coords t) = 1#1) := fun e => h ((isPrompt t).mp e)
    rw [scr_free m c t.val (by omega), scr_free m c (t.val + 1) (by omega)]
    by_cases hl : t.val = 69
    · rw [show (dats m 0 c).leavesExact 12 t = owns (c : Thread nD τ) (win0_12.stage (cfg0.slots t 12)) fullShare ((dats m 0 c).after 12 t) from by
        unfold Dat.leavesExact; rw [idle12 t, flush12_iff t, decide_eq_true hl, Bool.or_true, decide_eq_false (by omega), decide_eq_false (by omega)]; rfl]
      simp only [before0_12 m c t hl]
      iintro ⟨⟨⟨S0, S1⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
      iapply (run_sample c (grid0.coords t) _ _ _ _ _ _ _ _ _ _ _ _ _ _ _ _ _ _ _ _ _ _ _ _ _ _ _ _ _ _ _ _ _ _ _ _ c1 c4 (iblk m c 0 t) (iblk m c 1 t) (iblk m c 2 t) (iblk m c 3 t) (iblk m c 4 t) (iblk m c 5 t) (iblk m c 6 t) (iblk m c 7 t) (iblk m c 8 t) (iblk m c 9 t) (iblk m c 10 t) _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      isplitl [H12]; · iexact H12
      isplitl [H13]; · iexists _; iexact H13
      isplitl [H14]; · iexists _; iexact H14
      isplitl [H15]; · iexists _; iexact H15
      isplitl [S0]; · iexact S0
      isplitl [S1]; · iexact S1
      iintro ⟨H0, H1, H2, H3, H4, H5, H6, H7, H8, H9, H10, H11, H12, H13, H14, H15, S0, S1⟩
      isplitl [S0 S1 Hr]
      · isplitl [S0 S1]
        · isplitl [S0]; · iexact S0
          iexact S1
        iexact Hr
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      iexact H15
    ·
      rw [(dats m 0 c).leavesExact_idle 12 t (by rw [idle12]; simp only [Bool.not_eq_true', Bool.or_eq_false_iff, decide_eq_false_iff_not]; omega) (by rw [flush12_iff]; simp only [Bool.or_eq_false_iff, decide_eq_false_iff_not]; omega)]
      iintro ⟨⟨⟨S0, S1⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
      iapply (run_sample c (grid0.coords t) _ _ _ _ _ _ _ _ _ _ _ _ _ _ _ _ _ _ _ _ _ _ _ _ _ _ _ _ _ _ _ _ _ _ _ _ c1 c4 (iblk m c 0 t) (iblk m c 1 t) (iblk m c 2 t) (iblk m c 3 t) (iblk m c 4 t) (iblk m c 5 t) (iblk m c 6 t) (iblk m c 7 t) (iblk m c 8 t) (iblk m c 9 t) (iblk m c 10 t) _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      isplitl [H12]; · iexact H12
      isplitl [H13]; · iexists _; iexact H13
      isplitl [H14]; · iexists _; iexact H14
      isplitl [H15]; · iexists _; iexact H15
      isplitl [S0]; · iexact S0
      isplitl [S1]; · iexact S1
      iintro ⟨H0, H1, H2, H3, H4, H5, H6, H7, H8, H9, H10, H11, H12, H13, H14, H15, S0, S1⟩
      isplitl [S0 S1 Hr]
      · isplitl [S0 S1]
        · isplitl [S0]; · iexact S0
          iexact S1
        iexact Hr
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexists _; iexact H12
      isplitl [H13]; · iexact H13
      isplitl [H14]; · iexact H14
      iexact H15

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ fgt := fun t => by
  rw [bigSep_W0, bigSep_W0, defs₀_row]
  exact triple_restated (sound_body m c t) rfl .rfl fun _ => .rfl

theorem enter (c : Dev nD) : Pipeline.ΦA spec0 c ⊢ (dats m 0 c).Φ 0 := by
  rw [scratch_eq m c 0 (by omega)]; exact .rfl
theorem leave (c : Dev nD) : (dats m 0 c).Φ (Fin.last cfg0.N) ⊢ Pipeline.ΦA spec0 c := by
  rw [scratch_eq m c cfg0.N (by rw [show cfg0.N = 70 from N_0]; omega)]; exact .rfl

-- the pipeline theorem's arguments are found by unification with this statement
set_option backward.isDefEq.respectTransparency.types false in
/-- Every run ends with the windowed arrays that are not forgotten at the contents `dats` names and every semaphore counter at zero. -/
theorem run_main_quiescent : θ_run defs (onTc (τ := τ) (main (F := F))) (s₀ m ρ) (fun r => (Pipeline.RDat.FramePost (cfgs 0) (fun c => (dats m 0 c).toRForget fgt) (V m)) r ∧ r.2.sem = fun _ => 0) :=
  Pipeline.θ_run_frame_track_forget (Q' := _) cfgs (dats m) (0 : Fin 1) launch0 defs₀ Variants.none fgt m ρ main
    (hbody := fun c => (body_obligation m c).loose) (hshare := fun c => (dats m 0 c).share_full fun _ => rfl)
    (howed := fun _ _ => rfl) (V := V m) (hmain := hmain m Variants.none) (hA := A_eq m) (hin := enter m) (hout := leave m)

theorem run_main : θ_run defs (onTc (τ := τ) (main (F := F))) (s₀ m ρ) (Pipeline.RDat.FramePost (cfgs 0) (fun c => (dats m 0 c).toRForget fgt) (V m)) :=
  (θ_run defs _ _).mono (fun _ h => h.1) (run_main_quiescent m ρ)

/-- Every run ends with the arguments as they were. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨(Pipeline.RDat.FramePost.arr_in h c 0 rfl).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c),
    ((h c).2 main_arg7 (Pipeline.mem_restRefs_of main_arg7 (by decide) (by decide))).trans (V_main_arg7 m c),
    ((h c).2 main_arg8 (Pipeline.mem_restRefs_of main_arg8 (by decide) (by decide))).trans (V_main_arg8 m c),
    ((h c).2 main_arg9 (Pipeline.mem_restRefs_of main_arg9 (by decide) (by decide))).trans (V_main_arg9 m c),
    ((h c).2 main_arg10 (Pipeline.mem_restRefs_of main_arg10 (by decide) (by decide))).trans (V_main_arg10 m c),
    ((h c).2 main_arg11 (Pipeline.mem_restRefs_of main_arg11 (by decide) (by decide))).trans (V_main_arg11 m c),
    ((h c).2 main_arg12 (Pipeline.mem_restRefs_of main_arg12 (by decide) (by decide))).trans (V_main_arg12 m c),
    ((h c).2 main_arg13 (Pipeline.mem_restRefs_of main_arg13 (by decide) (by decide))).trans (V_main_arg13 m c)⟩) (run_main m ρ)

/-- Every run ends with the arguments as they were and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0) :=
  θ_run_and (unchanged m ρ)
  ((θ_run defs _ _).mono (fun _ h => h.2) (run_main_quiescent m ρ))

end Cert.RecIdeal.Gen

end
-- ==== Proof.RecRun.lean ====
/-
  The recurrence over the prompt: the kernel's run, by its ideal reading's run, which is over the same operations.
-/
module

public import proofs.«01_k».proof.Defs
public import proofs.«01_k».proof.Proof.RecIdealRun
public import proofs.«01_k».proof.Proof.Gen.Rec
public import Idealize.ShloMosaic.Lib.Quiescent
public import Idealize.ShloMosaic.Lib.Tactic

@[expose] public section

noncomputable section

namespace Cert.RecRun

open Idealize.ShloMosaic Idealize.ShloMosaic.Tactic Idealize.ShloMosaic.Rounds Idealize.SL.Sem

set_option backward.isDefEq.respectTransparency false
attribute [local instance] Cert.Rec.Gen.facts Cert.RecIdeal.Gen.facts

theorem defs_eq : Cert.Rec.defs (F := Bits) = Cert.RecIdeal.defs (F := Bits) := by sl_kernel_rfl

set_option maxHeartbeats 2000000 in
/-- The kernel runs, keeps its arguments and ends with no counter raised. -/
theorem rec_frame : Cert.quiescent_Rec (hRec := Cert.Rec.Gen.facts) := by
  intro m ρ _
  have h := @Cert.RecIdeal.Gen.frame Bits _ m ρ
  rw [← defs_eq] at h
  exact h

end Cert.RecRun
end
-- ==== Proof.RecTile.lean ====
/-
  The recurrence over the prompt on the extended reals: what a prompt tile's arrays hold at a row and a column, and that a
  tile entered with a sequence's rows and state so far leaves the rows and the state for the next one.
-/
module

public import proofs.«01_k».proof.Proof.Rows
public import proofs.«01_k».proof.Proof.LruMath
public import proofs.«01_k».proof.Proof.LruTile
public import proofs.«01_k».proof.Proof.RecIdealRun
public import Idealize.ShloMosaic.Lib.Pipeline.ValueKit

@[expose] public section

set_option maxRecDepth 16384

noncomputable section

namespace Cert.RecRows

open Idealize.ShloMosaic Idealize.ShloMosaic.TcCoe Cert.Rows Cert.LruRows

section Spec

/-- A sequence's rows with three rows of zeros before them. -/
def pu (u : ℕ → Fin 1024 → EReal) (n : ℕ) (j : Fin 1024) : EReal := if n < 3 then 0 else u (n - 3) j

/-- A sequence's convolved rows. -/
def vAt (b : Fin 1024 → EReal) (w : Fin 4 → Fin 1024 → EReal) (u : ℕ → Fin 1024 → EReal) (n : ℕ) (j : Fin 1024) : EReal :=
  conv (b j) (w 0 j) (w 1 j) (w 2 j) (w 3 j) (pu u n j) (pu u (n + 1) j) (pu u (n + 2) j) (pu u (n + 3) j)

/-- The recurrence `h (n + 1) = a n * h n + b n`. -/
def run (a b : ℕ → EReal) (h : EReal) : ℕ → EReal
  | 0 => h
  | n + 1 => a n * run a b h n + b n

theorem run_add (a b : ℕ → EReal) (h : EReal) (n k : ℕ) :
    run (fun i => a (n + i)) (fun i => b (n + i)) (run a b h n) k = run a b h (n + k) := by
  induction k with
  | zero => rfl
  | succ k ih => show a (n + k) * run _ _ _ k + b (n + k) = a (n + k) * run a b h (n + k) + b (n + k); rw [ih]

/-- The state after `n` steps of a sequence, from its projected rows. -/
def hs (b : Fin 1024 → EReal) (w : Fin 4 → Fin 1024 → EReal) (u : ℕ → Fin 1024 → EReal) (wa wx : Fin 4 → Fin 256 → Fin 256 → EReal)
    (ba bx lam : Fin 1024 → EReal) (n : ℕ) (j : Fin 1024) : EReal :=
  run (fun n => Ideal.exp (decayLog (vAt b w u n) wa ba lam j)) (fun n => stepIn (vAt b w u n) wa wx ba bx lam j) 0 n

theorem hs_add (b : Fin 1024 → EReal) (w : Fin 4 → Fin 1024 → EReal) (u : ℕ → Fin 1024 → EReal) (wa wx : Fin 4 → Fin 256 → Fin 256 → EReal)
    (ba bx lam : Fin 1024 → EReal) (n k : ℕ) (j : Fin 1024) :
    run (fun i => Ideal.exp (decayLog (vAt b w u (n + i)) wa ba lam j)) (fun i => stepIn (vAt b w u (n + i)) wa wx ba bx lam j) (hs b w u wa wx ba bx lam n j) k =
      hs b w u wa wx ba bx lam (n + k) j :=
  run_add (fun n => Ideal.exp (decayLog (vAt b w u n) wa ba lam j)) (fun n => stepIn (vAt b w u n) wa wx ba bx lam j) 0 n k

end Spec

open Cert.RecIdeal Cert.RecIdeal.Gen

section Scan

/-- A step's input, from its decay's logarithm. -/
def inp (V I R : Vec Ideal S256x1024 .f32) (l l' : Vec Ideal S1x1024 .f32) : Vec Ideal S32x8x1024 .f32 :=
  have y : FVec Ideal S256x1024 .f32 := mulf (subf (broadcast S256x1024 (Scalar.ofBits .f32 0x00000000#32)) (tanh (k0_pay23 (F := Ideal) R l l')))
    (addf (mulf (k0_pay24 (F := Ideal) R l l') (k0_pay24 (F := Ideal) R l l')) (broadcast S256x1024 (Scalar.ofBits .f32 0x3F800000#32)))
  shapeCast S32x8x1024 (mulf (select (cmpf .ogt y (broadcast S256x1024 (Scalar.ofBits .f32 0x00000000#32))) (mulf y (rsqrt y))
    (broadcast S256x1024 (Scalar.ofBits .f32 0x00000000#32))) (mulf I V)) shapeCasts_S256x1024_S32x8x1024

variable (V I R : Vec Ideal S256x1024 .f32) (l l' : Vec Ideal S1x1024 .f32)

/-- A tile's scanned decays and inputs. -/
abbrev scA : Vec Ideal S256x1024 .f32 := k0_pay33 (F := Ideal) place (k0_pay28 (F := Ideal) R l l') (k0_pay30 (F := Ideal) R l l')
abbrev scB : Vec Ideal S256x1024 .f32 := k0_pay34 (F := Ideal) place (k0_pay27 (F := Ideal) V I R l l') (k0_pay28 (F := Ideal) R l l') k0_pay29 (k0_pay30 (F := Ideal) R l l')

theorem scA_eq : scA R l l' = shapeCast S256x1024 (mulf (Cert.LruIdeal.Gen.k0_pay101 (F := Ideal) (k0_pay25 (F := Ideal) R l l')) (Cert.LruIdeal.Gen.k0_pay103 (F := Ideal) (k0_pay25 (F := Ideal) R l l'))) shapeCasts_S32x8x1024_S256x1024 := rfl
theorem scB_eq : scB V I R l l' = shapeCast S256x1024 (Cert.LruIdeal.Gen.k0_pay104 (F := Ideal) (k0_pay25 (F := Ideal) R l l') (inp V I R l l')) shapeCasts_S32x8x1024_S256x1024 := rfl

/-- A group's scan by doubling is the recurrence, where the decays are reals that are not negative. -/
theorem group_at (q : Fin 32) (j : Fin 1024) (r : Fin 8 → ℝ) (hr : ∀ k, 0 ≤ r k) (ha : ∀ k, k0_pay25 (F := Ideal) R l l' (ix3 q k j) = ((r k : ℝ) : EReal)) (h : EReal) :
    scA R l l' (ix2 ⟨8 * q.val + 7, by omega⟩ j) * h + scB V I R l l' (ix2 ⟨8 * q.val + 7, by omega⟩ j) =
      hseq (fun k => k0_pay25 (F := Ideal) R l l' (ix3 q k j)) (fun k => inp V I R l l' (ix3 q k j)) h 7 := by
  have e := Cert.LruRows.scanned_at (fun _ => h) (k0_pay25 (F := Ideal) R l l') (inp V I R l l') q j r hr ha 7
  rw [scA_eq, scB_eq]
  exact e

/-- The state after `g` groups. -/
def fold (A B : Vec Ideal S256x1024 .f32) (j : Fin 1024) (h : EReal) : ℕ → EReal
  | 0 => h
  | g + 1 => A (ix2 ⟨(8 * g + 7) % 256, by omega⟩ j) * fold A B j h g + B (ix2 ⟨(8 * g + 7) % 256, by omega⟩ j)

theorem fold_run (d i : ℕ → EReal) (j : Fin 1024) (h : EReal)
    (hd : ∀ (q : Fin 32) (k : Fin 8), k0_pay25 (F := Ideal) R l l' (ix3 q k j) = d (8 * q.val + k.val))
    (hi : ∀ (q : Fin 32) (k : Fin 8), inp V I R l l' (ix3 q k j) = i (8 * q.val + k.val))
    (hr : ∀ n, ∃ r : ℝ, 0 ≤ r ∧ d n = (r : EReal)) (g : ℕ) (hg : g ≤ 32) :
    fold (scA R l l') (scB V I R l l') j h g = run d i h (8 * g) := by
  choose r h0 hr using hr
  induction g with
  | zero => rfl
  | succ g ih =>
    have e := group_at V I R l l' ⟨g, by omega⟩ j (fun k => r (8 * g + k.val)) (fun k => h0 _) (fun k => (hd ⟨g, by omega⟩ k).trans (hr _)) (run d i h (8 * g))
    have hq : (⟨(8 * g + 7) % 256, by omega⟩ : Fin 256) = ⟨8 * g + 7, by omega⟩ := Fin.ext (by show (8 * g + 7) % 256 = 8 * g + 7; omega)
    rw [fold, ih (by omega), hq]
    refine e.trans ?_
    rw [show 8 * (g + 1) = 8 * g + 8 by ring, ← run_add]
    simp only [hd, hi]
    rfl

end Scan

section Carry
variable (a a' b : Vec Ideal S32x8x1024 .f32) (A B : Vec Ideal S256x1024 .f32) (h : Vec Ideal S1x1024 .f32) (j : Fin 1024)

theorem c2 : k0_pay36 (F := Ideal) place b a k0_pay29 a' h (ix2 (7 : Fin 8) j) = fold (k0_pay33 (F := Ideal) place a a') (k0_pay34 (F := Ideal) place b a k0_pay29 a') j (h (ix2 0 j)) 2 := by
  pointwise [k0_pay36, k0_pay35]
  rfl
theorem c4 : k0_pay39 (F := Ideal) place b a k0_pay29 a' h (ix2 0 j) = fold (k0_pay33 (F := Ideal) place a a') (k0_pay34 (F := Ideal) place b a k0_pay29 a') j (h (ix2 0 j)) 4 := by
  pointwise [k0_pay39, k0_pay38, k0_pay37, k0_pay36, k0_pay35]
  rfl
theorem c14 (x : EReal) (hx : h (ix2 0 j) = fold A B j x 4) (s : Vec Ideal S8x1024 .f32) (hs : s (ix2 7 j) = A (ix2 ⟨39, by omega⟩ j)) : k0_pay51 (F := Ideal) A B h s (ix2 0 j) = fold A B j x 14 := by
  pointwise [k0_pay51, k0_pay50, k0_pay49, k0_pay48, k0_pay47, k0_pay46, k0_pay45, k0_pay44, k0_pay43, k0_pay42, k0_pay41]
  first | rw [hx, hs] | (erw [hx, hs])
  rfl
theorem c24 (x : EReal) (hx : h (ix2 0 j) = fold A B j x 14) : k0_pay63 (F := Ideal) A B h (k0_pay52 (F := Ideal) A) (ix2 0 j) = fold A B j x 24 := by
  pointwise [k0_pay63, k0_pay62, k0_pay61, k0_pay60, k0_pay59, k0_pay58, k0_pay57, k0_pay56, k0_pay55, k0_pay54, k0_pay53, k0_pay52]
  first | rw [hx] | (erw [hx])
  rfl
theorem c32 (x : EReal) (hx : h (ix2 0 j) = fold A B j x 24) : k0_pay79 (F := Ideal) (k0_pay73 (F := Ideal) A B h (k0_pay64 (F := Ideal) A)) (ix2 0 j) = fold A B j x 32 := by
  pointwise [k0_pay79, k0_pay73, k0_pay72, k0_pay71, k0_pay70, k0_pay69, k0_pay68, k0_pay67, k0_pay66, k0_pay65, k0_pay64]
  first | rw [hx] | (erw [hx])
  rfl
theorem carry32_at : carry32 a a' b h (ix2 0 j) = fold (k0_pay33 (F := Ideal) place a a') (k0_pay34 (F := Ideal) place b a k0_pay29 a') j (h (ix2 0 j)) 32 := by
  unfold carry32 carry24 carry14 carry4
  refine c32 _ _ _ j _ (c24 _ _ _ j _ (c14 _ _ _ j _ (c4 a a' b h j) _ ?_))
  pointwise [k0_pay40]

end Carry

section Tile
variable (x0 : Vec Ideal S256x1024 .f32) (x3 : Vec Ideal S2x1024 .f32) (x5 : Vec Ideal S1024x1024 .bf16) (x6 x7 : Vec Ideal S4x1024 .f32) (x8 x9 : Vec Ideal S4x256x256 .bf16)
  (X : Vec Ideal S264x1024 .f32) (P : Vec Ideal S8x1024 .f32)

theorem tileU_at (r : Fin 256) (j : Fin 1024) : tileU x0 x3 x5 (ix2 r j) =
    lin (rms (fun k => x0 (ix2 r k)) (fun k => x3 (ix2 0 k))) (fun k l => x5 (ix2 k l)) j := by
  pointwise [tileU, row2, k0_pay12, k0_pay11, k0_pay10, lin, rms]

theorem tailU_at (r : Fin 8) (j : Fin 1024) : tailU x0 x3 x5 (ix2 r j) = tileU x0 x3 x5 (ix2 ⟨248 + r.val, by omega⟩ j) := by
  pointwise [tailU, tileU, k0_pay78, k0_pay12]

theorem tileV_at (r : Fin 256) (j : Fin 1024) : tileV x0 x3 x5 x6 x7 X (ix2 r j) =
    conv (x7 (ix2 0 j)) (x6 (ix2 0 j)) (x6 (ix2 1 j)) (x6 (ix2 2 j)) (x6 (ix2 3 j))
      (X (ix2 ⟨5 + r.val, by omega⟩ j)) (X (ix2 ⟨6 + r.val, by omega⟩ j)) (X (ix2 ⟨7 + r.val, by omega⟩ j)) (tileU x0 x3 x5 (ix2 r j)) := by
  rw [← tapSum]
  pointwise [tileV, tileU, row4_0, row4_1, row4_2, row4_3, k0_pay15, k0_pay14, k0_pay13, k0_pay12, k0_pay1, lag_7, lag_6, lag_5]

theorem tileV'_eq : (tileV' x0 x3 x5 x6 x7 X : S256x1024.Idx → EReal) = tileV x0 x3 x5 x6 x7 X := rfl
theorem tileV''_at (r : Fin 256) (k : Fin 256) : tileV'' x0 x3 x5 x6 x7 X (ix2 r k) = tileV x0 x3 x5 x6 x7 X (ix2 r ⟨k.val, by omega⟩) := by
  pointwise [tileV'', k0_pay18]
  rfl

theorem tileR_at (r : Fin 256) (j : Fin 1024) : tileR x0 x3 x5 x6 x7 x8 X (ix2 r j) =
    8 * Ideal.logistic (blockLin (fun k => tileV x0 x3 x5 x6 x7 X (ix2 r k)) (fun n k l => x8 (ix3 n k l)) j + x7 (ix2 1 j)) := by
  have e := blockLin_ifs (fun k => tileV x0 x3 x5 x6 x7 X (ix2 r k)) (fun n k l => x8 (ix3 n k l)) j
  rw [← e]
  pointwise [tileR, gate_0, gate_1, gate_2, gate_3, row4_1, k0_pay20, k0_pay2, k0_pay17, ofBits_eight]
  rfl

theorem tileI_at (r : Fin 256) (j : Fin 1024) : tileI x0 x3 x5 x6 x7 x9 X (ix2 r j) =
    Ideal.logistic (blockLin (fun k => tileV x0 x3 x5 x6 x7 X (ix2 r k)) (fun n k l => x9 (ix3 n k l)) j + x7 (ix2 2 j)) := by
  have e := blockLin_ifs (fun k => tileV x0 x3 x5 x6 x7 X (ix2 r k)) (fun n k l => x9 (ix3 n k l)) j
  rw [← half_tanh, ← e]
  pointwise [tileI, gate_0, gate_1, gate_2, gate_3, row4_2, k0_pay19, k0_pay3, tileV''_at, tileV'_eq, ofBits_half]

theorem decay_at (q : Fin 32) (k : Fin 8) (j : Fin 1024) (z : EReal) (R : Vec Ideal S256x1024 .f32) (hR : R (ix2 ⟨8 * q.val + k.val, by omega⟩ j) = 8 * Ideal.logistic z) :
    k0_pay25 (F := Ideal) R (k0_pay21 (F := Ideal) (k0_pay4 (F := Ideal) (row4_3 x7))) (k0_pay22 (F := Ideal) (k0_pay4 (F := Ideal) (row4_3 x7))) (ix3 q k j) = Ideal.exp (logDecay z (x7 (ix2 3 j))) := by
  unfold logDecay
  rw [← hR]
  pointwise [k0_pay25, k0_pay24, k0_pay23, k0_pay22, k0_pay21, k0_pay4, row4_3, logSig, zero_sub, mul_comm q.val 8]
  rfl

theorem inp_at (V I : Vec Ideal S256x1024 .f32) (q : Fin 32) (k : Fin 8) (j : Fin 1024) (z : EReal) (R : Vec Ideal S256x1024 .f32) (hR : R (ix2 ⟨8 * q.val + k.val, by omega⟩ j) = 8 * Ideal.logistic z) :
    inp V I R (k0_pay21 (F := Ideal) (k0_pay4 (F := Ideal) (row4_3 x7))) (k0_pay22 (F := Ideal) (k0_pay4 (F := Ideal) (row4_3 x7))) (ix3 q k j) =
      inScale (logDecay z (x7 (ix2 3 j))) * (I (ix2 ⟨8 * q.val + k.val, by omega⟩ j) * V (ix2 ⟨8 * q.val + k.val, by omega⟩ j)) := by
  rw [← inScale_tanh (logDecay_nonpos _ _)]
  unfold logDecay
  rw [← hR]
  pointwise [inp, k0_pay24, k0_pay23, k0_pay22, k0_pay21, k0_pay4, row4_3, logSig, zero_sub, mul_comm q.val 8]
  rfl

variable (U : ℕ → Fin 1024 → EReal) (n : ℕ)

theorem ext_at (hU : ∀ r j, tileU x0 x3 x5 (ix2 r j) = U (n + r.val) j) (hP : ∀ (i : Fin 3) (j : Fin 1024), P (ix2 ⟨5 + i.val, by omega⟩ j) = pu U (n + i.val) j)
    (s : Fin 264) (j : Fin 1024) (k : ℕ) (hk : s.val = 5 + k) : ext P (tileU x0 x3 x5) (ix2 s j) = pu U (n + k) j := by
  show (if h : s.val < 8 then P (ix2 ⟨s.val, h⟩ j) else tileU x0 x3 x5 (ix2 ⟨s.val - 8, by omega⟩ j)) = _
  by_cases h : s.val < 8
  · rw [dif_pos h, ← hP ⟨k, by omega⟩ j]
    exact congrArg (fun a => P (ix2 a j)) (Fin.ext hk)
  · rw [dif_neg h, hU]
    unfold pu
    rw [if_neg (by omega)]
    congr 1
    show n + (s.val - 8) = n + k - 3
    omega

/-- A tile entered with a sequence's rows and state so far. -/
theorem tile_run (hU : ∀ r j, tileU x0 x3 x5 (ix2 r j) = U (n + r.val) j) (hP : ∀ (i : Fin 3) (j : Fin 1024), P (ix2 ⟨5 + i.val, by omega⟩ j) = pu U (n + i.val) j)
    (h : Vec Ideal S1x1024 .f32) (j : Fin 1024)
    (hh : h (ix2 0 j) = hs (fun j => x7 (ix2 0 j)) (fun n j => x6 (ix2 n j)) U (fun n k l => x8 (ix3 n k l)) (fun n k l => x9 (ix3 n k l)) (fun j => x7 (ix2 1 j)) (fun j => x7 (ix2 2 j)) (fun j => x7 (ix2 3 j)) n j) :
    tileH x0 x3 x5 x6 x7 x8 x9 (ext P (tileU x0 x3 x5)) h (ix2 0 j) =
      hs (fun j => x7 (ix2 0 j)) (fun n j => x6 (ix2 n j)) U (fun n k l => x8 (ix3 n k l)) (fun n k l => x9 (ix3 n k l)) (fun j => x7 (ix2 1 j)) (fun j => x7 (ix2 2 j)) (fun j => x7 (ix2 3 j)) (n + 256) j ∧
    ∀ y0 y1 : Fin 1, tileL x0 x3 x5 x6 x7 x8 x9 (ext P (tileU x0 x3 x5)) h (ix3 y0 y1 j) =
      hs (fun j => x7 (ix2 0 j)) (fun n j => x6 (ix2 n j)) U (fun n k l => x8 (ix3 n k l)) (fun n k l => x9 (ix3 n k l)) (fun j => x7 (ix2 1 j)) (fun j => x7 (ix2 2 j)) (fun j => x7 (ix2 3 j)) (n + 16) j := by
  have hv : ∀ r : Fin 256, (fun j => tileV x0 x3 x5 x6 x7 (ext P (tileU x0 x3 x5)) (ix2 r j)) = vAt (fun j => x7 (ix2 0 j)) (fun n j => x6 (ix2 n j)) U (n + r.val) := by
    intro r; funext j
    rw [tileV_at, ext_at x0 x3 x5 P U n hU hP _ j r.val rfl, ext_at x0 x3 x5 P U n hU hP _ j (r.val + 1) (by show 6 + r.val = 5 + (r.val + 1); omega),
      ext_at x0 x3 x5 P U n hU hP _ j (r.val + 2) (by show 7 + r.val = 5 + (r.val + 2); omega), hU]
    unfold vAt
    congr 1
  have hR : ∀ (q : Fin 32) (k : Fin 8), tileR x0 x3 x5 x6 x7 x8 (ext P (tileU x0 x3 x5)) (ix2 ⟨8 * q.val + k.val, by omega⟩ j) = _ := fun q k => tileR_at x0 x3 x5 x6 x7 x8 _ _ j
  simp only [hv] at hR
  have hd := fun q k => decay_at x7 q k j _ _ (hR q k)
  have hi := fun q k => inp_at x7 (tileV x0 x3 x5 x6 x7 (ext P (tileU x0 x3 x5))) (tileI x0 x3 x5 x6 x7 x9 (ext P (tileU x0 x3 x5))) q k j _ _ (hR q k)
  simp only [tileI_at, hv] at hi
  have hf := fold_run (tileV x0 x3 x5 x6 x7 (ext P (tileU x0 x3 x5))) (tileI x0 x3 x5 x6 x7 x9 (ext P (tileU x0 x3 x5))) _ _ _
    (fun i => Ideal.exp (decayLog (vAt (fun j => x7 (ix2 0 j)) (fun n j => x6 (ix2 n j)) U (n + i)) (fun n k l => x8 (ix3 n k l)) (fun j => x7 (ix2 1 j)) (fun j => x7 (ix2 3 j)) j))
    (fun i => stepIn (vAt (fun j => x7 (ix2 0 j)) (fun n j => x6 (ix2 n j)) U (n + i)) (fun n k l => x8 (ix3 n k l)) (fun n k l => x9 (ix3 n k l)) (fun j => x7 (ix2 1 j)) (fun j => x7 (ix2 2 j)) (fun j => x7 (ix2 3 j)) j)
    j (h (ix2 0 j)) hd (fun q k => (hi q k).trans (by
      unfold stepIn
      rw [show tileV x0 x3 x5 x6 x7 (ext P (tileU x0 x3 x5)) (ix2 ⟨8 * q.val + k.val, by omega⟩ j) = _ from congrFun (hv _) j]
      rfl)) (fun i => decay_real (logDecay_nonpos _ _))
  constructor
  · unfold tileH
    refine (carry32_at _ _ _ _ j).trans ((hf 32 (by omega)).trans ?_)
    rw [hh]
    exact hs_add _ _ _ _ _ _ _ _ _ _ _
  · intro y0 y1
    refine (c2 _ _ _ _ j).trans ((hf 2 (by omega)).trans ?_)
    rw [hh]
    exact hs_add _ _ _ _ _ _ _ _ _ _ _

end Tile
end Cert.RecRows
end
-- ==== Proof.RecStep.lean ====
/-
  The recurrence over the prompt: the reference's state after each step is the recurrence from the sequence's projected rows.
-/
module

public import proofs.«01_k».proof.Proof.LruValue
public import proofs.«01_k».proof.Proof.RecTile
public import proofs.«01_k».proof.Proof.Gen.RecRefIdeal.Step
public import Idealize.ShloMosaic.Lib.WordCmp
public import Idealize.ShloMosaic.Lib.Pipeline.ValueKit

@[expose] public section

set_option maxRecDepth 16384

noncomputable section

namespace Cert.RecRows

open Idealize.ShloMosaic Idealize.ShloMosaic.TcCoe Cert.Rows Cert.LruRows

section Spec
variable (x0 : Vec Ideal ⟨2, ![17920, 1024]⟩ .f32) (x3 : Vec Ideal ⟨3, ![2, 6, 1024]⟩ .f32) (x5 : Vec Ideal ⟨3, ![1, 1024, 1024]⟩ .f32)
  (x6 : Vec Ideal ⟨3, ![1, 4, 1024]⟩ .f32) (x7 : Vec Ideal ⟨2, ![1, 1024]⟩ .f32) (x8 : Vec Ideal ⟨4, ![1, 4, 256, 256]⟩ .f32)
  (x9 : Vec Ideal ⟨2, ![1, 1024]⟩ .f32) (x10 : Vec Ideal ⟨4, ![1, 4, 256, 256]⟩ .f32) (x11 x12 : Vec Ideal ⟨2, ![1, 1024]⟩ .f32)

/-- The projected rows of a prompt sequence; its rows start at a multiple of 8448. -/
def U (s n : ℕ) (j : Fin 1024) : EReal :=
  if h : s * 8448 + n < 17920 then uRow x0 x3 x5 ⟨s * 8448 + n, h⟩ j else 0

/-- A prompt sequence's state after `n` steps. -/
def HS (s n : ℕ) (j : Fin 1024) : EReal :=
  hs (fun j => x7 (ix2 0 j)) (fun n j => x6 (ix3 0 n j)) (U x0 x3 x5 s) (fun n k l => x8 (ix4 0 n k l)) (fun n k l => x10 (ix4 0 n k l))
    (fun j => x9 (ix2 0 j)) (fun j => x11 (ix2 0 j)) (fun j => x12 (ix2 0 j)) n j

/-- The state after each prompt sequence. -/
def GR : Vec Ideal ⟨3, ![2, 1, 1024]⟩ .f32 := fun i => HS x0 x3 x5 x6 x7 x8 x9 x10 x11 x12 (i 0).val 8208 (i 2)

end Spec

section Ref
open Cert.RecRefIdeal Cert.RecRefIdeal.Step

variable (x0 : Vec Ideal S17920x1024 .f32) (x3 : Vec Ideal S2x6x1024 .f32) (x5 : Vec Ideal S1x1024x1024 .f32) (x6 : Vec Ideal S1x4x1024 .f32)
  (x7 : Vec Ideal S1x1024 .f32) (x8 : Vec Ideal S1x4x256x256 .f32) (x9 : Vec Ideal S1x1024 .f32) (x10 : Vec Ideal S1x4x256x256 .f32) (x11 x12 : Vec Ideal S1x1024 .f32)

theorem ref_u (r : Fin 17920) (j : Fin 1024) : A_main_v16 (F := Ideal) x0 x3 x5 x6 x7 x8 x9 x10 x11 x12 (ix2 r j) = uRow x0 x3 x5 r j := by
  pointwise [uRow, rms, lin, A_main_v0, A_main_v1, A_main_v2, A_main_v3, A_main_v4, A_main_v6, A_main_v8, A_main_v9, A_main_v10, A_main_v11, A_main_v12, A_main_v13, A_main_v14, A_main_v15, A_main_v16, K_main_v5, K_main_v7, K_main_cst, K_main_cst_0, K_main_cst_1]

theorem ref_up (s : Fin 2) (n : Fin 8211) (j : Fin 1024) : A_main_v23 (F := Ideal) x0 x3 x5 x6 x7 x8 x9 x10 x11 x12 (ix3 s n j) = pu (U x0 x3 x5 s.val) n.val j := by
  have h1 := n.isLt
  have h2 := s.isLt
  pointwise [A_main_v23, A_main_v19, A_main_v18, A_main_v17, K_main_v20, K_main_cst_2, ref_u, pu]
  by_cases h : n.val < 3
  · rw [dif_pos h, if_pos h]
  · rw [dif_neg h, if_neg h, U, dif_pos (by omega)]

theorem ref_v (s : Fin 2) (n : Fin 8208) (j : Fin 1024) : A_main_v53 (F := Ideal) x0 x3 x5 x6 x7 x8 x9 x10 x11 x12 (ix3 s n j) = (vAt (fun j => x7 (ix2 0 j)) (fun n j => x6 (ix3 0 n j)) (U x0 x3 x5 s.val) n.val) j := by
  pointwise [vAt, conv, A_main_v21, A_main_v22, A_main_v24, A_main_v25, A_main_v26, A_main_v27, A_main_v28, A_main_v29, A_main_v30, A_main_v31, A_main_v32, A_main_v33, A_main_v34, A_main_v35, A_main_v36, A_main_v37, A_main_v38, A_main_v39, A_main_v40, A_main_v41, A_main_v42, A_main_v43, A_main_v44, A_main_v45, A_main_v46, A_main_v47, A_main_v48, A_main_v49, A_main_v50, A_main_v51, A_main_v52, A_main_v53, ref_up]
  try simp only [Nat.add_comm 1, Nat.add_comm 2, Nat.add_comm 3]

theorem ref_r (s : Fin 2) (n : Fin 8208) (j : Fin 1024) : A_main_v65 (F := Ideal) x0 x3 x5 x6 x7 x8 x9 x10 x11 x12 (ix3 s n j) =
    blockLin (vAt (fun j => x7 (ix2 0 j)) (fun n j => x6 (ix3 0 n j)) (U x0 x3 x5 s.val) n.val) (fun n k l => x8 (ix4 0 n k l)) j + x9 (ix2 0 j) := by
  pointwise [A_main_v54, A_main_v55, A_main_v59, A_main_v60, A_main_v61, A_main_v62, A_main_v63, A_main_v64, A_main_v65, ref_v]
  unfold blockLin
  simp only [mul_comm (x8 _), Nat.mul_comm _ 256]

theorem ref_i (s : Fin 2) (n : Fin 8208) (j : Fin 1024) : A_main_v77 (F := Ideal) x0 x3 x5 x6 x7 x8 x9 x10 x11 x12 (ix3 s n j) =
    blockLin (vAt (fun j => x7 (ix2 0 j)) (fun n j => x6 (ix3 0 n j)) (U x0 x3 x5 s.val) n.val) (fun n k l => x10 (ix4 0 n k l)) j + x11 (ix2 0 j) := by
  pointwise [A_main_v56, A_main_v57, A_main_v59, A_main_v72, A_main_v73, A_main_v74, A_main_v75, A_main_v76, A_main_v77, ref_v]
  unfold blockLin
  simp only [mul_comm (x10 _), Nat.mul_comm _ 256]

theorem ref_sig (j : Fin 1024) : A_main_v94 (F := Ideal) x0 x3 x5 x6 x7 x8 x9 x10 x11 x12 (ix1 j) = logSig (x12 (ix2 0 j)) := by
  pointwise [logSig, A_main_v58, A_main_v86, A_main_v88, A_main_v89, A_main_v90, A_main_v91, A_main_v92, A_main_v93, A_main_v94, K_main_v87, K_main_cst_8]
  show -(max (-x12 (ix2 0 j)) 0 + Ideal.log1p (Ideal.exp (-max (x12 (ix2 0 j)) (-x12 (ix2 0 j))))) = _
  rfl

theorem ref_la (s : Fin 2) (n : Fin 8208) (j : Fin 1024) : A_main_v97 (F := Ideal) x0 x3 x5 x6 x7 x8 x9 x10 x11 x12 (ix3 s n j) =
    decayLog (vAt (fun j => x7 (ix2 0 j)) (fun n j => x6 (ix3 0 n j)) (U x0 x3 x5 s.val) n.val) (fun n k l => x8 (ix4 0 n k l)) (fun j => x9 (ix2 0 j)) (fun j => x12 (ix2 0 j)) j := by
  pointwise [decayLog, logDecay, A_main_v66, A_main_v67, A_main_v69, A_main_v71, A_main_v85, A_main_v95, A_main_v96, A_main_v97, K_main_v68, K_main_v70, K_main_v84, K_main_cst_3, K_main_cst_4, K_main_cst_7, ref_r, ref_sig, ofBits_eight]
  rfl

theorem ref_a (s : Fin 2) (n : Fin 8208) (j : Fin 1024) : A_main_v107 (F := Ideal) x0 x3 x5 x6 x7 x8 x9 x10 x11 x12 (ix3 n s j) =
    Ideal.exp (decayLog (vAt (fun j => x7 (ix2 0 j)) (fun n j => x6 (ix3 0 n j)) (U x0 x3 x5 s.val) n.val) (fun n k l => x8 (ix4 0 n k l)) (fun j => x9 (ix2 0 j)) (fun j => x12 (ix2 0 j)) j) := by
  pointwise [A_main_v98, A_main_v107, ref_la]

theorem ref_b (s : Fin 2) (n : Fin 8208) (j : Fin 1024) : A_main_v108 (F := Ideal) x0 x3 x5 x6 x7 x8 x9 x10 x11 x12 (ix3 n s j) =
    stepIn (vAt (fun j => x7 (ix2 0 j)) (fun n j => x6 (ix3 0 n j)) (U x0 x3 x5 s.val) n.val) (fun n k l => x8 (ix4 0 n k l)) (fun n k l => x10 (ix4 0 n k l))
      (fun j => x9 (ix2 0 j)) (fun j => x11 (ix2 0 j)) (fun j => x12 (ix2 0 j)) j := by
  pointwise [stepIn, inScale, A_main_v78, A_main_v79, A_main_v81, A_main_v83, A_main_v100, A_main_v101, A_main_v102, A_main_v103, A_main_v104, A_main_v105, A_main_v108, K_main_v80, K_main_v82, K_main_v99, K_main_cst_5, K_main_cst_6, K_main_cst_9, ref_i, ref_la, ref_v, ofBits_two]
  rfl

/-- The reference's states. -/
def iter (s : State Ideal) : ℕ → State Ideal
  | 0 => s
  | n + 1 => step n (iter s n)

theorem iter_rows (s : State Ideal) (n : ℕ) : (iter s n).main_v109_0 = s.main_v109_0 ∧ (iter s n).main_v109_1 = s.main_v109_1 := by
  induction n with
  | zero => exact ⟨rfl, rfl⟩
  | succ n ih => exact ih

theorem word_int (n : ℕ) (hn : n < 8208) : (BitVec.ofNat 32 n).toInt = (n : ℤ) := by
  rw [BitVec.toInt_eq_toNat_of_lt (by rw [BitVec.toNat_ofNat]; omega), BitVec.toNat_ofNat]
  omega

theorem row_slices (n : ℕ) (hn : n < 8208) : S8208x2x1024.Slices ![n, 0, 0] S1x2x1024 := by
  refine ⟨rfl, fun a => ?_⟩
  fin_cases a
  · show n + 1 ≤ 8208
    omega
  · show 0 + 2 ≤ 2
    omega
  · show 0 + 1024 ≤ 1024
    omega

theorem b2_eq (n : ℕ) (hn : n < 8208) (s : State Ideal) : b2 n s = extractStridedSlice S1x2x1024 ![n, 0, 0] s.main_v109_0 (row_slices n hn) := by
  refine WordCmp.dynamicSlice_eq_extract _ _ _ _ _ _ fun a => ?_
  fin_cases a
  · exact word_int n hn
  · rfl
  · rfl
theorem b6_eq (n : ℕ) (hn : n < 8208) (s : State Ideal) : b6 n s = extractStridedSlice S1x2x1024 ![n, 0, 0] s.main_v109_1 (row_slices n hn) := by
  refine WordCmp.dynamicSlice_eq_extract _ _ _ _ _ _ fun a => ?_
  fin_cases a
  · exact word_int n hn
  · rfl
  · rfl

theorem step_at (n : ℕ) (hn : n < 8208) (st : State Ideal) (s : Fin 2) (j : Fin 1024) : (step n st).main_v109_3 (ix2 s j) =
    st.main_v109_0 (ix3 ⟨n, hn⟩ s j) * st.main_v109_3 (ix2 s j) + st.main_v109_1 (ix3 ⟨n, hn⟩ s j) := by
  pointwise [step, b9, b8, b7, b3, b2_eq n hn, b6_eq n hn]

theorem iter_state (s : Fin 2) (j : Fin 1024) (n : ℕ) (hn : n ≤ 8208) :
    (iter (init (F := Ideal) x0 x3 x5 x6 x7 x8 x9 x10 x11 x12) n).main_v109_3 (ix2 s j) = HS x0 x3 x5 x6 x7 x8 x9 x10 x11 x12 s.val n j := by
  induction n with
  | zero =>
    show K_main_v106 (F := Ideal) (ix2 s j) = 0
    pointwise [K_main_v106, K_main_cst_10]
  | succ n ih =>
    refine (step_at n (by omega) _ s j).trans ?_
    rw [(iter_rows _ n).1, (iter_rows _ n).2, ih (by omega)]
    refine (congrArg₂ (fun a b => a * _ + b) (ref_a x0 x3 x5 x6 x7 x8 x9 x10 x11 x12 s ⟨n, by omega⟩ j) (ref_b x0 x3 x5 x6 x7 x8 x9 x10 x11 x12 s ⟨n, by omega⟩ j)).trans ?_
    rfl

theorem ref_rec : R_main_v110 (iter (init (F := Ideal) x0 x3 x5 x6 x7 x8 x9 x10 x11 x12) 8208) = GR x0 x3 x5 x6 x7 x8 x9 x10 x11 x12 := by
  funext i
  idx_vars i
  pointwise [R_main_v110, iter_state, GR]

end Ref

end Cert.RecRows
end
-- ==== Proof.RecValue.lean ====
/-
  The recurrence over the prompt: the kernel's states after the prompt are the reference's.
-/
module

public import proofs.«01_k».proof.Proof.RecStep
public import Idealize.ShloMosaic.Lib.Pipeline.ValueKit
public import Idealize.ShloMosaic.Lib.StableHlo.ReadAt

@[expose] public section

set_option maxRecDepth 16384

noncomputable section

namespace Cert.RecRows

open Idealize.ShloMosaic Idealize.ShloMosaic.TcCoe Cert.Rows Cert.LruRows
open Cert.RecIdeal Cert.RecIdeal.Gen

/-- Where each window's block stands at a grid point. -/
theorem idx : ∀ t : Fin cfg0.N, win0_0.index t = ![t.val, 0] ∧ win0_3.index t = ![0, 0] ∧ win0_5.index t = ![0, 0]
    ∧ win0_6.index t = ![0, 0] ∧ win0_7.index t = ![0, 0] ∧ win0_8.index t = ![0, 0, 0] ∧ win0_9.index t = ![0, 0, 0] :=
  (by decide +kernel : ∀ t : Fin grid0.N, _)
theorem idx_last : ∀ t : Fin cfg0.N, win0_12.index t = ![(lastTile t).val / 33, 0, 0] :=
  (by decide +kernel : ∀ t : Fin grid0.N, _)
theorem last_tile : ∀ t : Fin cfg0.N, (lastTile t).val = 33 * ((lastTile t).val / 33) + 32 :=
  (by decide +kernel : ∀ t : Fin grid0.N, _)

variable (m : (ℓ : Loc nD τ sig) → Buf (Elt Ideal) ℓ) (c : Dev nD)

theorem lt70 (t : Fin cfg0.N) : t.val < 70 := lt_of_lt_of_eq t.isLt (show cfg0.N = 70 from N_0)
theorem blk0 (t : Fin cfg0.N) (r : Fin 256) (k : Fin 1024) : iblk m c 0 t (ix2 r k) =
    (m ((c : Thread nD τ).loc main_arg0)) (ix2 ⟨t.val * 256 + r.val, by have := r.isLt; have := lt70 t; omega⟩ k) := by
  blk_point [iblk, V, List.flatten_cons, List.flatten_nil, List.append_nil, List.cons_append, List.nil_append, hostOps0, hostOps0_1, hostOps0_2, idx t]
theorem gains (k : Fin 1024) : V m c main_v16 (ix2 0 k) = (m ((c : Thread nD τ).loc main_arg3)) (ix3 0 2 k) := by
  simp only [V, List.flatten_cons, List.flatten_nil, List.append_nil, List.cons_append, List.nil_append, hostOps0, hostOps0_1, hostOps0_2]
  after_reads_at
theorem proj (k l : Fin 1024) : V m c main_v20 (ix2 k l) = (m ((c : Thread nD τ).loc main_arg5)) (ix3 0 k l) := by
  simp only [V, List.flatten_cons, List.flatten_nil, List.append_nil, List.cons_append, List.nil_append, hostOps0, hostOps0_1, hostOps0_2]
  after_reads_at
theorem taps (n : Fin 4) (l : Fin 1024) : V m c main_v21 (ix2 n l) = (m ((c : Thread nD τ).loc main_arg6)) (ix3 0 n l) := by
  simp only [V, List.flatten_cons, List.flatten_nil, List.append_nil, List.cons_append, List.nil_append, hostOps0, hostOps0_1, hostOps0_2]
  after_reads_at
theorem vec_0 (l : Fin 1024) : V m c main_v14 (ix2 0 l) = (m ((c : Thread nD τ).loc main_arg7)) (ix2 0 l) := by
  simp only [V, List.flatten_cons, List.flatten_nil, List.append_nil, List.cons_append, List.nil_append, hostOps0, hostOps0_1, hostOps0_2]
  after_reads_at
  rw [StableHlo.unary_result]
  after_reads_at
theorem vec_1 (l : Fin 1024) : V m c main_v14 (ix2 1 l) = (m ((c : Thread nD τ).loc main_arg9)) (ix2 0 l) := by
  simp only [V, List.flatten_cons, List.flatten_nil, List.append_nil, List.cons_append, List.nil_append, hostOps0, hostOps0_1, hostOps0_2]
  after_reads_at
  rw [StableHlo.unary_result]
  after_reads_at
theorem vec_2 (l : Fin 1024) : V m c main_v14 (ix2 2 l) = (m ((c : Thread nD τ).loc main_arg11)) (ix2 0 l) := by
  simp only [V, List.flatten_cons, List.flatten_nil, List.append_nil, List.cons_append, List.nil_append, hostOps0, hostOps0_1, hostOps0_2]
  after_reads_at
  rw [StableHlo.unary_result]
  after_reads_at
theorem vec_3 (l : Fin 1024) : V m c main_v14 (ix2 3 l) = (m ((c : Thread nD τ).loc main_arg12)) (ix2 0 l) := by
  simp only [V, List.flatten_cons, List.flatten_nil, List.append_nil, List.cons_append, List.nil_append, hostOps0, hostOps0_1, hostOps0_2]
  after_reads_at
  rw [StableHlo.unary_result]
  after_reads_at
theorem gate_a (n : Fin 4) (k l : Fin 256) : V m c main_v23 (ix3 n k l) = (m ((c : Thread nD τ).loc main_arg8)) (ix4 0 n k l) := by
  simp only [V, List.flatten_cons, List.flatten_nil, List.append_nil, List.cons_append, List.nil_append, hostOps0, hostOps0_1, hostOps0_2]
  after_reads_at
theorem gate_x (n : Fin 4) (k l : Fin 256) : V m c main_v25 (ix3 n k l) = (m ((c : Thread nD τ).loc main_arg10)) (ix4 0 n k l) := by
  simp only [V, List.flatten_cons, List.flatten_nil, List.append_nil, List.cons_append, List.nil_append, hostOps0, hostOps0_1, hostOps0_2]
  after_reads_at
theorem blk3 (t : Fin cfg0.N) (k : Fin 1024) : iblk m c 3 t (ix2 0 k) = (m ((c : Thread nD τ).loc main_arg3)) (ix3 0 2 k) := by
  show V m c main_v16 (((cfg0.win 3).blk t).view.emb (ix2 0 k)) = _
  have e : ((cfg0.win 3).blk t).view.emb (ix2 0 k) = (ix2 0 k) := by
    blk_ext [idx t]
  exact (congrArg (V m c main_v16) e).trans (gains m c k)
theorem blk5 (t : Fin cfg0.N) (k l : Fin 1024) : iblk m c 5 t (ix2 k l) = (m ((c : Thread nD τ).loc main_arg5)) (ix3 0 k l) := by
  show V m c main_v20 (((cfg0.win 5).blk t).view.emb (ix2 k l)) = _
  have e : ((cfg0.win 5).blk t).view.emb (ix2 k l) = (ix2 k l) := by
    blk_ext [idx t]
  exact (congrArg (V m c main_v20) e).trans (proj m c k l)
theorem blk6 (t : Fin cfg0.N) (n : Fin 4) (l : Fin 1024) : iblk m c 6 t (ix2 n l) = (m ((c : Thread nD τ).loc main_arg6)) (ix3 0 n l) := by
  show V m c main_v21 (((cfg0.win 6).blk t).view.emb (ix2 n l)) = _
  have e : ((cfg0.win 6).blk t).view.emb (ix2 n l) = (ix2 n l) := by
    blk_ext [idx t]
  exact (congrArg (V m c main_v21) e).trans (taps m c n l)
theorem blk7_0 (t : Fin cfg0.N) (l : Fin 1024) : iblk m c 7 t (ix2 0 l) = (m ((c : Thread nD τ).loc main_arg7)) (ix2 0 l) := by
  show V m c main_v14 (((cfg0.win 7).blk t).view.emb (ix2 0 l)) = _
  have e : ((cfg0.win 7).blk t).view.emb (ix2 0 l) = (ix2 0 l) := by
    blk_ext [idx t]
  exact (congrArg (V m c main_v14) e).trans (vec_0 m c l)
theorem blk7_1 (t : Fin cfg0.N) (l : Fin 1024) : iblk m c 7 t (ix2 1 l) = (m ((c : Thread nD τ).loc main_arg9)) (ix2 0 l) := by
  show V m c main_v14 (((cfg0.win 7).blk t).view.emb (ix2 1 l)) = _
  have e : ((cfg0.win 7).blk t).view.emb (ix2 1 l) = (ix2 1 l) := by
    blk_ext [idx t]
  exact (congrArg (V m c main_v14) e).trans (vec_1 m c l)
theorem blk7_2 (t : Fin cfg0.N) (l : Fin 1024) : iblk m c 7 t (ix2 2 l) = (m ((c : Thread nD τ).loc main_arg11)) (ix2 0 l) := by
  show V m c main_v14 (((cfg0.win 7).blk t).view.emb (ix2 2 l)) = _
  have e : ((cfg0.win 7).blk t).view.emb (ix2 2 l) = (ix2 2 l) := by
    blk_ext [idx t]
  exact (congrArg (V m c main_v14) e).trans (vec_2 m c l)
theorem blk7_3 (t : Fin cfg0.N) (l : Fin 1024) : iblk m c 7 t (ix2 3 l) = (m ((c : Thread nD τ).loc main_arg12)) (ix2 0 l) := by
  show V m c main_v14 (((cfg0.win 7).blk t).view.emb (ix2 3 l)) = _
  have e : ((cfg0.win 7).blk t).view.emb (ix2 3 l) = (ix2 3 l) := by
    blk_ext [idx t]
  exact (congrArg (V m c main_v14) e).trans (vec_3 m c l)
theorem blk8 (t : Fin cfg0.N) (n : Fin 4) (k l : Fin 256) : iblk m c 8 t (ix3 n k l) = (m ((c : Thread nD τ).loc main_arg8)) (ix4 0 n k l) := by
  show V m c main_v23 (((cfg0.win 8).blk t).view.emb (ix3 n k l)) = _
  have e : ((cfg0.win 8).blk t).view.emb (ix3 n k l) = (ix3 n k l) := by
    blk_ext [idx t]
  exact (congrArg (V m c main_v23) e).trans (gate_a m c n k l)
theorem blk9 (t : Fin cfg0.N) (n : Fin 4) (k l : Fin 256) : iblk m c 9 t (ix3 n k l) = (m ((c : Thread nD τ).loc main_arg10)) (ix4 0 n k l) := by
  show V m c main_v25 (((cfg0.win 9).blk t).view.emb (ix3 n k l)) = _
  have e : ((cfg0.win 9).blk t).view.emb (ix3 n k l) = (ix3 n k l) := by
    blk_ext [idx t]
  exact (congrArg (V m c main_v25) e).trans (gate_x m c n k l)
/-- A row of a tile, projected. -/
theorem tile_u (t : Fin cfg0.N) (r : Fin 256) (e : Fin 17920) (he : e.val = t.val * 256 + r.val) (j : Fin 1024) :
    lin (rms (fun k => iblk m c 0 t (ix2 r k)) (fun k => iblk m c 3 t (ix2 0 k))) (fun k l => iblk m c 5 t (ix2 k l)) j
      = uRow (m ((c : Thread nD τ).loc main_arg0)) (m ((c : Thread nD τ).loc main_arg3)) (m ((c : Thread nD τ).loc main_arg5)) e j := by
  have hr : e = ⟨t.val * 256 + r.val, by have := r.isLt; have := lt70 t; omega⟩ := Fin.ext he
  rw [hr]
  unfold uRow
  simp only [blk0 m c t, blk3 m c t, blk5 m c t]

/-- A row of a sequence's tile, projected. -/
theorem tile_U (t : Fin cfg0.N) (s q : ℕ) (ht : t.val = 33 * s + q) (r : Fin 256) (j : Fin 1024) :
    tileU (iblk m c 0 t) (iblk m c 3 t) (iblk m c 5 t) (ix2 r j) = U (m ((c : Thread nD τ).loc main_arg0)) (m ((c : Thread nD τ).loc main_arg3)) (m ((c : Thread nD τ).loc main_arg5)) s (256 * q + r.val) j := by
  have h := lt70 t
  have hr := r.isLt
  rw [tileU_at, U, dif_pos (by omega)]
  exact tile_u m c t r _ (by show s * 8448 + (256 * q + r.val) = t.val * 256 + r.val; omega) j

/-- A tile entered with its sequence's rows and state so far. -/
theorem tile_state (t : Fin cfg0.N) (s q : ℕ) (ht : t.val = 33 * s + q)
    (hP : ∀ (i : Fin 3) (j : Fin 1024), (entry m c t.val).1 (ix2 ⟨5 + i.val, by omega⟩ j) = pu (U (m ((c : Thread nD τ).loc main_arg0)) (m ((c : Thread nD τ).loc main_arg3)) (m ((c : Thread nD τ).loc main_arg5)) s) (256 * q + i.val) j)
    (hh : ∀ j : Fin 1024, (entry m c t.val).2 (ix2 0 j) = HS (m ((c : Thread nD τ).loc main_arg0)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) s (256 * q) j) (j : Fin 1024) :
    tileH (iblk m c 0 t) (iblk m c 3 t) (iblk m c 5 t) (iblk m c 6 t) (iblk m c 7 t) (iblk m c 8 t) (iblk m c 9 t) (ext (entry m c t.val).1 (tileU (iblk m c 0 t) (iblk m c 3 t) (iblk m c 5 t))) (entry m c t.val).2 (ix2 0 j) = HS (m ((c : Thread nD τ).loc main_arg0)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) s (256 * q + 256) j ∧
    ∀ y0 y1 : Fin 1, tileL (iblk m c 0 t) (iblk m c 3 t) (iblk m c 5 t) (iblk m c 6 t) (iblk m c 7 t) (iblk m c 8 t) (iblk m c 9 t) (ext (entry m c t.val).1 (tileU (iblk m c 0 t) (iblk m c 3 t) (iblk m c 5 t))) (entry m c t.val).2 (ix3 y0 y1 j) = HS (m ((c : Thread nD τ).loc main_arg0)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) s (256 * q + 16) j := by
  have r := tile_run (iblk m c 0 t) (iblk m c 3 t) (iblk m c 5 t) (iblk m c 6 t) (iblk m c 7 t) (iblk m c 8 t) (iblk m c 9 t) (entry m c t.val).1 (U (m ((c : Thread nD τ).loc main_arg0)) (m ((c : Thread nD τ).loc main_arg3)) (m ((c : Thread nD τ).loc main_arg5)) s) (256 * q)
    (tile_U m c t s q ht) hP (entry m c t.val).2 j
  simp only [blk3 m c t, blk5 m c t, blk6 m c t, blk7_0 m c t, blk7_1 m c t, blk7_2 m c t, blk7_3 m c t, blk8 m c t, blk9 m c t] at r
  exact r (hh j)

/-- What each tile of a sequence is entered with. -/
theorem entry_at (s : Fin 2) (q : ℕ) (hq : q ≤ 32) :
    (∀ (i : Fin 3) (j : Fin 1024), (entry m c (33 * s.val + q)).1 (ix2 ⟨5 + i.val, by omega⟩ j) = pu (U (m ((c : Thread nD τ).loc main_arg0)) (m ((c : Thread nD τ).loc main_arg3)) (m ((c : Thread nD τ).loc main_arg5)) s.val) (256 * q + i.val) j) ∧
    ∀ j : Fin 1024, (entry m c (33 * s.val + q)).2 (ix2 0 j) = HS (m ((c : Thread nD τ).loc main_arg0)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) s.val (256 * q) j := by
  have h2 := s.isLt
  induction q with
  | zero =>
    rw [entry_first m c (33 * s.val + 0) (by omega)]
    refine ⟨fun i j => ?_, fun j => ?_⟩
    · unfold pu
      rw [if_pos (by omega)]
      show k0_pay8 (F := Ideal) (ix2 (n0 := 8) ⟨5 + i.val, by omega⟩ j) = 0
      pointwise [k0_pay8]
    · show k0_pay9 (F := Ideal) (ix2 0 j) = 0
      pointwise [k0_pay9]
  | succ q ih =>
    obtain ⟨hP, hh⟩ := ih (by omega)
    have hN : 33 * s.val + q < cfg0.N := lt_of_lt_of_eq (by omega) (show 70 = cfg0.N from N_0.symm)
    have e := entry_succ m c ⟨33 * s.val + q, hN⟩ (by show 33 * s.val + q + 1 ≠ 33; omega)
    have e' : entry m c (33 * s.val + (q + 1)) = _ := e
    rw [e']
    refine ⟨fun i j => ?_, fun j => ?_⟩
    · refine (tailU_at _ _ _ _ j).trans ((tile_U m c ⟨33 * s.val + q, hN⟩ s.val q rfl _ j).trans ?_)
      unfold pu
      rw [if_neg (by omega)]
      congr 1
      show 256 * q + (248 + (5 + i.val)) = 256 * (q + 1) + i.val - 3
      omega
    · exact (tile_state m c ⟨33 * s.val + q, hN⟩ s.val q rfl hP hh j).1

/-- The states after the prompt. -/
theorem arr_12 : (dats m 0 c).arrAt 12 (cfgs 0).N = GR (m ((c : Thread nD τ).loc main_arg0)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  refine (dats m 0 c).arrAt_eq_of_covers 12 _ (by decide +kernel) fun t hf y => ?_
  have i0 := idx_last t
  have hl := last_tile t
  have h70 := lt70 (lastTile t)
  blk_simp
  rw [after0_12]
  idx_vars y
  have h1 := y0.isLt
  have h2 := y1.isLt
  have e : ((cfg0.win 12).blk t).view.emb (ix3 y0 y1 y2) = ix3 ⟨(lastTile t).val / 33, by omega⟩ y1 y2 := by
    blk_ext [i0]
  obtain ⟨hP, hh⟩ := entry_at m c ⟨(lastTile t).val / 33, by omega⟩ 32 (by omega)
  simp only [← hl] at hP hh
  refine ((tile_state m c (lastTile t) _ 32 hl hP hh y2).2 y0 y1).trans ?_
  exact (congrArg (GR (m ((c : Thread nD τ).loc main_arg0)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))) e).symm

end Cert.RecRows
end
-- ==== Proof.lean ====
module

public import proofs.«01_k».proof.Defs
public import proofs.«01_k».proof.Proof.Gen.Ffn.Frame
public import proofs.«01_k».proof.Proof.Gen.FfnIdeal.Value
public import proofs.«01_k».proof.Proof.Gen.FfnRefIdeal.Run
public import proofs.«01_k».proof.Proof.Gen.FfnRefIdeal.Read
public import proofs.«01_k».proof.Proof.Gen.FfnQ.Frame
public import proofs.«01_k».proof.Proof.Gen.FfnQIdeal.Value
public import proofs.«01_k».proof.Proof.Gen.FfnQRefIdeal.Run
public import proofs.«01_k».proof.Proof.Gen.FfnQRefIdeal.Read
public import proofs.«01_k».proof.Proof.FfnValue
public import proofs.«01_k».proof.Proof.FfnQValue
public import proofs.«01_k».proof.Proof.KvRun
public import proofs.«01_k».proof.Proof.KvValue
public import proofs.«01_k».proof.Proof.Gen.KvRefIdeal.Run
public import proofs.«01_k».proof.Proof.Gen.KvRefIdeal.Read
public import proofs.«01_k».proof.Proof.FfnOutRun
public import proofs.«01_k».proof.Proof.FfnOutValue
public import proofs.«01_k».proof.Proof.Gen.FfnOutRefIdeal.Run
public import proofs.«01_k».proof.Proof.Gen.FfnOutRefIdeal.Read
public import proofs.«01_k».proof.Proof.LruRun
public import proofs.«01_k».proof.Proof.LruValue
public import proofs.«01_k».proof.Proof.Gen.LruRefIdeal.Run
public import proofs.«01_k».proof.Proof.Gen.LruRefIdeal.Read
public import proofs.«01_k».proof.Proof.RecRun
public import proofs.«01_k».proof.Proof.RecValue
public import proofs.«01_k».proof.Proof.Gen.RecRefIdeal.StepRun
public import Idealize.ShloMosaic.Lib.Quiescent

/-!
The claims of `Defs.lean`, assembled from the generated runs and from the value modules.
-/

@[expose] public section

noncomputable section

namespace Cert.Proof

open Idealize.ShloMosaic Idealize.ShloMosaic.Rounds Idealize.SL.Sem

/-- The plain feed-forward block runs, keeps its arguments and ends with no counter raised. -/
theorem ffnRef_frame : Cert.quiescent_FfnRefIdeal (hFfnRefIdeal := Cert.FfnRefIdeal.Gen.facts) := fun m ρ _ =>
  (θ_run Cert.FfnRefIdeal.defs _ _).mono (fun r h => ⟨fun c => (h c).2, sem_eq_zero_of_no_sems (by decide) r.2⟩)
    (Cert.FfnRefIdeal.Value.run (F := Ideal) m ρ)

/-- The plain feed-forward block with the query projection runs, keeps its arguments and ends with no counter raised. -/
theorem ffnQRef_frame : Cert.quiescent_FfnQRefIdeal (hFfnQRefIdeal := Cert.FfnQRefIdeal.Gen.facts) := fun m ρ _ =>
  (θ_run Cert.FfnQRefIdeal.defs _ _).mono (fun r h => ⟨fun c => (h c).2.2.2, sem_eq_zero_of_no_sems (by decide) r.2⟩)
    (Cert.FfnQRefIdeal.Value.run (F := Ideal) m ρ)

/-- The feed-forward kernel and the plain feed-forward block give the same array. -/
theorem ffn_algebraic : Cert.algebraic_FfnIdeal_FfnRefIdeal (hFfnIdeal := Cert.FfnIdeal.Gen.facts)
    (hFfnRefIdeal := Cert.FfnRefIdeal.Gen.facts) := by
  intro m g m' g' _ ha
  refine ⟨fun c => Cert.FfnRows.G (m (c.tc.loc Cert.FfnIdeal.main_arg0)) (m (c.tc.loc Cert.FfnIdeal.main_arg1))
    (m (c.tc.loc Cert.FfnIdeal.main_arg2)) (m (c.tc.loc Cert.FfnIdeal.main_arg3)) (m (c.tc.loc Cert.FfnIdeal.main_arg4)),
    (θ_run Cert.FfnIdeal.defs _ _).mono (fun r h c => ?_) (Cert.FfnIdeal.Value.run_blocks m g),
    (θ_run Cert.FfnRefIdeal.defs _ _).mono (fun r h c => ?_) (Cert.FfnRefIdeal.Value.run m' g')⟩
  · exact ⟨(h c).1.trans (Cert.FfnRows.arr_eq m c), (h c).2⟩
  · obtain ⟨a0, a1, a2, a3, a4⟩ := ha c
    refine ⟨(h c).1.trans ((Cert.FfnRefIdeal.Read.val_main_v43_eq m' c).trans ?_), (h c).2⟩
    rw [a0, a1, a2, a3, a4]
    exact Cert.FfnRows.ref_eq _ _ _ _ _

/-- The feed-forward kernel with the query projection and its plain form give the same three arrays. -/
theorem ffnQ_algebraic : Cert.algebraic_FfnQIdeal_FfnQRefIdeal (hFfnQIdeal := Cert.FfnQIdeal.Gen.facts)
    (hFfnQRefIdeal := Cert.FfnQRefIdeal.Gen.facts) := by
  intro m g m' g' _ ha
  refine ⟨fun c => Cert.FfnQRows.GY (m (c.tc.loc Cert.FfnQIdeal.main_arg0)) (m (c.tc.loc Cert.FfnQIdeal.main_arg1))
      (m (c.tc.loc Cert.FfnQIdeal.main_arg2)) (m (c.tc.loc Cert.FfnQIdeal.main_arg3)) (m (c.tc.loc Cert.FfnQIdeal.main_arg4)),
    fun c => Cert.FfnQRows.GQ (m (c.tc.loc Cert.FfnQIdeal.main_arg0)) (m (c.tc.loc Cert.FfnQIdeal.main_arg1))
      (m (c.tc.loc Cert.FfnQIdeal.main_arg2)) (m (c.tc.loc Cert.FfnQIdeal.main_arg3)) (m (c.tc.loc Cert.FfnQIdeal.main_arg4))
      (m (c.tc.loc Cert.FfnQIdeal.main_arg5)),
    fun c => Cert.FfnQRows.GS (m (c.tc.loc Cert.FfnQIdeal.main_arg0)) (m (c.tc.loc Cert.FfnQIdeal.main_arg1))
      (m (c.tc.loc Cert.FfnQIdeal.main_arg2)) (m (c.tc.loc Cert.FfnQIdeal.main_arg3)) (m (c.tc.loc Cert.FfnQIdeal.main_arg4))
      (m (c.tc.loc Cert.FfnQIdeal.main_arg5)),
    (θ_run Cert.FfnQIdeal.defs _ _).mono (fun r h c => ?_) (Cert.FfnQIdeal.Value.run_blocks m g),
    (θ_run Cert.FfnQRefIdeal.defs _ _).mono (fun r h c => ?_) (Cert.FfnQRefIdeal.Value.run m' g')⟩
  · exact ⟨(h c).1.trans (Cert.FfnQRows.arr_y m c), (h c).2.1.trans (Cert.FfnQRows.arr_q m c),
      (h c).2.2.1.trans (Cert.FfnQRows.arr_s m c), (h c).2.2.2⟩
  · obtain ⟨a0, a1, a2, a3, a4, a5⟩ := ha c
    refine ⟨(h c).1.trans ((Cert.FfnQRefIdeal.Read.val_main_v43_eq m' c).trans ?_),
      (h c).2.1.trans ((Cert.FfnQRefIdeal.Read.val_main_v63_eq m' c).trans ?_),
      (h c).2.2.1.trans ((Cert.FfnQRefIdeal.Read.val_main_v64_eq m' c).trans ?_), (h c).2.2.2⟩
    · rw [a0, a1, a2, a3, a4]
      exact (Cert.FfnQRows.ref_eq _ _ _ _ _ (m (c.tc.loc Cert.FfnQIdeal.main_arg5))).1
    · rw [a0, a1, a2, a3, a4, a5]
      exact (Cert.FfnQRows.ref_eq _ _ _ _ _ _).2.1
    · rw [a0, a1, a2, a3, a4, a5]
      exact (Cert.FfnQRows.ref_eq _ _ _ _ _ _).2.2

/-- The key and value projection, written plainly, runs, keeps its arguments and ends with no counter raised. -/
theorem kvRef_frame : Cert.quiescent_KvRefIdeal (hKvRefIdeal := Cert.KvRefIdeal.Gen.facts) := fun m ρ _ =>
  (θ_run Cert.KvRefIdeal.defs _ _).mono (fun r h => ⟨fun c => (h c).2.2.2.2.2.2, sem_eq_zero_of_no_sems (by decide) r.2⟩)
    (Cert.KvRefIdeal.Value.run (F := Ideal) m ρ)

/-- The key and value projection and its plain form give the same 6 arrays. -/
theorem kv_algebraic : Cert.algebraic_KvIdeal_KvRefIdeal (hKvIdeal := Cert.KvIdeal.Gen.facts)
    (hKvRefIdeal := Cert.KvRefIdeal.Gen.facts) := by
  intro m g m' g' _ ha
  refine ⟨fun c => Cert.KvRows.GP (m (c.tc.loc Cert.KvIdeal.main_arg0)) (m (c.tc.loc Cert.KvIdeal.main_arg1)) (m (c.tc.loc Cert.KvIdeal.main_arg2)),
    fun c => Cert.KvRows.GP (m (c.tc.loc Cert.KvIdeal.main_arg0)) (m (c.tc.loc Cert.KvIdeal.main_arg1)) (m (c.tc.loc Cert.KvIdeal.main_arg3)),
    fun c => Cert.KvRows.GS (m (c.tc.loc Cert.KvIdeal.main_arg0)) (m (c.tc.loc Cert.KvIdeal.main_arg1)) (m (c.tc.loc Cert.KvIdeal.main_arg2)),
    fun c => Cert.KvRows.GS (m (c.tc.loc Cert.KvIdeal.main_arg0)) (m (c.tc.loc Cert.KvIdeal.main_arg1)) (m (c.tc.loc Cert.KvIdeal.main_arg3)),
    fun c => Cert.KvRows.GA (m (c.tc.loc Cert.KvIdeal.main_arg0)) (m (c.tc.loc Cert.KvIdeal.main_arg1)) (m (c.tc.loc Cert.KvIdeal.main_arg2)),
    fun c => Cert.KvRows.GA (m (c.tc.loc Cert.KvIdeal.main_arg0)) (m (c.tc.loc Cert.KvIdeal.main_arg1)) (m (c.tc.loc Cert.KvIdeal.main_arg3)),
    (θ_run Cert.KvIdeal.defs _ _).mono (fun r h c => ?_)
      (θ_run_and (Cert.KvIdeal.Gen.run_main m g) (Cert.KvIdeal.Gen.frame m g)),
    (θ_run Cert.KvRefIdeal.defs _ _).mono (fun r h c => ?_) (Cert.KvRefIdeal.Value.run m' g')⟩
  · exact ⟨(Pipeline.FramePost.out_eq h.1 c 4).trans (Cert.KvRows.arr_4 m c),
      (Pipeline.FramePost.out_eq h.1 c 5).trans (Cert.KvRows.arr_5 m c),
      (Pipeline.FramePost.out_eq h.1 c 6).trans (Cert.KvRows.arr_6 m c),
      (Pipeline.FramePost.out_eq h.1 c 7).trans (Cert.KvRows.arr_7 m c),
      (Pipeline.FramePost.out_eq h.1 c 8).trans (Cert.KvRows.arr_8 m c),
      (Pipeline.FramePost.out_eq h.1 c 9).trans (Cert.KvRows.arr_9 m c),
      h.2.1 c⟩
  · obtain ⟨a0, a1, a2, a3⟩ := ha c
    have e := Cert.KvRows.ref_eq (m (c.tc.loc Cert.KvIdeal.main_arg0)) (m (c.tc.loc Cert.KvIdeal.main_arg1)) (m (c.tc.loc Cert.KvIdeal.main_arg2)) (m (c.tc.loc Cert.KvIdeal.main_arg3))
    refine ⟨(h c).1.trans ((Cert.KvRefIdeal.Read.val_main_v17_eq _ _ _).trans ?_),
      (h c).2.1.trans ((Cert.KvRefIdeal.Read.val_main_v20_eq _ _ _).trans ?_),
      (h c).2.2.1.trans ((Cert.KvRefIdeal.Read.val_main_v21_eq _ _ _).trans ?_),
      (h c).2.2.2.1.trans ((Cert.KvRefIdeal.Read.val_main_v22_eq _ _ _).trans ?_),
      (h c).2.2.2.2.1.trans ((Cert.KvRefIdeal.Read.val_main_v23_eq _ _ _).trans ?_),
      (h c).2.2.2.2.2.1.trans ((Cert.KvRefIdeal.Read.val_main_v24_eq _ _ _).trans ?_), (h c).2.2.2.2.2.2⟩
    · rw [a0, a1, a2]; exact e.1
    · rw [a0, a1, a3]; exact e.2.1
    · rw [a0, a1, a2]; exact e.2.2.1
    · rw [a0, a1, a3]; exact e.2.2.2.1
    · rw [a0, a1, a2]; exact e.2.2.2.2.1
    · rw [a0, a1, a3]; exact e.2.2.2.2.2

/-- The attention output projection with its half step, written plainly, runs, keeps its arguments and ends with no counter raised. -/
theorem ffnOutRef_frame : Cert.quiescent_FfnOutRefIdeal (hFfnOutRefIdeal := Cert.FfnOutRefIdeal.Gen.facts) := fun m ρ _ =>
  (θ_run Cert.FfnOutRefIdeal.defs _ _).mono (fun r h => ⟨fun c => (h c).2.2, sem_eq_zero_of_no_sems (by decide) r.2⟩)
    (Cert.FfnOutRefIdeal.Value.run (F := Ideal) m ρ)

/-- The attention output projection with its half step and its plain form give the same 2 arrays. -/
theorem ffnOut_algebraic : Cert.algebraic_FfnOutIdeal_FfnOutRefIdeal (hFfnOutIdeal := Cert.FfnOutIdeal.Gen.facts)
    (hFfnOutRefIdeal := Cert.FfnOutRefIdeal.Gen.facts) := by
  intro m g m' g' _ ha
  refine ⟨fun c => Cert.FfnOutRows.GP (m (c.tc.loc Cert.FfnOutIdeal.main_arg0)) (m (c.tc.loc Cert.FfnOutIdeal.main_arg1)) (m (c.tc.loc Cert.FfnOutIdeal.main_arg3)) (m (c.tc.loc Cert.FfnOutIdeal.main_arg4)) (m (c.tc.loc Cert.FfnOutIdeal.main_arg5)) (m (c.tc.loc Cert.FfnOutIdeal.main_arg6)) (m (c.tc.loc Cert.FfnOutIdeal.main_arg7)),
    fun c => Cert.FfnOutRows.GS (m (c.tc.loc Cert.FfnOutIdeal.main_arg0)) (m (c.tc.loc Cert.FfnOutIdeal.main_arg2)) (m (c.tc.loc Cert.FfnOutIdeal.main_arg3)) (m (c.tc.loc Cert.FfnOutIdeal.main_arg4)) (m (c.tc.loc Cert.FfnOutIdeal.main_arg5)) (m (c.tc.loc Cert.FfnOutIdeal.main_arg6)) (m (c.tc.loc Cert.FfnOutIdeal.main_arg7)),
    (θ_run Cert.FfnOutIdeal.defs _ _).mono (fun r h c => ?_)
      (θ_run_and (Cert.FfnOutIdeal.Gen.run_main m g) (Cert.FfnOutIdeal.Gen.frame m g)),
    (θ_run Cert.FfnOutRefIdeal.defs _ _).mono (fun r h c => ?_) (Cert.FfnOutRefIdeal.Value.run m' g')⟩
  · exact ⟨(Pipeline.FramePost.out_eq h.1 c 8).trans (Cert.FfnOutRows.arr_p m c),
      (Pipeline.FramePost.out_eq h.1 c 9).trans (Cert.FfnOutRows.arr_s m c),
      h.2.1 c⟩
  · obtain ⟨a0, a1, a2, a3, a4, a5, a6, a7⟩ := ha c
    have e := Cert.FfnOutRows.ref_eq (m (c.tc.loc Cert.FfnOutIdeal.main_arg0)) (m (c.tc.loc Cert.FfnOutIdeal.main_arg1)) (m (c.tc.loc Cert.FfnOutIdeal.main_arg2)) (m (c.tc.loc Cert.FfnOutIdeal.main_arg3)) (m (c.tc.loc Cert.FfnOutIdeal.main_arg4)) (m (c.tc.loc Cert.FfnOutIdeal.main_arg5)) (m (c.tc.loc Cert.FfnOutIdeal.main_arg6)) (m (c.tc.loc Cert.FfnOutIdeal.main_arg7))
    refine ⟨(h c).1.trans ((Cert.FfnOutRefIdeal.Read.val_main_v65_eq m' c).trans ?_),
      (h c).2.1.trans ((Cert.FfnOutRefIdeal.Read.val_main_v66_eq m' c).trans ?_), (h c).2.2⟩
    · rw [a0, a1, a2, a3, a4, a5, a6, a7]; exact e.1
    · rw [a0, a1, a2, a3, a4, a5, a6, a7]; exact e.2

/-- The recurrent layer, written plainly, runs, keeps its arguments and ends with no counter raised. -/
theorem lruRef_frame : Cert.quiescent_LruRefIdeal (hLruRefIdeal := Cert.LruRefIdeal.Gen.facts) := fun m ρ _ =>
  (θ_run Cert.LruRefIdeal.defs _ _).mono (fun r h => ⟨fun c => (h c).2.2.2, sem_eq_zero_of_no_sems (by decide) r.2⟩)
    (Cert.LruRefIdeal.Value.run (F := Ideal) m ρ)

/-- The recurrent layer and its plain form give the same 3 arrays. -/
theorem lru_algebraic : Cert.algebraic_LruIdeal_LruRefIdeal (hLruIdeal := Cert.LruIdeal.Gen.facts)
    (hLruRefIdeal := Cert.LruRefIdeal.Gen.facts) := by
  intro m g m' g' _ ha
  refine ⟨fun c => Cert.LruRows.GU (m (c.tc.loc Cert.LruIdeal.main_arg0)) (m (c.tc.loc Cert.LruIdeal.main_arg3)) (m (c.tc.loc Cert.LruIdeal.main_arg5)),
    fun c => Cert.LruRows.GH (m (c.tc.loc Cert.LruIdeal.main_arg0)) (m (c.tc.loc Cert.LruIdeal.main_arg1)) (m (c.tc.loc Cert.LruIdeal.main_arg2)) (m (c.tc.loc Cert.LruIdeal.main_arg3)) (m (c.tc.loc Cert.LruIdeal.main_arg5)) (m (c.tc.loc Cert.LruIdeal.main_arg6)) (m (c.tc.loc Cert.LruIdeal.main_arg7)) (m (c.tc.loc Cert.LruIdeal.main_arg9)) (m (c.tc.loc Cert.LruIdeal.main_arg11)) (m (c.tc.loc Cert.LruIdeal.main_arg12)) (m (c.tc.loc Cert.LruIdeal.main_arg8)) (m (c.tc.loc Cert.LruIdeal.main_arg10)),
    fun c => Cert.LruRows.GS (m (c.tc.loc Cert.LruIdeal.main_arg0)) (m (c.tc.loc Cert.LruIdeal.main_arg3)) (m (c.tc.loc Cert.LruIdeal.main_arg5)),
    (θ_run Cert.LruIdeal.defs _ _).mono (fun r h c => ?_)
      (θ_run_and (Cert.LruIdeal.Gen.run_main m g) (Cert.LruIdeal.Gen.frame m g)),
    (θ_run Cert.LruRefIdeal.defs _ _).mono (fun r h c => ?_) (Cert.LruRefIdeal.Value.run m' g')⟩
  · exact ⟨((Pipeline.Dat.toRForget_arrAt_iff _ rfl _ _).mp ((h.1 c).1 13)).trans (Cert.LruRows.arr_13 m c),
      ((Pipeline.Dat.toRForget_arrAt_iff _ rfl _ _).mp ((h.1 c).1 14)).trans (Cert.LruRows.arr_14 m c),
      ((Pipeline.Dat.toRForget_arrAt_iff _ rfl _ _).mp ((h.1 c).1 15)).trans (Cert.LruRows.arr_15 m c),
      h.2.1 c⟩
  · obtain ⟨a0, a1, a2, a3, a4, a5, a6, a7, a8, a9, a10, a11, a12, a13⟩ := ha c
    have e := Cert.LruRows.ref_eq (m (c.tc.loc Cert.LruIdeal.main_arg0)) (m (c.tc.loc Cert.LruIdeal.main_arg1)) (m (c.tc.loc Cert.LruIdeal.main_arg2)) (m (c.tc.loc Cert.LruIdeal.main_arg3)) (m (c.tc.loc Cert.LruIdeal.main_arg5)) (m (c.tc.loc Cert.LruIdeal.main_arg6)) (m (c.tc.loc Cert.LruIdeal.main_arg7)) (m (c.tc.loc Cert.LruIdeal.main_arg9)) (m (c.tc.loc Cert.LruIdeal.main_arg11)) (m (c.tc.loc Cert.LruIdeal.main_arg12)) (m (c.tc.loc Cert.LruIdeal.main_arg8)) (m (c.tc.loc Cert.LruIdeal.main_arg10))
    refine ⟨(h c).1.trans ((Cert.LruRefIdeal.Read.val_main_v148_eq _).trans ?_),
      (h c).2.1.trans ((Cert.LruRefIdeal.Read.val_main_v158_eq _).trans ?_),
      (h c).2.2.1.trans ((Cert.LruRefIdeal.Read.val_main_v19_eq _).trans ?_), (h c).2.2.2⟩
    · refine Eq.trans ?_ e.1
      rw [← a0, ← a3, ← a5]
    · refine Eq.trans ?_ e.2.1
      rw [← a0, ← a1, ← a2, ← a3, ← a5, ← a6, ← a7, ← a9, ← a11, ← a12, ← a8, ← a10]
    · refine Eq.trans ?_ e.2.2
      rw [← a0, ← a3, ← a5]

/-- The recurrence over the prompt, written plainly, runs, keeps its arguments and ends with no counter raised. -/
theorem recRef_frame : Cert.quiescent_RecRefIdeal (hRecRefIdeal := Cert.RecRefIdeal.Gen.facts) := fun m ρ _ =>
  (θ_run Cert.RecRefIdeal.defs _ _).mono (fun r h => ⟨fun c => (h c).2, sem_eq_zero_of_no_sems (by decide) r.2⟩)
    (Cert.RecRefIdeal.StepRun.run_iter (F := Ideal) m ρ (fun c => Cert.RecRows.iter (Cert.RecRefIdeal.StepRun.initState m c)) (fun _ => rfl) (fun _ _ => rfl))

/-- The recurrence over the prompt and its plain form give the same states. -/
theorem rec_algebraic : Cert.algebraic_RecIdeal_RecRefIdeal (hRecIdeal := Cert.RecIdeal.Gen.facts)
    (hRecRefIdeal := Cert.RecRefIdeal.Gen.facts) := by
  intro m g m' g' _ ha
  refine ⟨fun c => Cert.RecRows.GR (m (c.tc.loc Cert.RecIdeal.main_arg0)) (m (c.tc.loc Cert.RecIdeal.main_arg3)) (m (c.tc.loc Cert.RecIdeal.main_arg5)) (m (c.tc.loc Cert.RecIdeal.main_arg6)) (m (c.tc.loc Cert.RecIdeal.main_arg7)) (m (c.tc.loc Cert.RecIdeal.main_arg8)) (m (c.tc.loc Cert.RecIdeal.main_arg9)) (m (c.tc.loc Cert.RecIdeal.main_arg10)) (m (c.tc.loc Cert.RecIdeal.main_arg11)) (m (c.tc.loc Cert.RecIdeal.main_arg12)),
    (θ_run Cert.RecIdeal.defs _ _).mono (fun r h c => ?_)
      (θ_run_and (Cert.RecIdeal.Gen.run_main m g) (Cert.RecIdeal.Gen.frame m g)),
    (θ_run Cert.RecRefIdeal.defs _ _).mono (fun r h c => ?_) (Cert.RecRefIdeal.StepRun.run_iter (F := Ideal) m' g' (fun c => Cert.RecRows.iter (Cert.RecRefIdeal.StepRun.initState m' c)) (fun _ => rfl) (fun _ _ => rfl))⟩
  · exact ⟨((Pipeline.Dat.toRForget_arrAt_iff _ rfl _ _).mp ((h.1 c).1 12)).trans (Cert.RecRows.arr_12 m c), h.2.1 c⟩
  · obtain ⟨a0, a1, a2, a3, a4, a5, a6, a7, a8, a9, a10, a11, a12, a13⟩ := ha c
    have e := Cert.RecRows.ref_rec (m (c.tc.loc Cert.RecIdeal.main_arg0)) (m (c.tc.loc Cert.RecIdeal.main_arg3)) (m (c.tc.loc Cert.RecIdeal.main_arg5)) (m (c.tc.loc Cert.RecIdeal.main_arg6)) (m (c.tc.loc Cert.RecIdeal.main_arg7)) (m (c.tc.loc Cert.RecIdeal.main_arg8)) (m (c.tc.loc Cert.RecIdeal.main_arg9)) (m (c.tc.loc Cert.RecIdeal.main_arg10)) (m (c.tc.loc Cert.RecIdeal.main_arg11)) (m (c.tc.loc Cert.RecIdeal.main_arg12))
    refine ⟨(h c).1.trans (Eq.trans ?_ e), (h c).2⟩
    rw [← a0, ← a3, ← a5, ← a6, ← a7, ← a8, ← a9, ← a10, ← a11, ← a12]

theorem claim : Cert.Claim :=
  ⟨Cert.Ffn.Gen.facts, Cert.FfnIdeal.Gen.facts, Cert.FfnRefIdeal.Gen.facts,
    Cert.Kv.Gen.facts, Cert.KvIdeal.Gen.facts, Cert.KvRefIdeal.Gen.facts,
    Cert.FfnQ.Gen.facts, Cert.FfnQIdeal.Gen.facts, Cert.FfnQRefIdeal.Gen.facts,
    Cert.FfnOut.Gen.facts, Cert.FfnOutIdeal.Gen.facts, Cert.FfnOutRefIdeal.Gen.facts,
    Cert.Lru.Gen.facts, Cert.LruIdeal.Gen.facts, Cert.LruRefIdeal.Gen.facts,
    Cert.Rec.Gen.facts, Cert.RecIdeal.Gen.facts, Cert.RecRefIdeal.Gen.facts,
    fun m ρ _ => Cert.Ffn.Gen.frame m ρ, fun m ρ _ => Cert.FfnIdeal.Gen.frame m ρ, ffnRef_frame,
    fun m ρ _ => Cert.Kv.Gen.frame m ρ, fun m ρ _ => Cert.KvIdeal.Gen.frame m ρ, kvRef_frame,
    fun m ρ _ => Cert.FfnQ.Gen.frame m ρ, fun m ρ _ => Cert.FfnQIdeal.Gen.frame m ρ, ffnQRef_frame,
    fun m ρ _ => Cert.FfnOut.Gen.frame m ρ, fun m ρ _ => Cert.FfnOutIdeal.Gen.frame m ρ, ffnOutRef_frame,
    fun m ρ _ => Cert.Lru.Gen.frame m ρ, fun m ρ _ => Cert.LruIdeal.Gen.frame m ρ, lruRef_frame,
    Cert.RecRun.rec_frame, fun m ρ _ => Cert.RecIdeal.Gen.frame m ρ, recRef_frame,
    trivial, ffn_algebraic,
    trivial, kv_algebraic,
    trivial, ffnQ_algebraic,
    trivial, ffnOut_algebraic,
    trivial, lru_algebraic,
    trivial, rec_algebraic⟩

end Cert.Proof

end
